-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  IdealRules.bf16_pair.PackStatement Cert.Kernel2Ideal.S1024x512
  ∧ IdealRules.bf16_pair.Statement Cert.Kernel2Ideal.S1x2048x256 Cert.Kernel2Ideal.S1x1024x256
  ∧ IdealRules.bf16_pair.PackStatement Cert.Kernel2Ideal.S512x512
  ∧ IdealRules.bf16_pair.Statement Cert.Kernel2Ideal.S1x1024x256 Cert.Kernel2Ideal.S1x512x256

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)) (v3 : (c : Dev Cert.Kernel5Ideal.nD) → Buf (Elt Ideal) ((c.tc : Thread Cert.Kernel5Ideal.nD Cert.Kernel5Ideal.τ).loc Cert.Kernel5Ideal.main_v17_3)) (v4 : (c : Dev Cert.Kernel5Ideal.nD) → Buf (Elt Ideal) ((c.tc : Thread Cert.Kernel5Ideal.nD Cert.Kernel5Ideal.τ).loc Cert.Kernel5Ideal.main_v17_4)) (v5 : (c : Dev Cert.Kernel5Ideal.nD) → Buf (Elt Ideal) ((c.tc : Thread Cert.Kernel5Ideal.nD Cert.Kernel5Ideal.τ).loc Cert.Kernel5Ideal.main_v17_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_v17_3) = v3 c
          ∧ r.2.mem ((c.tc : Thread Cert.Kernel5Ideal.nD Cert.Kernel5Ideal.τ).loc Cert.Kernel5Ideal.main_v17_4) = v4 c
          ∧ r.2.mem ((c.tc : Thread Cert.Kernel5Ideal.nD Cert.Kernel5Ideal.τ).loc Cert.Kernel5Ideal.main_v17_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v35) = v4 c
          ∧ r.2.mem ((c.tc : Thread Cert.Reference5Ideal.nD Cert.Reference5Ideal.τ).loc Cert.Reference5Ideal.main_v38) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v16_2)) (v3 : (c : Dev Cert.Kernel6Ideal.nD) → Buf (Elt Ideal) ((c.tc : Thread Cert.Kernel6Ideal.nD Cert.Kernel6Ideal.τ).loc Cert.Kernel6Ideal.main_v16_3)) (v4 : (c : Dev Cert.Kernel6Ideal.nD) → Buf (Elt Ideal) ((c.tc : Thread Cert.Kernel6Ideal.nD Cert.Kernel6Ideal.τ).loc Cert.Kernel6Ideal.main_v16_4)) (v5 : (c : Dev Cert.Kernel6Ideal.nD) → Buf (Elt Ideal) ((c.tc : Thread Cert.Kernel6Ideal.nD Cert.Kernel6Ideal.τ).loc Cert.Kernel6Ideal.main_v16_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_v16_3) = v3 c
          ∧ r.2.mem ((c.tc : Thread Cert.Kernel6Ideal.nD Cert.Kernel6Ideal.τ).loc Cert.Kernel6Ideal.main_v16_4) = v4 c
          ∧ r.2.mem ((c.tc : Thread Cert.Kernel6Ideal.nD Cert.Kernel6Ideal.τ).loc Cert.Kernel6Ideal.main_v16_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v34) = v3 c
          ∧ r.2.mem ((c.tc : Thread Cert.Reference6Ideal.nD Cert.Reference6Ideal.τ).loc Cert.Reference6Ideal.main_v36) = v4 c
          ∧ r.2.mem ((c.tc : Thread Cert.Reference6Ideal.nD Cert.Reference6Ideal.τ).loc Cert.Reference6Ideal.main_v39) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_rows : Cert.Pre_in_rows.Facts) (hPre_tables : Cert.Pre_tables.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ quiescent_Reference (hReference := hReference) (hPre_in_rows := hPre_in_rows)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_in_rows := hPre_in_rows)
    ∧ bitexact_Kernel_Reference (hKernel := hKernel) (hReference := hReference) (hPre_in_rows := hPre_in_rows)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_in_rows.lean ====
abbrev S2x81920x256 : Shape := ⟨3, ![2, 81920, 256]⟩
abbrev S2x32768 : Shape := ⟨2, ![2, 32768]⟩
abbrev S_ : Shape := ⟨0, ![]⟩

class Facts : Prop where
  bcast_S_S2x32768 : S_.BroadcastsInDim S2x32768 (![] : Fin 0 → Fin S2x32768.rank)
  reducesTo_S2x32768_S_d0_1 : S2x32768.ReducesTo [0, 1] S_
  h_S_ : 0 < S_.numel

variable [Facts]

def fn {F : FTy → Type} [FloatOps F] (main_arg0 : IVec S2x81920x256 32) (main_arg1 : IVec S2x32768 32) : IVec S_ 1 :=
  let main_c : IVec S_ 32 := constantI S_ 32 0#32
  let main_v0 : IVec S2x32768 32 := broadcastInDim S2x32768 ![] bcast_S_S2x32768 main_c
  let main_v1 : IVec S2x32768 1 := cmpi .sge main_arg1 main_v0
  let main_c_0 : IVec S_ 32 := constantI S_ 32 81920#32
  let main_v2 : IVec S2x32768 32 := broadcastInDim S2x32768 ![] bcast_S_S2x32768 main_c_0
  let main_v3 : IVec S2x32768 1 := cmpi .slt main_arg1 main_v2
  let main_v4 : IVec S2x32768 1 := andi main_v1 main_v3
  let main_c_1 : IVec S_ 1 := constantI S_ 1 1#1
  let main_v5 : IVec S_ 1 := (fun x v => Host.reduce IntOp.andi x v reducesTo_S2x32768_S_d0_1 h_S_) main_v4 main_c_1
  main_v5
-- ==== Pre_tables.lean ====
abbrev S40 : Shape := ⟨1, ![40]⟩
abbrev S2x81920x256 : Shape := ⟨3, ![2, 81920, 256]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S40 32) (main_arg2 : IVec S2x81920x256 32) (main_arg3 : FVec F S1x8x1024x3584 .f32) (main_arg4 : FVec F S1x8x1024x3584 .f32) (main_arg5 : FVec F S1x8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S40 32 := broadcastInDim S40 ![] bcast_S_S40 main_c_2
  let main_v7 : IVec S40 1 := cmpi .sge main_arg1 main_v6
  let main_c_3 : IVec S_ 32 := constantI S_ 32 2048#32
  let main_v8 : IVec S40 32 := broadcastInDim S40 ![] bcast_S_S40 main_c_3
  let main_v9 : IVec S40 1 := cmpi .sle main_arg1 main_v8
  let main_v10 : IVec S40 1 := andi main_v7 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v5 main_v11
  main_v12
-- ==== Kernel.lean ====
abbrev S2x81920x256 : Shape := ⟨3, ![2, 81920, 256]⟩
abbrev S2x32768 : Shape := ⟨2, ![2, 32768]⟩
abbrev S65536 : Shape := ⟨1, ![65536]⟩
abbrev S_ : Shape := ⟨0, ![]⟩
abbrev S131072 : Shape := ⟨1, ![131072]⟩
abbrev S163840x256 : Shape := ⟨2, ![163840, 256]⟩
abbrev S1x131072 : Shape := ⟨2, ![1, 131072]⟩
abbrev S131072x256 : Shape := ⟨2, ![131072, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x2x128 : Shape := ⟨3, ![128, 2, 128]⟩
abbrev S128 : Shape := ⟨1, ![128]⟩
abbrev S163840x2x128 : Shape := ⟨3, ![163840, 2, 128]⟩
abbrev S2x2x32768x256 : Shape := ⟨4, ![2, 2, 32768, 256]⟩

abbrev nBuf : Table → Nat
  | .hbm => 12
  | .local .scVector .vmem => 2
  | _ => 0

abbrev bufTy : (tb : Table) → Fin (nBuf tb) → BufTy
  | .hbm, ⟨0, _⟩ => ⟨S2x81920x256, .i32⟩
  | .hbm, ⟨1, _⟩ => ⟨S2x32768, .i32⟩
  | .hbm, ⟨2, _⟩ => ⟨S65536, .i32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S131072, .i32⟩
  | .hbm, ⟨8, _⟩ => ⟨S163840x256, .i32⟩
  | .hbm, ⟨9, _⟩ => ⟨S1x131072, .i32⟩
  | .hbm, ⟨10, _⟩ => ⟨S131072x256, .i32⟩
  | .hbm, ⟨11, _⟩ => ⟨S2x2x32768x256, .i32⟩
  | .local .scVector .vmem, ⟨0, _⟩ => ⟨S2x1x128, .i32⟩
  | .local .scVector .vmem, ⟨1, _⟩ => ⟨S2x128x256, .i32⟩
  | _, _ => ⟨S2x81920x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v5_scv : Ref sig .scVector := ⟨.hbm, 8, rfl⟩
abbrev main_v6_scv : Ref sig .scVector := ⟨.hbm, 9, rfl⟩
abbrev main_v7_scv : Ref sig .scVector := ⟨.hbm, 10, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x256.size a ≤ S2x128x256.size a) ∧
  (∀ (hinb : ∀ a, (k0_off10 arg8_r0) a + S1x128x256.size a ≤ S2x128x256.size a), (Rect.unit (s := S2x128x256) (k0_off10 arg8_r0) S1x128x256.size hinb).LeadingBlock)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2.1
theorem k0_off10_leadingi32 : ∀ (arg8_r0 : BitVec 32) (k0_hw2 : k0_chk2 arg8_r0), (Rect.unit (s := S2x128x256) (k0_off10 arg8_r0) S1x128x256.size (k0_off10_inb arg8_r0 k0_hw2)).LeadingBlock := fun arg8_r0 k0_hw2 => k0_hw2.2 (k0_off10_inb arg8_r0 k0_hw2)

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S131072x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S131072x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S131072x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S131072x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S131072x256.size a)
theorem k0_off19_inb : ∀ (i : grid0.Coords) (v33_4_r0 : BitVec 32) (k0_hw5 : k0_chk5 i v33_4_r0), ∀ a, (k0_off19 i v33_4_r0) a + S128x256.size a ≤ S131072x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x81920x256 : Shape := ⟨3, ![2, 81920, 256]⟩
abbrev S2x32768 : Shape := ⟨2, ![2, 32768]⟩
abbrev S_ : Shape := ⟨0, ![]⟩
abbrev S2x32768x1 : Shape := ⟨3, ![2, 32768, 1]⟩
abbrev S2x2x32768x256 : Shape := ⟨4, ![2, 2, 32768, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x81920x256, .i32⟩
  | .hbm, ⟨1, _⟩ => ⟨S2x32768, .i32⟩
  | .hbm, ⟨2, _⟩ => ⟨S_, .i32⟩
  | .hbm, ⟨3, _⟩ => ⟨S2x32768, .i32⟩
  | .hbm, ⟨4, _⟩ => ⟨S2x32768, .i1⟩
  | .hbm, ⟨5, _⟩ => ⟨S_, .i32⟩
  | .hbm, ⟨6, _⟩ => ⟨S2x32768, .i32⟩
  | .hbm, ⟨7, _⟩ => ⟨S2x32768, .i32⟩
  | .hbm, ⟨8, _⟩ => ⟨S2x32768, .i32⟩
  | .hbm, ⟨9, _⟩ => ⟨S2x32768x1, .i32⟩
  | .hbm, ⟨10, _⟩ => ⟨S2x2x32768x256, .i32⟩
  | _, _ => ⟨S2x81920x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S40 : Shape := ⟨1, ![40]⟩
abbrev S2x81920x256 : Shape := ⟨3, ![2, 81920, 256]⟩
abbrev S1x8x1024x3584 : Shape := ⟨4, ![1, 8, 1024, 3584]⟩
abbrev S1x8x3584x1024 : Shape := ⟨4, ![1, 8, 3584, 1024]⟩
abbrev S2x163840x256 : Shape := ⟨3, ![2, 163840, 256]⟩
abbrev S2x2048x256 : Shape := ⟨3, ![2, 2048, 256]⟩
abbrev S1x1x1024x512 : Shape := ⟨4, ![1, 1, 1024, 512]⟩
abbrev S1 : Shape := ⟨1, ![1]⟩
abbrev S1x1x512x1024 : Shape := ⟨4, ![1, 1, 512, 1024]⟩
abbrev S2x4096x256 : Shape := ⟨3, ![2, 4096, 256]⟩
abbrev S2048x1024 : Shape := ⟨2, ![2048, 1024]⟩
abbrev S2048x512 : Shape := ⟨2, ![2048, 512]⟩
abbrev S1024x256 : Shape := ⟨2, ![1024, 256]⟩
abbrev S1x1024x256 : Shape := ⟨3, ![1, 1024, 256]⟩
abbrev S1024x1024 : Shape := ⟨2, ![1024, 1024]⟩
abbrev S1024x512 : Shape := ⟨2, ![1024, 512]⟩
abbrev S512x1024 : Shape := ⟨2, ![512, 1024]⟩
abbrev S1x2048x256 : Shape := ⟨3, ![1, 2048, 256]⟩
abbrev S512x256 : Shape := ⟨2, ![512, 256]⟩
abbrev S1x512x256 : Shape := ⟨3, ![1, 512, 256]⟩
abbrev S512x512 : Shape := ⟨2, ![512, 512]⟩
abbrev S2x1024x256 : Shape := ⟨3, ![2, 1024, 256]⟩

abbrev nBuf : Space → Nat
  | .hbm => 5
  | .vmem => 14
  | .smem => 2
  | _ => 0

abbrev bufTy : (tb : Table) → Fin (tcTables nBuf tb) → BufTy
  | .hbm, ⟨0, _⟩ => ⟨S2x81920x256, .i32⟩
  | .hbm, ⟨1, _⟩ => ⟨S1x8x1024x3584, .f32⟩
  | .hbm, ⟨2, _⟩ => ⟨S1x8x1024x3584, .f32⟩
  | .hbm, ⟨3, _⟩ => ⟨S1x8x3584x1024, .f32⟩
  | .hbm, ⟨4, _⟩ => ⟨S2x163840x256, .bf16⟩
  | .local _ .vmem, ⟨0, _⟩ => ⟨S2x2048x256, .i32⟩
  | .local _ .vmem, ⟨1, _⟩ => ⟨S2x2048x256, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S2x4096x256, .bf16⟩
  | .local _ .vmem, ⟨9, _⟩ => ⟨S2x4096x256, .bf16⟩
  | .local _ .vmem, ⟨10, _⟩ => ⟨S2048x1024, .bf16⟩
  | .local _ .vmem, ⟨11, _⟩ => ⟨S2048x512, .bf16⟩
  | .local _ .vmem, ⟨12, _⟩ => ⟨S2048x512, .bf16⟩
  | .local _ .vmem, ⟨13, _⟩ => ⟨S2048x1024, .f32⟩
  | .local _ .smem, ⟨0, _⟩ => ⟨S40, .i32⟩
  | .local _ .smem, ⟨1, _⟩ => ⟨S40, .i32⟩
  | _, _ => ⟨S2x81920x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![40, 8], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 1 → Nat :=
  let arg0 : BitVec 32 := BitVec.ofNat 32 (i 0).val
  let c1_i32 : BitVec 32 := 1#32
  let v5 : BitVec 32 := Scalar.addi arg0 c1_i32
  let c39_i32 : BitVec 32 := 39#32
  let v6 : BitVec 32 := Scalar.minsi v5 c39_i32
  let v7 : Index := Scalar.indexCast v6
  ![v7.toNat]
def k0_off3 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v5 : Index := Scalar.indexCast v1
  ![v5.toNat]
def k0_cond4 (i : grid0.Coords) (v1 : BitVec 32) : BitVec 1 :=
  let c0_i32 : BitVec 32 := 0#32
  let v2 : BitVec 32 := Scalar.subi v1 c0_i32
  let c512_i32 : BitVec 32 := 512#32
  let v3 : BitVec 1 := Scalar.cmpi .sgt v2 c512_i32
  let arg1 : BitVec 32 := BitVec.ofNat 32 (i 1).val
  let c7_i32_21 : BitVec 32 := 7#32
  let v47 : BitVec 1 := Scalar.cmpi .eq arg1 c7_i32_21
  let v48 : BitVec 1 := Scalar.andi v3 v47
  let v49 : BitVec 32 := Scalar.extui v48
  let c0_i32_22 : BitVec 32 := 0#32
  let v50 : BitVec 1 := Scalar.cmpi .ne v49 c0_i32_22
  v50

def k0_cond8 (i : grid0.Coords) (v1 : BitVec 32) : BitVec 1 :=
  let c0_i32 : BitVec 32 := 0#32
  let v2 : BitVec 32 := Scalar.subi v1 c0_i32
  let c0_i32_0 : BitVec 32 := 0#32
  let v4 : BitVec 1 := Scalar.cmpi .sgt v2 c0_i32_0
  let c512_i32_1 : BitVec 32 := 512#32
  let v5 : BitVec 1 := Scalar.cmpi .sle v2 c512_i32_1
  let v6 : BitVec 1 := Scalar.andi v4 v5
  let arg1 : BitVec 32 := BitVec.ofNat 32 (i 1).val
  let c7_i32_45 : BitVec 32 := 7#32
  let v91 : BitVec 1 := Scalar.cmpi .eq arg1 c7_i32_45
  let v92 : BitVec 1 := Scalar.andi v6 v91
  let v93 : BitVec 32 := Scalar.extui v92
  let c0_i32_46 : BitVec 32 := 0#32
  let v94 : BitVec 1 := Scalar.cmpi .ne v93 c0_i32_46
  v94

def k0_cond9 (i : grid0.Coords) (v1 : BitVec 32) : BitVec 1 :=
  let c0_i32 : BitVec 32 := 0#32
  let v2 : BitVec 32 := Scalar.subi v1 c0_i32
  let c0_i32_0 : BitVec 32 := 0#32
  let v4 : BitVec 1 := Scalar.cmpi .sgt v2 c0_i32_0
  let c512_i32_1 : BitVec 32 := 512#32
  let v5 : BitVec 1 := Scalar.cmpi .sle v2 c512_i32_1
  let v6 : BitVec 1 := Scalar.andi v4 v5
  let arg1 : BitVec 32 := BitVec.ofNat 32 (i 1).val
  let c7_i32_47 : BitVec 32 := 7#32
  let v95 : BitVec 1 := Scalar.cmpi .eq arg1 c7_i32_47
  let v96 : BitVec 1 := Scalar.andi v6 v95
  let v97 : BitVec 32 := Scalar.extui v96
  let c0_i32_48 : BitVec 32 := 0#32
  let v98 : BitVec 1 := Scalar.cmpi .ne v97 c0_i32_48
  v98

def k0_cond10 (i : grid0.Coords) (v1 : BitVec 32) : BitVec 1 :=
  let c0_i32 : BitVec 32 := 0#32
  let v2 : BitVec 32 := Scalar.subi v1 c0_i32
  let c0_i32_49 : BitVec 32 := 0#32
  let v99 : BitVec 1 := Scalar.cmpi .sle v2 c0_i32_49
  let arg1 : BitVec 32 := BitVec.ofNat 32 (i 1).val
  let c7_i32_50 : BitVec 32 := 7#32
  let v100 : BitVec 1 := Scalar.cmpi .eq arg1 c7_i32_50
  let v101 : BitVec 1 := Scalar.andi v99 v100
  let v102 : BitVec 32 := Scalar.extui v101
  let c0_i32_51 : BitVec 32 := 0#32
  let v103 : BitVec 1 := Scalar.cmpi .ne v102 c0_i32_51
  v103

def k0_cond14 (i : grid0.Coords) (v1 : BitVec 32) : BitVec 1 :=
  let c1024_i32 : BitVec 32 := 1024#32
  let v104 : BitVec 32 := Scalar.subi v1 c1024_i32
  let c512_i32_52 : BitVec 32 := 512#32
  let v105 : BitVec 1 := Scalar.cmpi .sgt v104 c512_i32_52
  let arg1 : BitVec 32 := BitVec.ofNat 32 (i 1).val
  let c7_i32_77 : BitVec 32 := 7#32
  let v149 : BitVec 1 := Scalar.cmpi .eq arg1 c7_i32_77
  let v150 : BitVec 1 := Scalar.andi v105 v149
  let v151 : BitVec 32 := Scalar.extui v150
  let c0_i32_78 : BitVec 32 := 0#32
  let v152 : BitVec 1 := Scalar.cmpi .ne v151 c0_i32_78
  v152

def k0_cond18 (i : grid0.Coords) (v1 : BitVec 32) : BitVec 1 :=
  let c1024_i32 : BitVec 32 := 1024#32
  let v104 : BitVec 32 := Scalar.subi v1 c1024_i32
  let c0_i32_53 : BitVec 32 := 0#32
  let v106 : BitVec 1 := Scalar.cmpi .sgt v104 c0_i32_53
  let c512_i32_54 : BitVec 32 := 512#32
  let v107 : BitVec 1 := Scalar.cmpi .sle v104 c512_i32_54
  let v108 : BitVec 1 := Scalar.andi v106 v107
  let arg1 : BitVec 32 := BitVec.ofNat 32 (i 1).val
  let c7_i32_101 : BitVec 32 := 7#32
  let v193 : BitVec 1 := Scalar.cmpi .eq arg1 c7_i32_101
  let v194 : BitVec 1 := Scalar.andi v108 v193
  let v195 : BitVec 32 := Scalar.extui v194
  let c0_i32_102 : BitVec 32 := 0#32
  let v196 : BitVec 1 := Scalar.cmpi .ne v195 c0_i32_102
  v196

def k0_cond19 (i : grid0.Coords) (v1 : BitVec 32) : BitVec 1 :=
  let c1024_i32 : BitVec 32 := 1024#32
  let v104 : BitVec 32 := Scalar.subi v1 c1024_i32
  let c0_i32_53 : BitVec 32 := 0#32
  let v106 : BitVec 1 := Scalar.cmpi .sgt v104 c0_i32_53
  let c512_i32_54 : BitVec 32 := 512#32
  let v107 : BitVec 1 := Scalar.cmpi .sle v104 c512_i32_54
  let v108 : BitVec 1 := Scalar.andi v106 v107
  let arg1 : BitVec 32 := BitVec.ofNat 32 (i 1).val
  let c7_i32_103 : BitVec 32 := 7#32
  let v197 : BitVec 1 := Scalar.cmpi .eq arg1 c7_i32_103
  let v198 : BitVec 1 := Scalar.andi v108 v197
  let v199 : BitVec 32 := Scalar.extui v198
  let c0_i32_104 : BitVec 32 := 0#32
  let v200 : BitVec 1 := Scalar.cmpi .ne v199 c0_i32_104
  v200

def k0_cond20 (i : grid0.Coords) (v1 : BitVec 32) : BitVec 1 :=
  let c1024_i32 : BitVec 32 := 1024#32
  let v104 : BitVec 32 := Scalar.subi v1 c1024_i32
  let c0_i32_105 : BitVec 32 := 0#32
  let v201 : BitVec 1 := Scalar.cmpi .sle v104 c0_i32_105
  let arg1 : BitVec 32 := BitVec.ofNat 32 (i 1).val
  let c7_i32_106 : BitVec 32 := 7#32
  let v202 : BitVec 1 := Scalar.cmpi .eq arg1 c7_i32_106
  let v203 : BitVec 1 := Scalar.andi v201 v202
  let v204 : BitVec 32 := Scalar.extui v203
  let c0_i32_107 : BitVec 32 := 0#32
  let v205 : BitVec 1 := Scalar.cmpi .ne v204 c0_i32_107
  v205

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c39_i32 : BitVec 32 := 39#32
  let v2 : BitVec 32 := Scalar.minsi v1 c39_i32
  let v3 : BitVec 32 := Scalar.select v0 v2 arg0
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S40.size a) (numel1_S1 : S1.numel = 1) (k0_off2_inb : ∀ i : grid0.Coords, ∀ a, (k0_off2 i) a + S1.size a ≤ S40.size a) (pf : pre0.Contents (Elt F)) (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let v1 : Index := Scalar.indexCast arg0
  let v2 : BitVec 32 := pf.at 1 (Rect.unit (s := S40) ![v1.toNat] S1.size (k0_off1_inb i)) numel1_S1
  let c0_i32 : BitVec 32 := 0#32
  let v3 : BitVec 1 := Scalar.cmpi .sgt v2 c0_i32
  let v4 : BitVec 1 := Scalar.andi v0 v3
  let c1_i32 : BitVec 32 := 1#32
  let v5 : BitVec 32 := Scalar.addi arg0 c1_i32
  let c39_i32 : BitVec 32 := 39#32
  let v6 : BitVec 32 := Scalar.minsi v5 c39_i32
  let v7 : Index := Scalar.indexCast v6
  let v8 : BitVec 32 := pf.at 1 (Rect.unit (s := S40) ![v7.toNat] S1.size (k0_off2_inb i)) numel1_S1
  let c0_i32_0 : BitVec 32 := 0#32
  let v9 : BitVec 1 := Scalar.cmpi .sgt v8 c0_i32_0
  let v10 : BitVec 1 := Scalar.andi v4 v9
  let c1_i32_1 : BitVec 32 := 1#32
  let v11 : BitVec 32 := Scalar.addi arg0 c1_i32_1
  let c39_i32_2 : BitVec 32 := 39#32
  let v12 : BitVec 32 := Scalar.minsi v11 c39_i32_2
  let v13 : Index := Scalar.indexCast v12
  let v14 : BitVec 32 := pf.at 0 (Rect.unit (s := S40) ![v13.toNat] S1.size (k0_off2_inb i)) numel1_S1
  let v15 : Index := Scalar.indexCast arg0
  let v16 : BitVec 32 := pf.at 0 (Rect.unit (s := S40) ![v15.toNat] S1.size (k0_off1_inb i)) numel1_S1
  let v17 : BitVec 32 := Scalar.select v10 v14 v16
  let v18 : Index := Scalar.indexCast arg0
  let v19 : BitVec 32 := pf.at 1 (Rect.unit (s := S40) ![v18.toNat] S1.size (k0_off1_inb i)) numel1_S1
  let c0_i32_3 : BitVec 32 := 0#32
  let v20 : BitVec 1 := Scalar.cmpi .sgt v19 c0_i32_3
  let c6_i32 : BitVec 32 := 6#32
  let v21 : BitVec 32 := Scalar.minsi arg1 c6_i32
  let c6_i32_4 : BitVec 32 := 6#32
  let v22 : BitVec 32 := Scalar.select v20 v21 c6_i32_4
  let c0_i32_5 : BitVec 32 := 0#32
  let v23 : BitVec 32 := Scalar.select v10 c0_i32_5 v22
  let c0_i32_6 : BitVec 32 := 0#32
  let c0_i32_7 : BitVec 32 := 0#32
  let c0_i32_8 : BitVec 32 := 0#32
  ![c0_i32_6.toNat, v17.toNat, c0_i32_7.toNat, v23.toNat]

def cc0_transform_2 (k0_off1_inb : ∀ i : grid0.Coords, ∀ a, (k0_off1 i) a + S1.size a ≤ S40.size a) (numel1_S1 : S1.numel = 1) (k0_off2_inb : ∀ i : grid0.Coords, ∀ a, (k0_off2 i) a + S1.size a ≤ S40.size a) (pf : pre0.Contents (Elt F)) (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let v1 : Index := Scalar.indexCast arg0
  let v2 : BitVec 32 := pf.at 1 (Rect.unit (s := S40) ![v1.toNat] S1.size (k0_off1_inb i)) numel1_S1
  let c0_i32 : BitVec 32 := 0#32
  let v3 : BitVec 1 := Scalar.cmpi .sgt v2 c0_i32
  let v4 : BitVec 1 := Scalar.andi v0 v3
  let c1_i32 : BitVec 32 := 1#32
  let v5 : BitVec 32 := Scalar.addi arg0 c1_i32
  let c39_i32 : BitVec 32 := 39#32
  let v6 : BitVec 32 := Scalar.minsi v5 c39_i32
  let v7 : Index := Scalar.indexCast v6
  let v8 : BitVec 32 := pf.at 1 (Rect.unit (s := S40) ![v7.toNat] S1.size (k0_off2_inb i)) numel1_S1
  let c0_i32_0 : BitVec 32 := 0#32
  let v9 : BitVec 1 := Scalar.cmpi .sgt v8 c0_i32_0
  let v10 : BitVec 1 := Scalar.andi v4 v9
  let c1_i32_1 : BitVec 32 := 1#32
  let v11 : BitVec 32 := Scalar.addi arg0 c1_i32_1
  let c39_i32_2 : BitVec 32 := 39#32
  let v12 : BitVec 32 := Scalar.minsi v11 c39_i32_2
  let v13 : Index := Scalar.indexCast v12
  let v14 : BitVec 32 := pf.at 0 (Rect.unit (s := S40) ![v13.toNat] S1.size (k0_off2_inb i)) numel1_S1
  let v15 : Index := Scalar.indexCast arg0
  let v16 : BitVec 32 := pf.at 0 (Rect.unit (s := S40) ![v15.toNat] S1.size (k0_off1_inb i)) numel1_S1
  let v17 : BitVec 32 := Scalar.select v10 v14 v16
  let v18 : Index := Scalar.indexCast arg0
  let v19 : BitVec 32 := pf.at 1 (Rect.unit (s := S40) ![v18.toNat] S1.size (k0_off1_inb i)) numel1_S1
  let c0_i32_3 : BitVec 32 := 0#32
  let v20 : BitVec 1 := Scalar.cmpi .sgt v19 c0_i32_3
  let c6_i32 : BitVec 32 := 6#32
  let v21 : BitVec 32 := Scalar.minsi arg1 c6_i32
  let c6_i32_4 : BitVec 32 := 6#32
  let v22 : BitVec 32 := Scalar.select v20 v21 c6_i32_4
  let c0_i32_5 : BitVec 32 := 0#32
  let v23 : BitVec 32 := Scalar.select v10 c0_i32_5 v22
  let c0_i32_6 : BitVec 32 := 0#32
  let c0_i32_7 : BitVec 32 := 0#32
  let c0_i32_8 : BitVec 32 := 0#32
  ![c0_i32_6.toNat, v17.toNat, c0_i32_7.toNat, v23.toNat]

def cc0_transform_3 (k0_off3_inb : ∀ i : grid0.Coords, ∀ a, (k0_off3 i) a + S1.size a ≤ S40.size a) (numel1_S1 : S1.numel = 1) (k0_off1_inb : ∀ i : grid0.Coords, ∀ a, (k0_off1 i) a + S1.size a ≤ S40.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c0_i32_1 : BitVec 32 := 0#32
  let v3 : BitVec 1 := Scalar.cmpi .sgt arg0 c0_i32_1
  let v4 : BitVec 1 := Scalar.andi v2 v3
  let v5 : Index := Scalar.indexCast v1
  let v6 : BitVec 32 := pf.at 0 (Rect.unit (s := S40) ![v5.toNat] S1.size (k0_off3_inb i)) numel1_S1
  let v7 : Index := Scalar.indexCast arg0
  let v8 : BitVec 32 := pf.at 0 (Rect.unit (s := S40) ![v7.toNat] S1.size (k0_off1_inb i)) numel1_S1
  let v9 : BitVec 32 := Scalar.select v4 v6 v8
  let v10 : Index := Scalar.indexCast arg0
  let v11 : BitVec 32 := pf.at 1 (Rect.unit (s := S40) ![v10.toNat] S1.size (k0_off1_inb i)) numel1_S1
  let c0_i32_2 : BitVec 32 := 0#32
  let v12 : BitVec 1 := Scalar.cmpi .eq v11 c0_i32_2
  let v13 : BitVec 1 := Scalar.ori v4 v12
  let c1_i32_3 : BitVec 32 := 1#32
  let v14 : BitVec 32 := Scalar.subi arg1 c1_i32_3
  let c0_i32_4 : BitVec 32 := 0#32
  let v15 : BitVec 32 := Scalar.maxsi v14 c0_i32_4
  let c6_i32 : BitVec 32 := 6#32
  let v16 : BitVec 32 := Scalar.select v13 c6_i32 v15
  let c0_i32_5 : BitVec 32 := 0#32
  let c0_i32_6 : BitVec 32 := 0#32
  let c0_i32_7 : BitVec 32 := 0#32
  ![c0_i32_5.toNat, v9.toNat, v16.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
variable {F : FTy → Type} [FloatOps F]
-- ==== Reference2Ideal.lean ====
abbrev S40 : Shape := ⟨1, ![40]⟩
abbrev S2x81920x256 : Shape := ⟨3, ![2, 81920, 256]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S1x81920x256 : Shape := ⟨3, ![1, 81920, 256]⟩
abbrev S81920x256 : Shape := ⟨2, ![81920, 256]⟩
abbrev S81920x1024 : Shape := ⟨2, ![81920, 1024]⟩
abbrev S40x2048 : Shape := ⟨2, ![40, 2048]⟩
abbrev S81920 : Shape := ⟨1, ![81920]⟩
abbrev S81920x1 : Shape := ⟨2, ![81920, 1]⟩
abbrev S1x1x1024x3584 : Shape := ⟨4, ![1, 1, 1024, 3584]⟩
abbrev S1024x3584 : Shape := ⟨2, ![1024, 3584]⟩
abbrev S81920x3584 : Shape := ⟨2, ![81920, 3584]⟩
abbrev S1x1x3584x1024 : Shape := ⟨4, ![1, 1, 3584, 1024]⟩
abbrev S3584x1024 : Shape := ⟨2, ![3584, 1024]⟩
abbrev S81920x512 : Shape := ⟨2, ![81920, 512]⟩
abbrev S81920x1x512 : Shape := ⟨3, ![81920, 1, 512]⟩
abbrev S81920x2x512 : Shape := ⟨3, ![81920, 2, 512]⟩
abbrev S163840x2x256 : Shape := ⟨3, ![163840, 2, 256]⟩
abbrev S2x163840x256 : Shape := ⟨3, ![2, 163840, 256]⟩

abbrev nBuf : Space → Nat
  | .hbm => 295
  | .vmem => 0
  | .smem => 0
  | _ => 0

abbrev hbmTy0_0 (i : Nat) : BufTy := match i % 128 with
  | 0 => ⟨S40, .i32⟩
  | 1 => ⟨S40, .i32⟩
  | 2 => ⟨S2x81920x256, .i32⟩
  | 3 => ⟨S1x8x1024x3584, .f32⟩
  | 4 => ⟨S1x8x1024x3584, .f32⟩
  | 5 => ⟨S1x8x3584x1024, .f32⟩
  | 6 => ⟨S_, .i32⟩
  | 7 => ⟨S2x81920x256, .i32⟩
  | 8 => ⟨S2x81920x256, .i32⟩
  | 9 => ⟨S2x81920x256, .f32⟩
  | 10 => ⟨S_, .i32⟩
  | 11 => ⟨S2x81920x256, .i32⟩
  | 12 => ⟨S2x81920x256, .i32⟩
  | 13 => ⟨S2x81920x256, .f32⟩
  | 14 => ⟨S1x81920x256, .f32⟩
  | 15 => ⟨S81920x256, .f32⟩
  | 16 => ⟨S1x81920x256, .f32⟩
  | 17 => ⟨S81920x256, .f32⟩
  | 18 => ⟨S1x81920x256, .f32⟩
  | 19 => ⟨S81920x256, .f32⟩
  | 20 => ⟨S1x81920x256, .f32⟩
  | 21 => ⟨S81920x256, .f32⟩
  | 22 => ⟨S81920x1024, .f32⟩
  | 23 => ⟨S40x2048, .i32⟩
  | 24 => ⟨S81920, .i32⟩
  | 25 => ⟨S81920x1, .i32⟩
  | 26 => ⟨S81920, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S81920, .i32⟩
  | 34 => ⟨S81920, .i32⟩
  | 35 => ⟨S_, .i32⟩
  | 36 => ⟨S81920, .i32⟩
  | 37 => ⟨S81920, .i1⟩
  | 38 => ⟨S_, .i32⟩
  | 39 => ⟨S81920, .i32⟩
  | 40 => ⟨S81920, .i1⟩
  | 41 => ⟨S_, .i32⟩
  | 42 => ⟨S_, .i1⟩
  | 43 => ⟨S81920, .i1⟩
  | 44 => ⟨S81920, .i1⟩
  | 45 => ⟨S81920, .i1⟩
  | 46 => ⟨S81920, .i32⟩
  | 47 => ⟨S81920, .i32⟩
  | 48 => ⟨S81920, .i32⟩
  | 49 => ⟨S40x2048, .i32⟩
  | 50 => ⟨S81920, .i32⟩
  | 51 => ⟨S81920, .i1⟩
  | 52 => ⟨S81920x1, .i1⟩
  | 53 => ⟨S_, .f32⟩
  | 54 => ⟨S81920x1024, .f32⟩
  | 55 => ⟨S1x1x1024x3584, .f32⟩
  | 56 => ⟨S1024x3584, .f32⟩
  | 57 => ⟨S81920x3584, .f32⟩
  | 58 => ⟨S81920x3584, .f32⟩
  | 59 => ⟨S81920x3584, .f32⟩
  | 60 => ⟨S_, .f32⟩
  | 61 => ⟨S81920x3584, .f32⟩
  | 62 => ⟨S81920x3584, .f32⟩
  | 63 => ⟨S_, .f32⟩
  | 64 => ⟨S81920x3584, .f32⟩
  | 65 => ⟨S81920x3584, .f32⟩
  | 66 => ⟨S81920x3584, .f32⟩
  | 67 => ⟨S1x1x1024x3584, .f32⟩
  | 68 => ⟨S1024x3584, .f32⟩
  | 69 => ⟨S81920x3584, .f32⟩
  | 70 => ⟨S81920x3584, .f32⟩
  | 71 => ⟨S_, .i32⟩
  | 72 => ⟨S81920x1, .i32⟩
  | 73 => ⟨S81920x1, .i1⟩
  | 74 => ⟨S81920x1, .i1⟩
  | 75 => ⟨S1x1x3584x1024, .f32⟩
  | 76 => ⟨S3584x1024, .f32⟩
  | 77 => ⟨S81920x1024, .f32⟩
  | 78 => ⟨S_, .f32⟩
  | 79 => ⟨S_, .f32⟩
  | 80 => ⟨S81920x1024, .i1⟩
  | 81 => ⟨S81920x1024, .f32⟩
  | 82 => ⟨S81920x1024, .f32⟩
  | 83 => ⟨S81920x1024, .f32⟩
  | 84 => ⟨S1x1x1024x3584, .f32⟩
  | 85 => ⟨S1024x3584, .f32⟩
  | 86 => ⟨S81920x3584, .f32⟩
  | 87 => ⟨S81920x3584, .f32⟩
  | 88 => ⟨S81920x3584, .f32⟩
  | 89 => ⟨S_, .f32⟩
  | 90 => ⟨S81920x3584, .f32⟩
  | 91 => ⟨S81920x3584, .f32⟩
  | 92 => ⟨S_, .f32⟩
  | 93 => ⟨S81920x3584, .f32⟩
  | 94 => ⟨S81920x3584, .f32⟩
  | 95 => ⟨S81920x3584, .f32⟩
  | 96 => ⟨S1x1x1024x3584, .f32⟩
  | 97 => ⟨S1024x3584, .f32⟩
  | 98 => ⟨S81920x3584, .f32⟩
  | 99 => ⟨S81920x3584, .f32⟩
  | 100 => ⟨S_, .i32⟩
  | 101 => ⟨S81920x1, .i32⟩
  | 102 => ⟨S81920x1, .i1⟩
  | 103 => ⟨S81920x1, .i1⟩
  | 104 => ⟨S1x1x3584x1024, .f32⟩
  | 105 => ⟨S3584x1024, .f32⟩
  | 106 => ⟨S81920x1024, .f32⟩
  | 107 => ⟨S_, .f32⟩
  | 108 => ⟨S_, .f32⟩
  | 109 => ⟨S81920x1024, .i1⟩
  | 110 => ⟨S81920x1024, .f32⟩
  | 111 => ⟨S81920x1024, .f32⟩
  | 112 => ⟨S81920x1024, .f32⟩
  | 113 => ⟨S1x1x1024x3584, .f32⟩
  | 114 => ⟨S1024x3584, .f32⟩
  | 115 => ⟨S81920x3584, .f32⟩
  | 116 => ⟨S81920x3584, .f32⟩
  | 117 => ⟨S81920x3584, .f32⟩
  | 118 => ⟨S_, .f32⟩
  | 119 => ⟨S81920x3584, .f32⟩
  | 120 => ⟨S81920x3584, .f32⟩
  | 121 => ⟨S_, .f32⟩
  | 122 => ⟨S81920x3584, .f32⟩
  | 123 => ⟨S81920x3584, .f32⟩
  | 124 => ⟨S81920x3584, .f32⟩
  | 125 => ⟨S1x1x1024x3584, .f32⟩
  | 126 => ⟨S1024x3584, .f32⟩
  | 127 => ⟨S81920x3584, .f32⟩
  | _ => ⟨S40, .i32⟩

abbrev hbmTy0_1 (i : Nat) : BufTy := match i % 128 with
  | 0 => ⟨S81920x3584, .f32⟩
  | 1 => ⟨S_, .i32⟩
  | 2 => ⟨S81920x1, .i32⟩
  | 3 => ⟨S81920x1, .i1⟩
  | 4 => ⟨S81920x1, .i1⟩
  | 5 => ⟨S1x1x3584x1024, .f32⟩
  | 6 => ⟨S3584x1024, .f32⟩
  | 7 => ⟨S81920x1024, .f32⟩
  | 8 => ⟨S_, .f32⟩
  | 9 => ⟨S_, .f32⟩
  | 10 => ⟨S81920x1024, .i1⟩
  | 11 => ⟨S81920x1024, .f32⟩
  | 12 => ⟨S81920x1024, .f32⟩
  | 13 => ⟨S81920x1024, .f32⟩
  | 14 => ⟨S1x1x1024x3584, .f32⟩
  | 15 => ⟨S1024x3584, .f32⟩
  | 16 => ⟨S81920x3584, .f32⟩
  | 17 => ⟨S81920x3584, .f32⟩
  | 18 => ⟨S81920x3584, .f32⟩
  | 19 => ⟨S_, .f32⟩
  | 20 => ⟨S81920x3584, .f32⟩
  | 21 => ⟨S81920x3584, .f32⟩
  | 22 => ⟨S_, .f32⟩
  | 23 => ⟨S81920x3584, .f32⟩
  | 24 => ⟨S81920x3584, .f32⟩
  | 25 => ⟨S81920x3584, .f32⟩
  | 26 => ⟨S1x1x1024x3584, .f32⟩
  | 27 => ⟨S1024x3584, .f32⟩
  | 28 => ⟨S81920x3584, .f32⟩
  | 29 => ⟨S81920x3584, .f32⟩
  | 30 => ⟨S_, .i32⟩
  | 31 => ⟨S81920x1, .i32⟩
  | 32 => ⟨S81920x1, .i1⟩
  | 33 => ⟨S81920x1, .i1⟩
  | 34 => ⟨S1x1x3584x1024, .f32⟩
  | 35 => ⟨S3584x1024, .f32⟩
  | 36 => ⟨S81920x1024, .f32⟩
  | 37 => ⟨S_, .f32⟩
  | 38 => ⟨S_, .f32⟩
  | 39 => ⟨S81920x1024, .i1⟩
  | 40 => ⟨S81920x1024, .f32⟩
  | 41 => ⟨S81920x1024, .f32⟩
  | 42 => ⟨S81920x1024, .f32⟩
  | 43 => ⟨S1x1x1024x3584, .f32⟩
  | 44 => ⟨S1024x3584, .f32⟩
  | 45 => ⟨S81920x3584, .f32⟩
  | 46 => ⟨S81920x3584, .f32⟩
  | 47 => ⟨S81920x3584, .f32⟩
  | 48 => ⟨S_, .f32⟩
  | 49 => ⟨S81920x3584, .f32⟩
  | 50 => ⟨S81920x3584, .f32⟩
  | 51 => ⟨S_, .f32⟩
  | 52 => ⟨S81920x3584, .f32⟩
  | 53 => ⟨S81920x3584, .f32⟩
  | 54 => ⟨S81920x3584, .f32⟩
  | 55 => ⟨S1x1x1024x3584, .f32⟩
  | 56 => ⟨S1024x3584, .f32⟩
  | 57 => ⟨S81920x3584, .f32⟩
  | 58 => ⟨S81920x3584, .f32⟩
  | 59 => ⟨S_, .i32⟩
  | 60 => ⟨S81920x1, .i32⟩
  | 61 => ⟨S81920x1, .i1⟩
  | 62 => ⟨S81920x1, .i1⟩
  | 63 => ⟨S1x1x3584x1024, .f32⟩
  | 64 => ⟨S3584x1024, .f32⟩
  | 65 => ⟨S81920x1024, .f32⟩
  | 66 => ⟨S_, .f32⟩
  | 67 => ⟨S_, .f32⟩
  | 68 => ⟨S81920x1024, .i1⟩
  | 69 => ⟨S81920x1024, .f32⟩
  | 70 => ⟨S81920x1024, .f32⟩
  | 71 => ⟨S81920x1024, .f32⟩
  | 72 => ⟨S1x1x1024x3584, .f32⟩
  | 73 => ⟨S1024x3584, .f32⟩
  | 74 => ⟨S81920x3584, .f32⟩
  | 75 => ⟨S81920x3584, .f32⟩
  | 76 => ⟨S81920x3584, .f32⟩
  | 77 => ⟨S_, .f32⟩
  | 78 => ⟨S81920x3584, .f32⟩
  | 79 => ⟨S81920x3584, .f32⟩
  | 80 => ⟨S_, .f32⟩
  | 81 => ⟨S81920x3584, .f32⟩
  | 82 => ⟨S81920x3584, .f32⟩
  | 83 => ⟨S81920x3584, .f32⟩
  | 84 => ⟨S1x1x1024x3584, .f32⟩
  | 85 => ⟨S1024x3584, .f32⟩
  | 86 => ⟨S81920x3584, .f32⟩
  | 87 => ⟨S81920x3584, .f32⟩
  | 88 => ⟨S_, .i32⟩
  | 89 => ⟨S81920x1, .i32⟩
  | 90 => ⟨S81920x1, .i1⟩
  | 91 => ⟨S81920x1, .i1⟩
  | 92 => ⟨S1x1x3584x1024, .f32⟩
  | 93 => ⟨S3584x1024, .f32⟩
  | 94 => ⟨S81920x1024, .f32⟩
  | 95 => ⟨S_, .f32⟩
  | 96 => ⟨S_, .f32⟩
  | 97 => ⟨S81920x1024, .i1⟩
  | 98 => ⟨S81920x1024, .f32⟩
  | 99 => ⟨S81920x1024, .f32⟩
  | 100 => ⟨S81920x1024, .f32⟩
  | 101 => ⟨S1x1x1024x3584, .f32⟩
  | 102 => ⟨S1024x3584, .f32⟩
  | 103 => ⟨S81920x3584, .f32⟩
  | 104 => ⟨S81920x3584, .f32⟩
  | 105 => ⟨S81920x3584, .f32⟩
  | 106 => ⟨S_, .f32⟩
  | 107 => ⟨S81920x3584, .f32⟩
  | 108 => ⟨S81920x3584, .f32⟩
  | 109 => ⟨S_, .f32⟩
  | 110 => ⟨S81920x3584, .f32⟩
  | 111 => ⟨S81920x3584, .f32⟩
  | 112 => ⟨S81920x3584, .f32⟩
  | 113 => ⟨S1x1x1024x3584, .f32⟩
  | 114 => ⟨S1024x3584, .f32⟩
  | 115 => ⟨S81920x3584, .f32⟩
  | 116 => ⟨S81920x3584, .f32⟩
  | 117 => ⟨S_, .i32⟩
  | 118 => ⟨S81920x1, .i32⟩
  | 119 => ⟨S81920x1, .i1⟩
  | 120 => ⟨S81920x1, .i1⟩
  | 121 => ⟨S1x1x3584x1024, .f32⟩
  | 122 => ⟨S3584x1024, .f32⟩
  | 123 => ⟨S81920x1024, .f32⟩
  | 124 => ⟨S_, .f32⟩
  | 125 => ⟨S_, .f32⟩
  | 126 => ⟨S81920x1024, .i1⟩
  | 127 => ⟨S81920x1024, .f32⟩
  | _ => ⟨S40, .i32⟩

abbrev hbmTy0_2 (i : Nat) : BufTy := match i % 128 with
  | 0 => ⟨S81920x1024, .f32⟩
  | 1 => ⟨S81920x1024, .f32⟩
  | 2 => ⟨S1x1x1024x3584, .f32⟩
  | 3 => ⟨S1024x3584, .f32⟩
  | 4 => ⟨S81920x3584, .f32⟩
  | 5 => ⟨S81920x3584, .f32⟩
  | 6 => ⟨S81920x3584, .f32⟩
  | 7 => ⟨S_, .f32⟩
  | 8 => ⟨S81920x3584, .f32⟩
  | 9 => ⟨S81920x3584, .f32⟩
  | 10 => ⟨S_, .f32⟩
  | 11 => ⟨S81920x3584, .f32⟩
  | 12 => ⟨S81920x3584, .f32⟩
  | 13 => ⟨S81920x3584, .f32⟩
  | 14 => ⟨S1x1x1024x3584, .f32⟩
  | 15 => ⟨S1024x3584, .f32⟩
  | 16 => ⟨S81920x3584, .f32⟩
  | 17 => ⟨S81920x3584, .f32⟩
  | 18 => ⟨S_, .i32⟩
  | 19 => ⟨S81920x1, .i32⟩
  | 20 => ⟨S81920x1, .i1⟩
  | 21 => ⟨S81920x1, .i1⟩
  | 22 => ⟨S1x1x3584x1024, .f32⟩
  | 23 => ⟨S3584x1024, .f32⟩
  | 24 => ⟨S81920x1024, .f32⟩
  | 25 => ⟨S_, .f32⟩
  | 26 => ⟨S_, .f32⟩
  | 27 => ⟨S81920x1024, .i1⟩
  | 28 => ⟨S81920x1024, .f32⟩
  | 29 => ⟨S81920x1024, .f32⟩
  | 30 => ⟨S81920x1024, .f32⟩
  | 31 => ⟨S81920x512, .f32⟩
  | 32 => ⟨S81920x512, .f32⟩
  | 33 => ⟨S81920x1x512, .f32⟩
  | 34 => ⟨S81920x1x512, .f32⟩
  | 35 => ⟨S81920x2x512, .f32⟩
  | 36 => ⟨S163840x2x256, .f32⟩
  | 37 => ⟨S2x163840x256, .f32⟩
  | 38 => ⟨S2x163840x256, .bf16⟩
  | _ => ⟨S40, .i32⟩

abbrev hbmTy (i : Nat) : BufTy := match i / 128 with
  | 0 => hbmTy0_0 i
  | 1 => hbmTy0_1 i
  | 2 => hbmTy0_2 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_2 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_3 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_4 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_5 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_c_6 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_7 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_c_8 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_9 : Ref sig .tc := ⟨.hbm, 165, rfl⟩
abbrev main_call8_v0 : Ref sig .tc := ⟨.hbm, 166, rfl⟩
abbrev main_call8_v1 : Ref sig .tc := ⟨.hbm, 167, rfl⟩
abbrev main_call8_v2 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_call9_v0 : Ref sig .tc := ⟨.hbm, 174, rfl⟩
abbrev main_call9_v1 : Ref sig .tc := ⟨.hbm, 175, rfl⟩
abbrev main_call9_cst : Ref sig .tc := ⟨.hbm, 176, rfl⟩
abbrev main_call9_v2 : Ref sig .tc := ⟨.hbm, 177, rfl⟩
abbrev main_call9_v3 : Ref sig .tc := ⟨.hbm, 178, rfl⟩
abbrev main_call9_cst_0 : Ref sig .tc := ⟨.hbm, 179, rfl⟩
abbrev main_call9_v4 : Ref sig .tc := ⟨.hbm, 180, rfl⟩
abbrev main_call9_v5 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_c_10 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_cst_11 : Ref sig .tc := ⟨.hbm, 194, rfl⟩
abbrev main_call10_v0 : Ref sig .tc := ⟨.hbm, 195, rfl⟩
abbrev main_call10_v1 : Ref sig .tc := ⟨.hbm, 196, rfl⟩
abbrev main_call10_v2 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_call11_v0 : Ref sig .tc := ⟨.hbm, 203, rfl⟩
abbrev main_call11_v1 : Ref sig .tc := ⟨.hbm, 204, rfl⟩
abbrev main_call11_cst : Ref sig .tc := ⟨.hbm, 205, rfl⟩
abbrev main_call11_v2 : Ref sig .tc := ⟨.hbm, 206, rfl⟩
abbrev main_call11_v3 : Ref sig .tc := ⟨.hbm, 207, rfl⟩
abbrev main_call11_cst_0 : Ref sig .tc := ⟨.hbm, 208, rfl⟩
abbrev main_call11_v4 : Ref sig .tc := ⟨.hbm, 209, rfl⟩
abbrev main_call11_v5 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_c_12 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_cst_13 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_call13_v0 : Ref sig .tc := ⟨.hbm, 232, rfl⟩
abbrev main_call13_v1 : Ref sig .tc := ⟨.hbm, 233, rfl⟩
abbrev main_call13_cst : Ref sig .tc := ⟨.hbm, 234, rfl⟩
abbrev main_call13_v2 : Ref sig .tc := ⟨.hbm, 235, rfl⟩
abbrev main_call13_v3 : Ref sig .tc := ⟨.hbm, 236, rfl⟩
abbrev main_call13_cst_0 : Ref sig .tc := ⟨.hbm, 237, rfl⟩
abbrev main_call13_v4 : Ref sig .tc := ⟨.hbm, 238, rfl⟩
abbrev main_call13_v5 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_c_14 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_cst_15 : Ref sig .tc := ⟨.hbm, 252, rfl⟩
abbrev main_call14_v0 : Ref sig .tc := ⟨.hbm, 253, rfl⟩
abbrev main_call14_v1 : Ref sig .tc := ⟨.hbm, 254, rfl⟩
abbrev main_call14_v2 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_call15_v0 : Ref sig .tc := ⟨.hbm, 261, rfl⟩
abbrev main_call15_v1 : Ref sig .tc := ⟨.hbm, 262, rfl⟩
abbrev main_call15_cst : Ref sig .tc := ⟨.hbm, 263, rfl⟩
abbrev main_call15_v2 : Ref sig .tc := ⟨.hbm, 264, rfl⟩
abbrev main_call15_v3 : Ref sig .tc := ⟨.hbm, 265, rfl⟩
abbrev main_call15_cst_0 : Ref sig .tc := ⟨.hbm, 266, rfl⟩
abbrev main_call15_v4 : Ref sig .tc := ⟨.hbm, 267, rfl⟩
abbrev main_call15_v5 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_c_16 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_cst_17 : Ref sig .tc := ⟨.hbm, 281, rfl⟩
abbrev main_call16_v0 : Ref sig .tc := ⟨.hbm, 282, rfl⟩
abbrev main_call16_v1 : Ref sig .tc := ⟨.hbm, 283, rfl⟩
abbrev main_call16_v2 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x2x32768x256 : Shape := ⟨4, ![2, 2, 32768, 256]⟩
abbrev S32768x128 : Shape := ⟨2, ![32768, 128]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S2x2x1024x256 : Shape := ⟨4, ![2, 2, 1024, 256]⟩
abbrev S1024x128 : Shape := ⟨2, ![1024, 128]⟩
abbrev S1024x1 : Shape := ⟨2, ![1024, 1]⟩
abbrev S1x1x1024x256 : Shape := ⟨4, ![1, 1, 1024, 256]⟩
abbrev S1024x256 : Shape := ⟨2, ![1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S32768x1024, .f32⟩
  | .hbm, ⟨5, _⟩ => ⟨S1x1024, .f32⟩
  | .hbm, ⟨6, _⟩ => ⟨S32768x1024, .f32⟩
  | .hbm, ⟨7, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S2x2x1024x256, .i32⟩
  | .local _ .vmem, ⟨3, _⟩ => ⟨S2x2x1024x256, .i32⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x4096x1024 : Shape := ⟨3, ![8, 4096, 1024]⟩
abbrev S2x2x32768x256 : Shape := ⟨4, ![2, 2, 32768, 256]⟩
abbrev S32768x128 : Shape := ⟨2, ![32768, 128]⟩
abbrev S1024 : Shape := ⟨1, ![1024]⟩
abbrev S_ : Shape := ⟨0, ![]⟩
abbrev S1x2x32768x256 : Shape := ⟨4, ![1, 2, 32768, 256]⟩
abbrev S2x32768x256 : Shape := ⟨3, ![2, 32768, 256]⟩
abbrev S2x32768x1024 : Shape := ⟨3, ![2, 32768, 1024]⟩
abbrev S32768x1 : Shape := ⟨2, ![32768, 1]⟩
abbrev S32768 : Shape := ⟨1, ![32768]⟩
abbrev S1x32768x1024 : Shape := ⟨3, ![1, 32768, 1024]⟩
abbrev S32768x1024 : Shape := ⟨2, ![32768, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S_, .i32⟩
  | .hbm, ⟨5, _⟩ => ⟨S2x2x32768x256, .i32⟩
  | .hbm, ⟨6, _⟩ => ⟨S2x2x32768x256, .i32⟩
  | .hbm, ⟨7, _⟩ => ⟨S2x2x32768x256, .f32⟩
  | .hbm, ⟨8, _⟩ => ⟨S_, .i32⟩
  | .hbm, ⟨9, _⟩ => ⟨S2x2x32768x256, .i32⟩
  | .hbm, ⟨10, _⟩ => ⟨S2x2x32768x256, .i32⟩
  | .hbm, ⟨11, _⟩ => ⟨S2x2x32768x256, .f32⟩
  | .hbm, ⟨12, _⟩ => ⟨S1x2x32768x256, .f32⟩
  | .hbm, ⟨13, _⟩ => ⟨S2x32768x256, .f32⟩
  | .hbm, ⟨14, _⟩ => ⟨S1x2x32768x256, .f32⟩
  | .hbm, ⟨15, _⟩ => ⟨S2x32768x256, .f32⟩
  | .hbm, ⟨16, _⟩ => ⟨S1x2x32768x256, .f32⟩
  | .hbm, ⟨17, _⟩ => ⟨S2x32768x256, .f32⟩
  | .hbm, ⟨18, _⟩ => ⟨S1x2x32768x256, .f32⟩
  | .hbm, ⟨19, _⟩ => ⟨S2x32768x256, .f32⟩
  | .hbm, ⟨20, _⟩ => ⟨S2x32768x1024, .f32⟩
  | .hbm, ⟨21, _⟩ => ⟨S32768x1, .f32⟩
  | .hbm, ⟨22, _⟩ => ⟨S32768, .f32⟩
  | .hbm, ⟨23, _⟩ => ⟨S32768x1, .f32⟩
  | .hbm, ⟨24, _⟩ => ⟨S1x32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1, .f32⟩
  | .hbm, ⟨29, _⟩ => ⟨S32768, .f32⟩
  | .hbm, ⟨30, _⟩ => ⟨S32768x1, .f32⟩
  | .hbm, ⟨31, _⟩ => ⟨S1x32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x512 : Shape := ⟨3, ![8, 4096, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S2x1x512 : Shape := ⟨3, ![2, 1, 512]⟩
abbrev S32768x1024 : Shape := ⟨2, ![32768, 1024]⟩
abbrev S32768x512 : Shape := ⟨2, ![32768, 512]⟩
abbrev S2x1x1024 : Shape := ⟨3, ![2, 1, 1024]⟩
abbrev S1024x1024 : Shape := ⟨2, ![1024, 1024]⟩
abbrev S1024x512 : Shape := ⟨2, ![1024, 512]⟩
abbrev S1x512x512 : Shape := ⟨3, ![1, 512, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S512x512 : Shape := ⟨2, ![512, 512]⟩
abbrev S1x512 : Shape := ⟨2, ![1, 512]⟩
abbrev S1024 : Shape := ⟨1, ![1024]⟩
abbrev S1024x1 : Shape := ⟨2, ![1024, 1]⟩
abbrev S1x512x1024 : Shape := ⟨3, ![1, 512, 1024]⟩
abbrev S512x1024 : Shape := ⟨2, ![512, 1024]⟩
abbrev S1x1024 : Shape := ⟨2, ![1, 1024]⟩
abbrev S1x1024x1536 : Shape := ⟨3, ![1, 1024, 1536]⟩
abbrev S1024x1536 : Shape := ⟨2, ![1024, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S1x1280x1024 : Shape := ⟨3, ![1, 1280, 1024]⟩
abbrev S1280x1024 : Shape := ⟨2, ![1280, 1024]⟩

abbrev nBuf : Space → Nat
  | .hbm => 23
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x512x512, .f32⟩
  | .hbm, ⟨4, _⟩ => ⟨S2x512, .f32⟩
  | .hbm, ⟨5, _⟩ => ⟨S2x512, .f32⟩
  | .hbm, ⟨6, _⟩ => ⟨S2x1024x1024, .f32⟩
  | .hbm, ⟨7, _⟩ => ⟨S2x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S2x512x512, .bf16⟩
  | .hbm, ⟨12, _⟩ => ⟨S2x1x512, .f32⟩
  | .hbm, ⟨13, _⟩ => ⟨S2x1x512, .f32⟩
  | .hbm, ⟨14, _⟩ => ⟨S2x1024x1024, .bf16⟩
  | .hbm, ⟨15, _⟩ => ⟨S1x1024x2816, .bf16⟩
  | .hbm, ⟨16, _⟩ => ⟨S1x1024x2816, .bf16⟩
  | .hbm, ⟨17, _⟩ => ⟨S1x2816x1024, .bf16⟩
  | .hbm, ⟨18, _⟩ => ⟨S32768x1024, .f32⟩
  | .hbm, ⟨19, _⟩ => ⟨S32768x512, .bf16⟩
  | .hbm, ⟨20, _⟩ => ⟨S32768x512, .bf16⟩
  | .hbm, ⟨21, _⟩ => ⟨S2x1x1024, .f32⟩
  | .hbm, ⟨22, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512x512, .bf16⟩
  | .local _ .vmem, ⟨7, _⟩ => ⟨S1x1x512, .f32⟩
  | .local _ .vmem, ⟨8, _⟩ => ⟨S1x1x512, .f32⟩
  | .local _ .vmem, ⟨9, _⟩ => ⟨S1x1024x1024, .bf16⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1024x1024, .f32⟩
  | .local _ .vmem, ⟨15, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x4096x1024 : Shape := ⟨3, ![8, 4096, 1024]⟩
abbrev S8x4096x512 : Shape := ⟨3, ![8, 4096, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x512x512, .f32⟩
  | .hbm, ⟨4, _⟩ => ⟨S2x512, .f32⟩
  | .hbm, ⟨5, _⟩ => ⟨S2x512, .f32⟩
  | .hbm, ⟨6, _⟩ => ⟨S2x1024x1024, .f32⟩
  | .hbm, ⟨7, _⟩ => ⟨S2x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S8x4096x512, .f32⟩
  | .hbm, ⟨12, _⟩ => ⟨S1x512x512, .f32⟩
  | .hbm, ⟨13, _⟩ => ⟨S512x512, .f32⟩
  | .hbm, ⟨14, _⟩ => ⟨S8x4096x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S_, .f32⟩
  | .hbm, ⟨23, _⟩ => ⟨S8x4096x512, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S1x512, .f32⟩
  | .hbm, ⟨30, _⟩ => ⟨S512, .f32⟩
  | .hbm, ⟨31, _⟩ => ⟨S8x4096x512, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x512, .f32⟩
  | .hbm, ⟨43, _⟩ => ⟨S8x4096x512, .f32⟩
  | .hbm, ⟨44, _⟩ => ⟨S1x1x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S8x4096x1024, .f32⟩
  | .hbm, ⟨49, _⟩ => ⟨S1x1024x1024, .f32⟩
  | .hbm, ⟨50, _⟩ => ⟨S1024x1024, .f32⟩
  | .hbm, ⟨51, _⟩ => ⟨S8x4096x1024, .f32⟩
  | .hbm, ⟨52, _⟩ => ⟨S8x4096x1024, .f32⟩
  | .hbm, ⟨53, _⟩ => ⟨S1x1024, .f32⟩
  | .hbm, ⟨54, _⟩ => ⟨S1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S1024x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S_, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S1024x2816, .f32⟩
  | .hbm, ⟨83, _⟩ => ⟨S8x4096x2816, .f32⟩
  | .hbm, ⟨84, _⟩ => ⟨S8x4096x2816, .f32⟩
  | .hbm, ⟨85, _⟩ => ⟨S2816x1024, .f32⟩
  | .hbm, ⟨86, _⟩ => ⟨S8x4096x1024, .f32⟩
  | .hbm, ⟨87, _⟩ => ⟨S8x4096x1024, .f32⟩
  | .hbm, ⟨88, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Kernel5.lean ====
abbrev S8x4096x1024 : Shape := ⟨3, ![8, 4096, 1024]⟩
abbrev S2x1024 : Shape := ⟨2, ![2, 1024]⟩
abbrev S2x1024x2064 : Shape := ⟨3, ![2, 1024, 2064]⟩
abbrev S_ : Shape := ⟨0, ![]⟩
abbrev S2x1024x128 : Shape := ⟨3, ![2, 1024, 128]⟩
abbrev S2x1024x16 : Shape := ⟨3, ![2, 1024, 16]⟩
abbrev S1 : Shape := ⟨1, ![1]⟩
abbrev S2x1024x512 : Shape := ⟨3, ![2, 1024, 512]⟩
abbrev S2x1024x256 : Shape := ⟨3, ![2, 1024, 256]⟩
abbrev S2x1024x1920 : Shape := ⟨3, ![2, 1024, 1920]⟩
abbrev S2x256x1024 : Shape := ⟨3, ![2, 256, 1024]⟩
abbrev S32768x1024 : Shape := ⟨2, ![32768, 1024]⟩
abbrev S2x1x1024 : Shape := ⟨3, ![2, 1, 1024]⟩
abbrev S32768x512 : Shape := ⟨2, ![32768, 512]⟩
abbrev S32768x256 : Shape := ⟨2, ![32768, 256]⟩
abbrev S8x256x4096 : Shape := ⟨3, ![8, 256, 4096]⟩
abbrev S32768x128 : Shape := ⟨2, ![32768, 128]⟩
abbrev S2048x1024 : Shape := ⟨2, ![2048, 1024]⟩
abbrev S1x1x1024 : Shape := ⟨3, ![1, 1, 1024]⟩
abbrev S1x1024x1920 : Shape := ⟨3, ![1, 1024, 1920]⟩
abbrev S1x256x1024 : Shape := ⟨3, ![1, 256, 1024]⟩
abbrev S2048x512 : Shape := ⟨2, ![2048, 512]⟩
abbrev S2048x256 : Shape := ⟨2, ![2048, 256]⟩
abbrev S1x256x2048 : Shape := ⟨3, ![1, 256, 2048]⟩
abbrev S2048x128 : Shape := ⟨2, ![2048, 128]⟩
abbrev S1x1024 : Shape := ⟨2, ![1, 1024]⟩
abbrev S2048 : Shape := ⟨1, ![2048]⟩
abbrev S2048x1 : Shape := ⟨2, ![2048, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S256x1024 : Shape := ⟨2, ![256, 1024]⟩
abbrev S256x2048 : Shape := ⟨2, ![256, 2048]⟩

abbrev nBuf : Space → Nat
  | .hbm => 29
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2064, .f32⟩
  | .hbm, ⟨3, _⟩ => ⟨S_, .f32⟩
  | .hbm, ⟨4, _⟩ => ⟨S2x1024x128, .f32⟩
  | .hbm, ⟨5, _⟩ => ⟨S2x1024x16, .f32⟩
  | .hbm, ⟨6, _⟩ => ⟨S_, .i32⟩
  | .hbm, ⟨7, _⟩ => ⟨S1, .i32⟩
  | .hbm, ⟨8, _⟩ => ⟨S2x1024x128, .f32⟩
  | .hbm, ⟨9, _⟩ => ⟨S2x1024x512, .f32⟩
  | .hbm, ⟨10, _⟩ => ⟨S2x1024x256, .f32⟩
  | .hbm, ⟨11, _⟩ => ⟨S_, .f32⟩
  | .hbm, ⟨12, _⟩ => ⟨S2x1024x256, .f32⟩
  | .hbm, ⟨13, _⟩ => ⟨S2x1024x256, .f32⟩
  | .hbm, ⟨14, _⟩ => ⟨S2x1024x512, .f32⟩
  | .hbm, ⟨15, _⟩ => ⟨S2x1024x512, .f32⟩
  | .hbm, ⟨16, _⟩ => ⟨S2x1024x1920, .f32⟩
  | .hbm, ⟨17, _⟩ => ⟨S2x1024x1920, .bf16⟩
  | .hbm, ⟨18, _⟩ => ⟨S2x1024x256, .f32⟩
  | .hbm, ⟨19, _⟩ => ⟨S2x256x1024, .f32⟩
  | .hbm, ⟨20, _⟩ => ⟨S2x256x1024, .bf16⟩
  | .hbm, ⟨21, _⟩ => ⟨S32768x1024, .f32⟩
  | .hbm, ⟨22, _⟩ => ⟨S2x1x1024, .f32⟩
  | .hbm, ⟨23, _⟩ => ⟨S32768x512, .bf16⟩
  | .hbm, ⟨24, _⟩ => ⟨S32768x256, .bf16⟩
  | .hbm, ⟨25, _⟩ => ⟨S8x256x4096, .bf16⟩
  | .hbm, ⟨26, _⟩ => ⟨S32768x512, .bf16⟩
  | .hbm, ⟨27, _⟩ => ⟨S32768x512, .bf16⟩
  | .hbm, ⟨28, _⟩ => ⟨S32768x128, .bf16⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1024x1920, .bf16⟩
  | .local _ .vmem, ⟨4, _⟩ => ⟨S1x256x1024, .bf16⟩
  | .local _ .vmem, ⟨5, _⟩ => ⟨S2048x512, .bf16⟩
  | .local _ .vmem, ⟨6, _⟩ => ⟨S2048x512, .bf16⟩
  | .local _ .vmem, ⟨7, _⟩ => ⟨S2048x256, .bf16⟩
  | .local _ .vmem, ⟨8, _⟩ => ⟨S2048x256, .bf16⟩
  | .local _ .vmem, ⟨9, _⟩ => ⟨S1x256x2048, .bf16⟩
  | .local _ .vmem, ⟨10, _⟩ => ⟨S1x256x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x128, .bf16⟩
  | .local _ .vmem, ⟨16, _⟩ => ⟨S2048x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8x4096x1024 : Shape := ⟨3, ![8, 4096, 1024]⟩
abbrev S2x1024 : Shape := ⟨2, ![2, 1024]⟩
abbrev S2x1024x2064 : Shape := ⟨3, ![2, 1024, 2064]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2064 : Shape := ⟨3, ![1, 1024, 2064]⟩
abbrev S1024x2064 : Shape := ⟨2, ![1024, 2064]⟩
abbrev S8x4096x2064 : Shape := ⟨3, ![8, 4096, 2064]⟩
abbrev S8x4096x512 : Shape := ⟨3, ![8, 4096, 512]⟩
abbrev S8x4096x256 : Shape := ⟨3, ![8, 4096, 256]⟩
abbrev S8x4096x16 : Shape := ⟨3, ![8, 4096, 16]⟩
abbrev S32768x512 : Shape := ⟨2, ![32768, 512]⟩
abbrev S32768x256 : Shape := ⟨2, ![32768, 256]⟩
abbrev S8x256x4096 : Shape := ⟨3, ![8, 256, 4096]⟩
abbrev S8x4096x128 : Shape := ⟨3, ![8, 4096, 128]⟩
abbrev S32768x128 : Shape := ⟨2, ![32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2064, .f32⟩
  | .hbm, ⟨3, _⟩ => ⟨S1x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1x1024x2064, .f32⟩
  | .hbm, ⟨22, _⟩ => ⟨S1024x2064, .f32⟩
  | .hbm, ⟨23, _⟩ => ⟨S8x4096x2064, .f32⟩
  | .hbm, ⟨24, _⟩ => ⟨S8x4096x512, .f32⟩
  | .hbm, ⟨25, _⟩ => ⟨S8x4096x256, .f32⟩
  | .hbm, ⟨26, _⟩ => ⟨S8x4096x256, .f32⟩
  | .hbm, ⟨27, _⟩ => ⟨S8x4096x512, .f32⟩
  | .hbm, ⟨28, _⟩ => ⟨S8x4096x512, .f32⟩
  | .hbm, ⟨29, _⟩ => ⟨S8x4096x16, .f32⟩
  | .hbm, ⟨30, _⟩ => ⟨S32768x512, .f32⟩
  | .hbm, ⟨31, _⟩ => ⟨S32768x512, .bf16⟩
  | .hbm, ⟨32, _⟩ => ⟨S_, .f32⟩
  | .hbm, ⟨33, _⟩ => ⟨S8x4096x256, .f32⟩
  | .hbm, ⟨34, _⟩ => ⟨S8x4096x256, .f32⟩
  | .hbm, ⟨35, _⟩ => ⟨S32768x256, .f32⟩
  | .hbm, ⟨36, _⟩ => ⟨S32768x256, .bf16⟩
  | .hbm, ⟨37, _⟩ => ⟨S8x256x4096, .f32⟩
  | .hbm, ⟨38, _⟩ => ⟨S8x256x4096, .bf16⟩
  | .hbm, ⟨39, _⟩ => ⟨S32768x512, .f32⟩
  | .hbm, ⟨40, _⟩ => ⟨S32768x512, .bf16⟩
  | .hbm, ⟨41, _⟩ => ⟨S32768x512, .f32⟩
  | .hbm, ⟨42, _⟩ => ⟨S32768x512, .bf16⟩
  | .hbm, ⟨43, _⟩ => ⟨S_, .i32⟩
  | .hbm, ⟨44, _⟩ => ⟨S_, .f32⟩
  | .hbm, ⟨45, _⟩ => ⟨S8x4096x128, .f32⟩
  | .hbm, ⟨46, _⟩ => ⟨S32768x128, .f32⟩
  | .hbm, ⟨47, _⟩ => ⟨S32768x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c : Ref sig .tc := ⟨.hbm, 43, rfl⟩
abbrev main_call0_v0 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel6.lean ====
abbrev S32768x1024 : Shape := ⟨2, ![32768, 1024]⟩
abbrev S2x1024 : Shape := ⟨2, ![2, 1024]⟩
abbrev S2x1024x2064 : Shape := ⟨3, ![2, 1024, 2064]⟩
abbrev S_ : Shape := ⟨0, ![]⟩
abbrev S2x1024x128 : Shape := ⟨3, ![2, 1024, 128]⟩
abbrev S2x1024x16 : Shape := ⟨3, ![2, 1024, 16]⟩
abbrev S1 : Shape := ⟨1, ![1]⟩
abbrev S2x1024x512 : Shape := ⟨3, ![2, 1024, 512]⟩
abbrev S2x1024x256 : Shape := ⟨3, ![2, 1024, 256]⟩
abbrev S2x1024x1920 : Shape := ⟨3, ![2, 1024, 1920]⟩
abbrev S2x256x1024 : Shape := ⟨3, ![2, 256, 1024]⟩
abbrev S2x1x1024 : Shape := ⟨3, ![2, 1, 1024]⟩
abbrev S32768x512 : Shape := ⟨2, ![32768, 512]⟩
abbrev S32768x256 : Shape := ⟨2, ![32768, 256]⟩
abbrev S8x256x4096 : Shape := ⟨3, ![8, 256, 4096]⟩
abbrev S32768x128 : Shape := ⟨2, ![32768, 128]⟩
abbrev S2048x1024 : Shape := ⟨2, ![2048, 1024]⟩
abbrev S1x1x1024 : Shape := ⟨3, ![1, 1, 1024]⟩
abbrev S1x1024x1920 : Shape := ⟨3, ![1, 1024, 1920]⟩
abbrev S1x256x1024 : Shape := ⟨3, ![1, 256, 1024]⟩
abbrev S2048x512 : Shape := ⟨2, ![2048, 512]⟩
abbrev S2048x256 : Shape := ⟨2, ![2048, 256]⟩
abbrev S1x256x2048 : Shape := ⟨3, ![1, 256, 2048]⟩
abbrev S2048x128 : Shape := ⟨2, ![2048, 128]⟩
abbrev S1x1024 : Shape := ⟨2, ![1, 1024]⟩
abbrev S2048 : Shape := ⟨1, ![2048]⟩
abbrev S2048x1 : Shape := ⟨2, ![2048, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S256x1024 : Shape := ⟨2, ![256, 1024]⟩
abbrev S256x2048 : Shape := ⟨2, ![256, 2048]⟩

abbrev nBuf : Space → Nat
  | .hbm => 28
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2064, .f32⟩
  | .hbm, ⟨3, _⟩ => ⟨S_, .f32⟩
  | .hbm, ⟨4, _⟩ => ⟨S2x1024x128, .f32⟩
  | .hbm, ⟨5, _⟩ => ⟨S2x1024x16, .f32⟩
  | .hbm, ⟨6, _⟩ => ⟨S_, .i32⟩
  | .hbm, ⟨7, _⟩ => ⟨S1, .i32⟩
  | .hbm, ⟨8, _⟩ => ⟨S2x1024x128, .f32⟩
  | .hbm, ⟨9, _⟩ => ⟨S2x1024x512, .f32⟩
  | .hbm, ⟨10, _⟩ => ⟨S2x1024x256, .f32⟩
  | .hbm, ⟨11, _⟩ => ⟨S_, .f32⟩
  | .hbm, ⟨12, _⟩ => ⟨S2x1024x256, .f32⟩
  | .hbm, ⟨13, _⟩ => ⟨S2x1024x256, .f32⟩
  | .hbm, ⟨14, _⟩ => ⟨S2x1024x512, .f32⟩
  | .hbm, ⟨15, _⟩ => ⟨S2x1024x512, .f32⟩
  | .hbm, ⟨16, _⟩ => ⟨S2x1024x1920, .f32⟩
  | .hbm, ⟨17, _⟩ => ⟨S2x1024x1920, .bf16⟩
  | .hbm, ⟨18, _⟩ => ⟨S2x1024x256, .f32⟩
  | .hbm, ⟨19, _⟩ => ⟨S2x256x1024, .f32⟩
  | .hbm, ⟨20, _⟩ => ⟨S2x256x1024, .bf16⟩
  | .hbm, ⟨21, _⟩ => ⟨S2x1x1024, .f32⟩
  | .hbm, ⟨22, _⟩ => ⟨S32768x512, .bf16⟩
  | .hbm, ⟨23, _⟩ => ⟨S32768x256, .bf16⟩
  | .hbm, ⟨24, _⟩ => ⟨S8x256x4096, .bf16⟩
  | .hbm, ⟨25, _⟩ => ⟨S32768x512, .bf16⟩
  | .hbm, ⟨26, _⟩ => ⟨S32768x512, .bf16⟩
  | .hbm, ⟨27, _⟩ => ⟨S32768x128, .bf16⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1024x1920, .bf16⟩
  | .local _ .vmem, ⟨4, _⟩ => ⟨S1x256x1024, .bf16⟩
  | .local _ .vmem, ⟨5, _⟩ => ⟨S2048x512, .bf16⟩
  | .local _ .vmem, ⟨6, _⟩ => ⟨S2048x512, .bf16⟩
  | .local _ .vmem, ⟨7, _⟩ => ⟨S2048x256, .bf16⟩
  | .local _ .vmem, ⟨8, _⟩ => ⟨S2048x256, .bf16⟩
  | .local _ .vmem, ⟨9, _⟩ => ⟨S1x256x2048, .bf16⟩
  | .local _ .vmem, ⟨10, _⟩ => ⟨S1x256x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x128, .bf16⟩
  | .local _ .vmem, ⟨16, _⟩ => ⟨S2048x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev main_v16_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x1024 : Shape := ⟨2, ![32768, 1024]⟩
abbrev S2x1024 : Shape := ⟨2, ![2, 1024]⟩
abbrev S2x1024x2064 : Shape := ⟨3, ![2, 1024, 2064]⟩
abbrev S8x4096x1024 : Shape := ⟨3, ![8, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2064 : Shape := ⟨3, ![1, 1024, 2064]⟩
abbrev S1024x2064 : Shape := ⟨2, ![1024, 2064]⟩
abbrev S8x4096x2064 : Shape := ⟨3, ![8, 4096, 2064]⟩
abbrev S8x4096x512 : Shape := ⟨3, ![8, 4096, 512]⟩
abbrev S8x4096x256 : Shape := ⟨3, ![8, 4096, 256]⟩
abbrev S8x4096x16 : Shape := ⟨3, ![8, 4096, 16]⟩
abbrev S32768x512 : Shape := ⟨2, ![32768, 512]⟩
abbrev S32768x256 : Shape := ⟨2, ![32768, 256]⟩
abbrev S8x256x4096 : Shape := ⟨3, ![8, 256, 4096]⟩
abbrev S8x4096x128 : Shape := ⟨3, ![8, 4096, 128]⟩
abbrev S32768x128 : Shape := ⟨2, ![32768, 128]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2064, .f32⟩
  | .hbm, ⟨3, _⟩ => ⟨S8x4096x1024, .f32⟩
  | .hbm, ⟨4, _⟩ => ⟨S1x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1x1024x2064, .f32⟩
  | .hbm, ⟨23, _⟩ => ⟨S1024x2064, .f32⟩
  | .hbm, ⟨24, _⟩ => ⟨S8x4096x2064, .f32⟩
  | .hbm, ⟨25, _⟩ => ⟨S8x4096x512, .f32⟩
  | .hbm, ⟨26, _⟩ => ⟨S8x4096x256, .f32⟩
  | .hbm, ⟨27, _⟩ => ⟨S8x4096x256, .f32⟩
  | .hbm, ⟨28, _⟩ => ⟨S8x4096x512, .f32⟩
  | .hbm, ⟨29, _⟩ => ⟨S8x4096x512, .f32⟩
  | .hbm, ⟨30, _⟩ => ⟨S8x4096x16, .f32⟩
  | .hbm, ⟨31, _⟩ => ⟨S32768x512, .f32⟩
  | .hbm, ⟨32, _⟩ => ⟨S32768x512, .bf16⟩
  | .hbm, ⟨33, _⟩ => ⟨S_, .f32⟩
  | .hbm, ⟨34, _⟩ => ⟨S8x4096x256, .f32⟩
  | .hbm, ⟨35, _⟩ => ⟨S8x4096x256, .f32⟩
  | .hbm, ⟨36, _⟩ => ⟨S32768x256, .f32⟩
  | .hbm, ⟨37, _⟩ => ⟨S32768x256, .bf16⟩
  | .hbm, ⟨38, _⟩ => ⟨S8x256x4096, .f32⟩
  | .hbm, ⟨39, _⟩ => ⟨S8x256x4096, .bf16⟩
  | .hbm, ⟨40, _⟩ => ⟨S32768x512, .f32⟩
  | .hbm, ⟨41, _⟩ => ⟨S32768x512, .bf16⟩
  | .hbm, ⟨42, _⟩ => ⟨S32768x512, .f32⟩
  | .hbm, ⟨43, _⟩ => ⟨S32768x512, .bf16⟩
  | .hbm, ⟨44, _⟩ => ⟨S_, .i32⟩
  | .hbm, ⟨45, _⟩ => ⟨S_, .f32⟩
  | .hbm, ⟨46, _⟩ => ⟨S8x4096x128, .f32⟩
  | .hbm, ⟨47, _⟩ => ⟨S32768x128, .f32⟩
  | .hbm, ⟨48, _⟩ => ⟨S32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_call0_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Words.lean ====
/-
  The words the gather's pipeline computes: for each trip of its loop, the block numbers, the slots, the
  semaphores and the branch conditions, in closed form over the tile's coordinates and the trip.
-/
module

public import proofs.«01_k».proof.Defs
public import proofs.«01_k».proof.Proof.Gen.KernelIdeal
public import proofs.«01_k».proof.Proof.Gen.KernelIdeal.Skeleton

@[expose] public section

set_option maxRecDepth 65536

namespace Cert.Proof.Gather

open Cert.KernelIdeal Cert.KernelIdeal.Gen
open Idealize.ShloMosaic

/-- The five carried words before trip `t`: blocks fetched, blocks taken in, blocks put out, blocks drained,
    and the step within the tile's row of the grid. -/
abbrev w6 (t : ℕ) : BitVec 32 := BitVec.ofNat 32 (min (t + 1) 32)
abbrev w7 (t : ℕ) : BitVec 32 := BitVec.ofNat 32 t
abbrev w9 (t : ℕ) : BitVec 32 := BitVec.ofNat 32 (t - 1)
abbrev w10 (t : ℕ) : BitVec 32 := BitVec.ofNat 32 (t % 32)

theorem trips_eq : k0_t1_loop.trips = 32 := by decide +kernel

/-- The first block of tile `i`, in blocks of 128 rows. -/
abbrev base (i : grid0.Coords) : ℕ := 32 * ((i 1).val + 16 * (i 0).val)

theorem cond1_iff : ∀ (i : grid0.Coords) (t : Fin k0_t1_loop.trips), k0_cond1 i t (w10 t.val) = 1#1 ↔ t.val < 31 := by
  decide +kernel
theorem cond2_true : ∀ (i : grid0.Coords) (t : Fin k0_t1_loop.trips), k0_cond2 i t (w10 t.val) = 1#1 := by
  decide +kernel
theorem cond5_true : ∀ (i : grid0.Coords) (t : Fin k0_t1_loop.trips), k0_cond5 i t (w10 t.val) = 1#1 := by
  decide +kernel
theorem cond7_iff : ∀ (i : grid0.Coords) (t : Fin k0_t1_loop.trips), k0_cond7 i t (w10 t.val) = 1#1 ↔ 0 < t.val := by
  decide +kernel

theorem off4_eq : ∀ t : Fin 32, k0_off4 (w6 t.val) = ![(t.val + 1) % 2, 0, 0] := by decide +kernel
theorem off5_eq : ∀ (i : grid0.Coords) (t : Fin 32), t.val < 31 → k0_off5 i (w10 t.val) = ![0, 128 * (base i + (t.val + 1))] := by
  decide +kernel
theorem off6_eq : ∀ t : Fin 32, k0_off6 (w6 t.val) = ![(t.val + 1) % 2] := by decide +kernel
theorem off7_eq : ∀ t : Fin 32, k0_off7 (w7 t.val) = ![t.val % 2, 0, 0] := by decide +kernel
theorem off8_eq : ∀ (i : grid0.Coords) (t : Fin 32), k0_off8 i (w10 t.val) = ![0, 128 * (base i + t.val)] := by
  decide +kernel
theorem off9_eq : ∀ t : Fin 32, k0_off9 (w7 t.val) = ![t.val % 2] := by decide +kernel
theorem off10_eq : ∀ t : Fin 32, k0_off10 (w7 t.val) = ![t.val % 2, 0, 0] := by decide +kernel
theorem off11_eq : ∀ t : Fin 32, k0_off11 (w7 t.val) = ![t.val % 2, 0, 0] := by decide +kernel
theorem off12_eq : ∀ t : Fin 32, k0_off12 (w7 t.val) = ![t.val % 2, 0, 0] := by decide +kernel
theorem off13_eq : ∀ (i : grid0.Coords) (t : Fin 32), k0_off13 i (w10 t.val) = ![128 * (base i + t.val), 0] := by
  decide +kernel
theorem off14_eq : ∀ t : Fin 32, k0_off14 (w7 t.val) = ![t.val % 2] := by decide +kernel
theorem off15_eq : ∀ t : Fin 32, 0 < t.val → k0_off15 (w9 t.val) = ![(t.val + 1) % 2, 0, 0] := by decide +kernel
theorem off16_eq : ∀ (i : grid0.Coords) (t : Fin 32), 0 < t.val → k0_off16 i (w10 t.val) = ![128 * (base i + (t.val - 1)), 0] := by
  decide +kernel
theorem off17_eq : ∀ t : Fin 32, 0 < t.val → k0_off17 (w9 t.val) = ![(t.val + 1) % 2] := by decide +kernel
theorem off19_eq : ∀ i : grid0.Coords, k0_off19 i (w10 32) = ![128 * (base i + 31), 0] := by decide +kernel
theorem off20_eq : k0_off20 (w9 32) = ![1] := by decide +kernel
theorem off21_eq : k0_off21 (w9 32) = ![1, 0, 0] := by decide +kernel

theorem chk1_true : ∀ (i : grid0.Coords) (t : Fin k0_t1_loop.trips),
    k0_chk1 i t (w6 t.val) (w7 t.val) (w7 t.val) (w9 t.val) (w10 t.val) := by decide +kernel
theorem chk2_true : ∀ t : Fin 32, k0_chk2 (w7 t.val) := by decide +kernel
theorem chk3_true : ∀ t : Fin 32, k0_chk3 (w7 t.val) := by decide +kernel
theorem chk4_true : k0_chk4 (w9 32) := by decide +kernel
theorem chk5_true : ∀ i : grid0.Coords, k0_chk5 i (w10 32) := by decide +kernel

end Cert.Proof.Gather
-- ==== Proof.Slots.lean ====
/-
  The gather's task on one tile, piece by piece: the two slots of the index ring and the two of the row ring, their
  semaphores, the transfers into and out of them, and the indirect gather from the one to the other.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-- The ghost algebra: the handshakes' rounds and the transfers' counters. -/
abbrev UH : Type := URounds (GSem nD τ sig) ℕ
abbrev UU : Type := UH × Counters

local notation "𝕄" => MT nD τ sig (HIx 1) (Elt F) ℕ UU ℕ

/-! ## The arrays -/

abbrev tLoc (d : Dev nD) : Loc nD τ sig := (SparseCore.T d).loc main_v5
abbrev iLoc (d : Dev nD) : Loc nD τ sig := (SparseCore.T d).loc main_v6
abbrev oLoc (d : Dev nD) : Loc nD τ sig := (SparseCore.T d).loc main_v7

abbrev tV : Memref sig .scVector .hbm S163840x256 .i32 := Memref.whole main_v5_scv
abbrev iV : Memref sig .scVector .hbm S1x131072 .i32 := Memref.whole main_v6_scv
abbrev oV : Memref sig .scVector .hbm S131072x256 .i32 := Memref.whole main_v7_scv
abbrev sV : Memref sig .scVector .vmem S2x1x128 .i32 := Memref.whole cc0_scoped0
abbrev rV : Memref sig .scVector .vmem S2x128x256 .i32 := Memref.whole cc0_scoped2

abbrev cV (L : grid0.Coords) : Fin τ.nSC := (L 0).castLE hcore0
abbrev jV (L : grid0.Coords) : Fin τ.nSub := (L 1).castLE hsub0
/-- The tile's thread. -/
abbrev tile (d : Dev nD) (L : grid0.Coords) : Thread nD τ := SparseCore.V d (cV L) (jV L)

/-! ## The slots, their semaphores, the blocks -/

theorem sInb : ∀ k : Fin 2, ∀ a, (![k.val, 0, 0] : Fin 3 → ℕ) a + S1x1x128.size a ≤ S2x1x128.size a := by decide
theorem rInb : ∀ k : Fin 2, ∀ a, (![k.val, 0, 0] : Fin 3 → ℕ) a + S1x128x256.size a ≤ S2x128x256.size a := by decide
theorem cInb : ∀ k : Fin 2, ∀ a, (![k.val] : Fin 1 → ℕ) a + S1.size a ≤ S2.size a := by decide
theorem iInb (b : ℕ) (hb : b < 1024) : ∀ a, (![0, 128 * b] : Fin 2 → ℕ) a + S1x128.size a ≤ S1x131072.size a := by
  intro a; fin_cases a
  · show 0 + 1 ≤ 1; omega
  · show 128 * b + 128 ≤ 131072; omega
theorem oInb (b : ℕ) (hb : b < 1024) : ∀ a, (![128 * b, 0] : Fin 2 → ℕ) a + S128x256.size a ≤ S131072x256.size a := by
  intro a; fin_cases a
  · show 128 * b + 128 ≤ 131072; omega
  · show 0 + 256 ≤ 256; omega

/-- Slot `k` of the index ring, of the row ring. -/
abbrev sSlot (k : Fin 2) : Memref sig .scVector .vmem S1x128 .i32 :=
  (sV.slice (Rect.unit (s := S2x1x128) ![k.val, 0, 0] S1x1x128.size (sInb k)) (fun _ => rfl)).squeeze S1x128 squeezes_S1x1x128_S1x128
abbrev rSlot (k : Fin 2) : Memref sig .scVector .vmem S128x256 .i32 :=
  (rV.slice (Rect.unit (s := S2x128x256) ![k.val, 0, 0] S1x128x256.size (rInb k)) (fun _ => rfl)).squeeze S128x256 squeezes_S1x128x256_S128x256
/-- The semaphore of slot `k` of each ring. -/
abbrev sSem (k : Fin 2) : DmaSem sig := ((cc0_scoped1.slice (Rect.unit (s := S2) ![k.val] S1.size (cInb k))).squeeze S_ squeezes_S1_S_).sem
abbrev rSem (k : Fin 2) : DmaSem sig := ((cc0_scoped3.slice (Rect.unit (s := S2) ![k.val] S1.size (cInb k))).squeeze S_ squeezes_S1_S_).sem
/-- Block `b` of the index row, of the result. -/
abbrev iBlk (b : ℕ) (hb : b < 1024) : Memref sig .scVector .hbm S1x128 .i32 :=
  iV.slice (Rect.unit (s := S1x131072) ![0, 128 * b] S1x128.size (iInb b hb)) (fun _ => rfl)
abbrev oBlk (b : ℕ) (hb : b < 1024) : Memref sig .scVector .hbm S128x256 .i32 :=
  oV.slice (Rect.unit (s := S131072x256) ![128 * b, 0] S128x256.size (oInb b hb)) (fun _ => rfl)

/-- What each transfer credits its semaphore. -/
abbrev nIn : ℕ := (sSlot 0).view.dmaCredit
abbrev nOut : ℕ := (oBlk 0 (by decide)).view.dmaCredit
abbrev nRow : ℕ := (rSlot 0).view.dmaCredit

theorem nIn_pos : 0 < nIn := View.dmaCredit_pos _ (show 0 < S1x128.numel by decide)
theorem nOut_pos : 0 < nOut := View.dmaCredit_pos _ (show 0 < S128x256.numel by decide)

section Pieces

variable (d : Dev nD) (L : grid0.Coords) (q : PosShare TreeShare)
variable (fi : Buf (Elt F) (iLoc d)) (ft : Buf (Elt F) (tLoc d))

/-- Slot `k` of the index ring free: the slot at any contents, the index row at a share, its semaphore at zero. -/
def InFree (k : Fin 2) : sProp 𝕄 :=
  iprop((∃ f, (sSlot k).view.loc (tile d L) ↦[(sSlot k).view.set]{fullShare} f)
    ∗ ((iV).view.loc (tile d L) ↦{q} fi) ∗ semVal (tile d L, SemLoc.dma (sSem k)) 0)

/-- Slot `k` of the index ring holding block `b` of the index row. -/
def InHas (k : Fin 2) (b : ℕ) (hb : b < 1024) : sProp 𝕄 :=
  iprop(∃ f, ⌜(sSlot k).view.read (Elt F) f = (iBlk b hb).view.read (Elt F) fi⌝
    ∗ (sSlot k).view.loc (tile d L) ↦[(sSlot k).view.set]{fullShare} f)

/-- Slot `k` of the index ring being filled with block `b`. -/
def InFly (k : Fin 2) (b : ℕ) (hb : b < 1024) : sProp 𝕄 :=
  iprop(Transfers.Flight countersEmb (tile d L) (SemLoc.dma (sSem k)) (default : HIx 1) nIn
      iprop(InHas d L fi k b hb ∗ (iV).view.loc (tile d L) ↦[(iBlk b hb).view.set]{q} fi)
    ∗ ((iV).view.loc (tile d L) ↦[Finset.univ \ (iBlk b hb).view.set]{q} fi))

variable [FloatOps F]

/-- Block `b` of the index row is sent for, into slot `k`. -/
theorem issue_in (k : Fin 2) (b : ℕ) (hb : b < 1024) {offD : Fin 3 → ℕ} {offS : Fin 2 → ℕ} {offC : Fin 1 → ℕ}
    (eD : offD = ![k.val, 0, 0]) (eS : offS = ![0, 128 * b]) (eC : offC = ![k.val])
    (hD : ∀ a, offD a + S1x1x128.size a ≤ S2x1x128.size a) (hS : ∀ a, offS a + S1x128.size a ≤ S1x131072.size a)
    (hC : ∀ a, offC a + S1.size a ≤ S2.size a) {hsrc hdst hsem} {Q : PUnit → sProp 𝕄} :
    InFree d L q fi k ⊢ iprop((InFly d L q fi k b hb -∗ Q ⟨⟩)
      -∗ wp frame (wpE (defs₀ (F := F)) 𝒱₀ (tile d L) none) Set.univ
          (Prog.lift (TpuEff.enqueueDma (nD := nD) (τ := τ) (sig := sig) (Val := Elt F) (Λ := Λ₀) (p := (tile d L).2)
            (iV.slice (Rect.unit (s := S1x131072) offS S1x128.size hS) (fun _ => rfl))
            (.here ((sV.slice (Rect.unit (s := S2x1x128) offD S1x1x128.size hD) (fun _ => rfl)).squeeze S1x128 squeezes_S1x1x128_S1x128))
            (.dma ((cc0_scoped1.slice (Rect.unit (s := S2) offC S1.size hC)).squeeze S_ squeezes_S1_S_).sem) hsrc hdst hsem)) Q) := by
  subst eD; subst eS; subst eC
  unfold InFree
  iintro ⟨⟨%f, Hs⟩, Hi, Hc⟩ HQ
  ihave Hi' := (pointsTo_split_subset (q := q) (f := fi) (S := Finset.univ) (Finset.subset_univ (iBlk b hb).view.set)).1 $$ Hi
  icases Hi' with ⟨Hb, Hrest⟩
  iapply (Transfers.wp_dmaLocal countersEmb 𝒱₀ (tile d L) none (src := iBlk b hb) (dst := sSlot k) (sm := SemLoc.dma (sSem k))
    (default : HIx 1) nIn rfl nIn_pos (Finset.Subset.refl _)) $$ [Hs Hb Hc]
  · isplitl [Hb]; · iexact Hb
    isplitl [Hs]; · iexact Hs
    iexact Hc
  iintro Hfl
  rw [wp_ret]; imodintro
  iapply HQ
  unfold InFly
  isplitl [Hfl]
  · iapply (Transfers.Flight_mono countersEmb (tile d L) (show _ ⊢ _ from ?_)) $$ Hfl
    unfold InHas
    iintro ⟨Hs, Hb⟩
    isplitl [Hs]
    · iexists _; isplitr
      swap; · iexact Hs
      ipureintro; rw [View.read_write_univ]
    · iexact Hb
  · iexact Hrest

end Pieces

end Cert.Proof.Gather
-- ==== Proof.Rows.lean ====
/-
  What the indirect gather leaves in a slot of the row ring: at row `r` and column `c`, the table's row named by
  word `r` of the index block the slot of the index ring holds.
-/
module

public import proofs.«01_k».proof.Proof.Slots

@[expose] public section

noncomputable section

namespace Cert.Proof.Gather

open Cert.KernelIdeal Cert.KernelIdeal.Gen

open Idealize.ShloMosaic

variable {F : FTy → Type}

/-- The index of a two-axis array at a row and a column. -/
abbrev at2 {a b : ℕ} (r : Fin a) (c : Fin b) : (⟨2, ![a, b]⟩ : Shape).Idx := fun | 0 => r | 1 => c

/-- The result: each row the table's row its word names. -/
def G (fi : S1x131072.Idx → BitVec 32) (ft : S163840x256.Idx → BitVec 32) : S131072x256.Idx → BitVec 32 :=
  fun x => ft (at2 ⟨(fi (at2 0 (x 0))).toNat % 163840, Nat.mod_lt _ (by decide)⟩ (x 1))

/-- The list the gather reads: slot `k` of the index ring, as a row of 128 words. -/
abbrev offs (k : Fin 2) : View sig .scVector .vmem S128 .i32 :=
  ((sSlot k).view.slice (Rect.unit (s := S1x128) ![0, 0] S1x128.size inb_S1x128_S1x128_0_0)).reshape S128 squeezes_S1x128_S128.numel_eq
/-- The table with its rows cut in two halves, and a slot of the row ring so cut. -/
abbrev tHalf : View sig .scVector .hbm S163840x2x128 .i32 :=
  (tV.view.reshape S163840x2x128 reshapes_S163840x256_S163840x2x128.1).slice
    (Rect.unit (s := S163840x2x128) ![0, 0, 0] S163840x2x128.size inb_S163840x2x128_S163840x2x128_0_0_0)
abbrev rHalf (k : Fin 2) : View sig .scVector .vmem S128x2x128 .i32 :=
  (rSlot k).view.reshape S128x2x128 reshapes_S128x256_S128x2x128.1

/-- Word `r` of the list is word `r` of the block the slot holds. -/
theorem offs_read (k : Fin 2) (b : ℕ) (hb : b < 1024) (fs : (sSlot k).view.ty.Contents (Elt F)) (fi : S1x131072.Idx → BitVec 32)
    (hs : (sSlot k).view.read (Elt F) fs = (iBlk b hb).view.read (Elt F) fi) (r : S128.Idx) :
    (offs k).read (Elt F) fs r = fi (at2 0 ⟨128 * b + (r 0).val, by have h1 : (r 0).val < 128 := (r 0).isLt; omega⟩) := by
  have h1 : (offs k).read (Elt F) fs r = (sSlot k).view.read (Elt F) fs
      ((Rect.unit (s := S1x128) ![0, 0] S1x128.size inb_S1x128_S1x128_0_0).emb (Shape.reshapeEquiv squeezes_S1x128_S128.numel_eq r)) := rfl
  have h2 : (Rect.unit (s := S1x128) ![0, 0] S1x128.size inb_S1x128_S1x128_0_0).emb (Shape.reshapeEquiv squeezes_S1x128_S128.numel_eq r)
      = at2 0 (r 0) := by
    rw [Shape.reshapeEquiv_eq_of_rowMajor (s := S1x128) squeezes_S1x128_S128.numel_eq (x := r) (y := at2 0 (r 0))
      (by rw [Shape.rowMajor_val_two, Shape.rowMajor_val_one]; simp)]
    funext a; apply Fin.ext
    rw [Rect.emb_apply]
    fin_cases a <;> simp [Rect.unit]
  rw [h1, hs, h2]
  show fi _ = fi _
  congr 1
  funext a; apply Fin.ext
  fin_cases a
  · rfl
  · show 128 * b + 1 * (r 0).val = 128 * b + (r 0).val; omega

theorem offs_lt (k : Fin 2) (b : ℕ) (hb : b < 1024) (fs : (sSlot k).view.ty.Contents (Elt F)) (fi : S1x131072.Idx → BitVec 32)
    (hs : (sSlot k).view.read (Elt F) fs = (iBlk b hb).view.read (Elt F) fi) (hfi : ∀ x, (fi x).toNat < 163840) :
    ∀ r, ((offs k).read (Elt F) fs r).toNat < S163840x2x128.size gathers_S163840x2x128_S128x2x128.axis := by
  intro r; rw [offs_read k b hb fs fi hs r]; exact hfi _

/-- The table so cut at (row, half, lane) is the table at the row and the column the half and lane name. -/
theorem tHalf_read (ft : S163840x256.Idx → BitVec 32) (x : S163840x2x128.Idx) :
    tHalf.read (Elt F) ft x = ft (at2 (x 0) ⟨128 * (x 1).val + (x 2).val, by
      have h1 : (x 1).val < 2 := (x 1).isLt; have h2 : (x 2).val < 128 := (x 2).isLt; omega⟩) := by
  have h1 : tHalf.read (Elt F) ft x = ft (Shape.reshapeEquiv (s := S163840x256) reshapes_S163840x256_S163840x2x128.1
      ((Rect.unit (s := S163840x2x128) ![0, 0, 0] S163840x2x128.size inb_S163840x2x128_S163840x2x128_0_0_0).emb x)) := rfl
  have h2 : (Rect.unit (s := S163840x2x128) ![0, 0, 0] S163840x2x128.size inb_S163840x2x128_S163840x2x128_0_0_0).emb x = x := by
    funext a; apply Fin.ext
    rw [Rect.emb_apply]
    fin_cases a <;> simp [Rect.unit]
  rw [h1, h2]
  congr 1
  refine Shape.reshapeEquiv_eq_of_rowMajor _ ?_
  rw [Shape.rowMajor_val_two, Shape.rowMajor_val_three]
  show (x 0).val * 256 + (128 * (x 1).val + (x 2).val) = ((x 0).val * 2 + (x 1).val) * 128 + (x 2).val
  omega

/-- After the gather, the slot reads as block `b` of the result. -/
theorem rows_read (k k' : Fin 2) (b : ℕ) (hb : b < 1024) (fs : (sSlot k).view.ty.Contents (Elt F)) (fi : S1x131072.Idx → BitVec 32)
    (ft : S163840x256.Idx → BitVec 32) (fr : (rSlot k').view.ty.Contents (Elt F))
    (hs : (sSlot k).view.read (Elt F) fs = (iBlk b hb).view.read (Elt F) fi) (hfi : ∀ x, (fi x).toNat < 163840)
    (hn : S128.numel = S128x2x128.size gathers_S163840x2x128_S128x2x128.axis')
    (hin : ∀ r, ((offs k).read (Elt F) fs r).toNat < S163840x2x128.size gathers_S163840x2x128_S128x2x128.axis) :
    (rSlot k').view.read (Elt F) ((rHalf k').write (Elt F) fr
        (SparseCore.gatherPayload gathers_S163840x2x128_S128x2x128 (tHalf.read (Elt F) ft)
          (SparseCore.rows ((offs k).read (Elt F) fs) hn hin)) Finset.univ)
      = (oBlk b hb).view.read (Elt F) (G fi ft) := by
  funext y
  have hy0 : (y 0).val < 128 := (y 0).isLt
  have hy1 : (y 1).val < 256 := (y 1).isLt
  -- the element's place in the slot so cut
  let z : S128x2x128.Idx := fun | 0 => y 0 | 1 => (⟨(y 1).val / 128, by omega⟩ : Fin 2) | 2 => (⟨(y 1).val % 128, by omega⟩ : Fin 128)
  have hz : Shape.reshapeEquiv (s := S128x256) reshapes_S128x256_S128x2x128.1 z = y := by
    refine Shape.reshapeEquiv_eq_of_rowMajor _ ?_
    rw [Shape.rowMajor_val_two, Shape.rowMajor_val_three]
    show (y 0).val * 256 + (y 1).val = ((y 0).val * 2 + (y 1).val / 128) * 128 + (y 1).val % 128
    omega
  have he : (rSlot k').view.emb y = (rHalf k').emb z := by
    show _ = (rSlot k').view.emb (Shape.reshapeEquiv (s := S128x256) reshapes_S128x256_S128x2x128.1 z)
    rw [hz]
  rw [View.read_apply, he, View.write_emb_of_mem _ _ (Finset.mem_univ z)]
  show SparseCore.gatherPayload gathers_S163840x2x128_S128x2x128 (tHalf.read (Elt F) ft)
    (SparseCore.rows ((offs k).read (Elt F) fs) hn hin) z = G fi ft ((oBlk b hb).view.emb y)
  unfold SparseCore.gatherPayload
  rw [tHalf_read]
  have h0 : gathers_S163840x2x128_S128x2x128.idx (SparseCore.rows ((offs k).read (Elt F) fs) hn hin) z 0
      = SparseCore.rows ((offs k).read (Elt F) fs) hn hin (y 0) := Shape.Gathers.idx_axis gathers_S163840x2x128_S128x2x128 _ z
  have h1 : (gathers_S163840x2x128_S128x2x128.idx (SparseCore.rows ((offs k).read (Elt F) fs) hn hin) z 1).val = (y 1).val / 128 :=
    Shape.Gathers.idx_of_ne gathers_S163840x2x128_S128x2x128 _ z 1 (by decide)
  have h2 : (gathers_S163840x2x128_S128x2x128.idx (SparseCore.rows ((offs k).read (Elt F) fs) hn hin) z 2).val = (y 1).val % 128 :=
    Shape.Gathers.idx_of_ne gathers_S163840x2x128_S128x2x128 _ z 2 (by decide)
  have hr : (SparseCore.rows ((offs k).read (Elt F) fs) hn hin (y 0)).val
      = (fi (at2 0 ⟨128 * b + (y 0).val, by omega⟩)).toNat := by
    show ((offs k).read (Elt F) fs (S128.rowMajor.symm ((y 0).cast hn.symm))).toNat = _
    rw [offs_read k b hb fs fi hs]
    have hx : ((S128.rowMajor.symm ((y 0).cast hn.symm)) 0).val = (y 0).val := by
      rw [← Shape.rowMajor_val_one, Equiv.apply_symm_apply]; rfl
    congr 2; funext a; apply Fin.ext
    fin_cases a
    · rfl
    · show 128 * b + _ = 128 * b + _; rw [hx]
  unfold G
  congr 1
  funext a; apply Fin.ext
  fin_cases a
  · show (gathers_S163840x2x128_S128x2x128.idx (SparseCore.rows ((offs k).read (Elt F) fs) hn hin) z 0).val = _ % 163840
    rw [h0, hr]
    have e : (at2 0 ⟨128 * b + (y 0).val, by omega⟩ : S1x131072.Idx) = at2 0 ((oBlk b hb).view.emb y 0) := by
      funext a; apply Fin.ext
      fin_cases a
      · rfl
      · show 128 * b + (y 0).val = 128 * b + 1 * (y 0).val; omega
    rw [e, Nat.mod_eq_of_lt (hfi _)]; rfl
  · show 128 * (gathers_S163840x2x128_S128x2x128.idx (SparseCore.rows ((offs k).read (Elt F) fs) hn hin) z 1).val
      + (gathers_S163840x2x128_S128x2x128.idx (SparseCore.rows ((offs k).read (Elt F) fs) hn hin) z 2).val = 0 + 1 * (y 1).val
    rw [h1, h2]; omega

end Cert.Proof.Gather
-- ==== Proof.Moves.lean ====
/-
  The steps of one trip of the gather's pipeline: the wait for an index block, the indirect gather and its wait, the
  write-out of a finished block and the wait for it.
-/
module

public import proofs.«01_k».proof.Proof.Rows

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) (q : PosShare TreeShare)
variable (fi : Buf (Elt F) (iLoc d)) (ft : Buf (Elt F) (tLoc d))
variable (O : CellTallies nD τ sig (HIx 1)) (W : Waits sig (HIx 1))

/-- What the tile owes, some waits of its own made since. -/
abbrev Owes : sProp 𝕄 := iprop(∃ W', ⌜∀ p ∈ W', p ∈ W ∨ p.2 = none⌝ ∗ owes (tile d L) O W')

theorem Owes_insert (sm : SemLoc sig) (W' : Waits sig (HIx 1)) (h : ∀ p ∈ W', p ∈ W ∨ p.2 = none) :
    (owes (tile d L) O (insert (sm, (default : HIx 1)) W') : sProp 𝕄) ⊢ Owes d L O W := by
  iintro HO
  iexists _; isplitr
  swap; · iexact HO
  ipureintro; intro p hp
  rcases Finset.mem_insert.mp hp with hp | hp
  · exact .inr (hp ▸ rfl)
  · exact h p hp

/-- Rows `a` up to `b` of the result. -/
def band (a b : ℕ) : Finset S131072x256.Idx := Finset.univ.filter fun x => a ≤ (x 0).val ∧ (x 0).val < b

theorem mem_band {a b : ℕ} {x : S131072x256.Idx} : x ∈ band a b ↔ a ≤ (x 0).val ∧ (x 0).val < b := by
  simp [band]

theorem band_disjoint {a b c e : ℕ} (h : b ≤ c) : Disjoint (band a b) (band c e) :=
  Finset.disjoint_left.mpr fun x h1 h2 => by rw [mem_band] at h1 h2; omega

theorem band_union {a b c : ℕ} (h : a ≤ b) (h' : b ≤ c) : band a b ∪ band b c = band a c := by
  ext x; rw [Finset.mem_union, mem_band, mem_band, mem_band]; omega

theorem oBlk_set (b : ℕ) (hb : b < 1024) : (oBlk b hb).view.set = band (128 * b) (128 * (b + 1)) := by
  ext x
  rw [mem_band]
  constructor
  · intro h
    obtain ⟨y, -, rfl⟩ := Finset.mem_map.mp h
    have h1 : (y 0).val < 128 := (y 0).isLt
    have h2 : ((oBlk b hb).view.emb y 0).val = 128 * b + 1 * (y 0).val := rfl
    omega
  · rintro ⟨h1, h2⟩
    refine Finset.mem_map.mpr ⟨fun | 0 => (⟨(x 0).val - 128 * b, by omega⟩ : Fin 128) | 1 => x 1, Finset.mem_univ _, ?_⟩
    funext a; apply Fin.ext
    fin_cases a
    · show 128 * b + 1 * ((x 0).val - 128 * b) = (x 0).val; omega
    · show 0 + 1 * (x 1).val = (x 1).val; omega

/-- The result's rows `a` up to `b`, at contents `f`. -/
abbrev oBand (a b : ℕ) (f : Buf (Elt F) (oLoc d)) : sProp 𝕄 := (oV).view.loc (tile d L) ↦[band a b]{fullShare} f

theorem oBand_split {a b c : ℕ} (h : a ≤ b) (h' : b ≤ c) (f : Buf (Elt F) (oLoc d)) :
    (oBand d L a c f : sProp 𝕄) ⊢ iprop(oBand d L a b f ∗ oBand d L b c f) := by
  have e := (pointsTo_union (ℓ := (oV).view.loc (tile d L)) (q := fullShare) (f := f) (Val := Elt F) (Ix := HIx 1) (Name := ℕ) (U := UU) (Lvl := ℕ)
    (band_disjoint (a := a) (e := c) (le_refl b))).1
  rw [band_union h h'] at e
  exact e

theorem oBand_join {a b c : ℕ} (h : a ≤ b) (h' : b ≤ c) (f : Buf (Elt F) (oLoc d)) :
    iprop(oBand d L a b f ∗ oBand d L b c f) ⊢ (oBand d L a c f : sProp 𝕄) := by
  have e := (pointsTo_union (ℓ := (oV).view.loc (tile d L)) (q := fullShare) (f := f) (Val := Elt F) (Ix := HIx 1) (Name := ℕ) (U := UU) (Lvl := ℕ)
    (band_disjoint (a := a) (e := c) (le_refl b))).2
  rw [band_union h h'] at e
  exact e

/-! ## The row ring's slots -/

/-- Slot `k` of the row ring at any contents. -/
abbrev RSlot (k : Fin 2) : sProp 𝕄 := iprop(∃ f, (rSlot k).view.loc (tile d L) ↦[(rSlot k).view.set]{fullShare} f)

/-- Slot `k` of the row ring free. -/
def OutFree (k : Fin 2) : sProp 𝕄 := iprop(RSlot d L k ∗ semVal (tile d L, SemLoc.dma (rSem k)) 0)

/-- Slot `k` of the row ring holding block `b` of the result. -/
def OutHas (k : Fin 2) (b : ℕ) (hb : b < 1024) : sProp 𝕄 :=
  iprop(∃ f, ⌜(rSlot k).view.read (Elt F) f = (oBlk b hb).view.read (Elt F) (G fi ft)⌝
    ∗ (rSlot k).view.loc (tile d L) ↦[(rSlot k).view.set]{fullShare} f)

/-- Slot `k` of the row ring being written out to block `b` of the result. -/
def OutFly (k : Fin 2) (b : ℕ) : sProp 𝕄 :=
  Transfers.Flight countersEmb (tile d L) (SemLoc.dma (rSem k)) (default : HIx 1) nOut
      iprop(oBand d L (128 * b) (128 * (b + 1)) (G fi ft) ∗ RSlot d L k)

/-- The gather into slot `k'` of the row ring, from the list in slot `k` of the index ring, in flight. -/
def GatherFly (k k' : Fin 2) (b : ℕ) (hb : b < 1024) : sProp 𝕄 :=
  iprop(Transfers.Flight countersEmb (tile d L) (SemLoc.dma cc0_scoped4.sem) (default : HIx 1) nRow
      iprop(OutHas d L fi ft k' b hb ∗ ((tV).view.loc (tile d L) ↦[tHalf.set]{q} ft)
        ∗ ∃ f, (sSlot k).view.loc (tile d L) ↦[(sSlot k).view.set]{fullShare} f)
    ∗ ((tV).view.loc (tile d L) ↦[Finset.univ \ tHalf.set]{q} ft))

theorem offs_set (k : Fin 2) : (offs k).set = (sSlot k).view.set := by
  rw [View.set_reshape]
  refine Finset.Subset.antisymm (View.set_slice_subset _ _) ?_
  intro x hx
  obtain ⟨y, -, rfl⟩ := Finset.mem_map.mp hx
  refine Finset.mem_map.mpr ⟨y, Finset.mem_univ _, ?_⟩
  show (sSlot k).view.emb _ = (sSlot k).view.emb y
  congr 1
  funext a; apply Fin.ext
  rw [Rect.emb_apply]
  fin_cases a <;> simp [Rect.unit]

/-- The rows' credits add up to the slot's. -/
theorem nRow_eq (k : Fin 2) {hc} :
    ∑ j, (((rSlot k).reshape S128x2x128 reshapes_S128x256_S128x2x128.1 reshapes_S128x256_S128x2x128.2 hc).slice
      (S128x2x128.rowRect gathers_S163840x2x128_S128x2x128.axis' j) (S128x2x128.stride_rowRect gathers_S163840x2x128_S128x2x128.axis' j)).view.dmaCredit
      = nRow := by
  show ∑ j : Fin 128, (cc0_scoped2 : Ref sig .scVector).dmaCredit (S128x2x128.rowShape gathers_S163840x2x128_S128x2x128.axis') .i32 = nRow
  decide +kernel

theorem nRow_half : (cc0_scoped2 : Ref sig .scVector).dmaCredit S128x2x128 .i32 = nRow := by decide +kernel

theorem S128x2x128_pos : 0 < S128x2x128.numel := by decide

variable [FloatOps F]

theorem wait_in (k : Fin 2) (b : ℕ) (hb : b < 1024) {offD : Fin 3 → ℕ} {offS : Fin 2 → ℕ} {offC : Fin 1 → ℕ}
    (eC : offC = ![k.val])
    (hD : ∀ a, offD a + S1x1x128.size a ≤ S2x1x128.size a) (hS : ∀ a, offS a + S1x128.size a ≤ S1x131072.size a)
    (hC : ∀ a, offC a + S1.size a ≤ S2.size a) {hsrc hdst} {Q : PUnit → sProp 𝕄} :
    iprop(InFly d L q fi k b hb ∗ Owes d L O W ∗ Transfers.MayWaits (tile d L) (default : HIx 1) O)
      ⊢ iprop((InHas d L fi k b hb ∗ ((iV).view.loc (tile d L) ↦{q} fi) ∗ semVal (tile d L, SemLoc.dma (sSem k)) 0 ∗ Owes d L O W -∗ Q ⟨⟩)
      -∗ wp frame (wpE (defs₀ (F := F)) 𝒱₀ (tile d L) none) Set.univ
          (Prog.lift (TpuEff.waitDma2 (nD := nD) (τ := τ) (sig := sig) (Val := Elt F) (Λ := Λ₀) (p := (tile d L).2)
            ((cc0_scoped1.slice (Rect.unit (s := S2) offC S1.size hC)).squeeze S_ squeezes_S1_S_).sem
            (iV.slice (Rect.unit (s := S1x131072) offS S1x128.size hS) (fun _ => rfl))
            ((sV.slice (Rect.unit (s := S2x1x128) offD S1x1x128.size hD) (fun _ => rfl)).squeeze S1x128 squeezes_S1x1x128_S1x128)
            hsrc hdst)) Q) := by
  subst eC
  unfold InFly
  iintro ⟨⟨Hfl, Hrest⟩, ⟨%W', %hW', HO⟩, #Hmw⟩ HQ
  iapply (Transfers.wp_waitLocalO countersEmb 𝒱₀ (tile d L) none (default : HIx 1) (N := nIn)
    (dstw := (sV.slice (Rect.unit (s := S2x1x128) offD S1x1x128.size hD) (fun _ => rfl)).squeeze S1x128 squeezes_S1x1x128_S1x128) rfl) $$ [Hfl HO]
  · isplitl [Hfl]; · iexact Hfl
    isplitl [HO]; · iexact HO
    iapply (Transfers.MayWaits.elim (SemLoc.dma (sSem k))) $$ Hmw
  iintro ⟨⟨Hs, Hb⟩, Hc, HO⟩
  rw [wp_ret]; imodintro
  iapply HQ
  isplitl [Hs]; · iexact Hs
  isplitl [Hb Hrest]
  · iapply (pointsTo_split_subset (q := q) (f := fi) (S := Finset.univ) (Finset.subset_univ (iBlk b hb).view.set)).2
    isplitl [Hb] <;> iassumption
  isplitl [Hc]; · iexact Hc
  iapply (Owes_insert d L O W _ W' hW') $$ HO

/-- The gather is issued: from the list in slot `k` of the index ring, into slot `k'` of the row ring. -/
theorem issue_gather (k k' : Fin 2) (b : ℕ) (hb : b < 1024) (hfi : ∀ x, (fi x).toNat < 163840) {offD offL : Fin 3 → ℕ}
    (eD : offD = ![k'.val, 0, 0]) (eL : offL = ![k.val, 0, 0])
    (hD : ∀ a, offD a + S1x128x256.size a ≤ S2x128x256.size a) (hL : ∀ a, offL a + S1x1x128.size a ≤ S2x1x128.size a)
    {hcD hcT hn hp hsrc he hsp hr} {Q : PUnit → sProp 𝕄} :
    iprop(InHas d L fi k b hb ∗ RSlot d L k' ∗ ((tV).view.loc (tile d L) ↦{q} ft) ∗ semVal (tile d L, SemLoc.dma cc0_scoped4.sem) 0)
      ⊢ iprop((GatherFly d L q fi ft k k' b hb -∗ Q ⟨⟩)
      -∗ wp frame (wpE (defs₀ (F := F)) 𝒱₀ (tile d L) none) Set.univ
          (SparseCore.enqueueIndirectGather (nD := nD) (τ := τ) (sig := sig) (F := F) (Λ := Λ₀) (p := (tile d L).2) hp
            (((tV).reshape S163840x2x128 reshapes_S163840x256_S163840x2x128.1 reshapes_S163840x256_S163840x2x128.2 hcT).slice
              (Rect.unit (s := S163840x2x128) ![0, 0, 0] S163840x2x128.size inb_S163840x2x128_S163840x2x128_0_0_0) (fun _ => rfl))
            (((rV.slice (Rect.unit (s := S2x128x256) offD S1x128x256.size hD) (fun _ => rfl)).squeeze S128x256 squeezes_S1x128x256_S128x256).reshape
              S128x2x128 reshapes_S128x256_S128x2x128.1 reshapes_S128x256_S128x2x128.2 hcD)
            gathers_S163840x2x128_S128x2x128
            ((((sV.slice (Rect.unit (s := S2x1x128) offL S1x1x128.size hL) (fun _ => rfl)).squeeze S1x128 squeezes_S1x1x128_S1x128).slice
              (Rect.unit (s := S1x128) ![0, 0] S1x128.size inb_S1x128_S1x128_0_0) (fun _ => rfl)).squeeze S128 squeezes_S1x128_S128)
            hn cc0_scoped4.sem hsrc he hsp hr) Q) := by
  subst eD; subst eL
  unfold InHas
  iintro ⟨⟨%fs, %hs, Hs⟩, ⟨%fr, Hr⟩, Ht, Hc⟩ HQ
  ihave Ht' := (pointsTo_split_subset (q := q) (f := ft) (S := Finset.univ) (Finset.subset_univ tHalf.set)).1 $$ Ht
  icases Ht' with ⟨Ht, Hrest⟩
  have hin := offs_lt k b hb fs fi hs hfi
  have e1 : (offs k).set = (sSlot k).view.set := offs_set k
  have e2 : (rHalf k').set = (rSlot k').view.set := View.set_reshape _ _
  rw [← e1, ← e2]
  have h := SparseCore.wp_indirectGatherLocal (bd := none) countersEmb 𝒱₀ (tile d L) (defs := defs₀ (F := F)) (hg := gathers_S163840x2x128_S128x2x128) (src := (((tV).reshape S163840x2x128 reshapes_S163840x256_S163840x2x128.1 reshapes_S163840x256_S163840x2x128.2 hcT).slice
              (Rect.unit (s := S163840x2x128) ![0, 0, 0] S163840x2x128.size inb_S163840x2x128_S163840x2x128_0_0_0) (fun _ => rfl)))
     (dst := (rSlot k').reshape S128x2x128 reshapes_S128x256_S128x2x128.1 reshapes_S128x256_S128x2x128.2 hcD) (offs := (((sSlot k).slice
              (Rect.unit (s := S1x128) ![0, 0] S1x128.size inb_S1x128_S1x128_0_0) (fun _ => rfl)).squeeze S128 squeezes_S1x128_S128)) (hn := hn) (sem := cc0_scoped4.sem) (hp := hp) (hsrc := hsrc) (he := he) (hsp := hsp) (hr := hr)
     (default : HIx 1)
    nRow (nRow_eq k') S128x2x128_pos hin (k := pure) (Q := Q) (q := q) (qo := fullShare) (fs := ft) (fd := fr)
  rw [← bind_pure (SparseCore.enqueueIndirectGather _ _ _ _ _ _ _ _ _ _ _)]
  iapply h $$ [Ht Hr Hs Hc]
  · isplitl [Ht]; · iexact Ht
    isplitl [Hr]; · iexact Hr
    isplitl [Hs]; · iexact Hs
    iexact Hc
  iintro Hfl
  rw [wp_pure]; imodintro
  iapply HQ
  unfold GatherFly
  isplitl [Hfl]
  · iapply (Transfers.Flight_mono countersEmb (tile d L) (show _ ⊢ _ from ?_)) $$ Hfl
    unfold OutHas
    iintro ⟨Hr, Ht, Hs⟩
    isplitl [Hr]
    · iexists _; isplitr
      swap
      · rw [← e2]; iexact Hr
      ipureintro
      exact rows_read k k' b hb fs fi ft fr hs hfi _ _
    isplitl [Ht]; · iexact Ht
    iexists _; rw [← e1]; iexact Hs
  · iexact Hrest

theorem wait_gather (k k' : Fin 2) (b : ℕ) (hb : b < 1024) {offD : Fin 3 → ℕ}
    (hD : ∀ a, offD a + S1x128x256.size a ≤ S2x128x256.size a)
    {hcD hcT hsrc hdst} {Q : PUnit → sProp 𝕄} :
    iprop(GatherFly d L q fi ft k k' b hb ∗ Owes d L O W ∗ Transfers.MayWaits (tile d L) (default : HIx 1) O)
      ⊢ iprop((OutHas d L fi ft k' b hb ∗ (∃ f, (sSlot k).view.loc (tile d L) ↦[(sSlot k).view.set]{fullShare} f)
          ∗ ((tV).view.loc (tile d L) ↦{q} ft) ∗ semVal (tile d L, SemLoc.dma cc0_scoped4.sem) 0 ∗ Owes d L O W -∗ Q ⟨⟩)
      -∗ wp frame (wpE (defs₀ (F := F)) 𝒱₀ (tile d L) none) Set.univ
          (SparseCore.waitIndirectGather (nD := nD) (τ := τ) (sig := sig) (F := F) (Λ := Λ₀) (p := (tile d L).2) cc0_scoped4.sem
            (((tV).reshape S163840x2x128 reshapes_S163840x256_S163840x2x128.1 reshapes_S163840x256_S163840x2x128.2 hcT).slice
              (Rect.unit (s := S163840x2x128) ![0, 0, 0] S163840x2x128.size inb_S163840x2x128_S163840x2x128_0_0_0) (fun _ => rfl))
            (((rV.slice (Rect.unit (s := S2x128x256) offD S1x128x256.size hD) (fun _ => rfl)).squeeze S128x256 squeezes_S1x128x256_S128x256).reshape
              S128x2x128 reshapes_S128x256_S128x2x128.1 reshapes_S128x256_S128x2x128.2 hcD)
            hsrc hdst) Q) := by
  unfold GatherFly
  iintro ⟨⟨Hfl, Hrest⟩, ⟨%W', %hW', HO⟩, #Hmw⟩ HQ
  unfold SparseCore.waitIndirectGather
  iapply (Transfers.wp_waitLocalO countersEmb 𝒱₀ (tile d L) none (default : HIx 1) (N := nRow)
    (dstw := (((rV.slice (Rect.unit (s := S2x128x256) offD S1x128x256.size hD) (fun _ => rfl)).squeeze S128x256 squeezes_S1x128x256_S128x256).reshape
              S128x2x128 reshapes_S128x256_S128x2x128.1 reshapes_S128x256_S128x2x128.2 hcD)) nRow_half) $$ [Hfl HO]
  · isplitl [Hfl]; · iexact Hfl
    isplitl [HO]; · iexact HO
    iapply (Transfers.MayWaits.elim (SemLoc.dma cc0_scoped4.sem)) $$ Hmw
  iintro ⟨⟨Hr, Ht, Hs⟩, Hc, HO⟩
  rw [wp_ret]; imodintro
  iapply HQ
  isplitl [Hr]; · iexact Hr
  isplitl [Hs]; · iexact Hs
  isplitl [Ht Hrest]
  · iapply (pointsTo_split_subset (q := q) (f := ft) (S := Finset.univ) (Finset.subset_univ tHalf.set)).2
    isplitl [Ht] <;> iassumption
  isplitl [Hc]; · iexact Hc
  iapply (Owes_insert d L O W _ W' hW') $$ HO

/-- A finished block is written out. -/
theorem issue_out (k : Fin 2) (b : ℕ) (hb : b < 1024) (fo : Buf (Elt F) (oLoc d)) {offD : Fin 2 → ℕ} {offS : Fin 3 → ℕ} {offC : Fin 1 → ℕ}
    (eD : offD = ![128 * b, 0]) (eS : offS = ![k.val, 0, 0]) (eC : offC = ![k.val])
    (hD : ∀ a, offD a + S128x256.size a ≤ S131072x256.size a) (hS : ∀ a, offS a + S1x128x256.size a ≤ S2x128x256.size a)
    (hC : ∀ a, offC a + S1.size a ≤ S2.size a) {hsrc hdst hsem} {Q : PUnit → sProp 𝕄} :
    iprop(OutHas d L fi ft k b hb ∗ oBand d L (128 * b) (128 * (b + 1)) fo ∗ semVal (tile d L, SemLoc.dma (rSem k)) 0)
      ⊢ iprop((OutFly d L fi ft k b -∗ Q ⟨⟩)
      -∗ wp frame (wpE (defs₀ (F := F)) 𝒱₀ (tile d L) none) Set.univ
          (Prog.lift (TpuEff.enqueueDma (nD := nD) (τ := τ) (sig := sig) (Val := Elt F) (Λ := Λ₀) (p := (tile d L).2)
            ((rV.slice (Rect.unit (s := S2x128x256) offS S1x128x256.size hS) (fun _ => rfl)).squeeze S128x256 squeezes_S1x128x256_S128x256)
            (.here (oV.slice (Rect.unit (s := S131072x256) offD S128x256.size hD) (fun _ => rfl)))
            (.dma ((cc0_scoped3.slice (Rect.unit (s := S2) offC S1.size hC)).squeeze S_ squeezes_S1_S_).sem) hsrc hdst hsem)) Q) := by
  subst eD; subst eS; subst eC
  unfold OutHas
  iintro ⟨⟨%fs, %hs, Hs⟩, Ho, Hc⟩ HQ
  iapply (Transfers.wp_dmaLocal countersEmb 𝒱₀ (tile d L) none (src := rSlot k) (dst := oBlk b hb) (sm := SemLoc.dma (rSem k))
    (default : HIx 1) nOut rfl nOut_pos (Sd := band (128 * b) (128 * (b + 1))) (oBlk_set b hb).subset) $$ [Hs Ho Hc]
  · isplitl [Hs]; · iexact Hs
    isplitl [Ho]; · iexact Ho
    iexact Hc
  iintro Hfl
  rw [wp_ret]; imodintro
  iapply HQ
  unfold OutFly
  iapply (Transfers.Flight_mono countersEmb (tile d L) (show _ ⊢ _ from ?_)) $$ Hfl
  iintro ⟨Ho, Hs⟩
  isplitl [Ho]
  · iapply (Entails.of_eq (pointsTo_congr (g := G fi ft) ?_)) $$ Ho
    intro x hx
    rw [← oBlk_set b hb] at hx
    obtain ⟨y, -, rfl⟩ := Finset.mem_map.mp hx
    rw [View.write_emb_of_mem _ _ (Finset.mem_univ y)]
    exact congrFun hs y
  · iexists _; iexact Hs

theorem wait_out (k : Fin 2) (b : ℕ) {offD : Fin 2 → ℕ} {offS : Fin 3 → ℕ} {offC : Fin 1 → ℕ} (eC : offC = ![k.val])
    (hD : ∀ a, offD a + S128x256.size a ≤ S131072x256.size a) (hS : ∀ a, offS a + S1x128x256.size a ≤ S2x128x256.size a)
    (hC : ∀ a, offC a + S1.size a ≤ S2.size a) {hsrc hdst} {Q : PUnit → sProp 𝕄} :
    iprop(OutFly d L fi ft k b ∗ Owes d L O W ∗ Transfers.MayWaits (tile d L) (default : HIx 1) O)
      ⊢ iprop((oBand d L (128 * b) (128 * (b + 1)) (G fi ft) ∗ OutFree d L k ∗ Owes d L O W -∗ Q ⟨⟩)
      -∗ wp frame (wpE (defs₀ (F := F)) 𝒱₀ (tile d L) none) Set.univ
          (Prog.lift (TpuEff.waitDma2 (nD := nD) (τ := τ) (sig := sig) (Val := Elt F) (Λ := Λ₀) (p := (tile d L).2)
            ((cc0_scoped3.slice (Rect.unit (s := S2) offC S1.size hC)).squeeze S_ squeezes_S1_S_).sem
            ((rV.slice (Rect.unit (s := S2x128x256) offS S1x128x256.size hS) (fun _ => rfl)).squeeze S128x256 squeezes_S1x128x256_S128x256)
            (oV.slice (Rect.unit (s := S131072x256) offD S128x256.size hD) (fun _ => rfl)) hsrc hdst)) Q) := by
  subst eC
  unfold OutFly OutFree
  iintro ⟨Hfl, ⟨%W', %hW', HO⟩, #Hmw⟩ HQ
  iapply (Transfers.wp_waitLocalO countersEmb 𝒱₀ (tile d L) none (default : HIx 1) (N := nOut)
    (dstw := oV.slice (Rect.unit (s := S131072x256) offD S128x256.size hD) (fun _ => rfl)) rfl) $$ [Hfl HO]
  · isplitl [Hfl]; · iexact Hfl
    isplitl [HO]; · iexact HO
    iapply (Transfers.MayWaits.elim (SemLoc.dma (rSem k))) $$ Hmw
  iintro ⟨⟨Ho, Hs⟩, Hc, HO⟩
  rw [wp_ret]; imodintro
  iapply HQ
  isplitl [Ho]; · iexact Ho
  isplitl [Hs Hc]
  · isplitl [Hs] <;> iassumption
  iapply (Owes_insert d L O W _ W' hW') $$ HO

end Cert.Proof.Gather
-- ==== Proof.Tile.lean ====
/-
  One tile's task: 32 trips, each fetching the next index block, waiting for its own, gathering the rows it names and
  writing them out, then waiting for the write of the trip before.
-/
module

public import proofs.«01_k».proof.Proof.Moves
public import proofs.«01_k».proof.Proof.Words

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The slot trip `n` uses. -/
def sl (n : ℕ) : Fin 2 := ⟨n % 2, Nat.mod_lt _ (by decide)⟩

theorem sl_add_two (n : ℕ) : sl (n + 1 + 1) = sl n := by
  apply Fin.ext; show (n + 1 + 1) % 2 = n % 2; omega

/-- The share of the index row the slot's fetch holds. -/
def qs (q : PosShare TreeShare) (k : Fin 2) : PosShare TreeShare := if k = 0 then q.left else q.right

theorem base_lt : ∀ L : grid0.Coords, base L + 32 ≤ 1024 := by decide +kernel

section

variable (d : Dev nD) (L : grid0.Coords) (q qt : PosShare TreeShare)
variable (fi : Buf (Elt F) (iLoc d)) (ft : Buf (Elt F) (tLoc d)) (f0 : Buf (Elt F) (oLoc d))
variable (O : CellTallies nD τ sig (HIx 1)) (W : Waits sig (HIx 1))

/-- The fetch of trip `n`'s index block: in flight, or after the last trip none. -/
def InAt (n : ℕ) : sProp 𝕄 :=
  if h : n < 32 then InFly d L (qs q (sl n)) fi (sl n) (base L + n) (by have := base_lt L; omega)
  else InFree d L (qs q (sl n)) fi (sl n)

/-- The write of the block before trip `n`: in flight, or before the first trip none. -/
def OutAt (n : ℕ) : sProp 𝕄 :=
  if 0 < n then OutFly d L fi ft (sl (n + 1)) (base L + (n - 1)) else OutFree d L (sl (n + 1))

/-- What holds before trip `n`. -/
def Inv (n : ℕ) (acc : BitVec 32 × BitVec 32 × BitVec 32 × BitVec 32 × BitVec 32) : sProp 𝕄 :=
  iprop(⌜acc = (w6 n, w7 n, w7 n, w9 n, w10 n)⌝ ∗ Transfers.MayWaits (tile d L) (default : HIx 1) O
    ∗ InAt d L q fi n ∗ InFree d L (qs q (sl (n + 1))) fi (sl (n + 1))
    ∗ OutAt d L fi ft n ∗ OutFree d L (sl n)
    ∗ oBand d L (128 * base L) (128 * (base L + (n - 1))) (G fi ft) ∗ oBand d L (128 * (base L + n)) (128 * (base L + 32)) f0
    ∗ ((tV).view.loc (tile d L) ↦{qt} ft) ∗ semVal (tile d L, SemLoc.dma cc0_scoped4.sem) 0 ∗ Owes d L O W)

variable [FloatOps F]

theorem wp_lift_assume {P : Prop} {dp : Decidable P} (h : P) {Q : PLift P → sProp 𝕄} :
    Q ⟨h⟩ ⊢ wp frame (wpE (defs₀ (F := F)) 𝒱₀ (tile d L) none) Set.univ
      (Prog.lift (TpuEff.assume (nD := nD) (τ := τ) (sig := sig) (Val := Elt F) (Λ := Λ₀) (p := (tile d L).2) P dp)) Q := by
  iintro H
  iapply (wp_assume 𝒱₀ (tile d L) none Set.univ h)
  rw [wp_ret]
  imodintro; iexact H

/-- A step taken only under a condition, before the rest of the program. -/
theorem wp_when {c : Prop} {dc : Decidable c} {A : c → Prog (TpuEff nD τ sig (Elt F) Λ₀ (tile d L).2) PUnit} {α : Type}
    {k : Prog (TpuEff nD τ sig (Elt F) Λ₀ (tile d L).2) α} {R S' : sProp 𝕄} {Q : α → sProp 𝕄}
    (h1 : ∀ h (Q' : PUnit → sProp 𝕄), R ⊢ iprop((S' -∗ Q' ⟨⟩) -∗ wp frame (wpE (defs₀ (F := F)) 𝒱₀ (tile d L) none) Set.univ (A h) Q'))
    (h2 : ¬ c → R ⊢ S') :
    R ⊢ iprop((S' -∗ wp frame (wpE (defs₀ (F := F)) 𝒱₀ (tile d L) none) Set.univ k Q)
      -∗ wp frame (wpE (defs₀ (F := F)) 𝒱₀ (tile d L) none) Set.univ (dite c (fun h => A h >>= fun _ => k) (fun _ => k)) Q) := by
  by_cases h : c
  · rw [dif_pos h, wp_bind]
    exact h1 h (fun _ => wp frame (wpE (defs₀ (F := F)) 𝒱₀ (tile d L) none) Set.univ k Q)
  · rw [dif_neg h]
    iintro HR HQ
    iapply HQ
    iapply (h2 h) $$ HR

abbrev wBase : BitVec 32 :=
  Scalar.muli (Scalar.addi (Scalar.addi 0#32 (Scalar.muli (BitVec.ofNat 32 (L 1).val) 1#32)) (Scalar.muli (BitVec.ofNat 32 (L 0).val) 16#32)) 32#32

set_option maxHeartbeats 4000000 in
theorem trip (hfi : ∀ x, (fi x).toNat < 163840) (t : Fin k0_t1_loop.trips) (acc : BitVec 32 × BitVec 32 × BitVec 32 × BitVec 32 × BitVec 32) :
    Inv d L q qt fi ft f0 O W t.val acc
      ⊢ wp frame (wpE (defs₀ (F := F)) 𝒱₀ (tile d L) none) Set.univ
          (k0_t1_body L tV (Memref.isWhole_whole _) iV (Memref.isWhole_whole _) oV (Memref.isWhole_whole _)
            sV (Memref.isWhole_whole _) cc0_scoped1 rV (Memref.isWhole_whole _) cc0_scoped3 cc0_scoped4 (wBase L) t acc)
          (Inv d L q qt fi ft f0 O W (t.val + 1)) := by
  have ht : t.val < 32 := t.isLt
  have hbase := base_lt L
  unfold Inv
  iintro ⟨%hacc, #Hmw, Hin, Hfree, Hout, Hofree, Hdone, Htodo, Ht, Hg, HO⟩
  subst hacc
  unfold k0_t1_body
  simp only [k0_part1_eq_skeleton, k0_part2_eq_skeleton]
  unfold k0_part1_skel k0_part2_skel
  simp only [wp_bind]
  iapply (wp_lift_assume d L (chk3_true ⟨t.val, ht⟩))
  iapply (wp_lift_assume d L (chk2_true ⟨t.val, ht⟩))
  iapply (wp_lift_assume d L (chk1_true L t))
  -- the next block's fetch
  iapply (wp_when d L (R := InFree d L (qs q (sl (t.val + 1))) fi (sl (t.val + 1))) (S' := InAt d L q fi (t.val + 1)) ?_ ?_) $$ Hfree
  · intro h Q'
    have h31 := (cond1_iff L t).mp h
    unfold InAt
    rw [dif_pos (show t.val + 1 < 32 by omega)]
    exact issue_in d L (qs q (sl (t.val + 1))) fi (sl (t.val + 1)) (base L + (t.val + 1)) (by omega)
      (off4_eq ⟨t.val, ht⟩) (off5_eq L ⟨t.val, ht⟩ h31) (off6_eq ⟨t.val, ht⟩) _ _ _
  · intro h
    unfold InAt
    rw [dif_neg (fun h' => h ((cond1_iff L t).mpr (by omega)))]
  iintro Hnext
  rw [wp_pure]; imodintro
  simp only [ite_self, pure_bind]
  -- this block's fetch has landed
  rw [dif_pos (cond2_true L t), wp_bind]
  ihave Hin' := (show InAt d L q fi t.val ⊢ InFly d L (qs q (sl t.val)) fi (sl t.val) (base L + t.val) (by omega) from by
    unfold InAt; rw [dif_pos ht]) $$ Hin
  iapply (wait_in d L (qs q (sl t.val)) fi O W (sl t.val) (base L + t.val) (by omega) (off9_eq ⟨t.val, ht⟩) _ _ _) $$ [Hin' HO]
  · isplitl [Hin']; · iexact Hin'
    isplitl [HO]; · iexact HO
    iexact Hmw
  iintro ⟨Hhas, Hi, Hsem, HO⟩
  rw [wp_bind]
  ihave Hofree' := (show OutFree d L (sl t.val) ⊢ iprop(RSlot d L (sl t.val) ∗ semVal (tile d L, SemLoc.dma (rSem (sl t.val))) 0) from .rfl) $$ Hofree
  icases Hofree' with ⟨Hrow, Hrsem⟩
  -- the gather and its wait
  iapply (issue_gather d L qt fi ft (sl t.val) (sl t.val) (base L + t.val) (by omega) hfi (off10_eq ⟨t.val, ht⟩) (off11_eq ⟨t.val, ht⟩) _ _)
    $$ [Hhas Hrow Ht Hg]
  · isplitl [Hhas]; · iexact Hhas
    isplitl [Hrow]; · iexact Hrow
    isplitl [Ht]; · iexact Ht
    iexact Hg
  iintro Hfly
  rw [wp_bind]
  iapply (wait_gather d L qt fi ft O W (sl t.val) (sl t.val) (base L + t.val) (by omega) _) $$ [Hfly HO]
  · isplitl [Hfly]; · iexact Hfly
    isplitl [HO]; · iexact HO
    iexact Hmw
  iintro ⟨Hhas, Hslot, Ht, Hg, HO⟩
  rw [wp_pure]; imodintro
  -- the block is written out
  rw [dif_pos (cond5_true L t), wp_bind]
  ihave Htodo' := oBand_split d L (show 128 * (base L + t.val) ≤ 128 * (base L + t.val + 1) by omega)
    (show 128 * (base L + t.val + 1) ≤ 128 * (base L + 32) by omega) f0 $$ Htodo
  icases Htodo' with ⟨Hblk, Htodo⟩
  iapply (issue_out d L fi ft (sl t.val) (base L + t.val) (by omega) f0 (off13_eq L ⟨t.val, ht⟩) (off12_eq ⟨t.val, ht⟩) (off14_eq ⟨t.val, ht⟩) _ _ _)
    $$ [Hhas Hblk Hrsem]
  · isplitl [Hhas]; · iexact Hhas
    isplitl [Hblk]; · iexact Hblk
    iexact Hrsem
  iintro Hofly
  -- the block before has been written
  iapply (wp_when d L
    (R := iprop(OutAt d L fi ft t.val ∗ oBand d L (128 * base L) (128 * (base L + (t.val - 1))) (G fi ft) ∗ Owes d L O W
      ∗ Transfers.MayWaits (tile d L) (default : HIx 1) O))
    (S' := iprop(OutFree d L (sl (t.val + 1)) ∗ oBand d L (128 * base L) (128 * (base L + t.val)) (G fi ft) ∗ Owes d L O W)) ?_ ?_)
    $$ [Hout Hdone HO]
  · intro h Q'
    have h0 := (cond7_iff L t).mp h
    unfold OutAt
    rw [if_pos h0]
    iintro ⟨Hout, Hdone, HO, #Hmw⟩ HQ
    iapply (wait_out d L fi ft O W (sl (t.val + 1)) (base L + (t.val - 1)) (off17_eq ⟨t.val, ht⟩ h0) _ _ _) $$ [Hout HO]
    · isplitl [Hout]; · iexact Hout
      isplitl [HO]; · iexact HO
      iexact Hmw
    iintro ⟨Hblk, Hof, HO⟩
    iapply HQ
    isplitl [Hof]; · iexact Hof
    isplitl [Hdone Hblk]
    · rw [show base L + t.val = base L + (t.val - 1) + 1 by omega]
      iapply (oBand_join d L (show 128 * base L ≤ 128 * (base L + (t.val - 1)) by omega)
        (show 128 * (base L + (t.val - 1)) ≤ 128 * (base L + (t.val - 1) + 1) by omega) (G fi ft))
      isplitl [Hdone] <;> iassumption
    iexact HO
  · intro h
    have h0 : t.val = 0 := by
      by_contra h'; exact h ((cond7_iff L t).mpr (by omega))
    unfold OutAt
    rw [if_neg (by omega), show base L + (t.val - 1) = base L + t.val by omega]
    iintro ⟨Hout, Hdone, HO, -⟩
    isplitl [Hout]; · iexact Hout
    isplitl [Hdone]; · iexact Hdone
    iexact HO
  · isplitl [Hout]; · iexact Hout
    isplitl [Hdone]; · iexact Hdone
    isplitl [HO]; · iexact HO
    iexact Hmw
  iintro ⟨Hof, Hdone, HO⟩
  rw [wp_pure]; imodintro
  isplitr
  · ipureintro
    clear * -
    revert L t
    decide +kernel
  isplitr; · iexact Hmw
  isplitl [Hnext]; · iexact Hnext
  isplitl [Hslot Hi Hsem]
  · rw [sl_add_two]
    unfold InFree
    isplitl [Hslot]; · iexact Hslot
    isplitl [Hi]; · iexact Hi
    iexact Hsem
  isplitl [Hofly]
  · unfold OutAt
    rw [if_pos (Nat.succ_pos _), sl_add_two]
    iexact Hofly
  isplitl [Hof]; · iexact Hof
  isplitl [Hdone]; · iexact Hdone
  isplitl [Htodo]; · iexact Htodo
  isplitl [Ht]; · iexact Ht
  isplitl [Hg]; · iexact Hg
  iexact HO

end

end Cert.Proof.Gather
-- ==== Proof.Task.lean ====
/-
  One tile's whole task, from its share of the operands and its scratch memory to its part of the result.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rings are their two slots -/

theorem mem_sSlot (k : Fin 2) (x : S2x1x128.Idx) : x ∈ (sSlot k).view.set ↔ (x 0).val = k.val := by
  constructor
  · intro h
    have h' : x ∈ (sV.view.slice (Rect.unit (s := S2x1x128) ![k.val, 0, 0] S1x1x128.size (sInb k))).set := by
      rw [← View.set_reshape _ squeezes_S1x1x128_S1x128.numel_eq]; exact h
    obtain ⟨y, -, rfl⟩ := Finset.mem_map.mp h'
    have h1 : (y 0).val < 1 := (y 0).isLt
    show k.val + 1 * (y 0).val = k.val; omega
  · intro h
    show x ∈ ((sV.view.slice (Rect.unit (s := S2x1x128) ![k.val, 0, 0] S1x1x128.size (sInb k))).reshape S1x128 squeezes_S1x1x128_S1x128.numel_eq).set
    rw [View.set_reshape]
    have h1 : (x 1).val < 1 := (x 1).isLt
    refine Finset.mem_map.mpr ⟨fun | 0 => (0 : Fin 1) | 1 => x 1 | 2 => x 2, Finset.mem_univ _, ?_⟩
    funext a; apply Fin.ext
    fin_cases a
    · show k.val + 1 * 0 = (x 0).val; omega
    · show 0 + 1 * (x 1).val = (x 1).val; omega
    · show 0 + 1 * (x 2).val = (x 2).val; omega

theorem mem_rSlot (k : Fin 2) (x : S2x128x256.Idx) : x ∈ (rSlot k).view.set ↔ (x 0).val = k.val := by
  constructor
  · intro h
    have h' : x ∈ (rV.view.slice (Rect.unit (s := S2x128x256) ![k.val, 0, 0] S1x128x256.size (rInb k))).set := by
      rw [← View.set_reshape _ squeezes_S1x128x256_S128x256.numel_eq]; exact h
    obtain ⟨y, -, rfl⟩ := Finset.mem_map.mp h'
    have h1 : (y 0).val < 1 := (y 0).isLt
    show k.val + 1 * (y 0).val = k.val; omega
  · intro h
    show x ∈ ((rV.view.slice (Rect.unit (s := S2x128x256) ![k.val, 0, 0] S1x128x256.size (rInb k))).reshape S128x256 squeezes_S1x128x256_S128x256.numel_eq).set
    rw [View.set_reshape]
    refine Finset.mem_map.mpr ⟨fun | 0 => (0 : Fin 1) | 1 => x 1 | 2 => x 2, Finset.mem_univ _, ?_⟩
    funext a; apply Fin.ext
    fin_cases a
    · show k.val + 1 * 0 = (x 0).val; omega
    · show 0 + 1 * (x 1).val = (x 1).val; omega
    · show 0 + 1 * (x 2).val = (x 2).val; omega

theorem sSlots_disjoint : Disjoint (sSlot 0).view.set (sSlot 1).view.set :=
  Finset.disjoint_left.mpr fun x h h' => by
    have h1 := (mem_sSlot 0 x).mp h; have h2 := (mem_sSlot 1 x).mp h'
    have e0 : (0 : Fin 2).val = 0 := rfl
    have e1 : (1 : Fin 2).val = 1 := rfl
    omega
theorem sSlots_union : (sSlot 0).view.set ∪ (sSlot 1).view.set = Finset.univ := by
  refine Finset.eq_univ_iff_forall.mpr fun x => Finset.mem_union.mpr ?_
  have h1 : (x 0).val < 2 := (x 0).isLt
  rcases (show (x 0).val = 0 ∨ (x 0).val = 1 by omega) with h | h
  · exact .inl ((mem_sSlot 0 x).mpr h)
  · exact .inr ((mem_sSlot 1 x).mpr h)
theorem rSlots_disjoint : Disjoint (rSlot 0).view.set (rSlot 1).view.set :=
  Finset.disjoint_left.mpr fun x h h' => by
    have h1 := (mem_rSlot 0 x).mp h; have h2 := (mem_rSlot 1 x).mp h'
    have e0 : (0 : Fin 2).val = 0 := rfl
    have e1 : (1 : Fin 2).val = 1 := rfl
    omega
theorem rSlots_union : (rSlot 0).view.set ∪ (rSlot 1).view.set = Finset.univ := by
  refine Finset.eq_univ_iff_forall.mpr fun x => Finset.mem_union.mpr ?_
  have h1 : (x 0).val < 2 := (x 0).isLt
  rcases (show (x 0).val = 0 ∨ (x 0).val = 1 by omega) with h | h
  · exact .inl ((mem_rSlot 0 x).mpr h)
  · exact .inr ((mem_rSlot 1 x).mpr h)

section

variable (d : Dev nD) (L : grid0.Coords) (q qt : PosShare TreeShare)
variable (fi : Buf (Elt F) (iLoc d)) (ft : Buf (Elt F) (tLoc d)) (f0 : Buf (Elt F) (oLoc d))
variable (O : CellTallies nD τ sig (HIx 1)) (W : Waits sig (HIx 1))

theorem pts_union {ℓ : Loc nD τ sig} {A B : Finset (Idx ℓ)} (hd : Disjoint A B) (hu : A ∪ B = Finset.univ) (f : Buf (Elt F) ℓ) :
    (ℓ ↦{fullShare} f : sProp 𝕄) ⊢ iprop((ℓ ↦[A]{fullShare} f) ∗ ℓ ↦[B]{fullShare} f) := by
  have e := (pointsTo_union (ℓ := ℓ) (q := fullShare) (f := f) (Val := Elt F) (Ix := HIx 1) (Name := ℕ) (U := UU) (Lvl := ℕ) hd).1
  rw [hu] at e; exact e

theorem pts_join {ℓ : Loc nD τ sig} {A B : Finset (Idx ℓ)} (hd : Disjoint A B) (hu : A ∪ B = Finset.univ) (f g : Buf (Elt F) ℓ) :
    iprop((ℓ ↦[A]{fullShare} f) ∗ ℓ ↦[B]{fullShare} g) ⊢ (iprop(∃ h, ℓ ↦{fullShare} h) : sProp 𝕄) := by
  have e := pointsTo_join (ℓ := ℓ) (q := fullShare) (f := f) (g := g) (Val := Elt F) (Ix := HIx 1) (Name := ℕ) (U := UU) (Lvl := ℕ) hd
  rw [hu] at e
  iintro H
  iexists _
  iapply e $$ H

/-! ## The tile's own scratch -/

abbrev bS : DevRef τ sig := (Proc.scVector (cV L) (jV L)).devRef cc0_scoped0
abbrev bR : DevRef τ sig := (Proc.scVector (cV L) (jV L)).devRef cc0_scoped2

theorem ownBufs_V :
    (ownBufs (tile d L) : sProp 𝕄)
      = iprop((∃ f, (sV).view.loc (tile d L) ↦{fullShare} f) ∗ (∃ f, (rV).view.loc (tile d L) ↦{fullShare} f)
          ∗ bigSep (((ownRefs (τ := τ) (.scVector (cV L) (jV L))).erase (bS L)).erase (bR L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bS L) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := bR L) rfl⟩)]

/-- The five semaphores the task uses. -/
def sem5 : Fin 5 → DmaSem sig
  | 0 => sSem 0 | 1 => sSem 1 | 2 => rSem 0 | 3 => rSem 1 | 4 => cc0_scoped4.sem
theorem sem5_inj : ∀ i j : Fin 5, i ≠ j → (SemLoc.dma (sem5 i) : SemLoc sig) ≠ .dma (sem5 j) := by decide
theorem sem5_scoped : ∀ i : Fin 5, (SemLoc.dma (sem5 i) : SemLoc sig).isScoped .scVector = true := by decide

abbrev cell (i : Fin 5) : GSem nD τ sig := (tile d L, .dma (sem5 i))

theorem cell_ne (i j : Fin 5) (h : i ≠ j) : cell d L i ≠ cell d L j := fun e => sem5_inj i j h (congrArg Prod.snd e)
theorem cell_mem (i : Fin 5) : cell d L i ∈ ownCells (tile d L) := mem_ownCells.mpr ⟨rfl, sem5_scoped i⟩

theorem ownSems0_V :
    (ownSems0 (tile d L) : sProp 𝕄)
      = iprop(semVal (cell d L 0) 0 ∗ semVal (cell d L 1) 0 ∗ semVal (cell d L 2) 0 ∗ semVal (cell d L 3) 0 ∗ semVal (cell d L 4) 0
          ∗ bigSep ((((((ownCells (tile d L)).erase (cell d L 0)).erase (cell d L 1)).erase (cell d L 2)).erase (cell d L 3)).erase (cell d L 4))
              fun g => semVal g 0) := by
  unfold SparseCore.Cfg.ownSems0
  rw [SparseCore.bigSep_erase' (cell_mem d L 0),
    SparseCore.bigSep_erase' (i := cell d L 1) (by simp only [Finset.mem_erase]; exact ⟨cell_ne d L _ _ (by decide), cell_mem d L 1⟩),
    SparseCore.bigSep_erase' (i := cell d L 2) (by
      simp only [Finset.mem_erase]; exact ⟨cell_ne d L _ _ (by decide), cell_ne d L _ _ (by decide), cell_mem d L 2⟩),
    SparseCore.bigSep_erase' (i := cell d L 3) (by
      simp only [Finset.mem_erase]
      exact ⟨cell_ne d L _ _ (by decide), cell_ne d L _ _ (by decide), cell_ne d L _ _ (by decide), cell_mem d L 3⟩),
    SparseCore.bigSep_erase' (i := cell d L 4) (by
      simp only [Finset.mem_erase]
      exact ⟨cell_ne d L _ _ (by decide), cell_ne d L _ _ (by decide), cell_ne d L _ _ (by decide), cell_ne d L _ _ (by decide), cell_mem d L 4⟩)]

theorem oBand_nil (a : ℕ) (f : Buf (Elt F) (oLoc d)) : (emp : sProp 𝕄) ⊢ oBand d L a a f := by
  have e : band a a = ∅ := by
    refine Finset.eq_empty_iff_forall_notMem.mpr fun x h => ?_
    have := (mem_band (x := x)).mp h; omega
  unfold oBand; rw [e, pointsTo_empty]

/-! ## The task -/

variable [FloatOps F]

abbrev taskProg : Prog (TpuEff nD τ sig (Elt F) Λ₀ (tile d L).2) PUnit :=
  cc0_kern L tV (Memref.isWhole_whole _) iV (Memref.isWhole_whole _) oV (Memref.isWhole_whole _)
    sV (Memref.isWhole_whole _) cc0_scoped1 rV (Memref.isWhole_whole _) cc0_scoped3 cc0_scoped4

theorem off2_eq : k0_off2 L = ![0, 128 * (base L + 0)] := by
  rw [k0_off2_eq]
  have : 4096 * (L 1).val + 65536 * (L 0).val = 128 * (base L + 0) := by unfold base; omega
  rw [this]

set_option maxHeartbeats 4000000 in
/-- The task over its slots: the program alone. -/
theorem task_slots (hfi : ∀ x, (fi x).toNat < 163840) :
    iprop(Transfers.MayWaits (tile d L) (default : HIx 1) O
        ∗ InFree d L (qs q 0) fi 0 ∗ InFree d L (qs q 1) fi 1 ∗ OutFree d L 0 ∗ OutFree d L 1
        ∗ oBand d L (128 * base L) (128 * (base L + 32)) f0
        ∗ ((tV).view.loc (tile d L) ↦{qt} ft) ∗ semVal (tile d L, SemLoc.dma cc0_scoped4.sem) 0 ∗ Owes d L O W)
      ⊢ wp frame (wpE (defs₀ (F := F)) 𝒱₀ (tile d L) none) Set.univ (taskProg (F := F) d L)
          fun _ => iprop(InFree d L (qs q 0) fi 0 ∗ InFree d L (qs q 1) fi 1 ∗ OutFree d L 0 ∗ OutFree d L 1
            ∗ oBand d L (128 * base L) (128 * (base L + 32)) (G fi ft)
            ∗ ((tV).view.loc (tile d L) ↦{qt} ft) ∗ semVal (tile d L, SemLoc.dma cc0_scoped4.sem) 0 ∗ Owes d L O W) := by
  have hbase := base_lt L
  unfold taskProg
  simp only [cc0_kern_eq_skeleton]
  unfold cc0_kern_skel
  simp only [k0_part3_eq_skeleton, k0_part4_eq_skeleton]
  unfold k0_part3_skel k0_part4_skel
  simp only [wp_bind]
  iintro ⟨#Hmw, Hi0, Hi1, Ho0, Ho1, Ho, Ht, Hg, HO⟩
  -- the first block's fetch
  iapply (issue_in d L (qs q 0) fi 0 (base L + 0) (by omega) k0_off1_eq (off2_eq L) k0_off3_eq _ _ _) $$ Hi0
  iintro Hfly
  rw [wp_pure]; imodintro
  -- the trips
  iapply (Scf.wp_for _ _ _ _ _ _ _ _ _ (Inv d L q qt fi ft f0 O W) (fun t acc => trip d L q qt fi ft f0 O W hfi t acc))
  isplitl [Hfly Hi1 Ho0 Ho1 Ho Ht Hg HO]
  · unfold Inv
    isplitr
    · ipureintro; decide
    isplitr; · iexact Hmw
    isplitl [Hfly]
    · unfold InAt; rw [dif_pos (by decide)]; iexact Hfly
    isplitl [Hi1]; · iexact Hi1
    isplitl [Ho1]
    · unfold OutAt; rw [if_neg (by decide)]; iexact Ho1
    isplitl [Ho0]; · iexact Ho0
    isplitr
    · iapply (oBand_nil d L (128 * base L) (G fi ft))
      iempintro
    isplitl [Ho]; · iexact Ho
    isplitl [Ht]; · iexact Ht
    isplitl [Hg]; · iexact Hg
    iexact HO
  iintro %acc HI
  rw [show Scf.trips k0_t1_loop.lb k0_t1_loop.ub k0_t1_loop.st = 32 from trips_eq]
  unfold Inv
  icases HI with ⟨%hacc, -, Hin, Hi1, Hout, Ho0, Ho, -, Ht, Hg, HO⟩
  subst hacc
  iapply (wp_lift_assume d L (chk5_true L))
  iapply (wp_lift_assume d L chk4_true)
  rw [wp_pure]; imodintro
  -- the last block's write
  ihave Hout' := (show OutAt d L fi ft 32 ⊢ OutFly d L fi ft 1 (base L + 31) from by
    unfold OutAt; rw [if_pos (by decide)]; exact .rfl) $$ Hout
  iapply (wait_out d L fi ft O W 1 (base L + 31) off20_eq _ _ _) $$ [Hout' HO]
  · isplitl [Hout']; · iexact Hout'
    isplitl [HO]; · iexact HO
    iexact Hmw
  iintro ⟨Hblk, Ho1, HO⟩
  rw [wp_pure]; imodintro
  isplitl [Hin]
  · iapply (show InAt d L q fi 32 ⊢ InFree d L (qs q 0) fi 0 from by
      unfold InAt; rw [dif_neg (by decide)]; exact .rfl) $$ Hin
  isplitl [Hi1]; · iexact Hi1
  isplitl [Ho0]; · iexact Ho0
  isplitl [Ho1]; · iexact Ho1
  isplitl [Ho Hblk]
  · iapply (oBand_join d L (show 128 * base L ≤ 128 * (base L + 31) by omega)
      (show 128 * (base L + 31) ≤ 128 * (base L + 32) by omega) (G fi ft))
    isplitl [Ho]; · iexact Ho
    iexact Hblk
  isplitl [Ht]; · iexact Ht
  isplitl [Hg]; · iexact Hg
  iexact HO

/-- The task as the launch runs it: from the tile's shares and its own scratch. -/
theorem task (hF : (K (F := F)).Facts) (hfi : ∀ x, (fi x).toNat < 163840) (hO : ∀ g, O g none = 0) :
    iprop(levAts (K (F := F)).L (K (F := F)).lev ∗ emp
        ∗ (((iV).view.loc (tile d L) ↦{q} fi) ∗ ((tV).view.loc (tile d L) ↦{qt} ft) ∗ oBand d L (128 * base L) (128 * (base L + 32)) f0)
        ∗ scopedBufs (tile d L) ∗ scopedSems0 (tile d L) ∗ owes (tile d L) O W)
      ⊢ wp frame (wpE (defs₀ (F := F)) 𝒱₀ (tile d L) none) Set.univ (taskProg (F := F) d L)
          fun _ => iprop((((iV).view.loc (tile d L) ↦{q} fi) ∗ ((tV).view.loc (tile d L) ↦{qt} ft)
              ∗ oBand d L (128 * base L) (128 * (base L + 32)) (G fi ft))
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (tile d L) (default : HIx 1) O from
    (K (F := F)).mayWaits_none (thr := tile d L) hO) $$ Hlv
  ihave Hi' := (pointsTo_share (PosShare.mem_left_op_right q)).1 $$ Hi
  icases Hi' with ⟨Hi0, Hi1⟩
  ihave Hs' := (pts_union sSlots_disjoint sSlots_union fs) $$ Hs
  icases Hs' with ⟨Hs0, Hs1⟩
  ihave Hr' := (pts_union rSlots_disjoint rSlots_union fr) $$ Hr
  icases Hr' with ⟨Hr0, Hr1⟩
  iapply (wp_wand frame (wpE (defs₀ (F := F)) 𝒱₀ (tile d L) none) Set.univ) $$ [Hmw Hi0 Hi1 Hs0 Hs1 Hr0 Hr1 Hc0 Hc1 Hc2 Hc3 Hc4 Ht Ho HO]
  · iapply (task_slots d L q qt fi ft f0 O W hfi)
    isplitl [Hmw]; · iexact Hmw
    unfold InFree OutFree
    isplitl [Hs0 Hi0 Hc0]
    · isplitl [Hs0]; · iexists _; iexact Hs0
      isplitl [Hi0]; · iexact Hi0
      iexact Hc0
    isplitl [Hs1 Hi1 Hc1]
    · isplitl [Hs1]; · iexists _; iexact Hs1
      isplitl [Hi1]; · iexact Hi1
      iexact Hc1
    isplitl [Hr0 Hc2]
    · isplitl [Hr0]; · iexists _; iexact Hr0
      iexact Hc2
    isplitl [Hr1 Hc3]
    · isplitl [Hr1]; · iexists _; iexact Hr1
      iexact Hc3
    isplitl [Ho]; · iexact Ho
    isplitl [Ht]; · iexact Ht
    isplitl [Hc4]; · iexact Hc4
    iexists W; isplitr
    · ipureintro; exact fun p hp => .inl hp
    iexact HO
  unfold InFree OutFree
  iintro %_ ⟨⟨⟨%f1, Hs0⟩, Hi0, Hc0⟩, ⟨⟨%f2, Hs1⟩, Hi1, Hc1⟩, ⟨⟨%f3, Hr0⟩, Hc2⟩, ⟨⟨%f4, Hr1⟩, Hc3⟩, Ho, Ht, Hc4, HO⟩
  isplitl [Hi0 Hi1 Ht Ho]
  · isplitl [Hi0 Hi1]
    · iapply (pointsTo_share (PosShare.mem_left_op_right q)).2
      isplitl [Hi0]; · iexact Hi0
      iexact Hi1
    isplitl [Ht]; · iexact Ht
    iexact Ho
  isplitl [Hs0 Hs1 Hr0 Hr1 Hbufs]
  · isplitl [Hs0 Hs1]
    · iapply (pts_join sSlots_disjoint sSlots_union f1 f2)
      isplitl [Hs0]; · iexact Hs0
      iexact Hs1
    isplitl [Hr0 Hr1]
    · iapply (pts_join rSlots_disjoint rSlots_union f3 f4)
      isplitl [Hr0]; · iexact Hr0
      iexact Hr1
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexact HO

end

end Cert.Proof.Gather
-- ==== Proof.Launch.lean ====
/-
  The whole program's run: the operations before the gather, the two SparseCores' tasks, the reshape after it.
-/
module

public import proofs.«01_k».proof.Proof.Task
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after wp_seq wp_hlo_within held_sub_split held_congr)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EH : Emb UH (MT nD τ sig (HIx 1) (Elt F) ℕ UU ℕ) := embL

/-! ## The operations round the call, and the buffers they leave -/

/-- The operations before the call. -/
abbrev before : List (HloOp τ sig (Elt F)) :=
  [StableHlo.reshape main_arg1 main_v0 (rfl : (.i32 : EltTy) = .i32) shapeCasts_S2x32768_S65536,
   StableHlo.reshape main_arg1 main_v1 (rfl : (.i32 : EltTy) = .i32) shapeCasts_S2x32768_S65536,
   StableHlo.nullary main_c (constantI S_ 32 81920#32),
   StableHlo.unary main_c main_v2 (broadcastInDim S65536 ![] bcast_S_S65536 : (⟨S_, .i32⟩ : BufTy).Contents (Elt F) → (⟨S65536, .i32⟩ : BufTy).Contents (Elt F)),
   StableHlo.binary main_v1 main_v2 main_v3 (addi : (⟨S65536, .i32⟩ : BufTy).Contents (Elt F) → (⟨S65536, .i32⟩ : BufTy).Contents (Elt F) → (⟨S65536, .i32⟩ : BufTy).Contents (Elt F)),
   StableHlo.binary main_v0 main_v3 main_v4 ((fun a b => concatenate S131072 0 [⟨S65536, a⟩, ⟨S65536, b⟩] concatenates_S65536_S65536_S131072_d0) : (⟨S65536, .i32⟩ : BufTy).Contents (Elt F) → (⟨S65536, .i32⟩ : BufTy).Contents (Elt F) → (⟨S131072, .i32⟩ : BufTy).Contents (Elt F)),
   StableHlo.reshape main_arg0 main_v5 (rfl : (.i32 : EltTy) = .i32) shapeCasts_S2x81920x256_S163840x256,
   StableHlo.reshape main_v4 main_v6 (rfl : (.i32 : EltTy) = .i32) shapeCasts_S131072_S1x131072]

/-- The one after it. -/
abbrev last : HloOp τ sig (Elt F) :=
  StableHlo.reshape main_v7 main_v8 (rfl : (.i32 : EltTy) = .i32) shapeCasts_S131072x256_S2x2x32768x256

theorem main_eq (d : Dev nD) :
    main (F := F) d = seq before >>= fun _ => sc.run d 0 >>= fun _ => hlo rfl last fun _ => .ret (⟨⟩ : PUnit) := by
  rw [StableHlo.seq_bind_seqK]
  simp only [main, StableHlo.seqK, bind_pure]
  rfl

variable (m : (ℓ : Loc nD τ sig) → Buf (Elt F) ℓ) (ρ : Dev nD → PrngReg)

abbrev t' : DevRef τ sig := Proc.devRef .tc (main_v5 : Ref sig .tc)
abbrev i' : DevRef τ sig := Proc.devRef .tc (main_v6 : Ref sig .tc)
abbrev o' : DevRef τ sig := Proc.devRef .tc (main_v7 : Ref sig .tc)
abbrev a' : DevRef τ sig := Proc.devRef .tc (main_arg0 : Ref sig .tc)
abbrev b' : DevRef τ sig := Proc.devRef .tc (main_arg1 : Ref sig .tc)
abbrev r' : DevRef τ sig := Proc.devRef .tc (main_v8 : Ref sig .tc)

def V0 (d : Dev nD) : Valuation τ sig (Elt F) := fun b => m (d, b)
def V1 (d : Dev nD) : Valuation τ sig (Elt F) := after before (V0 m d)

/-- What the call finds: the table, the list of rows, the result's buffer. -/
def ft (d : Dev nD) : Buf (Elt F) (tLoc d) := V1 m d t'
def fi (d : Dev nD) : Buf (Elt F) (iLoc d) := V1 m d i'
def f0 (d : Dev nD) : Buf (Elt F) (oLoc d) := V1 m d o'
/-- What it leaves. -/
def fo (d : Dev nD) : Buf (Elt F) (oLoc d) := G (fi m d) (ft m d)

def V2 (d : Dev nD) : Valuation τ sig (Elt F) := Function.update (V1 m d) o' (fo m d)
def V3 (d : Dev nD) : Valuation τ sig (Elt F) := last.result (V2 m d)

/-- The list's words all name rows of the table. -/
def InRows : Prop := ∀ (d : Dev nD) (x : S1x131072.Idx), (fi m d x).toNat < 163840

/-! ## The parts the tasks take -/

/-- A share `q` of the table and of the list, and rows `a` up to `b` of the result at `f`. -/
def part (d : Dev nD) (q : PosShare TreeShare) (a b : ℕ) (f : Buf (Elt F) (oLoc d)) : sProp 𝕄 :=
  iprop((iLoc d ↦{q} fi m d) ∗ (tLoc d ↦{q} ft m d) ∗ oLoc d ↦[band a b]{fullShare} f)

instance part_storable (d : Dev nD) (q : PosShare TreeShare) (a b : ℕ) (f : Buf (Elt F) (oLoc d)) :
    BI.Storable (upEmb : UEmb _ 𝕄) (part m d q a b f) :=
  (inferInstance : BI.Storable (upEmb : UEmb _ 𝕄) iprop((iLoc d ↦{q} fi m d) ∗ (tLoc d ↦{q} ft m d) ∗ oLoc d ↦[band a b]{fullShare} f))

theorem bands_disjoint (a : ℕ) : ∀ i ∈ (Finset.univ : Finset (Fin 16)), ∀ j ∈ (Finset.univ : Finset (Fin 16)), i ≠ j →
    Disjoint (band (a + 4096 * i.val) (a + 4096 * i.val + 4096)) (band (a + 4096 * j.val) (a + 4096 * j.val + 4096)) := by
  intro i _ j _ h
  have hv : i.val ≠ j.val := fun e => h (Fin.ext e)
  refine Finset.disjoint_left.mpr fun x h1 h2 => ?_
  rw [mem_band] at h1 h2
  omega

theorem bands_cover (a : ℕ) :
    (Finset.univ : Finset (Fin 16)).biUnion (fun i => band (a + 4096 * i.val) (a + 4096 * i.val + 4096)) = band a (a + 65536) := by
  ext x
  rw [Finset.mem_biUnion, mem_band]
  constructor
  · rintro ⟨i, -, h⟩
    rw [mem_band] at h
    have := i.isLt
    omega
  · intro h
    refine ⟨⟨((x 0).val - a) / 4096, by omega⟩, Finset.mem_univ _, ?_⟩
    rw [mem_band]; dsimp only
    omega

/-- Sixteen bands of 4096 rows, with sixteen pieces of the share. -/
theorem part_split (d : Dev nD) (q : PosShare TreeShare) (a : ℕ) (f : Buf (Elt F) (oLoc d)) :
    (part m d q a (a + 65536) f : sProp 𝕄)
      = bigSep Finset.univ fun i : Fin 16 => part m d (pieceOf q 16 (by decide) i) (a + 4096 * i.val) (a + 4096 * i.val + 4096) f := by
  unfold part
  rw [bigSep_sep', bigSep_sep', ← pointsTo_piecesOf, ← pointsTo_piecesOf,
    ← pointsTo_biUnion Finset.univ (ℓ := oLoc d) (fun i : Fin 16 => band (a + 4096 * i.val) (a + 4096 * i.val + 4096)) (bands_disjoint a), bands_cover]

/-- The share of SparseCore `c`. -/
def qc (c : ℕ) : PosShare TreeShare := if c = 0 then fullShare.left else fullShare.right

theorem deal (A A' B B' C C' : sProp 𝕄) : iprop((A ∗ A') ∗ (B ∗ B') ∗ C ∗ C') ⊢ iprop((A ∗ B ∗ C) ∗ A' ∗ B' ∗ C') := by
  iintro ⟨⟨Hi, Hi'⟩, ⟨Ht, Ht'⟩, Ho, Ho'⟩
  isplitl [Hi Ht Ho]
  · isplitl [Hi]; · iexact Hi
    isplitl [Ht]; · iexact Ht
    iexact Ho
  isplitl [Hi']; · iexact Hi'
  isplitl [Ht']; · iexact Ht'
  iexact Ho'

theorem undeal (A A' B B' C C' : sProp 𝕄) : iprop((A ∗ B ∗ C) ∗ A' ∗ B' ∗ C') ⊢ iprop((A ∗ A') ∗ (B ∗ B') ∗ C ∗ C') := by
  iintro ⟨⟨Hi, Ht, Ho⟩, Hi', Ht', Ho'⟩
  isplitl [Hi Hi']
  · isplitl [Hi]; · iexact Hi
    iexact Hi'
  isplitl [Ht Ht']
  · isplitl [Ht]; · iexact Ht
    iexact Ht'
  isplitl [Ho]; · iexact Ho
  iexact Ho'

theorem part_cores (d : Dev nD) (f : Buf (Elt F) (oLoc d)) :
    (part m d fullShare 0 131072 f : sProp 𝕄)
      = iprop(part m d (qc 0) (65536 * 0) (65536 * 0 + 65536) f ∗ part m d (qc 1) (65536 * 1) (65536 * 1 + 65536) f) := by
  have hs {ℓ : Loc nD τ sig} (g : Buf (Elt F) ℓ) : (ℓ ↦{fullShare} g : sProp 𝕄) = iprop((ℓ ↦{qc 0} g) ∗ ℓ ↦{qc 1} g) :=
    BI.Entails.antisymm (pointsTo_share (PosShare.mem_left_op_right fullShare)).1 (pointsTo_share (PosShare.mem_left_op_right fullShare)).2
  have hb : (oLoc d ↦[band 0 131072]{fullShare} f : sProp 𝕄)
      = iprop((oLoc d ↦[band (65536 * 0) (65536 * 0 + 65536)]{fullShare} f) ∗ oLoc d ↦[band (65536 * 1) (65536 * 1 + 65536)]{fullShare} f) := by
    have e := pointsTo_union (ℓ := oLoc d) (q := fullShare) (f := f) (Val := Elt F) (Ix := HIx 1) (Name := ℕ) (U := UU) (Lvl := ℕ)
      (band_disjoint (a := 0) (e := 131072) (le_refl 65536))
    rw [band_union (by omega) (by omega)] at e
    exact BI.Entails.antisymm e.1 e.2
  unfold part
  rw [hs, hs, hb]
  exact BI.Entails.antisymm (deal _ _ _ _ _ _) (undeal _ _ _ _ _ _)

theorem band_all : band 0 131072 = Finset.univ :=
  Finset.eq_univ_iff_forall.mpr fun x => mem_band.mpr ⟨Nat.zero_le _, (x 0).isLt⟩

/-! ## What passes between the threads -/

theorem nSub_zero : (K (F := F)).nSub 0 = 16 := rfl

def P : (K (F := F)).Pay (nD := nD) (Val := Elt F) (Name := ℕ) (U := UU) where
  st := fun q d c => match q with | 0 => part m d (qc c.val) (65536 * c.val) (65536 * c.val + 65536) (f0 m d)
  dn := fun q d c => match q with | 0 => part m d (qc c.val) (65536 * c.val) (65536 * c.val + 65536) (fo m d)
  go := fun q d c i => match q with
    | 0 => part m d (pieceOf (qc c.val) 16 (by decide) (Fin.cast nSub_zero i)) (65536 * c.val + 4096 * i.val) (65536 * c.val + 4096 * i.val + 4096) (f0 m d)
  td := fun q d c i => match q with
    | 0 => part m d (pieceOf (qc c.val) 16 (by decide) (Fin.cast nSub_zero i)) (65536 * c.val + 4096 * i.val) (65536 * c.val + 4096 * i.val + 4096) (fo m d)
  x := fun _ _ => iprop(emp)

instance P_storable : (P (F := F) m).IsStorable where
  st q d _ := match q with | 0 => part_storable m d _ _ _ _
  dn q d _ := match q with | 0 => part_storable m d _ _ _ _
  go q d _ _ := match q with | 0 => part_storable m d _ _ _ _
  td q d _ _ := match q with | 0 => part_storable m d _ _ _ _

theorem vecSplit : (K (F := F)).VecSplit' (P m) 0 := by
  intro d c
  show part m d (qc c.val) (65536 * c.val) (65536 * c.val + 65536) (f0 m d) ⊢ |={Set.univ}=> iprop(
      (bigSep Finset.univ fun i : Fin 16 => part m d (pieceOf (qc c.val) 16 (by decide) i) (65536 * c.val + 4096 * i.val) (65536 * c.val + 4096 * i.val + 4096) (f0 m d))
      ∗ ((bigSep Finset.univ fun i : Fin 16 => part m d (pieceOf (qc c.val) 16 (by decide) i) (65536 * c.val + 4096 * i.val) (65536 * c.val + 4096 * i.val + 4096) (fo m d))
          -∗ part m d (qc c.val) (65536 * c.val) (65536 * c.val + 65536) (fo m d)))
  rw [← part_split, ← part_split]
  iintro H; imodintro
  isplitl [H]; · iexact H
  iintro H; iexact H

/-! ## The task of each tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_kern (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem task_part (d : Dev nD) (c : Fin (grid0.bound 0)) (s : Fin (grid0.bound 1)) (q : PosShare TreeShare) (hF : (K (F := F)).Facts) (hin : InRows m)
    (O : CellTallies nD τ sig (HIx 1)) (W : Waits sig (HIx 1)) (hO : ∀ g, O g none = 0) :
    iprop(levAts (K (F := F)).L (K (F := F)).lev ∗ emp
        ∗ part m d q (65536 * c.val + 4096 * s.val) (65536 * c.val + 4096 * s.val + 4096) (f0 m d)
        ∗ scopedBufs (tile d (coordsV c s)) ∗ scopedSems0 (tile d (coordsV c s)) ∗ owes (tile d (coordsV c s)) O W)
      ⊢ wp frame (wpE (defs₀ (F := F)) 𝒱₀ (tile d (coordsV c s)) none) Set.univ (taskProg (F := F) d (coordsV c s))
          fun _ => iprop(part m d q (65536 * c.val + 4096 * s.val) (65536 * c.val + 4096 * s.val + 4096) (fo m d)
            ∗ scopedBufs (tile d (coordsV c s)) ∗ scopedSems0 (tile d (coordsV c s))
            ∗ ∃ W', ⌜∀ p ∈ W', p ∈ W ∨ p.2 = none⌝ ∗ owes (tile d (coordsV c s)) O W') := by
  have h := task d (coordsV c s) q q (fi m d) (ft m d) (f0 m d) O W hF (hin d) hO
  have e1 : 128 * base (coordsV c s) = 65536 * c.val + 4096 * s.val := by
    show 128 * (32 * (s.val + 16 * c.val)) = _; omega
  have e2 : 128 * (base (coordsV c s) + 32) = 65536 * c.val + 4096 * s.val + 4096 := by
    show 128 * (32 * (s.val + 16 * c.val) + 32) = _; omega
  rw [e1, e2] at h
  exact h

theorem tileObl (hF : (K (F := F)).Facts) (hin : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_part m d ⟨_, hci.1⟩ ⟨_, hci.2⟩ _ hF hin O W hO).trans (wp_mono frame _ _ fun _ => obl_post)

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev Sc : Finset (DevRef τ sig) := {i', t', o'}
abbrev Sf : Finset (DevRef τ sig) := {a', b', r'}

theorem Sc_sub : Sc ⊆ ucRefs τ sig := by decide +kernel
theorem Sf_sub : Sf ⊆ ucRefs τ sig := by decide +kernel

theorem held_Sc (d : Dev nD) (W : Valuation τ sig (Elt F)) (hi : W i' = fi m d) (ht : W t' = ft m d) :
    (held (T d) Sc W : sProp 𝕄) = part m d fullShare 0 131072 (W o') := by
  unfold held part
  rw [SparseCore.bigSep_insert' (by decide), SparseCore.bigSep_insert' (by decide), bigSep_singleton, hi, ht, band_all]

theorem held_rest (d : Dev nD) : (held (T d) (ucRefs τ sig \ Sc) (V1 m d) : sProp 𝕄) = held (T d) (ucRefs τ sig \ Sc) (V2 m d) :=
  held_congr _ fun b hb => (Function.update_of_ne (fun e => (Finset.mem_sdiff.mp hb).2 (by rw [e]; decide)) _ _).symm

/-- The buffers at the call: the call's own, and the rest. -/
theorem held_call (d : Dev nD) :
    (held (d.tc : Thread nD τ) (ucRefs τ sig) (after before (V0 m d)) : sProp 𝕄)
      ⊢ iprop(part m d fullShare 0 131072 (f0 m d) ∗ held (T d) (ucRefs τ sig \ Sc) (V2 m d)) := by
  have e := held_sub_split (Ix := HIx 1) (Name := ℕ) (U := UU) (Lvl := ℕ) (T d) Sc_sub (V1 m d)
  rw [held_Sc m d (V1 m d) rfl rfl, held_rest] at e
  exact Entails.of_eq e

/-- The buffers at the end: the ones kept, and the rest. -/
theorem held_end (d : Dev nD) :
    (held (T d) (ucRefs τ sig) ((last (F := F)).result (V2 m d)) : sProp 𝕄) ⊢ iprop(held (T d) Sf (V3 m d) ∗ held (T d) (ucRefs τ sig \ Sf) (V3 m d)) :=
  Entails.of_eq (held_sub_split (T d) Sf_sub (V3 m d))

theorem st0_eq (d : Dev nD) : (bigSep Finset.univ fun c : Fin ((K (F := F)).nCore 0) => (P m).st 0 d c) = part m d fullShare 0 131072 (f0 m d) := by
  rw [part_cores]
  show (bigSep (Finset.univ : Finset (Fin 2)) fun c => part m d (qc c.val) (65536 * c.val) (65536 * c.val + 65536) (f0 m d)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = part m d fullShare 0 131072 (fo m d) := by
  rw [part_cores]
  show (bigSep (Finset.univ : Finset (Fin 2)) fun c => part m d (qc c.val) (65536 * c.val) (65536 * c.val + 65536) (fo m d)) = _
  rw [show (Finset.univ : Finset (Fin 2)) = {0, 1} by decide, SparseCore.bigSep_insert' (by decide), bigSep_singleton]
  rfl

/-- What the run keeps: the two arguments and the result. -/
abbrev FIN (d : Dev nD) : sProp 𝕄 := held (T d) Sf (V3 m d)

theorem before_sub : ∀ op ∈ before (F := F), op.bufs ⊆ ucRefs τ sig := by
  intro op h
  refine sub_ucRefs op ?_
  simp only [List.mem_cons, List.mem_singleton, List.not_mem_nil, or_false] at h
  rcases h with rfl | rfl | rfl | rfl | rfl | rfl | rfl | rfl <;>
  · intro b hb
    simp only [StableHlo.reshape_bufs, StableHlo.nullary_bufs, StableHlo.unary_bufs, StableHlo.binary_bufs, Finset.mem_insert, Finset.mem_singleton] at hb
    rcases hb with rfl | rfl | rfl <;> exact StableHlo.devRef_mem_tcRefs _

theorem before_fresh : ∀ op ∈ before (F := F), op.fresh = ∅ := by
  intro op h
  simp only [List.mem_cons, List.mem_singleton, List.not_mem_nil, or_false] at h
  rcases h with rfl | rfl | rfl | rfl | rfl | rfl | rfl | rfl <;> rfl

theorem last_sub : (last (F := F)).bufs ⊆ ucRefs τ sig := by
  refine sub_ucRefs _ ?_
  intro b hb
  simp only [StableHlo.reshape_bufs, Finset.mem_insert, Finset.mem_singleton] at hb
  rcases hb with rfl | rfl <;> exact StableHlo.devRef_mem_tcRefs _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from
    unscopedBufs_held d (V0 m d), main_eq]
  iintro ⟨#Hctx, Hst, ⟨Hb, Hh, Hts, -⟩, -⟩
  iapply (wp_seq (defs := (K (F := F)).defs (D (F := F))) 𝒱 none Set.univ d (ucRefs τ sig) _ before before_sub before_fresh (V0 m d)) $$ [Hb Hh]
  · isplitl [Hb]; · iexact Hb
    iexact Hh
  iintro ⟨Hb, Hh⟩
  rw [wp_bind]
  ihave Hh' := (held_call m d) $$ Hh
  icases Hh' with ⟨Hc, Hrest⟩
  iapply ((K (F := F)).wp_run (D (F := F)) 𝒱 (EH := EH) (P := P m) κ d 0) $$ [Hst Hc Hrest Hb Hts]
  isplitr; · iexact Hctx
  isplitl [Hst]; · iexact Hst
  isplitl [Hc]
  · rw [st0_eq]; iexact Hc
  iintro ⟨Hst, Hdn⟩
  ihave Hdn' := (Entails.of_eq (dn0_eq m d)) $$ Hdn
  iapply (wp_hlo_within 𝒱 (SparseCore.T d) none Set.univ (op := last) (S := ucRefs τ sig) last_sub (V := V2 m d)) $$ [Hb Hdn' Hrest]
  · isplitl [Hb]; · iexact Hb
    rw [held_sub_split (T d) Sc_sub (V2 m d), held_Sc m d (V2 m d) (Function.update_of_ne (show i' ≠ o' by decide) _ _)
      (Function.update_of_ne (show t' ≠ o' by decide) _ _), show V2 m d o' = fo m d from Function.update_self _ _ _]
    isplitl [Hdn']; · iexact Hdn'
    iexact Hrest
  iintro ⟨Hb, Hh⟩
  ihave Hh' := (held_end m d) $$ Hh
  icases Hh' with ⟨Hf, -⟩
  rw [wp_ret]; imodintro
  isplitl [Hst]; · iexact Hst
  isplitl [Hf]; · iexact Hf
  isplitl [Hb] <;> iassumption

/-! ## The end -/

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v8

def fq (d : Dev nD) (s' : Phys nD τ sig (Elt F)) : Prop :=
  s'.mem.mem (aLoc d) = V3 m d a' ∧ s'.mem.mem (bLoc d) = V3 m d b' ∧ s'.mem.mem (rLoc d) = V3 m d r'

theorem agree_all (s' : Phys nD τ sig (Elt F)) {ℓ : Loc nD τ sig} (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN held
  rw [SparseCore.bigSep_insert' (by decide), SparseCore.bigSep_insert' (by decide), bigSep_singleton]
  iintro ⟨⟨Ha, Hb, Hr⟩, HSI⟩
  ihave H := (agree_all s' (ℓ := aLoc d) (V3 m d a')) $$ [HSI Ha]
  · isplitl [HSI]; · iexact HSI
    iexact Ha
  icases H with ⟨%h1, HSI⟩
  ihave H := (agree_all s' (ℓ := bLoc d) (V3 m d b')) $$ [HSI Hb]
  · isplitl [HSI]; · iexact HSI
    iexact Hb
  icases H with ⟨%h2, HSI⟩
  ihave H := (agree_all s' (ℓ := rLoc d) (V3 m d r')) $$ [HSI Hr]
  · isplitl [HSI]; · iexact HSI
    iexact Hr
  icases H with ⟨%h3, -⟩
  ipureintro; exact ⟨h1, h2, h3⟩

def QC : PUnit × MemSt nD τ sig (Elt F) → Prop := fun r =>
  (∀ d : Dev nD, r.2.mem (aLoc d) = V3 m d a' ∧ r.2.mem (bLoc d) = V3 m d b' ∧ r.2.mem (rLoc d) = V3 m d r') ∧ r.2.sem = fun _ => 0

theorem run_V3 [∀ e, Nonempty (Elt F e)] (hin : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the program leaves: at half `a`, choice `b`, token `n`, the row of half `a` that `pos_t[b, n]` names.
-/
module

public import proofs.«01_k».proof.Proof.Launch
public import Idealize.ShloMosaic.Lib.Pipeline.Value

@[expose] public section

noncomputable section

namespace Cert.Proof.Gather

open Cert.KernelIdeal Cert.KernelIdeal.Gen
open Idealize.ShloMosaic
open Idealize.ShloMosaic.StableHlo

variable {F : FTy → Type} [FloatOps F]

/-- The indices of arrays of three and four axes, by their coordinates. -/
abbrev at3 {a b c : ℕ} (x : Fin a) (y : Fin b) (z : Fin c) : (⟨3, ![a, b, c]⟩ : Shape).Idx := fun | 0 => x | 1 => y | 2 => z
abbrev at4 {a b c d : ℕ} (x : Fin a) (y : Fin b) (z : Fin c) (w : Fin d) : (⟨4, ![a, b, c, d]⟩ : Shape).Idx :=
  fun | 0 => x | 1 => y | 2 => z | 3 => w

/-- Every word of `pos` names a row of one half of the table. -/
def Named (pos : S2x32768.Idx → BitVec 32) : Prop := ∀ x, (pos x).toNat < 81920

/-- The rows gathered. -/
def want (ys : S2x81920x256.Idx → BitVec 32) (pos : S2x32768.Idx → BitVec 32) : S2x2x32768x256.Idx → BitVec 32 :=
  fun x => ys (at3 (x 0) ⟨(pos (at2 (x 1) (x 2))).toNat % 81920, Nat.mod_lt _ (by decide)⟩ (x 3))

/-! ## The table and the list the call is given -/

def tableOf (ys : S2x81920x256.Idx → BitVec 32) : S163840x256.Idx → BitVec 32 :=
  shapeCast S163840x256 ys shapeCasts_S2x81920x256_S163840x256

def flatOf (pos : S2x32768.Idx → BitVec 32) : S131072.Idx → BitVec 32 :=
  concatenate S131072 0
    [⟨S65536, shapeCast S65536 pos shapeCasts_S2x32768_S65536⟩,
     ⟨S65536, addi (shapeCast S65536 pos shapeCasts_S2x32768_S65536) (broadcastInDim S65536 ![] bcast_S_S65536 (constantI S_ 32 81920#32))⟩]
    concatenates_S65536_S65536_S131072_d0

def listOf (pos : S2x32768.Idx → BitVec 32) : S1x131072.Idx → BitVec 32 :=
  shapeCast S1x131072 (flatOf pos) shapeCasts_S131072_S1x131072

variable (m : (ℓ : Loc nD τ sig) → Buf (Elt F) ℓ)

theorem ft_eq (d : Dev nD) : ft m d = tableOf (m (aLoc d)) := by
  show after before (V0 m d) (Proc.devRef .tc main_v5) = _
  unfold before
  after_results <;> rfl

theorem fi_eq (d : Dev nD) : fi m d = listOf (m (bLoc d)) := by
  show after before (V0 m d) (Proc.devRef .tc main_v6) = _
  unfold before
  after_results <;> rfl

/-- The arguments are written by no operation. -/
theorem V3_a (d : Dev nD) : V3 m d a' = m (aLoc d) := by
  have h1 : V1 m d a' = m (aLoc d) := by
    show after before (V0 m d) (Proc.devRef .tc main_arg0) = _
    unfold before
    after_results <;> rfl
  rw [← h1]
  show (last (F := F)).result (V2 m d) (Proc.devRef .tc main_arg0) = _
  unfold last
  rw [reshape_result_ne]
  · exact Function.update_of_ne (by decide) _ _
  · decide

theorem V3_b (d : Dev nD) : V3 m d b' = m (bLoc d) := by
  have h1 : V1 m d b' = m (bLoc d) := by
    show after before (V0 m d) (Proc.devRef .tc main_arg1) = _
    unfold before
    after_results <;> rfl
  rw [← h1]
  show (last (F := F)).result (V2 m d) (Proc.devRef .tc main_arg1) = _
  unfold last
  rw [reshape_result_ne]
  · exact Function.update_of_ne (by decide) _ _
  · decide

theorem V3_r (d : Dev nD) :
    V3 m d r' = (shapeCast S2x2x32768x256 (fo m d : S131072x256.Idx → BitVec 32) shapeCasts_S131072x256_S2x2x32768x256 : S2x2x32768x256.Idx → BitVec 32) := by
  have h1 : V2 m d (Proc.devRef .tc main_v7) = fo m d := Function.update_self _ _ _
  rw [← h1]
  show (last (F := F)).result (V2 m d) (Proc.devRef .tc main_v8) = _
  unfold last
  rw [reshape_result]
  rfl

theorem tableOf_apply (ys : S2x81920x256.Idx → BitVec 32) (a : Fin 2) (r : Fin 81920) (c : Fin 256) (q : Fin 163840)
    (hq : q.val = a.val * 81920 + r.val) : tableOf ys (at2 q c) = ys (at3 a r c) := by
  show ys (Shape.reshapeEquiv _ _) = _
  congr 1
  refine Shape.reshapeEquiv_eq_of_rowMajor _ ?_
  rw [Shape.rowMajor_val_two, Shape.rowMajor_val_three]
  show (a.val * 81920 + r.val) * 256 + c.val = q.val * 256 + c.val
  omega

theorem flat_apply (pos : S2x32768.Idx → BitVec 32) (b : Fin 2) (n : Fin 32768) (q : S65536.Idx) (hq : (q 0).val = b.val * 32768 + n.val) :
    shapeCast S65536 pos shapeCasts_S2x32768_S65536 q = pos (at2 b n) := by
  show pos (Shape.reshapeEquiv _ _) = _
  congr 1
  refine Shape.reshapeEquiv_eq_of_rowMajor _ ?_
  rw [Shape.rowMajor_val_two, Shape.rowMajor_val_one]
  show b.val * 32768 + n.val = (q 0).val
  omega

theorem listOf_apply (pos : S2x32768.Idx → BitVec 32) (a b : Fin 2) (n : Fin 32768) (p : Fin 131072)
    (hp : p.val = (a.val * 2 + b.val) * 32768 + n.val) :
    listOf pos (at2 0 p) = pos (at2 b n) + (if a.val = 0 then 0#32 else 81920#32) := by
  have hb := b.isLt
  have hn := n.isLt
  have hlt : b.val * 32768 + n.val < 65536 := by omega
  let j : S131072.Idx := fun | 0 => p
  let q : S65536.Idx := fun | 0 => ⟨b.val * 32768 + n.val, hlt⟩
  have hj : Shape.reshapeEquiv shapeCasts_S131072_S1x131072 (at2 (a := 1) (b := 131072) 0 p) = j := by
    refine Shape.reshapeEquiv_eq_of_rowMajor _ ?_
    rw [Shape.rowMajor_val_two, Shape.rowMajor_val_one]
    show p.val = 0 * 131072 + p.val
    rw [Nat.zero_mul, Nat.zero_add]
  have hl : listOf pos (at2 0 p) = flatOf pos j := congrArg (flatOf pos) hj
  rw [hl]
  by_cases ha : a.val = 0
  · have hi : ∀ x : Fin S65536.rank, (q x).val = (j (x.cast (rfl : S65536.rank = S131072.rank))).val := fun x => by
      obtain rfl : x = (0 : Fin 1) := Subsingleton.elim _ _
      show b.val * 32768 + n.val = p.val
      rw [hp, ha]; omega
    have e := concatenate_pair_apply_left (t := S131072) (s₁ := S65536) (s₂ := S65536) (0 : Fin 1)
      (shapeCast S65536 pos shapeCasts_S2x32768_S65536)
      (addi (shapeCast S65536 pos shapeCasts_S2x32768_S65536) (broadcastInDim S65536 ![] bcast_S_S65536 (constantI S_ 32 81920#32)))
      concatenates_S65536_S65536_S131072_d0 j rfl q hi
    rw [if_pos ha, BitVec.add_zero]
    exact Eq.trans e (flat_apply pos b n q rfl)
  · have ha1 : a.val = 1 := by have := a.isLt; omega
    have hi : ∀ x : Fin S65536.rank, x.cast (rfl : S65536.rank = S131072.rank) ≠ (0 : Fin 1) →
        (q x).val = (j (x.cast (rfl : S65536.rank = S131072.rank))).val := fun x hx => absurd (Subsingleton.elim (α := Fin 1) _ _) hx
    have hs : (q (0 : Fin 1)).val + 65536 = (j (0 : Fin 1)).val := by
      show b.val * 32768 + n.val + 65536 = p.val
      rw [hp, ha1]; omega
    have e := concatenate_pair_apply_right (t := S131072) (s₁ := S65536) (s₂ := S65536) (0 : Fin 1)
      (shapeCast S65536 pos shapeCasts_S2x32768_S65536)
      (addi (shapeCast S65536 pos shapeCasts_S2x32768_S65536) (broadcastInDim S65536 ![] bcast_S_S65536 (constantI S_ 32 81920#32)))
      concatenates_S65536_S65536_S131072_d0 j rfl rfl q hi hs
    rw [if_neg ha, ← flat_apply pos b n q rfl]
    exact e

theorem listOf_toNat (pos : S2x32768.Idx → BitVec 32) (hpos : Named pos) (a b : Fin 2) (n : Fin 32768) (p : Fin 131072)
    (hp : p.val = (a.val * 2 + b.val) * 32768 + n.val) :
    (listOf pos (at2 0 p)).toNat = a.val * 81920 + (pos (at2 b n)).toNat := by
  rw [listOf_apply pos a b n p hp]
  have h := hpos (at2 b n)
  have ha := a.isLt
  split
  · next h0 => rw [h0, BitVec.add_zero]; omega
  · next h0 =>
    have h1 : a.val = 1 := by omega
    rw [h1, BitVec.toNat_add]
    show ((pos (at2 b n)).toNat + 81920) % 4294967296 = _
    omega

theorem eta2 {a b : ℕ} (x : (⟨2, ![a, b]⟩ : Shape).Idx) : x = at2 (x 0) (x 1) := by
  funext k; fin_cases k <;> rfl

/-- The list's words name rows of the whole table. -/
theorem inRows (h : ∀ d, Named (m (bLoc d))) : InRows m := by
  intro d x
  have hx0 : x = at2 0 (x 1) := by
    funext k
    match k with
    | 0 => exact Fin.ext (by have : (x 0).val < 1 := (x 0).isLt; show (x 0).val = 0; omega)
    | 1 => rfl
  have hlt : (x 1).val < 131072 := (x 1).isLt
  rw [hx0, fi_eq]
  have e := listOf_toNat (m (bLoc d)) (h d) ⟨(x 1).val / 65536, by omega⟩ ⟨(x 1).val / 32768 % 2, by omega⟩
    ⟨(x 1).val % 32768, by omega⟩ (x 1) (by show (x 1).val = ((x 1).val / 65536 * 2 + (x 1).val / 32768 % 2) * 32768 + (x 1).val % 32768; omega)
  have hn := h d (at2 ⟨(x 1).val / 32768 % 2, by omega⟩ ⟨(x 1).val % 32768, by omega⟩)
  refine lt_of_eq_of_lt e ?_
  show (x 1).val / 65536 * 81920 + _ < 163840
  omega

/-- The result is the rows gathered. -/
theorem V3_want (d : Dev nD) (h : Named (m (bLoc d))) : V3 m d r' = want (m (aLoc d)) (m (bLoc d)) := by
  rw [V3_r]
  funext x
  have h0 : (x 0).val < 2 := (x 0).isLt
  have h1 : (x 1).val < 2 := (x 1).isLt
  have h2 : (x 2).val < 32768 := (x 2).isLt
  have hq : ((x 0).val * 2 + (x 1).val) * 32768 + (x 2).val < 131072 := by omega
  have hr : Shape.reshapeEquiv (s := S131072x256) shapeCasts_S131072x256_S2x2x32768x256 x
      = at2 (a := 131072) (b := 256) ⟨((x 0).val * 2 + (x 1).val) * 32768 + (x 2).val, hq⟩ (x 3) := by
    refine Shape.reshapeEquiv_eq_of_rowMajor _ ?_
    rw [Shape.rowMajor_val_two, Shape.rowMajor_val_four]
    rfl
  show fo m d (Shape.reshapeEquiv _ _) = _
  rw [hr]
  have e := listOf_toNat (m (bLoc d)) h (x 0) (x 1) (x 2) ⟨((x 0).val * 2 + (x 1).val) * 32768 + (x 2).val, hq⟩ rfl
  have hn := h (at2 (x 1) (x 2))
  show G (fi m d) (ft m d) _ = _
  rw [fi_eq, ft_eq]
  refine tableOf_apply (m (aLoc d)) (x 0) ⟨(m (bLoc d) (at2 (x 1) (x 2))).toNat % 81920, Nat.mod_lt _ (by decide)⟩ (x 3) _ ?_
  show (listOf (m (bLoc d)) (at2 0 ⟨((x 0).val * 2 + (x 1).val) * 32768 + (x 2).val, hq⟩)).toNat % 163840 = (x 0).val * 81920 + (m (bLoc d) (at2 (x 1) (x 2))).toNat % 81920
  rw [e]
  omega

end Cert.Proof.Gather

end
-- ==== Proof.Refs.lean ====
/-
  The reference's rows: its gather, at words that name rows, is the rows gathered.
-/
module

public import proofs.«01_k».proof.Proof.Value
public import proofs.«01_k».proof.Proof.Gen.Reference.Run
public import proofs.«01_k».proof.Proof.Gen.ReferenceIdeal.Run
public import proofs.«01_k».proof.Proof.Gen.Pre_in_rows
public import Idealize.ShloMosaic.Lib.ReduceAll
public import Idealize.ShloMosaic.Lib.Quiescent

@[expose] public section

noncomputable section

namespace Cert.Proof.Gather

open Idealize.ShloMosaic Idealize.SL.Sem

abbrev ST : Shape := ⟨3, ![2, 81920, 256]⟩
abbrev SP : Shape := ⟨2, ![2, 32768]⟩
abbrev SQ : Shape := ⟨3, ![2, 32768, 1]⟩
abbrev SR : Shape := ⟨4, ![2, 2, 32768, 256]⟩

/-- The dimension numbers of `ys[:, pos]`. -/
abbrev rowsDims (wf : GatherDims.WF ST SQ SR [0, 3] [1] [] [1] [] 2 ![2, 1, 256]) : GatherDims ST SQ SR where
  offsetDims := [0, 3]
  collapsedSliceDims := [1]
  operandBatchingDims := []
  startIndicesBatchingDims := []
  startIndexMap := [1]
  indexVectorDim := 2
  sliceSizes := ![2, 1, 256]
  wf := wf

/-- Its element at `(a, b, n, c)`: the table's at half `a`, the row that word `(b, n)` names, clamped, column `c`. -/
theorem gather_rows_apply (wf : GatherDims.WF ST SQ SR [0, 3] [1] [] [1] [] 2 ![2, 1, 256])
    (x : ST.Idx → BitVec 32) (idx : IVec SQ 32) (y : SR.Idx) :
    Host.gather (rowsDims wf) x idx y
      = x (at3 (y 0) ⟨min (idx (at3 (y 1) (y 2) 0)).toInt.toNat 81919, by omega⟩ (y 3)) := by
  unfold Host.gather
  congr 1
  funext a
  refine Fin.ext ?_
  show (rowsDims wf).start y idx a + (rowsDims wf).batchCoord y a + (rowsDims wf).offCoord y a = _
  rw [GatherDims.batchCoord_eq_zero _ _ _ (fun h => by simp at h), Nat.add_zero]
  have hk : (rowsDims wf).sKept = [0, 2] := by
    show ST.kept ([1] ++ []) = [0, 2]
    decide
  match a with
  | 0 =>
    have hs : (rowsDims wf).start y idx 0 = 0 := by
      unfold GatherDims.start
      exact dif_neg (show (0 : Fin 3) ∉ ([1] : List (Fin 3)) by decide)
    rw [hs, Nat.zero_add]
    rfl
  | 1 =>
    have ho : (rowsDims wf).offCoord y 1 = 0 := by
      unfold GatherDims.offCoord
      exact dif_neg (by rw [hk]; decide)
    rw [ho, Nat.add_zero]
    unfold GatherDims.start
    rw [dif_pos (show (1 : Fin 3) ∈ (rowsDims wf).startIndexMap from List.mem_singleton.mpr rfl)]
    have hsi : (rowsDims wf).siIdx y ⟨List.idxOf (1 : Fin 3) (rowsDims wf).startIndexMap,
        List.idxOf_lt_length_iff.2 (List.mem_singleton.mpr rfl)⟩ = at3 (y 1) (y 2) 0 := by
      funext b; refine Fin.ext ?_
      match b with
      | 0 => rfl
      | 1 => rfl
      | 2 => rfl
    rw [hsi]
    rfl
  | 2 =>
    have hs : (rowsDims wf).start y idx 2 = 0 := by
      unfold GatherDims.start
      exact dif_neg (show (2 : Fin 3) ∉ ([1] : List (Fin 3)) by decide)
    rw [hs, Nat.zero_add]
    rfl

/-- A word below the number of rows, read signed, is itself. -/
theorem word_toInt (w : BitVec 32) (h : w.toNat < 81920) : w.toInt = w.toNat := by
  rw [BitVec.toInt_eq_toNat_cond]
  rw [if_pos (by omega)]

/-- At words that name rows the wrap of negative ones does nothing and the clamp keeps the row. -/
theorem reference_want (wf : GatherDims.WF ST SQ SR [0, 3] [1] [] [1] [] 2 ![2, 1, 256])
    (hb : SP.BroadcastsInDim SQ (![0, 1] : Fin 2 → Fin SQ.rank)) (ys : ST.Idx → BitVec 32) (pos zero wrapped : SP.Idx → BitVec 32)
    (hz : zero = fun _ => 0#32) (hpos : Named pos) :
    Host.gather (rowsDims wf) ys (broadcastInDim SQ ![0, 1] hb (select (cmpi .slt pos zero) wrapped pos)) = want ys pos := by
  subst hz
  funext y
  rw [gather_rows_apply]
  have hw := hpos (at2 (y 1) (y 2))
  have hsel : select (cmpi .slt pos (fun _ => 0#32)) wrapped pos (at2 (y 1) (y 2)) = pos (at2 (y 1) (y 2)) := by
    have hc : cmpi .slt pos (fun _ => 0#32) (at2 (y 1) (y 2)) ≠ 1#1 := by
      intro e
      have e' := IntOp.cmpi_slt.mp e
      rw [word_toInt _ hw] at e'
      simp at e'
      omega
    exact if_neg hc
  have hbc : broadcastInDim SQ ![0, 1] hb (select (cmpi .slt pos (fun _ => 0#32)) wrapped pos) (at3 (y 1) (y 2) 0)
      = select (cmpi .slt pos (fun _ => 0#32)) wrapped pos (at2 (y 1) (y 2)) := by
    show select _ _ _ _ = _
    congr 1
    funext k
    match k with
    | 0 => rfl
    | 1 => rfl
  unfold want
  congr 1
  have hv : min (broadcastInDim SQ ![0, 1] hb (select (cmpi .slt pos (fun _ => 0#32)) wrapped pos) (at3 (y 1) (y 2) 0)).toInt.toNat 81919
      = (pos (at2 (y 1) (y 2))).toNat % 81920 := by
    rw [hbc, hsel, word_toInt _ hw, Int.toNat_natCast]
    omega
  funext k
  match k with
  | 0 => rfl
  | 1 => exact Fin.ext hv
  | 2 => rfl

/-- The condition on the arguments, read at one word. -/
theorem named_of_pre {F : FTy → Type} [FloatOps F] (ys : ST.Idx → BitVec 32) (pos : SP.Idx → BitVec 32)
    (h : Cert.Pre_in_rows.fn (F := F) ys pos = fun _ => 1#1) : Named pos := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 81920#32) = 1#1 → v.toNat < 81920 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro x
  haveI : Subsingleton Cert.Pre_in_rows.S_.Idx := ⟨fun a b => funext fun k => k.elim0⟩
  have e := congrFun h (fun k => k.elim0)
  unfold Cert.Pre_in_rows.fn at e
  exact key _ (Host.reduce_andi_all _ _ _ _ _ e x)

end Cert.Proof.Gather

end
-- ==== Proof.MoeFrame.lean ====
/- The experts' feed-forward blocks at the bit patterns: the call runs, keeps its arguments and ends with every counter zero. -/
module

public import proofs.«01_k».proof.Defs
public import proofs.«01_k».proof.Proof.Gen.Kernel2.Launch
public import proofs.«01_k».proof.Proof.Gen.Kernel2.Skeleton
public import Idealize.ShloMosaic.Lib.Tactic
public import Idealize.ShloMosaic.Lib.Pipeline.Kit
public import Idealize.ShloMosaic.Lib.Pipeline.Frame
public import Idealize.ShloMosaic.Lib.Pipeline.FrameBody
public import Idealize.ShloMosaic.Lib.Pipeline.ArrRel

@[expose] public section

noncomputable section

namespace Cert.MoeFrame

open Cert.Kernel2 Cert.Kernel2.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tables' bounds: eight experts, and at most a block of rows in use. -/
structure InRange (pf : pre0.Contents (Elt F)) : Prop where
  expert : ∀ x, BitVec.toNat (w := 32) (pf 0 x) < 8
  count : ∀ x, BitVec.toNat (w := 32) (pf 1 x) ≤ 2048

theorem select_lt (c : BitVec 1) (a b : BitVec 32) (n : ℕ) (ha : a.toNat < n) (hb : b.toNat < n) : (Scalar.select c a b).toNat < n := by
  unfold Scalar.select; split <;> assumption

theorem step_lt (f : ℕ) (h : f < 8) : (Scalar.minsi (BitVec.ofNat 32 f) 6#32).toNat < 7 := by
  revert f; decide

theorem back_lt (f : ℕ) (h : f < 8) : (Scalar.maxsi (Scalar.subi (BitVec.ofNat 32 f) 1#32) 0#32).toNat < 7 := by
  revert f; decide

theorem ok_of_inRange (pf : pre0.Contents (Elt F)) (h : InRange pf) : ok0 pf := by
  refine ⟨fun i => ⟨fun a => ?_, Or.inl rfl⟩, fun i => ⟨fun a => ?_, Or.inl rfl⟩, fun i => ⟨fun a => ?_, Or.inl rfl⟩⟩
  · have hf : (i 1).val < 8 := (i 1).isLt
    have e1 : cc0_transform_1 k0_off1_inb numel1_S1 k0_off2_inb pf i 1 < 8 := select_lt _ _ _ 8 (h.expert _) (h.expert _)
    have e3 : cc0_transform_1 k0_off1_inb numel1_S1 k0_off2_inb pf i 3 < 7 :=
      select_lt _ _ _ 7 (by decide) (select_lt _ _ _ 7 (step_lt _ hf) (by decide))
    fin_cases a
    · show (0 + 1) * 1 ≤ 1; omega
    · show (cc0_transform_1 k0_off1_inb numel1_S1 k0_off2_inb pf i 1 + 1) * 1 ≤ 8; omega
    · show (0 + 1) * 1024 ≤ 1024; omega
    · show (cc0_transform_1 k0_off1_inb numel1_S1 k0_off2_inb pf i 3 + 1) * 512 ≤ 3584; omega
  · have hf : (i 1).val < 8 := (i 1).isLt
    have e1 : cc0_transform_2 k0_off1_inb numel1_S1 k0_off2_inb pf i 1 < 8 := select_lt _ _ _ 8 (h.expert _) (h.expert _)
    have e3 : cc0_transform_2 k0_off1_inb numel1_S1 k0_off2_inb pf i 3 < 7 :=
      select_lt _ _ _ 7 (by decide) (select_lt _ _ _ 7 (step_lt _ hf) (by decide))
    fin_cases a
    · show (0 + 1) * 1 ≤ 1; omega
    · show (cc0_transform_2 k0_off1_inb numel1_S1 k0_off2_inb pf i 1 + 1) * 1 ≤ 8; omega
    · show (0 + 1) * 1024 ≤ 1024; omega
    · show (cc0_transform_2 k0_off1_inb numel1_S1 k0_off2_inb pf i 3 + 1) * 512 ≤ 3584; omega
  · have hf : (i 1).val < 8 := (i 1).isLt
    have e1 : cc0_transform_3 k0_off3_inb numel1_S1 k0_off1_inb pf i 1 < 8 := select_lt _ _ _ 8 (h.expert _) (h.expert _)
    have e3 : cc0_transform_3 k0_off3_inb numel1_S1 k0_off1_inb pf i 2 < 7 :=
      select_lt _ _ _ 7 (by decide) (back_lt _ hf)
    fin_cases a
    · show (0 + 1) * 1 ≤ 1; omega
    · show (cc0_transform_3 k0_off3_inb numel1_S1 k0_off1_inb pf i 1 + 1) * 1 ≤ 8; omega
    · show (cc0_transform_3 k0_off3_inb numel1_S1 k0_off1_inb pf i 2 + 1) * 512 ≤ 3584; omega
    · show (0 + 1) * 1024 ≤ 1024; omega

local notation "𝕄" => MT nD τ sig Unit (Elt Bits) ℕ (UR sig nD τ) ℕ

abbrev Bf (c : Dev nD) {sp : Space} {S : Shape} {e : EltTy} (M : Memref sig .tc sp S e) : Type := Buf (Elt Bits) (M.view.loc (c : Thread nD τ))
abbrev pt (c : Dev nD) {sp : Space} {S : Shape} {e : EltTy} (M : Memref sig .tc sp S e) (f : Bf c M) : sProp 𝕄 :=
  M.view.loc (c : Thread nD τ) ↦{fullShare} f

abbrev hb (c : Dev nD) (f : Bf c (Memref.whole main_arg1)) : sProp 𝕄 :=
  (Memref.whole main_arg1).view.loc (c : Thread nD τ) ↦{fullShare.right} f

set_option maxHeartbeats 4000000 in
/-- One grid point, run from any contents of its buffers. -/
theorem kernelRun (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (fb : Bf c (Memref.whole main_arg1)) (f0 : Bf c M0) (f1 : Bf c M1) (f2 : Bf c M2) (f3 : Bf c M3) (f4 : Bf c M4)
    (g0 : Bf c (Memref.whole cc0_scratch0)) (g1 : Bf c (Memref.whole cc0_scratch1)) (g2 : Bf c (Memref.whole cc0_scratch2)) (g3 : Bf c (Memref.whole cc0_scratch3))
    (Q : PUnit → sProp 𝕄) :
    iprop(hb c fb ∗ pt c M0 f0 ∗ pt c M1 f1 ∗ pt c M2 f2 ∗ pt c M3 f3 ∗ pt c M4 f4
      ∗ pt c (Memref.whole cc0_scratch0) g0 ∗ pt c (Memref.whole cc0_scratch1) g1 ∗ pt c (Memref.whole cc0_scratch2) g2 ∗ pt c (Memref.whole cc0_scratch3) g3
      ∗ (iprop(hb c fb ∗ pt c M0 f0 ∗ pt c M1 f1 ∗ pt c M2 f2 ∗ pt c M3 f3 ∗ (∃ f, pt c M4 f)
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f)) -∗ Q ⟨⟩))
    ⊢ wp frame (wpE (defs₀ (F := Bits)) Variants.none c none) Set.univ
        (cc0_moe_ffn i (Memref.whole main_arg0) (Memref.isWhole_whole _) (Memref.whole main_arg1) (Memref.isWhole_whole _) M0 h0 M1 h1 M2 h2 M3 h3 M4 h4
          (Memref.whole cc0_scratch0) (Memref.isWhole_whole _) (Memref.whole cc0_scratch1) (Memref.isWhole_whole _) (Memref.whole cc0_scratch2) (Memref.isWhole_whole _) (Memref.whole cc0_scratch3) (Memref.isWhole_whole _)) Q := by
  iintro ⟨Hb, H0, H1, H2, H3, H4, Hs0, Hs1, Hs2, Hs3, Hk⟩
  sl_exec!
  sl_step
  iapply Hk
  isplitl [Hb]; · iexact Hb
  isplitl [H0]; · iexact H0
  isplitl [H1]; · iexact H1
  isplitl [H2]; · iexact H2
  isplitl [H3]; · iexact H3
  isplitl [H4]; · iexists _; iexact H4
  isplitl [Hs0]; · iexists _; iexact Hs0
  isplitl [Hs1]; · iexists _; iexact Hs1
  isplitl [Hs2]; · iexists _; iexact Hs2
  iexists _; iexact Hs3

variable (m : (ℓ : Loc nD τ sig) → Buf (Elt Bits) ℓ) (ρ : Dev nD → PrngReg)

/-- The tables as the call finds them. -/
def tbl : pre0.Contents (Elt Bits) := fun k => m (((0 : Dev nD).tc : Thread nD τ).loc (pre0.ref k))

variable (hT : InRange (tbl m))

/-- The tables, admissible. -/
def adm : (pcfg0 (F := Bits)).Adm := ⟨tbl m, ok_of_inRange _ hT⟩

/-- The call at these tables. -/
abbrev cfgM : Cfg sig Λ₀ := pin (pcfgs (F := Bits)) (fun _ => adm m hT) 0

/-- The scratch buffers between points. -/
def scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f))

/-- The inputs' blocks are kept; of the result's nothing is said. -/
def rdat (c : Dev nD) : RDat τ (Elt Bits) Unit ℕ (UR sig nD τ) ℕ (cfgM m hT) c where
  A w := m ((c : Thread nD τ).loc (arrRef spec0 w))
  after := fun
    | 0 => fun _ Y X => X = Y
    | 1 => fun _ Y X => X = Y
    | 2 => fun _ Y X => X = Y
    | 3 => fun _ Y X => X = Y
    | 4 => fun _ _ _ => True
    | ⟨_ + 5, h⟩ => absurd h (Nat.not_lt.2 (Nat.le_add_left _ _))
  Φ _ := iprop(scr c ∗ (∃ r, prngReg c r) ∗ ΦT pre0 (tbl m) c)
  q _ := fullShare
  owed _ := 0

theorem defs₀_row (t : Fin (cfgM m hT).N) : defs₀ (F := Bits) .tc (cfgM m hT).body ((cfgM m hT).bodyArgs t ((cfgM m hT).slots t))
    = cc0_moe_ffn (grid0.coords t) (Memref.whole main_arg0) (Memref.isWhole_whole _) (Memref.whole main_arg1) (Memref.isWhole_whole _)
        (spec0_0.stage ((cfgM m hT).slots t 0)) (hstage0_0 (((cfgM m hT).slots t 0).cast nbuf0_0))
        (spec0_1.stage ((cfgM m hT).slots t 1)) (hstage0_1 (((cfgM m hT).slots t 1).cast nbuf0_1))
        (spec0_2.stage ((cfgM m hT).slots t 2)) (hstage0_2 (((cfgM m hT).slots t 2).cast nbuf0_2))
        (spec0_3.stage ((cfgM m hT).slots t 3)) (hstage0_3 (((cfgM m hT).slots t 3).cast nbuf0_3))
        (spec0_4.stage ((cfgM m hT).slots t 4)) (hstage0_4 (((cfgM m hT).slots t 4).cast nbuf0_4))
        (Memref.whole cc0_scratch0) (Memref.isWhole_whole _) (Memref.whole cc0_scratch1) (Memref.isWhole_whole _) (Memref.whole cc0_scratch2) (Memref.isWhole_whole _) (Memref.whole cc0_scratch3) (Memref.isWhole_whole _) := by
  unfold defs₀; rw [Defs.onTc_tc]

abbrev ha (c : Dev nD) (f : Bf c (Memref.whole main_arg0)) : sProp 𝕄 :=
  (Memref.whole main_arg0).view.loc (c : Thread nD τ) ↦{fullShare.right} f

theorem tables_eq (c : Dev nD) : (ΦT pre0 (tbl m) c : sProp 𝕄)
    = iprop(ha c (tbl m 0) ∗ hb c (tbl m 1)) := by
  unfold ΦT prefHeld
  exact bigSep_univ_eq_bigSepL [(0 : Fin 2), (1 : Fin 2)] (by decide) (by decide) _

theorem owns_open (c : Dev nD) {sp : Space} {S : Shape} {e : EltTy} (M : Memref sig .tc sp S e) (h : M.IsWhole) (X : S.Idx → Elt Bits e) :
    (owns (c : Thread nD τ) M fullShare X : sProp 𝕄) ⊢ iprop(∃ f : Bf c M, ⌜M.view.read (Elt Bits) f = X⌝ ∗ pt c M f) := by
  unfold owns
  rw [h.set_eq_univ]

theorem owns_close (c : Dev nD) {sp : Space} {S : Shape} {e : EltTy} (M : Memref sig .tc sp S e) (h : M.IsWhole) (f : Bf c M) :
    (pt c M f : sProp 𝕄) ⊢ owns (c : Thread nD τ) M fullShare (M.view.read (Elt Bits) f) := by
  have := owns_intro (Ix := Unit) (Name := ℕ) (U := UR sig nD τ) (Lvl := ℕ) (c : Thread nD τ) M fullShare f
  rw [h.set_eq_univ] at this
  exact this

/-- One grid point, over its blocks. -/
theorem point (c : Dev nD) (t : Fin grid0.N)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (Y0 : S2x2048x256.Idx → Elt Bits .i32) (Y1 : S1x1x1024x512.Idx → Elt Bits .f32) (Y2 : S1x1x1024x512.Idx → Elt Bits .f32) (Y3 : S1x1x512x1024.Idx → Elt Bits .f32) (Y4 : S2x4096x256.Idx → Elt Bits .bf16) (O : sProp 𝕄) :
    iprop((scr c ∗ (∃ r, prngReg c r) ∗ ΦT pre0 (tbl m) c) ∗ O
      ∗ owns (c : Thread nD τ) M0 fullShare Y0 ∗ owns (c : Thread nD τ) M1 fullShare Y1 ∗ owns (c : Thread nD τ) M2 fullShare Y2
      ∗ owns (c : Thread nD τ) M3 fullShare Y3 ∗ owns (c : Thread nD τ) M4 fullShare Y4)
    ⊢ wp frame (wpE (defs₀ (F := Bits)) Variants.none c none) Set.univ
        (cc0_moe_ffn (grid0.coords t) (Memref.whole main_arg0) (Memref.isWhole_whole _) (Memref.whole main_arg1) (Memref.isWhole_whole _) M0 h0 M1 h1 M2 h2 M3 h3 M4 h4
          (Memref.whole cc0_scratch0) (Memref.isWhole_whole _) (Memref.whole cc0_scratch1) (Memref.isWhole_whole _) (Memref.whole cc0_scratch2) (Memref.isWhole_whole _) (Memref.whole cc0_scratch3) (Memref.isWhole_whole _))
        fun _ => iprop((scr c ∗ (∃ r, prngReg c r) ∗ ΦT pre0 (tbl m) c) ∗ O
          ∗ (∃ X, ⌜X = Y0⌝ ∗ owns (c : Thread nD τ) M0 fullShare X) ∗ (∃ X, ⌜X = Y1⌝ ∗ owns (c : Thread nD τ) M1 fullShare X)
          ∗ (∃ X, ⌜X = Y2⌝ ∗ owns (c : Thread nD τ) M2 fullShare X) ∗ (∃ X, ⌜X = Y3⌝ ∗ owns (c : Thread nD τ) M3 fullShare X)
          ∗ (∃ X, ⌜True⌝ ∗ owns (c : Thread nD τ) M4 fullShare X)) := by
  rw [tables_eq]
  unfold scr
  iintro ⟨⟨⟨⟨%g0, Hs0⟩, ⟨%g1, Hs1⟩, ⟨%g2, Hs2⟩, ⟨%g3, Hs3⟩⟩, Hp, Ha, Hb⟩, Ho, H0, H1, H2, H3, H4⟩
  ihave H0' := (owns_open c M0 h0 Y0) $$ H0
  icases H0' with ⟨%f0, %r0, H0⟩
  ihave H1' := (owns_open c M1 h1 Y1) $$ H1
  icases H1' with ⟨%f1, %r1, H1⟩
  ihave H2' := (owns_open c M2 h2 Y2) $$ H2
  icases H2' with ⟨%f2, %r2, H2⟩
  ihave H3' := (owns_open c M3 h3 Y3) $$ H3
  icases H3' with ⟨%f3, %r3, H3⟩
  ihave H4' := (owns_open c M4 h4 Y4) $$ H4
  icases H4' with ⟨%f4, %r4, H4⟩
  iapply (kernelRun c (grid0.coords t) M0 h0 M1 h1 M2 h2 M3 h3 M4 h4 (tbl m 1) f0 f1 f2 f3 f4 g0 g1 g2 g3 _)
  isplitl [Hb]; · iexact Hb
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  iintro ⟨Hb, H0, H1, H2, H3, ⟨%f, H4⟩, ⟨%k0, Hs0⟩, ⟨%k1, Hs1⟩, ⟨%k2, Hs2⟩, ⟨%k3, Hs3⟩⟩
  isplitl [Hs0 Hs1 Hs2 Hs3 Hp Ha Hb]
  · isplitl [Hs0 Hs1 Hs2 Hs3]
    · isplitl [Hs0]; · iexists k0; iexact Hs0
      isplitl [Hs1]; · iexists k1; iexact Hs1
      isplitl [Hs2]; · iexists k2; iexact Hs2
      iexists k3; iexact Hs3
    isplitl [Hp]; · iexact Hp
    isplitl [Ha]; · iexact Ha
    iexact Hb
  isplitl [Ho]; · iexact Ho
  isplitl [H0]
  · iexists Y0
    isplitr [H0]; · ipureintro; exact rfl
    rw [← r0]; iapply (owns_close c M0 h0 f0); iexact H0
  isplitl [H1]
  · iexists Y1
    isplitr [H1]; · ipureintro; exact rfl
    rw [← r1]; iapply (owns_close c M1 h1 f1); iexact H1
  isplitl [H2]
  · iexists Y2
    isplitr [H2]; · ipureintro; exact rfl
    rw [← r2]; iapply (owns_close c M2 h2 f2); iexact H2
  isplitl [H3]
  · iexists Y3
    isplitr [H3]; · ipureintro; exact rfl
    rw [← r3]; iapply (owns_close c M3 h3 f3); iexact H3
  iexists (M4.view.read (Elt Bits) f)
  isplitr [H4]; · ipureintro; exact trivial
  iapply (owns_close c M4 h4 f); iexact H4

theorem body_obligation (c : Dev nD) : (rdat m hT c).BodyObligation (defs₀ (F := Bits)) Variants.none () Set.univ := by
  intro t Y hY
  rw [bigSep_W0, bigSep_W0, defs₀_row]
  exact point m c t _ (hstage0_0 (((cfgM m hT).slots t 0).cast nbuf0_0)) _ (hstage0_1 (((cfgM m hT).slots t 1).cast nbuf0_1))
    _ (hstage0_2 (((cfgM m hT).slots t 2).cast nbuf0_2)) _ (hstage0_3 (((cfgM m hT).slots t 3).cast nbuf0_3)) _ (hstage0_4 (((cfgM m hT).slots t 4).cast nbuf0_4))
    (Y 0) (Y 1) (Y 2) (Y 3) (Y 4) _

/-! ## The launch -/

theorem enter (c : Dev nD) : iprop(ΦA spec0 c ∗ ΦT pre0 (tbl m) c) ⊢ (iprop(scr c ∗ (∃ r, prngReg c r) ∗ ΦT pre0 (tbl m) c) : sProp 𝕄) := by
  unfold ΦA scr
  rw [scopedRest0_eq]
  iintro ⟨⟨Hs, Hp⟩, HT⟩
  isplitl [Hs]; · iexact Hs
  isplitl [Hp]; · iexact Hp
  iexact HT

theorem leave (c : Dev nD) : (iprop(scr c ∗ (∃ r, prngReg c r) ∗ ΦT pre0 (tbl m) c) : sProp 𝕄) ⊢ ΦA spec0 c := by
  unfold ΦA scr
  rw [scopedRest0_eq]
  iintro ⟨Hs, Hp, -⟩
  isplitl [Hs]; · iexact Hs
  iexact Hp

set_option backward.isDefEq.respectTransparency.types false in
theorem launched (hT : InRange (tbl m)) :
    θ_run (defs (F := Bits)) (onTc (τ := τ) (main (F := Bits))) (s₀ m ρ)
      (fun r => RDat.FramePost (cfgM m hT) (rdat m hT) (fun c b => m ((c.tc : Thread nD τ).loc b)) r ∧ r.2.sem = fun _ => 0) :=
  RDat.θ_run_frameP_track (Q' := _) pcfgs (fun _ => adm m hT) 0 launch0 defs₀ Variants.none (rdat m hT) m ρ main
    (body_obligation m hT) (fun c w => by unfold RDat.share; split <;> rfl) (fun _ _ => rfl) (fun c b => m ((c.tc : Thread nD τ).loc b))
    (hmainP_region pcfgs 0 defs₀ Variants.none m main fun c => (main_chain c).trans rfl)
    (fun _ _ => rfl) (fun c k => by rw [Subsingleton.elim c 0]; rfl)
    (fun c => enter m c) (fun c => leave m c)

/-- The run: the arguments unchanged. -/
theorem run_kept (hT : InRange (tbl m)) :
    θ_run (defs (F := Bits)) (onTc (τ := τ) (main (F := Bits))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run _ _ _).mono (fun r (h : _ ∧ _) => ⟨fun c => ⟨
      (h.1 c).2 main_arg0 (mem_restRefs_of (win := spec0) main_arg0 (by decide) (by decide)),
      (h.1 c).2 main_arg1 (mem_restRefs_of (win := spec0) main_arg1 (by decide) (by decide)),
      RDat.FramePost.arr_in h.1 c 0 rfl, RDat.FramePost.arr_in h.1 c 1 rfl, RDat.FramePost.arr_in h.1 c 2 rfl, RDat.FramePost.arr_in h.1 c 3 rfl⟩, h.2⟩)
    (launched m ρ hT)

end Cert.MoeFrame

end
-- ==== Proof.MoePre.lean ====
/- The condition on the tables, read at one word: an expert is below eight and a count at most a block of rows. -/
module

public import proofs.«01_k».proof.Proof.Gen.Pre_tables
public import Idealize.ShloMosaic.Lib.ReduceAll

@[expose] public section

noncomputable section

namespace Cert.MoePre

open Cert.Pre_tables Cert.Pre_tables.Gen
open Idealize.ShloMosaic

theorem both : ∀ a b : BitVec 1, IntOp.andi a b = 1#1 → a = 1#1 ∧ b = 1#1 := by decide

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem expert_of (v : BitVec 32) (e : IntOp.andi (IntOp.cmpi .sge v 0#32) (IntOp.cmpi .slt v 8#32) = 1#1) : v.toNat < 8 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem count_of (v : BitVec 32) (e : IntOp.andi (IntOp.cmpi .sge v 0#32) (IntOp.cmpi .sle v 2048#32) = 1#1) : v.toNat ≤ 2048 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ranges {F : FTy → Type} [FloatOps F] (be bn : S40.Idx → BitVec 32) (X : S2x81920x256.Idx → BitVec 32)
    (G U : FVec F S1x8x1024x3584 .f32) (D : FVec F S1x8x3584x1024 .f32)
    (h : Cert.Pre_tables.fn (F := F) be bn X G U D = fun _ => 1#1) :
    (∀ x, (be x).toNat < 8) ∧ ∀ x, (bn x).toNat ≤ 2048 := by
  haveI : Subsingleton S_.Idx := ⟨fun a b => funext fun k => k.elim0⟩
  have e := congrFun h (fun k => k.elim0)
  unfold Cert.Pre_tables.fn at e
  obtain ⟨e1, e2⟩ := both _ _ e
  exact ⟨fun x => expert_of _ (Host.reduce_andi_all _ _ _ _ _ e1 x), fun x => count_of _ (Host.reduce_andi_all _ _ _ _ _ e2 x)⟩

end Cert.MoePre

end
-- ==== Proof.MoeRead.lean ====
module

public import proofs.«01_k».proof.Proof.Gen.Kernel2Ideal.Skeleton
public import Idealize.ShloMosaic.Lib.Pointwise
public import Idealize.ShloMosaic.Lib.Writes

/-! # The feed-forward call: what a point computes, and how its blocks' rows are read

`hx`, `gu` and `dn` are one row of the three stages: the unpacked activations, the gated product with one block of
columns of the two up projections, and the sum with one block of rows of the down projection. -/

@[expose] public section

noncomputable section

namespace Cert.Moe

open Cert.Kernel2Ideal Cert.Kernel2Ideal.Gen
open Idealize.ShloMosaic

/-! ## A row -/

/-- The word of a row: the stored word where the row's number is below the count, zero elsewhere. -/
def lv (v1 w : BitVec 32) (r : ℕ) : BitVec 32 :=
  Scalar.select (IntOp.cmpi CmpIPredicate.slt (BitVec.ofNat 32 r) v1) w 0#32

/-- The activations of a row: the high halves of the two planes' words, then the low halves. -/
def hx (v1 : BitVec 32) (X : S2x2048x256.Idx → BitVec 32) (r : Fin 2048) (k : Fin 1024) : EReal :=
  if h : k.val < 256 then
    Ideal.ofBits FTy.f32 (IntOp.andi (lv v1 (X (ix3 0 r ⟨k.val, h⟩)) r.val) 4294901760#32)
  else if h : k.val - 256 < 256 then
    Ideal.ofBits FTy.f32 (IntOp.andi (lv v1 (X (ix3 1 r ⟨k.val - 256, h⟩)) r.val) 4294901760#32)
  else if h : k.val - 256 - 256 < 256 then
    Ideal.ofBits FTy.f32 (IntOp.shli ArithUnit.vector (lv v1 (X (ix3 0 r ⟨k.val - 256 - 256, h⟩)) r.val) 16#32)
  else
    Ideal.ofBits FTy.f32 (IntOp.shli ArithUnit.vector
      (lv v1 (X (ix3 1 r ⟨k.val - 256 - 256 - 256, by omega⟩)) r.val) 16#32)

/-- One gated product: of a row with a column of each of the two up projections. -/
def gu (A W U : Fin 1024 → EReal) : EReal :=
  (∑ x, A x * W x) * Ideal.logistic (∑ x, A x * W x) * ∑ x, A x * U x

/-- One sum more: an element of the accumulator and the product of a row with a column of the down projection. -/
def dn (z : EReal) (A D : Fin 512 → EReal) : EReal := z + ∑ x, A x * D x

/-- The column of the accumulator that an element of the output holds. -/
def oc (p : Fin 2) (R : Fin 4096) (k : Fin 256) : Fin 1024 :=
  ⟨(if R.val % 2 = 0 then 512 else 0) + 256 * p.val + k.val, by split <;> omega⟩

/-- The rows that a block's run computes. -/
def inC (n : ℕ) (r : ℕ) : Prop :=
  (r < 1024 ∧ (512 < n ∨ (0 < n ∧ r < 512))) ∨ (1024 ≤ r ∧ r < 2048 ∧ (1536 < n ∨ (1024 < n ∧ r < 1536)))

instance (n r : ℕ) : Decidable (inC n r) := by unfold inC; infer_instance

/-- A property of the computed rows, half by half. -/
theorem halves (n : ℕ) (P : Fin 2048 → Prop) (p1 : ∀ r : Fin 1024, inC n (0 + r.val) → P ⟨0 + r.val, by omega⟩)
    (p2 : ∀ r : Fin 1024, inC n (1024 + r.val) → P ⟨1024 + r.val, by omega⟩) (r : Fin 2048) (hr : inC n r.val) : P r := by
  by_cases h : r.val < 1024
  · have := p1 ⟨r.val, h⟩ (by rw [Nat.zero_add]; exact hr)
    simpa using this
  · have := p2 ⟨r.val - 1024, by omega⟩ (by rw [Nat.add_sub_cancel' (by omega)]; exact hr)
    have e : (⟨1024 + (r.val - 1024), by omega⟩ : Fin 2048) = r := Fin.ext (by show 1024 + (r.val - 1024) = r.val; omega)
    rwa [e] at this

theorem add_word (a b : ℕ) : IntOp.addi (BitVec.ofNat 32 a) (BitVec.ofNat 32 b) = BitVec.ofNat 32 (b + a) := by
  rw [Nat.add_comm]; exact (BitVec.ofNat_add a b).symm

/-! ## Reads of rows -/

section reads

variable {sig : RefSig} {κ : Kind} {sp : Space} {e : EltTy} {Val : EltTy → Type}

theorem ra2 {m n b s : ℕ} (v : View sig κ sp ⟨2, ![m, n]⟩ e) (f : v.ty.Contents Val)
    (inb : ∀ a, (![b, 0] : Fin 2 → ℕ) a + (![s, n] : Fin 2 → ℕ) a ≤ (⟨2, ![m, n]⟩ : Shape).size a) (r : Fin s) (k : Fin n) :
    View.readAt Val v (Rect.unit (s := ⟨2, ![m, n]⟩) ![b, 0] ![s, n] inb).toLoadRect f (ix2 r k)
      = v.read Val f (ix2 ⟨b + r.val, by have := inb 0; simp at this; omega⟩ k) := by
  rw [View.readAt_apply]
  congr 1
  funext a
  apply Fin.ext
  fin_cases a
  · show b + 1 * r.val = b + r.val; omega
  · show 0 + 1 * k.val = k.val; omega

theorem ra3 {l m n p b q s : ℕ} (v : View sig κ sp ⟨3, ![l, m, n]⟩ e) (f : v.ty.Contents Val)
    (inb : ∀ a, (![p, b, 0] : Fin 3 → ℕ) a + (![q, s, n] : Fin 3 → ℕ) a ≤ (⟨3, ![l, m, n]⟩ : Shape).size a)
    (t : Fin q) (r : Fin s) (k : Fin n) :
    View.readAt Val v (Rect.unit (s := ⟨3, ![l, m, n]⟩) ![p, b, 0] ![q, s, n] inb).toLoadRect f (ix3 t r k)
      = v.read Val f (ix3 ⟨p + t.val, by have := inb 0; simp at this; omega⟩ ⟨b + r.val, by have := inb 1; simp at this; omega⟩ k) := by
  rw [View.readAt_apply]
  congr 1
  funext a
  apply Fin.ext
  fin_cases a
  · show p + 1 * t.val = p + t.val; omega
  · show b + 1 * r.val = b + r.val; omega
  · show 0 + 1 * k.val = k.val; omega

theorem ra2' {m n b s : ℕ} (v : View sig κ sp ⟨2, ![m, n]⟩ e) (f : v.ty.Contents Val)
    (inb : ∀ a, (![b, 0] : Fin 2 → ℕ) a + (![s, n] : Fin 2 → ℕ) a ≤ (⟨2, ![m, n]⟩ : Shape).size a) (r : Fin s) (k : Fin n)
    (r' : Fin m) (hr : r'.val = b + r.val) :
    View.readAt Val v (Rect.unit (s := ⟨2, ![m, n]⟩) ![b, 0] ![s, n] inb).toLoadRect f (ix2 r k) = v.read Val f (ix2 r' k) := by
  rw [ra2]; congr 1; congr 1; exact Fin.ext hr.symm

theorem ra3' {l m n p b q s : ℕ} (v : View sig κ sp ⟨3, ![l, m, n]⟩ e) (f : v.ty.Contents Val)
    (inb : ∀ a, (![p, b, 0] : Fin 3 → ℕ) a + (![q, s, n] : Fin 3 → ℕ) a ≤ (⟨3, ![l, m, n]⟩ : Shape).size a)
    (t : Fin q) (r : Fin s) (k : Fin n) (t' : Fin l) (r' : Fin m) (ht : t'.val = p + t.val) (hr : r'.val = b + r.val) :
    View.readAt Val v (Rect.unit (s := ⟨3, ![l, m, n]⟩) ![p, b, 0] ![q, s, n] inb).toLoadRect f (ix3 t r k)
      = v.read Val f (ix3 t' r' k) := by
  rw [ra3]
  have e1 : (⟨p + t.val, by omega⟩ : Fin l) = t' := Fin.ext ht.symm
  have e2 : (⟨b + r.val, by omega⟩ : Fin m) = r' := Fin.ext hr.symm
  rw [e1, e2]

theorem ra4 {m n : ℕ} (v : View sig κ sp ⟨4, ![1, 1, m, n]⟩ e) (f : v.ty.Contents Val)
    (inb : ∀ a, (![0, 0, 0, 0] : Fin 4 → ℕ) a + (![1, 1, m, n] : Fin 4 → ℕ) a ≤ (⟨4, ![1, 1, m, n]⟩ : Shape).size a)
    (r : Fin m) (k : Fin n) :
    View.readAt Val v (Rect.unit (s := ⟨4, ![1, 1, m, n]⟩) ![0, 0, 0, 0] ![1, 1, m, n] inb).toLoadRect f (ix4 0 0 r k)
      = v.read Val f (ix4 0 0 r k) := by
  rw [View.readAt_apply]
  congr 1
  funext a
  apply Fin.ext
  fin_cases a
  · rfl
  · rfl
  · show 0 + 1 * r.val = r.val; omega
  · show 0 + 1 * k.val = k.val; omega

theorem hit2 {m n b s : ℕ} (v : View sig κ sp ⟨2, ![m, n]⟩ e) (f : v.ty.Contents Val)
    (inb : ∀ a, (![b, 0] : Fin 2 → ℕ) a + (![s, n] : Fin 2 → ℕ) a ≤ (⟨2, ![m, n]⟩ : Shape).size a)
    (w : (Rect.unit (s := ⟨2, ![m, n]⟩) ![b, 0] ![s, n] inb).shape.Idx → Val e) (L : List (View.Piece Val ⟨2, ![m, n]⟩ e))
    (r : Fin m) (k : Fin n) (h1 : b ≤ r.val) (h2 : r.val < b + s) :
    v.read Val (v.writes Val f (⟨Rect.unit (s := ⟨2, ![m, n]⟩) ![b, 0] ![s, n] inb, w⟩ :: L)) (ix2 r k)
      = w (ix2 (⟨r.val - b, by omega⟩ : Fin s) k) := by
  refine View.read_writes_cons_hit_of_coords v f _ w L _ _ fun a => ?_
  fin_cases a
  · show r.val = b + 1 * (r.val - b); omega
  · show k.val = 0 + 1 * k.val; omega

theorem miss2 {m n b s : ℕ} (v : View sig κ sp ⟨2, ![m, n]⟩ e) (f : v.ty.Contents Val)
    (inb : ∀ a, (![b, 0] : Fin 2 → ℕ) a + (![s, n] : Fin 2 → ℕ) a ≤ (⟨2, ![m, n]⟩ : Shape).size a)
    (w : (Rect.unit (s := ⟨2, ![m, n]⟩) ![b, 0] ![s, n] inb).shape.Idx → Val e) (L : List (View.Piece Val ⟨2, ![m, n]⟩ e))
    (r : Fin m) (k : Fin n) (h : r.val < b ∨ b + s ≤ r.val) :
    v.read Val (v.writes Val f (⟨Rect.unit (s := ⟨2, ![m, n]⟩) ![b, 0] ![s, n] inb, w⟩ :: L)) (ix2 r k)
      = v.read Val (v.writes Val f L) (ix2 r k) :=
  View.read_writes_cons_miss_of_axis v f _ L _ 0 b s rfl rfl rfl h

theorem hit3 {l m n p b q s : ℕ} (v : View sig κ sp ⟨3, ![l, m, n]⟩ e) (f : v.ty.Contents Val)
    (inb : ∀ a, (![p, b, 0] : Fin 3 → ℕ) a + (![q, s, n] : Fin 3 → ℕ) a ≤ (⟨3, ![l, m, n]⟩ : Shape).size a)
    (w : (Rect.unit (s := ⟨3, ![l, m, n]⟩) ![p, b, 0] ![q, s, n] inb).shape.Idx → Val e)
    (L : List (View.Piece Val ⟨3, ![l, m, n]⟩ e))
    (t : Fin l) (r : Fin m) (k : Fin n) (h1 : b ≤ r.val) (h2 : r.val < b + s) (h3 : p ≤ t.val) (h4 : t.val < p + q) :
    v.read Val (v.writes Val f (⟨Rect.unit (s := ⟨3, ![l, m, n]⟩) ![p, b, 0] ![q, s, n] inb, w⟩ :: L)) (ix3 t r k)
      = w (ix3 (⟨t.val - p, by omega⟩ : Fin q) (⟨r.val - b, by omega⟩ : Fin s) k) := by
  refine View.read_writes_cons_hit_of_coords v f _ w L _ _ fun a => ?_
  fin_cases a
  · show t.val = p + 1 * (t.val - p); omega
  · show r.val = b + 1 * (r.val - b); omega
  · show k.val = 0 + 1 * k.val; omega

theorem miss3 {l m n p b q s : ℕ} (v : View sig κ sp ⟨3, ![l, m, n]⟩ e) (f : v.ty.Contents Val)
    (inb : ∀ a, (![p, b, 0] : Fin 3 → ℕ) a + (![q, s, n] : Fin 3 → ℕ) a ≤ (⟨3, ![l, m, n]⟩ : Shape).size a)
    (w : (Rect.unit (s := ⟨3, ![l, m, n]⟩) ![p, b, 0] ![q, s, n] inb).shape.Idx → Val e)
    (L : List (View.Piece Val ⟨3, ![l, m, n]⟩ e))
    (t : Fin l) (r : Fin m) (k : Fin n) (h : (r.val < b ∨ b + s ≤ r.val) ∨ (t.val < p ∨ p + q ≤ t.val)) :
    v.read Val (v.writes Val f (⟨Rect.unit (s := ⟨3, ![l, m, n]⟩) ![p, b, 0] ![q, s, n] inb, w⟩ :: L)) (ix3 t r k)
      = v.read Val (v.writes Val f L) (ix3 t r k) := by
  rcases h with h | h
  · exact View.read_writes_cons_miss_of_axis v f _ L _ 1 b s rfl rfl rfl h
  · exact View.read_writes_cons_miss_of_axis v f _ L _ 0 p q rfl rfl rfl h

end reads

/-! ## The count's comparisons -/

theorem count_words (v1 : BitVec 32) (h : v1.toNat ≤ 2048) :
    Scalar.cmpi .sgt (Scalar.subi v1 0#32) 512#32 = (if 512 < v1.toNat then 1#1 else 0#1)
    ∧ Scalar.cmpi .sgt (Scalar.subi v1 0#32) 0#32 = (if 0 < v1.toNat then 1#1 else 0#1)
    ∧ Scalar.cmpi .sle (Scalar.subi v1 0#32) 512#32 = (if v1.toNat ≤ 512 then 1#1 else 0#1)
    ∧ Scalar.cmpi .sle (Scalar.subi v1 0#32) 0#32 = (if v1.toNat ≤ 0 then 1#1 else 0#1)
    ∧ Scalar.cmpi .sgt (Scalar.subi v1 1024#32) 512#32 = (if 1536 < v1.toNat then 1#1 else 0#1)
    ∧ Scalar.cmpi .sgt (Scalar.subi v1 1024#32) 0#32 = (if 1024 < v1.toNat then 1#1 else 0#1)
    ∧ Scalar.cmpi .sle (Scalar.subi v1 1024#32) 512#32 = (if v1.toNat ≤ 1536 then 1#1 else 0#1)
    ∧ Scalar.cmpi .sle (Scalar.subi v1 1024#32) 0#32 = (if v1.toNat ≤ 1024 then 1#1 else 0#1) := by
  have e : v1 = BitVec.ofNat 32 v1.toNat := by simp
  have hn : v1.toNat < 2049 := by omega
  generalize v1.toNat = n at e hn ⊢
  subst e
  revert n
  decide +kernel

end Cert.Moe

end
-- ==== Proof.MoeRuns.lean ====
/- One grid point of the experts' feed-forward blocks, run from any contents of its buffers. -/
module

public import proofs.«01_k».proof.Defs
public import proofs.«01_k».proof.Proof.Gen.Kernel2Ideal.Launch
public import proofs.«01_k».proof.Proof.Gen.Kernel2Ideal.Skeleton
public import Idealize.ShloMosaic.Lib.Tactic
public import proofs.«01_k».proof.Proof.MoeRead
public import Idealize.ShloMosaic.Lib.Pipeline.Kit
public import Idealize.ShloMosaic.Lib.Pipeline.Frame

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # The feed-forward call: the statement of a run of its body -/

abbrev Bf (c : Dev nD) {sp s e} (M : Memref sig .tc sp s e) := Buf (Elt Ideal) (M.view.loc (c : Thread nD τ))
abbrev pt (c : Dev nD) {sp s e} (M : Memref sig .tc sp s e) (f : Bf c M) : sProp 𝕄 :=
  M.view.loc (c : Thread nD τ) ↦{fullShare} f
abbrev hb (c : Dev nD) (f : Bf c (Memref.whole main_arg1)) : sProp 𝕄 :=
  (Memref.whole main_arg1).view.loc (c : Thread nD τ) ↦{fullShare.right} f

/-- What the body needs and what it leaves: from the blocks' contents and the scratch buffers', to contents of the
    output block and of the scratch buffers of which `P` holds. -/
def Runs (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (P : Bf c M4 → Bf c T0 → Bf c T1 → Bf c T2 → Bf c T3 → Prop) : Prop :=
  ∀ Q : PUnit → sProp 𝕄,
    iprop(hb c fb ∗ pt c M0 f0 ∗ pt c M1 f1 ∗ pt c M2 f2 ∗ pt c M3 f3 ∗ pt c M4 f4
      ∗ pt c T0 g0 ∗ pt c T1 g1 ∗ pt c T2 g2 ∗ pt c T3 g3
      ∗ ((∃ f : Bf c M4, ∃ k0 : Bf c T0, ∃ k1 : Bf c T1, ∃ k2 : Bf c T2, ∃ k3 : Bf c T3,
            ⌜P f k0 k1 k2 k3⌝ ∗ hb c fb ∗ pt c M0 f0 ∗ pt c M1 f1 ∗ pt c M2 f2 ∗ pt c M3 f3 ∗ pt c M4 f
            ∗ pt c T0 k0 ∗ pt c T1 k1 ∗ pt c T2 k2 ∗ pt c T3 k3) -∗ Q ⟨⟩))
    ⊢ wp frame (wpE (defs₀ (F := Ideal)) Variants.none c none) Set.univ
        (cc0_moe_ffn i (Memref.whole main_arg0) (Memref.isWhole_whole _) (Memref.whole main_arg1) (Memref.isWhole_whole _) M0 h0 M1 h1 M2 h2 M3 h3 M4 h4
          T0 t0 T1 t1 T2 t2 T3 t3) Q

/-- The block's count, as the body reads it. -/
abbrev cnt (c : Dev nD) (i : grid0.Coords) (fb : Bf c (Memref.whole main_arg1)) : BitVec 32 :=
  View.readAt (Elt Ideal) (Memref.whole main_arg1).view (Rect.unit (s := S40) (k0_off1 i) S1.size (k0_off1_inb i)).toLoadRect fb
    (Shape.Idx.first (Nat.lt_of_lt_of_eq Nat.zero_lt_one numel1_S1.symm))

end Cert.Moe

end
-- ==== Proof.MoeRow.lean ====
module

public import proofs.«01_k».proof.Proof.MoeRead

/-! # The feed-forward call: the rows of the words its body stores

One lemma per stored value: its element as `hx`, `gu` or `dn` of the rows and columns that it reads. -/

@[expose] public section

noncomputable section

namespace Cert.Moe

open Cert.Kernel2Ideal Cert.Kernel2Ideal.Gen
open Idealize.ShloMosaic

set_option maxRecDepth 16384

theorem pay10_row (v1 : BitVec 32) (A B : Vec Ideal S1x1024x256 .i32) (X : S2x2048x256.Idx → BitVec 32) (r : Fin 1024) (k : Fin 1024)
    (r' : Fin 2048) (hr : r'.val = 0 + r.val)
    (hA : ∀ q, A (ix3 0 r q) = X (ix3 0 r' q)) (hB : ∀ q, B (ix3 0 r q) = X (ix3 1 r' q)) :
    k0_pay10 (F := Ideal) v1 A B (ix2 r k) = hx v1 X r' k := by
  pointwise [k0_pay10]
  simp only [hx, lv, add_word, hA, hB, hr]

theorem pay12_row (v1 : BitVec 32) (A B : Vec Ideal S1x512x256 .i32) (X : S2x2048x256.Idx → BitVec 32) (r : Fin 512) (k : Fin 1024)
    (r' : Fin 2048) (hr : r'.val = 0 + r.val)
    (hA : ∀ q, A (ix3 0 r q) = X (ix3 0 r' q)) (hB : ∀ q, B (ix3 0 r q) = X (ix3 1 r' q)) :
    k0_pay12 (F := Ideal) v1 A B (ix2 r k) = hx v1 X r' k := by
  pointwise [k0_pay12]
  simp only [hx, lv, add_word, hA, hB, hr]

theorem pay14_row (v1 : BitVec 32) (A B : Vec Ideal S1x1024x256 .i32) (X : S2x2048x256.Idx → BitVec 32) (r : Fin 1024) (k : Fin 1024)
    (r' : Fin 2048) (hr : r'.val = 1024 + r.val)
    (hA : ∀ q, A (ix3 0 r q) = X (ix3 0 r' q)) (hB : ∀ q, B (ix3 0 r q) = X (ix3 1 r' q)) :
    k0_pay14 (F := Ideal) v1 A B (ix2 r k) = hx v1 X r' k := by
  pointwise [k0_pay14]
  simp only [hx, lv, add_word, hA, hB, hr]

theorem pay16_row (v1 : BitVec 32) (A B : Vec Ideal S1x512x256 .i32) (X : S2x2048x256.Idx → BitVec 32) (r : Fin 512) (k : Fin 1024)
    (r' : Fin 2048) (hr : r'.val = 1024 + r.val)
    (hA : ∀ q, A (ix3 0 r q) = X (ix3 0 r' q)) (hB : ∀ q, B (ix3 0 r q) = X (ix3 1 r' q)) :
    k0_pay16 (F := Ideal) v1 A B (ix2 r k) = hx v1 X r' k := by
  pointwise [k0_pay16]
  simp only [hx, lv, add_word, hA, hB, hr]

theorem pay18_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay18 (F := Ideal) A B C (ix2 r k) = gu h W U := by
  pointwise [k0_pay18]
  simp only [gu, hA, hB, hC]

theorem pay28_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay28 (F := Ideal) A B C (ix2 r k) = gu h W U := by
  pointwise [k0_pay28]
  simp only [gu, hA, hB, hC]

theorem pay40_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay40 (F := Ideal) A B C (ix2 r k) = gu h W U := by
  pointwise [k0_pay40]
  simp only [gu, hA, hB, hC]

theorem pay50_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay50 (F := Ideal) A B C (ix2 r k) = gu h W U := by
  pointwise [k0_pay50]
  simp only [gu, hA, hB, hC]

theorem pay19_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay19 (F := Ideal) A B C (ix2 r k) = gu h W U := by
  pointwise [k0_pay19]
  simp only [gu, hA, hB, hC]

theorem pay21_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay21 (F := Ideal) A B C (ix2 r k) = gu h W U := by
  pointwise [k0_pay21]
  simp only [gu, hA, hB, hC]

theorem pay29_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay29 (F := Ideal) A B C (ix2 r k) = gu h W U := by
  pointwise [k0_pay29]
  simp only [gu, hA, hB, hC]

theorem pay31_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay31 (F := Ideal) A B C (ix2 r k) = gu h W U := by
  pointwise [k0_pay31]
  simp only [gu, hA, hB, hC]

theorem pay41_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay41 (F := Ideal) A B C (ix2 r k) = gu h W U := by
  pointwise [k0_pay41]
  simp only [gu, hA, hB, hC]

theorem pay43_row (A : Vec Ideal S1024x1024 .bf16) (B C : Vec Ideal S1x1x1024x512 .f32) (r : Fin 1024) (k : Fin 512) (h W U : Fin 1024 → EReal)
    (hA : ∀ x, A (ix2 r x) = h x) (hB : ∀ x, B (ix4 0 0 x k) = W x) (hC : ∀ x, C (ix4 0 0 x k) = U x) :
    k0_pay43 (F := Ideal) A B C (ix2 r k) = gu h W U := by
  pointwise [k0_pay43]
  simp only [gu, hA, hB, hC]

theorem pay51_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay51 (F := Ideal) A B C (ix2 r k) = gu h W U := by
  pointwise [k0_pay51]
  simp only [gu, hA, hB, hC]

theorem pay1_row (A : Vec Ideal S512x1024 .bf16) (B C : Vec Ideal S1x1x1024x512 .f32) (r : Fin 512) (k : Fin 512) (h W U : Fin 1024 → EReal)
    (hA : ∀ x, A (ix2 r x) = h x) (hB : ∀ x, B (ix4 0 0 x k) = W x) (hC : ∀ x, C (ix4 0 0 x k) = U x) :
    k0_pay1 (F := Ideal) A B C (ix2 r k) = gu h W U := by
  pointwise [k0_pay1]
  simp only [gu, hA, hB, hC]

theorem pay20_row (A : Vec Ideal S1024x1024 .f32) (B : Vec Ideal S1024x512 .bf16) (C : Vec Ideal S1x1x512x1024 .f32) (r : Fin 1024) (k : Fin 1024)
    (z : EReal) (h D : Fin 512 → EReal)
    (hA : A (ix2 r k) = z) (hB : ∀ x, B (ix2 r x) = h x) (hC : ∀ x, C (ix4 0 0 x k) = D x) :
    k0_pay20 (F := Ideal) A B C (ix2 r k) = dn z h D := by
  pointwise [k0_pay20]
  simp only [dn, hA, hB, hC]

theorem pay22_row (A : Vec Ideal S1024x1024 .f32) (B : Vec Ideal S1024x512 .bf16) (C : Vec Ideal S1x1x512x1024 .f32) (r : Fin 1024) (k : Fin 1024)
    (z : EReal) (h D : Fin 512 → EReal)
    (hA : A (ix2 r k) = z) (hB : ∀ x, B (ix2 r x) = h x) (hC : ∀ x, C (ix4 0 0 x k) = D x) :
    k0_pay22 (F := Ideal) A B C (ix2 r k) = dn z h D := by
  pointwise [k0_pay22]
  simp only [dn, hA, hB, hC]

theorem pay30_row (A : Vec Ideal S512x1024 .f32) (B : Vec Ideal S512x512 .bf16) (C : Vec Ideal S1x1x512x1024 .f32) (r : Fin 512) (k : Fin 1024)
    (z : EReal) (h D : Fin 512 → EReal)
    (hA : A (ix2 r k) = z) (hB : ∀ x, B (ix2 r x) = h x) (hC : ∀ x, C (ix4 0 0 x k) = D x) :
    k0_pay30 (F := Ideal) A B C (ix2 r k) = dn z h D := by
  pointwise [k0_pay30]
  simp only [dn, hA, hB, hC]

theorem pay32_row (A : Vec Ideal S512x1024 .f32) (B : Vec Ideal S512x512 .bf16) (C : Vec Ideal S1x1x512x1024 .f32) (r : Fin 512) (k : Fin 1024)
    (z : EReal) (h D : Fin 512 → EReal)
    (hA : A (ix2 r k) = z) (hB : ∀ x, B (ix2 r x) = h x) (hC : ∀ x, C (ix4 0 0 x k) = D x) :
    k0_pay32 (F := Ideal) A B C (ix2 r k) = dn z h D := by
  pointwise [k0_pay32]
  simp only [dn, hA, hB, hC]

theorem pay42_row (A : Vec Ideal S1024x1024 .f32) (B : Vec Ideal S1024x512 .bf16) (C : Vec Ideal S1x1x512x1024 .f32) (r : Fin 1024) (k : Fin 1024)
    (z : EReal) (h D : Fin 512 → EReal)
    (hA : A (ix2 r k) = z) (hB : ∀ x, B (ix2 r x) = h x) (hC : ∀ x, C (ix4 0 0 x k) = D x) :
    k0_pay42 (F := Ideal) A B C (ix2 r k) = dn z h D := by
  pointwise [k0_pay42]
  simp only [dn, hA, hB, hC]

theorem pay44_row (A : Vec Ideal S1024x1024 .f32) (B : Vec Ideal S1024x512 .bf16) (C : Vec Ideal S1x1x512x1024 .f32) (r : Fin 1024) (k : Fin 1024)
    (z : EReal) (h D : Fin 512 → EReal)
    (hA : A (ix2 r k) = z) (hB : ∀ x, B (ix2 r x) = h x) (hC : ∀ x, C (ix4 0 0 x k) = D x) :
    k0_pay44 (F := Ideal) A B C (ix2 r k) = dn z h D := by
  pointwise [k0_pay44]
  simp only [dn, hA, hB, hC]

theorem pay52_row (A : Vec Ideal S512x1024 .f32) (B : Vec Ideal S512x512 .bf16) (C : Vec Ideal S1x1x512x1024 .f32) (r : Fin 512) (k : Fin 1024)
    (z : EReal) (h D : Fin 512 → EReal)
    (hA : A (ix2 r k) = z) (hB : ∀ x, B (ix2 r x) = h x) (hC : ∀ x, C (ix4 0 0 x k) = D x) :
    k0_pay52 (F := Ideal) A B C (ix2 r k) = dn z h D := by
  pointwise [k0_pay52]
  simp only [dn, hA, hB, hC]

theorem pay2_row (A : Vec Ideal S512x1024 .f32) (B : Vec Ideal S512x512 .bf16) (C : Vec Ideal S1x1x512x1024 .f32) (r : Fin 512) (k : Fin 1024)
    (z : EReal) (h D : Fin 512 → EReal)
    (hA : A (ix2 r k) = z) (hB : ∀ x, B (ix2 r x) = h x) (hC : ∀ x, C (ix4 0 0 x k) = D x) :
    k0_pay2 (F := Ideal) A B C (ix2 r k) = dn z h D := by
  pointwise [k0_pay2]
  simp only [dn, hA, hB, hC]

theorem pay26_row (A : Vec Ideal S1024x1024 .f32) (B : Vec Ideal S1024x512 .bf16) (C : Vec Ideal S1x1x512x1024 .f32) (R : Fin 2048) (k : Fin 256)
    (r : Fin 1024) (d : Fin 1024) (hr : r.val = R.val / 2) (hd : d.val = (if R.val % 2 = 0 then 512 else 0) + 0 + k.val)
    (z : EReal) (h D : Fin 512 → EReal)
    (hA : A (ix2 r d) = z) (hB : ∀ x, B (ix2 r x) = h x) (hC : ∀ x, C (ix4 0 0 x d) = D x) :
    k0_pay26 (F := Ideal) A B C (ix3 0 R k) = dn z h D := by
  have er : r = ⟨R.val / 2, by omega⟩ := Fin.ext hr
  pointwise [k0_pay26, k0_pay25, k0_pay24, k0_pay23]
  split
  · rename_i hp
    rw [if_pos hp] at hd
    have ed : d = ⟨512 + (k.val), by omega⟩ := Fin.ext (by show d.val = 512 + (k.val); omega)
    rw [← ed, ← er]
    simp only [dn, hA, hB, hC]
  · rename_i hp
    rw [if_neg hp] at hd
    have ed : d = ⟨k.val, by omega⟩ := Fin.ext (by show d.val = k.val; omega)
    rw [← ed, ← er]
    simp only [dn, hA, hB, hC]

theorem pay27_row (A : Vec Ideal S1024x1024 .f32) (B : Vec Ideal S1024x512 .bf16) (C : Vec Ideal S1x1x512x1024 .f32) (R : Fin 2048) (k : Fin 256)
    (r : Fin 1024) (d : Fin 1024) (hr : r.val = R.val / 2) (hd : d.val = (if R.val % 2 = 0 then 512 else 0) + 256 + k.val)
    (z : EReal) (h D : Fin 512 → EReal)
    (hA : A (ix2 r d) = z) (hB : ∀ x, B (ix2 r x) = h x) (hC : ∀ x, C (ix4 0 0 x d) = D x) :
    k0_pay27 (F := Ideal) A B C (ix3 0 R k) = dn z h D := by
  have er : r = ⟨R.val / 2, by omega⟩ := Fin.ext hr
  pointwise [k0_pay27, k0_pay25, k0_pay24, k0_pay23]
  split
  · rename_i hp
    rw [if_pos hp] at hd
    have ed : d = ⟨512 + (256 + k.val), by omega⟩ := Fin.ext (by show d.val = 512 + (256 + k.val); omega)
    rw [← ed, ← er]
    simp only [dn, hA, hB, hC]
  · rename_i hp
    rw [if_neg hp] at hd
    have ed : d = ⟨256 + k.val, by omega⟩ := Fin.ext (by show d.val = 256 + k.val; omega)
    rw [← ed, ← er]
    simp only [dn, hA, hB, hC]

theorem pay36_row (A : Vec Ideal S512x1024 .f32) (B : Vec Ideal S512x512 .bf16) (C : Vec Ideal S1x1x512x1024 .f32) (R : Fin 1024) (k : Fin 256)
    (r : Fin 512) (d : Fin 1024) (hr : r.val = R.val / 2) (hd : d.val = (if R.val % 2 = 0 then 512 else 0) + 0 + k.val)
    (z : EReal) (h D : Fin 512 → EReal)
    (hA : A (ix2 r d) = z) (hB : ∀ x, B (ix2 r x) = h x) (hC : ∀ x, C (ix4 0 0 x d) = D x) :
    k0_pay36 (F := Ideal) A B C (ix3 0 R k) = dn z h D := by
  have er : r = ⟨R.val / 2, by omega⟩ := Fin.ext hr
  pointwise [k0_pay36, k0_pay35, k0_pay34, k0_pay33]
  split
  · rename_i hp
    rw [if_pos hp] at hd
    have ed : d = ⟨512 + (k.val), by omega⟩ := Fin.ext (by show d.val = 512 + (k.val); omega)
    rw [← ed, ← er]
    simp only [dn, hA, hB, hC]
  · rename_i hp
    rw [if_neg hp] at hd
    have ed : d = ⟨k.val, by omega⟩ := Fin.ext (by show d.val = k.val; omega)
    rw [← ed, ← er]
    simp only [dn, hA, hB, hC]

theorem pay37_row (A : Vec Ideal S512x1024 .f32) (B : Vec Ideal S512x512 .bf16) (C : Vec Ideal S1x1x512x1024 .f32) (R : Fin 1024) (k : Fin 256)
    (r : Fin 512) (d : Fin 1024) (hr : r.val = R.val / 2) (hd : d.val = (if R.val % 2 = 0 then 512 else 0) + 256 + k.val)
    (z : EReal) (h D : Fin 512 → EReal)
    (hA : A (ix2 r d) = z) (hB : ∀ x, B (ix2 r x) = h x) (hC : ∀ x, C (ix4 0 0 x d) = D x) :
    k0_pay37 (F := Ideal) A B C (ix3 0 R k) = dn z h D := by
  have er : r = ⟨R.val / 2, by omega⟩ := Fin.ext hr
  pointwise [k0_pay37, k0_pay35, k0_pay34, k0_pay33]
  split
  · rename_i hp
    rw [if_pos hp] at hd
    have ed : d = ⟨512 + (256 + k.val), by omega⟩ := Fin.ext (by show d.val = 512 + (256 + k.val); omega)
    rw [← ed, ← er]
    simp only [dn, hA, hB, hC]
  · rename_i hp
    rw [if_neg hp] at hd
    have ed : d = ⟨256 + k.val, by omega⟩ := Fin.ext (by show d.val = 256 + k.val; omega)
    rw [← ed, ← er]
    simp only [dn, hA, hB, hC]

theorem pay48_row (A : Vec Ideal S1024x1024 .f32) (B : Vec Ideal S1024x512 .bf16) (C : Vec Ideal S1x1x512x1024 .f32) (R : Fin 2048) (k : Fin 256)
    (r : Fin 1024) (d : Fin 1024) (hr : r.val = R.val / 2) (hd : d.val = (if R.val % 2 = 0 then 512 else 0) + 0 + k.val)
    (z : EReal) (h D : Fin 512 → EReal)
    (hA : A (ix2 r d) = z) (hB : ∀ x, B (ix2 r x) = h x) (hC : ∀ x, C (ix4 0 0 x d) = D x) :
    k0_pay48 (F := Ideal) A B C (ix3 0 R k) = dn z h D := by
  have er : r = ⟨R.val / 2, by omega⟩ := Fin.ext hr
  pointwise [k0_pay48, k0_pay47, k0_pay46, k0_pay45]
  split
  · rename_i hp
    rw [if_pos hp] at hd
    have ed : d = ⟨512 + (k.val), by omega⟩ := Fin.ext (by show d.val = 512 + (k.val); omega)
    rw [← ed, ← er]
    simp only [dn, hA, hB, hC]
  · rename_i hp
    rw [if_neg hp] at hd
    have ed : d = ⟨k.val, by omega⟩ := Fin.ext (by show d.val = k.val; omega)
    rw [← ed, ← er]
    simp only [dn, hA, hB, hC]

theorem pay49_row (A : Vec Ideal S1024x1024 .f32) (B : Vec Ideal S1024x512 .bf16) (C : Vec Ideal S1x1x512x1024 .f32) (R : Fin 2048) (k : Fin 256)
    (r : Fin 1024) (d : Fin 1024) (hr : r.val = R.val / 2) (hd : d.val = (if R.val % 2 = 0 then 512 else 0) + 256 + k.val)
    (z : EReal) (h D : Fin 512 → EReal)
    (hA : A (ix2 r d) = z) (hB : ∀ x, B (ix2 r x) = h x) (hC : ∀ x, C (ix4 0 0 x d) = D x) :
    k0_pay49 (F := Ideal) A B C (ix3 0 R k) = dn z h D := by
  have er : r = ⟨R.val / 2, by omega⟩ := Fin.ext hr
  pointwise [k0_pay49, k0_pay47, k0_pay46, k0_pay45]
  split
  · rename_i hp
    rw [if_pos hp] at hd
    have ed : d = ⟨512 + (256 + k.val), by omega⟩ := Fin.ext (by show d.val = 512 + (256 + k.val); omega)
    rw [← ed, ← er]
    simp only [dn, hA, hB, hC]
  · rename_i hp
    rw [if_neg hp] at hd
    have ed : d = ⟨256 + k.val, by omega⟩ := Fin.ext (by show d.val = 256 + k.val; omega)
    rw [← ed, ← er]
    simp only [dn, hA, hB, hC]

theorem pay6_row (A : Vec Ideal S512x1024 .f32) (B : Vec Ideal S512x512 .bf16) (C : Vec Ideal S1x1x512x1024 .f32) (R : Fin 1024) (k : Fin 256)
    (r : Fin 512) (d : Fin 1024) (hr : r.val = R.val / 2) (hd : d.val = (if R.val % 2 = 0 then 512 else 0) + 0 + k.val)
    (z : EReal) (h D : Fin 512 → EReal)
    (hA : A (ix2 r d) = z) (hB : ∀ x, B (ix2 r x) = h x) (hC : ∀ x, C (ix4 0 0 x d) = D x) :
    k0_pay6 (F := Ideal) A B C (ix3 0 R k) = dn z h D := by
  have er : r = ⟨R.val / 2, by omega⟩ := Fin.ext hr
  pointwise [k0_pay6, k0_pay5, k0_pay4, k0_pay3]
  split
  · rename_i hp
    rw [if_pos hp] at hd
    have ed : d = ⟨512 + (k.val), by omega⟩ := Fin.ext (by show d.val = 512 + (k.val); omega)
    rw [← ed, ← er]
    simp only [dn, hA, hB, hC]
  · rename_i hp
    rw [if_neg hp] at hd
    have ed : d = ⟨k.val, by omega⟩ := Fin.ext (by show d.val = k.val; omega)
    rw [← ed, ← er]
    simp only [dn, hA, hB, hC]

theorem pay7_row (A : Vec Ideal S512x1024 .f32) (B : Vec Ideal S512x512 .bf16) (C : Vec Ideal S1x1x512x1024 .f32) (R : Fin 1024) (k : Fin 256)
    (r : Fin 512) (d : Fin 1024) (hr : r.val = R.val / 2) (hd : d.val = (if R.val % 2 = 0 then 512 else 0) + 256 + k.val)
    (z : EReal) (h D : Fin 512 → EReal)
    (hA : A (ix2 r d) = z) (hB : ∀ x, B (ix2 r x) = h x) (hC : ∀ x, C (ix4 0 0 x d) = D x) :
    k0_pay7 (F := Ideal) A B C (ix3 0 R k) = dn z h D := by
  have er : r = ⟨R.val / 2, by omega⟩ := Fin.ext hr
  pointwise [k0_pay7, k0_pay5, k0_pay4, k0_pay3]
  split
  · rename_i hp
    rw [if_pos hp] at hd
    have ed : d = ⟨512 + (256 + k.val), by omega⟩ := Fin.ext (by show d.val = 512 + (256 + k.val); omega)
    rw [← ed, ← er]
    simp only [dn, hA, hB, hC]
  · rename_i hp
    rw [if_neg hp] at hd
    have ed : d = ⟨256 + k.val, by omega⟩ := Fin.ext (by show d.val = 256 + k.val; omega)
    rw [← ed, ← er]
    simp only [dn, hA, hB, hC]

theorem pay11_row (r : Fin 1024) (k : Fin 1024) : k0_pay11 (F := Ideal) (ix2 r k) = (0 : EReal) := by
  pointwise [k0_pay11]

theorem pay13_row (r : Fin 512) (k : Fin 1024) : k0_pay13 (F := Ideal) (ix2 r k) = (0 : EReal) := by
  pointwise [k0_pay13]

theorem pay15_row (r : Fin 1024) (k : Fin 1024) : k0_pay15 (F := Ideal) (ix2 r k) = (0 : EReal) := by
  pointwise [k0_pay15]

theorem pay17_row (r : Fin 512) (k : Fin 1024) : k0_pay17 (F := Ideal) (ix2 r k) = (0 : EReal) := by
  pointwise [k0_pay17]

theorem pay8_row (t : Fin 2) (r : Fin 1024) (k : Fin 256) : k0_pay8 (F := Ideal) (ix3 t r k) = (0 : EReal) := by
  pointwise [k0_pay8]

theorem pay9_row (t : Fin 2) (r : Fin 2048) (k : Fin 256) : k0_pay9 (F := Ideal) (ix3 t r k) = (0 : EReal) := by
  pointwise [k0_pay9]

theorem pay38_row (t : Fin 2) (r : Fin 1024) (k : Fin 256) : k0_pay38 (F := Ideal) (ix3 t r k) = (0 : EReal) := by
  pointwise [k0_pay38]

theorem pay39_row (t : Fin 2) (r : Fin 2048) (k : Fin 256) : k0_pay39 (F := Ideal) (ix3 t r k) = (0 : EReal) := by
  pointwise [k0_pay39]

end Cert.Moe

end
-- ==== Proof.MoeFirst.lean ====
/- One grid point of the experts' feed-forward blocks, run from any contents of its buffers. -/
module

public import proofs.«01_k».proof.Defs
public import proofs.«01_k».proof.Proof.Gen.Kernel2Ideal.Launch
public import proofs.«01_k».proof.Proof.Gen.Kernel2Ideal.Skeleton
public import Idealize.ShloMosaic.Lib.Tactic
public import proofs.«01_k».proof.Proof.MoeRuns
public import proofs.«01_k».proof.Proof.MoeRow
public import Idealize.ShloMosaic.Lib.Pipeline.Kit
public import Idealize.ShloMosaic.Lib.Pipeline.Frame

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # A run of the body at a block's first point -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52

set_option maxHeartbeats 4000000 in
set_option maxRecDepth 16384 in
theorem run_first (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (v1 : BitVec 32) (hv : cnt c i fb = v1) (hn : v1.toNat ≤ 2048) (a : BitVec 32) (ha : BitVec.ofNat 32 (i 1).val = a)
    (hA : Scalar.cmpi .eq a 0#32 = 1#1) (hB : Scalar.cmpi .sgt a 0#32 = 0#1) (hC : Scalar.cmpi .slt a 7#32 = 1#1)
    (hD : Scalar.cmpi .eq a 7#32 = 0#1) (hE : Scalar.remsi a 2#32 = 0#32) :
    Runs c i M0 h0 M1 h1 M2 h2 M3 h3 M4 h4 T0 t0 T1 t1 T2 t2 T3 t3 fb f0 f1 f2 f3 f4 g0 g1 g2 g3 fun f k0 k1 k2 k3 =>
      (∀ (r : Fin 2048) (k : Fin 1024), inC v1.toNat r → T0.view.read (Elt Ideal) k0 (ix2 r k) = hx v1 (M0.view.read (Elt Ideal) f0) r k)
      ∧ (∀ (r : Fin 2048) (j : Fin 512), inC v1.toNat r → T1.view.read (Elt Ideal) k1 (ix2 r j)
          = gu (hx v1 (M0.view.read (Elt Ideal) f0) r) (fun x => M1.view.read (Elt Ideal) f1 (ix4 0 0 x j)) (fun x => M2.view.read (Elt Ideal) f2 (ix4 0 0 x j)))
      ∧ (∀ (r : Fin 2048) (d : Fin 1024), inC v1.toNat r → T3.view.read (Elt Ideal) k3 (ix2 r d) = (0 : EReal)) := by
  obtain ⟨w1, w2, w3, w4, w5, w6, w7, w8⟩ := count_words v1 hn
  have hd : Scalar.select (Scalar.cmpi .eq 2#32 0#32) 1#32 2#32 = 2#32 := by decide
  intro Q
  iintro ⟨Hb, H0, H1, H2, H3, H4, Hs0, Hs1, Hs2, Hs3, Hk⟩
  have hcase : v1.toNat = 0 ∨ (0 < v1.toNat ∧ v1.toNat ≤ 512) ∨ (512 < v1.toNat ∧ v1.toNat ≤ 1024)
      ∨ (1024 < v1.toNat ∧ v1.toNat ≤ 1536) ∨ 1536 < v1.toNat := by omega
  rcases hcase with hc | hc | hc | hc | hc
  all_goals
    first
      | rw [if_pos (by omega)] at w1
      | rw [if_neg (by omega)] at w1
    first
      | rw [if_pos (by omega)] at w2
      | rw [if_neg (by omega)] at w2
    first
      | rw [if_pos (by omega)] at w3
      | rw [if_neg (by omega)] at w3
    first
      | rw [if_pos (by omega)] at w4
      | rw [if_neg (by omega)] at w4
    first
      | rw [if_pos (by omega)] at w5
      | rw [if_neg (by omega)] at w5
    first
      | rw [if_pos (by omega)] at w6
      | rw [if_neg (by omega)] at w6
    first
      | rw [if_pos (by omega)] at w7
      | rw [if_neg (by omega)] at w7
    first
      | rw [if_pos (by omega)] at w8
      | rw [if_neg (by omega)] at w8
    sl_exec (disch := (sl_unfold_run_names; simp only [hv, k0_cond4, k0_cond8, k0_cond9, k0_cond10, k0_cond14, k0_cond18, k0_cond19, k0_cond20, ha, hd, hA, hB, hC, hD, hE, w1, w2, w3, w4, w5, w6, w7, w8]; decide))
    sl_step
    iapply Hk
    iexists _, _, _, _, _
    isplitr [Hb H0 H1 H2 H3 H4 Hs0 Hs1 Hs2 Hs3]
    rotate_left
    · isplitl [Hb]; · iexact Hb
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      iexact Hs3
    ipureintro
    sl_unfold_run_names
    simp only [hv]
    refine ⟨fun r k hr => ?_, fun r j hr => ?_, fun r d hr => ?_⟩
    · revert r
      refine halves _ _ (fun r hr => ?_) (fun r hr => ?_)
      all_goals
        unfold inC at hr
        first
          | (exfalso; omega)
          | (simp (disch := ((try dsimp only); omega)) only [hit2, miss2]
             first
               | exact pay10_row _ _ _ _ _ _ _ (by dsimp only; omega) (fun _ => ra3' _ _ _ _ _ _ _ _ rfl (by dsimp only; omega)) (fun _ => ra3' _ _ _ _ _ _ _ _ rfl (by dsimp only; omega))
               | exact pay12_row _ _ _ _ _ _ _ (by dsimp only; omega) (fun _ => ra3' _ _ _ _ _ _ _ _ rfl (by dsimp only; omega)) (fun _ => ra3' _ _ _ _ _ _ _ _ rfl (by dsimp only; omega))
               | exact pay14_row _ _ _ _ _ _ _ (by dsimp only; omega) (fun _ => ra3' _ _ _ _ _ _ _ _ rfl (by dsimp only; omega)) (fun _ => ra3' _ _ _ _ _ _ _ _ rfl (by dsimp only; omega))
               | exact pay16_row _ _ _ _ _ _ _ (by dsimp only; omega) (fun _ => ra3' _ _ _ _ _ _ _ _ rfl (by dsimp only; omega)) (fun _ => ra3' _ _ _ _ _ _ _ _ rfl (by dsimp only; omega)))
    · try simp only [View.readCov]
      revert r
      refine halves _ _ (fun r hr => ?_) (fun r hr => ?_)
      all_goals
        unfold inC at hr
        first
          | (exfalso; omega)
          | (simp (disch := ((try dsimp only); omega)) only [hit2, miss2]
             first
               | refine pay18_row _ _ _ _ _ _ _ _ (fun x => (ra2' _ _ _ _ _ ⟨0 + r.val, by omega⟩ (by dsimp only; omega)).trans ?_) (fun x => ra4 _ _ _ _ _) (fun x => ra4 _ _ _ _ _)
               | refine pay28_row _ _ _ _ _ _ _ _ (fun x => (ra2' _ _ _ _ _ ⟨0 + r.val, by omega⟩ (by dsimp only; omega)).trans ?_) (fun x => ra4 _ _ _ _ _) (fun x => ra4 _ _ _ _ _)
               | refine pay40_row _ _ _ _ _ _ _ _ (fun x => (ra2' _ _ _ _ _ ⟨1024 + r.val, by omega⟩ (by dsimp only; omega)).trans ?_) (fun x => ra4 _ _ _ _ _) (fun x => ra4 _ _ _ _ _)
               | refine pay50_row _ _ _ _ _ _ _ _ (fun x => (ra2' _ _ _ _ _ ⟨1024 + r.val, by omega⟩ (by dsimp only; omega)).trans ?_) (fun x => ra4 _ _ _ _ _) (fun x => ra4 _ _ _ _ _)
             simp (disch := ((try dsimp only); omega)) only [hit2, miss2]
             first
               | exact pay10_row _ _ _ _ _ _ _ (by dsimp only; omega) (fun _ => ra3' _ _ _ _ _ _ _ _ rfl (by dsimp only; omega)) (fun _ => ra3' _ _ _ _ _ _ _ _ rfl (by dsimp only; omega))
               | exact pay12_row _ _ _ _ _ _ _ (by dsimp only; omega) (fun _ => ra3' _ _ _ _ _ _ _ _ rfl (by dsimp only; omega)) (fun _ => ra3' _ _ _ _ _ _ _ _ rfl (by dsimp only; omega))
               | exact pay14_row _ _ _ _ _ _ _ (by dsimp only; omega) (fun _ => ra3' _ _ _ _ _ _ _ _ rfl (by dsimp only; omega)) (fun _ => ra3' _ _ _ _ _ _ _ _ rfl (by dsimp only; omega))
               | exact pay16_row _ _ _ _ _ _ _ (by dsimp only; omega) (fun _ => ra3' _ _ _ _ _ _ _ _ rfl (by dsimp only; omega)) (fun _ => ra3' _ _ _ _ _ _ _ _ rfl (by dsimp only; omega)))
    · revert r
      refine halves _ _ (fun r hr => ?_) (fun r hr => ?_)
      all_goals
        unfold inC at hr
        first
          | (exfalso; omega)
          | (simp (disch := ((try dsimp only); omega)) only [hit2, miss2]
             first
               | exact pay11_row _ _
               | exact pay13_row _ _
               | exact pay15_row _ _
               | exact pay17_row _ _)

end Cert.Moe

end
-- ==== Proof.MoeOdd.lean ====
/- One grid point of the experts' feed-forward blocks, run from any contents of its buffers. -/
module

public import proofs.«01_k».proof.Defs
public import proofs.«01_k».proof.Proof.Gen.Kernel2Ideal.Launch
public import proofs.«01_k».proof.Proof.Gen.Kernel2Ideal.Skeleton
public import Idealize.ShloMosaic.Lib.Tactic
public import proofs.«01_k».proof.Proof.MoeRuns
public import proofs.«01_k».proof.Proof.MoeRow
public import Idealize.ShloMosaic.Lib.Pipeline.Kit
public import Idealize.ShloMosaic.Lib.Pipeline.Frame

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # A run of the body at a block's odd point -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52

set_option maxHeartbeats 4000000 in
set_option maxRecDepth 16384 in
theorem run_odd (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (v1 : BitVec 32) (hv : cnt c i fb = v1) (hn : v1.toNat ≤ 2048) (a : BitVec 32) (ha : BitVec.ofNat 32 (i 1).val = a)
    (hA : Scalar.cmpi .eq a 0#32 = 0#1) (hB : Scalar.cmpi .sgt a 0#32 = 1#1) (hC : Scalar.cmpi .slt a 7#32 = 1#1)
    (hD : Scalar.cmpi .eq a 7#32 = 0#1) (hE : Scalar.remsi a 2#32 = 1#32) :
    Runs c i M0 h0 M1 h1 M2 h2 M3 h3 M4 h4 T0 t0 T1 t1 T2 t2 T3 t3 fb f0 f1 f2 f3 f4 g0 g1 g2 g3 fun f k0 k1 k2 k3 =>
      k0 = g0
      ∧ (∀ (r : Fin 2048) (j : Fin 512), inC v1.toNat r → T2.view.read (Elt Ideal) k2 (ix2 r j)
          = gu (fun x => T0.view.read (Elt Ideal) g0 (ix2 r x)) (fun x => M1.view.read (Elt Ideal) f1 (ix4 0 0 x j)) (fun x => M2.view.read (Elt Ideal) f2 (ix4 0 0 x j)))
      ∧ (∀ (r : Fin 2048) (d : Fin 1024), inC v1.toNat r → T3.view.read (Elt Ideal) k3 (ix2 r d)
          = dn (T3.view.read (Elt Ideal) g3 (ix2 r d)) (fun x => T1.view.read (Elt Ideal) g1 (ix2 r x)) (fun x => M3.view.read (Elt Ideal) f3 (ix4 0 0 x d))) := by
  obtain ⟨w1, w2, w3, w4, w5, w6, w7, w8⟩ := count_words v1 hn
  have hd : Scalar.select (Scalar.cmpi .eq 2#32 0#32) 1#32 2#32 = 2#32 := by decide
  intro Q
  iintro ⟨Hb, H0, H1, H2, H3, H4, Hs0, Hs1, Hs2, Hs3, Hk⟩
  have hcase : v1.toNat = 0 ∨ (0 < v1.toNat ∧ v1.toNat ≤ 512) ∨ (512 < v1.toNat ∧ v1.toNat ≤ 1024)
      ∨ (1024 < v1.toNat ∧ v1.toNat ≤ 1536) ∨ 1536 < v1.toNat := by omega
  rcases hcase with hc | hc | hc | hc | hc
  all_goals
    first
      | rw [if_pos (by omega)] at w1
      | rw [if_neg (by omega)] at w1
    first
      | rw [if_pos (by omega)] at w2
      | rw [if_neg (by omega)] at w2
    first
      | rw [if_pos (by omega)] at w3
      | rw [if_neg (by omega)] at w3
    first
      | rw [if_pos (by omega)] at w4
      | rw [if_neg (by omega)] at w4
    first
      | rw [if_pos (by omega)] at w5
      | rw [if_neg (by omega)] at w5
    first
      | rw [if_pos (by omega)] at w6
      | rw [if_neg (by omega)] at w6
    first
      | rw [if_pos (by omega)] at w7
      | rw [if_neg (by omega)] at w7
    first
      | rw [if_pos (by omega)] at w8
      | rw [if_neg (by omega)] at w8
    sl_exec (disch := (sl_unfold_run_names; simp only [hv, k0_cond4, k0_cond8, k0_cond9, k0_cond10, k0_cond14, k0_cond18, k0_cond19, k0_cond20, ha, hd, hA, hB, hC, hD, hE, w1, w2, w3, w4, w5, w6, w7, w8]; decide))
    sl_step
    iapply Hk
    iexists _, _, _, _, _
    isplitr [Hb H0 H1 H2 H3 H4 Hs0 Hs1 Hs2 Hs3]
    rotate_left
    · isplitl [Hb]; · iexact Hb
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      iexact Hs3
    ipureintro
    sl_unfold_run_names
    refine ⟨rfl, fun r j hr => ?_, fun r d hr => ?_⟩
    · revert r
      refine halves _ _ (fun r hr => ?_) (fun r hr => ?_)
      all_goals
        unfold inC at hr
        first
          | (exfalso; omega)
          | (simp (disch := ((try dsimp only); omega)) only [hit2, miss2]
             first
               | exact pay19_row _ _ _ _ _ _ _ _ (fun x => ra2' _ _ _ _ _ ⟨0 + r.val, by omega⟩ (by dsimp only; omega)) (fun x => ra4 _ _ _ _ _) (fun x => ra4 _ _ _ _ _)
               | exact pay29_row _ _ _ _ _ _ _ _ (fun x => ra2' _ _ _ _ _ ⟨0 + r.val, by omega⟩ (by dsimp only; omega)) (fun x => ra4 _ _ _ _ _) (fun x => ra4 _ _ _ _ _)
               | exact pay41_row _ _ _ _ _ _ _ _ (fun x => ra2' _ _ _ _ _ ⟨1024 + r.val, by omega⟩ (by dsimp only; omega)) (fun x => ra4 _ _ _ _ _) (fun x => ra4 _ _ _ _ _)
               | exact pay51_row _ _ _ _ _ _ _ _ (fun x => ra2' _ _ _ _ _ ⟨1024 + r.val, by omega⟩ (by dsimp only; omega)) (fun x => ra4 _ _ _ _ _) (fun x => ra4 _ _ _ _ _))
    · revert r
      refine halves _ _ (fun r hr => ?_) (fun r hr => ?_)
      all_goals
        unfold inC at hr
        first
          | (exfalso; omega)
          | (simp (disch := ((try dsimp only); omega)) only [hit2, miss2]
             first
               | exact pay20_row _ _ _ _ _ _ _ _ (ra2' _ _ _ _ _ ⟨0 + r.val, by omega⟩ (by dsimp only; omega)) (fun x => ra2' _ _ _ _ _ ⟨0 + r.val, by omega⟩ (by dsimp only; omega)) (fun x => ra4 _ _ _ _ _)
               | exact pay30_row _ _ _ _ _ _ _ _ (ra2' _ _ _ _ _ ⟨0 + r.val, by omega⟩ (by dsimp only; omega)) (fun x => ra2' _ _ _ _ _ ⟨0 + r.val, by omega⟩ (by dsimp only; omega)) (fun x => ra4 _ _ _ _ _)
               | exact pay42_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _)
               | exact pay52_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _)
               | exact pay2_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _))

end Cert.Moe

end
-- ==== Proof.MoeEven.lean ====
/- One grid point of the experts' feed-forward blocks, run from any contents of its buffers. -/
module

public import proofs.«01_k».proof.Defs
public import proofs.«01_k».proof.Proof.Gen.Kernel2Ideal.Launch
public import proofs.«01_k».proof.Proof.Gen.Kernel2Ideal.Skeleton
public import Idealize.ShloMosaic.Lib.Tactic
public import proofs.«01_k».proof.Proof.MoeRuns
public import proofs.«01_k».proof.Proof.MoeRow
public import Idealize.ShloMosaic.Lib.Pipeline.Kit
public import Idealize.ShloMosaic.Lib.Pipeline.Frame

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # A run of the body at a block's even point after its first -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52

set_option maxHeartbeats 4000000 in
set_option maxRecDepth 16384 in
theorem run_even (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (v1 : BitVec 32) (hv : cnt c i fb = v1) (hn : v1.toNat ≤ 2048) (a : BitVec 32) (ha : BitVec.ofNat 32 (i 1).val = a)
    (hA : Scalar.cmpi .eq a 0#32 = 0#1) (hB : Scalar.cmpi .sgt a 0#32 = 1#1) (hC : Scalar.cmpi .slt a 7#32 = 1#1)
    (hD : Scalar.cmpi .eq a 7#32 = 0#1) (hE : Scalar.remsi a 2#32 = 0#32) :
    Runs c i M0 h0 M1 h1 M2 h2 M3 h3 M4 h4 T0 t0 T1 t1 T2 t2 T3 t3 fb f0 f1 f2 f3 f4 g0 g1 g2 g3 fun f k0 k1 k2 k3 =>
      k0 = g0
      ∧ (∀ (r : Fin 2048) (j : Fin 512), inC v1.toNat r → T1.view.read (Elt Ideal) k1 (ix2 r j)
          = gu (fun x => T0.view.read (Elt Ideal) g0 (ix2 r x)) (fun x => M1.view.read (Elt Ideal) f1 (ix4 0 0 x j)) (fun x => M2.view.read (Elt Ideal) f2 (ix4 0 0 x j)))
      ∧ (∀ (r : Fin 2048) (d : Fin 1024), inC v1.toNat r → T3.view.read (Elt Ideal) k3 (ix2 r d)
          = dn (T3.view.read (Elt Ideal) g3 (ix2 r d)) (fun x => T2.view.read (Elt Ideal) g2 (ix2 r x)) (fun x => M3.view.read (Elt Ideal) f3 (ix4 0 0 x d))) := by
  obtain ⟨w1, w2, w3, w4, w5, w6, w7, w8⟩ := count_words v1 hn
  have hd : Scalar.select (Scalar.cmpi .eq 2#32 0#32) 1#32 2#32 = 2#32 := by decide
  intro Q
  iintro ⟨Hb, H0, H1, H2, H3, H4, Hs0, Hs1, Hs2, Hs3, Hk⟩
  have hcase : v1.toNat = 0 ∨ (0 < v1.toNat ∧ v1.toNat ≤ 512) ∨ (512 < v1.toNat ∧ v1.toNat ≤ 1024)
      ∨ (1024 < v1.toNat ∧ v1.toNat ≤ 1536) ∨ 1536 < v1.toNat := by omega
  rcases hcase with hc | hc | hc | hc | hc
  all_goals
    first
      | rw [if_pos (by omega)] at w1
      | rw [if_neg (by omega)] at w1
    first
      | rw [if_pos (by omega)] at w2
      | rw [if_neg (by omega)] at w2
    first
      | rw [if_pos (by omega)] at w3
      | rw [if_neg (by omega)] at w3
    first
      | rw [if_pos (by omega)] at w4
      | rw [if_neg (by omega)] at w4
    first
      | rw [if_pos (by omega)] at w5
      | rw [if_neg (by omega)] at w5
    first
      | rw [if_pos (by omega)] at w6
      | rw [if_neg (by omega)] at w6
    first
      | rw [if_pos (by omega)] at w7
      | rw [if_neg (by omega)] at w7
    first
      | rw [if_pos (by omega)] at w8
      | rw [if_neg (by omega)] at w8
    sl_exec (disch := (sl_unfold_run_names; simp only [hv, k0_cond4, k0_cond8, k0_cond9, k0_cond10, k0_cond14, k0_cond18, k0_cond19, k0_cond20, ha, hd, hA, hB, hC, hD, hE, w1, w2, w3, w4, w5, w6, w7, w8]; decide))
    sl_step
    iapply Hk
    iexists _, _, _, _, _
    isplitr [Hb H0 H1 H2 H3 H4 Hs0 Hs1 Hs2 Hs3]
    rotate_left
    · isplitl [Hb]; · iexact Hb
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      iexact Hs3
    ipureintro
    sl_unfold_run_names
    refine ⟨rfl, fun r j hr => ?_, fun r d hr => ?_⟩
    · revert r
      refine halves _ _ (fun r hr => ?_) (fun r hr => ?_)
      all_goals
        unfold inC at hr
        first
          | (exfalso; omega)
          | (simp (disch := ((try dsimp only); omega)) only [hit2, miss2]
             first
               | exact pay21_row _ _ _ _ _ _ _ _ (fun x => ra2' _ _ _ _ _ ⟨0 + r.val, by omega⟩ (by dsimp only; omega)) (fun x => ra4 _ _ _ _ _) (fun x => ra4 _ _ _ _ _)
               | exact pay31_row _ _ _ _ _ _ _ _ (fun x => ra2' _ _ _ _ _ ⟨0 + r.val, by omega⟩ (by dsimp only; omega)) (fun x => ra4 _ _ _ _ _) (fun x => ra4 _ _ _ _ _)
               | exact pay43_row _ _ _ _ _ _ _ _ (fun x => ra2' _ _ _ _ _ ⟨1024 + r.val, by omega⟩ (by dsimp only; omega)) (fun x => ra4 _ _ _ _ _) (fun x => ra4 _ _ _ _ _)
               | exact pay1_row _ _ _ _ _ _ _ _ (fun x => ra2' _ _ _ _ _ ⟨1024 + r.val, by omega⟩ (by dsimp only; omega)) (fun x => ra4 _ _ _ _ _) (fun x => ra4 _ _ _ _ _))
    · revert r
      refine halves _ _ (fun r hr => ?_) (fun r hr => ?_)
      all_goals
        unfold inC at hr
        first
          | (exfalso; omega)
          | (simp (disch := ((try dsimp only); omega)) only [hit2, miss2]
             first
               | exact pay22_row _ _ _ _ _ _ _ _ (ra2' _ _ _ _ _ ⟨0 + r.val, by omega⟩ (by dsimp only; omega)) (fun x => ra2' _ _ _ _ _ ⟨0 + r.val, by omega⟩ (by dsimp only; omega)) (fun x => ra4 _ _ _ _ _)
               | exact pay32_row _ _ _ _ _ _ _ _ (ra2' _ _ _ _ _ ⟨0 + r.val, by omega⟩ (by dsimp only; omega)) (fun x => ra2' _ _ _ _ _ ⟨0 + r.val, by omega⟩ (by dsimp only; omega)) (fun x => ra4 _ _ _ _ _)
               | exact pay44_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _)
               | exact pay2_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _)
               | exact pay52_row _ _ _ _ _ _ _ _ (ra2' _ _ _ _ _ ⟨1024 + r.val, by omega⟩ (by dsimp only; omega)) (fun x => ra2' _ _ _ _ _ ⟨1024 + r.val, by omega⟩ (by dsimp only; omega)) (fun x => ra4 _ _ _ _ _))

end Cert.Moe

end
-- ==== Proof.MoeLast.lean ====
/- One grid point of the experts' feed-forward blocks, run from any contents of its buffers. -/
module

public import proofs.«01_k».proof.Defs
public import proofs.«01_k».proof.Proof.Gen.Kernel2Ideal.Launch
public import proofs.«01_k».proof.Proof.Gen.Kernel2Ideal.Skeleton
public import Idealize.ShloMosaic.Lib.Tactic
public import proofs.«01_k».proof.Proof.MoeRuns
public import proofs.«01_k».proof.Proof.MoeRow
public import Idealize.ShloMosaic.Lib.Pipeline.Kit
public import Idealize.ShloMosaic.Lib.Pipeline.Frame

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # A run of the body at a block's last point -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52

set_option maxHeartbeats 4000000 in
set_option maxRecDepth 16384 in
theorem run_last (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (v1 : BitVec 32) (hv : cnt c i fb = v1) (hn : v1.toNat ≤ 2048) (a : BitVec 32) (ha : BitVec.ofNat 32 (i 1).val = a)
    (hA : Scalar.cmpi .eq a 0#32 = 0#1) (hB : Scalar.cmpi .sgt a 0#32 = 1#1) (hC : Scalar.cmpi .slt a 7#32 = 0#1)
    (hD : Scalar.cmpi .eq a 7#32 = 1#1) (hE : Scalar.remsi a 2#32 = 1#32) :
    Runs c i M0 h0 M1 h1 M2 h2 M3 h3 M4 h4 T0 t0 T1 t1 T2 t2 T3 t3 fb f0 f1 f2 f3 f4 g0 g1 g2 g3 fun f k0 k1 k2 k3 =>
      ∀ (p : Fin 2) (R : Fin 4096) (k : Fin 256), M4.view.read (Elt Ideal) f (ix3 p R k)
        = if inC v1.toNat (R.val / 2) then
            dn (T3.view.read (Elt Ideal) g3 (ix2 (⟨R.val / 2, by omega⟩ : Fin 2048) (oc p R k)))
              (fun x => T1.view.read (Elt Ideal) g1 (ix2 (⟨R.val / 2, by omega⟩ : Fin 2048) x))
              (fun x => M3.view.read (Elt Ideal) f3 (ix4 0 0 x (oc p R k)))
          else (0 : EReal) := by
  obtain ⟨w1, w2, w3, w4, w5, w6, w7, w8⟩ := count_words v1 hn
  have hd : Scalar.select (Scalar.cmpi .eq 2#32 0#32) 1#32 2#32 = 2#32 := by decide
  intro Q
  iintro ⟨Hb, H0, H1, H2, H3, H4, Hs0, Hs1, Hs2, Hs3, Hk⟩
  have hcase : v1.toNat = 0 ∨ (0 < v1.toNat ∧ v1.toNat ≤ 512) ∨ (512 < v1.toNat ∧ v1.toNat ≤ 1024)
      ∨ (1024 < v1.toNat ∧ v1.toNat ≤ 1536) ∨ 1536 < v1.toNat := by omega
  rcases hcase with hc | hc | hc | hc | hc
  all_goals
    first
      | rw [if_pos (by omega)] at w1
      | rw [if_neg (by omega)] at w1
    first
      | rw [if_pos (by omega)] at w2
      | rw [if_neg (by omega)] at w2
    first
      | rw [if_pos (by omega)] at w3
      | rw [if_neg (by omega)] at w3
    first
      | rw [if_pos (by omega)] at w4
      | rw [if_neg (by omega)] at w4
    first
      | rw [if_pos (by omega)] at w5
      | rw [if_neg (by omega)] at w5
    first
      | rw [if_pos (by omega)] at w6
      | rw [if_neg (by omega)] at w6
    first
      | rw [if_pos (by omega)] at w7
      | rw [if_neg (by omega)] at w7
    first
      | rw [if_pos (by omega)] at w8
      | rw [if_neg (by omega)] at w8
    sl_exec (disch := (sl_unfold_run_names; simp only [hv, k0_cond4, k0_cond8, k0_cond9, k0_cond10, k0_cond14, k0_cond18, k0_cond19, k0_cond20, ha, hd, hA, hB, hC, hD, hE, w1, w2, w3, w4, w5, w6, w7, w8]; decide))
    sl_step
    iapply Hk
    iexists _, _, _, _, _
    isplitr [Hb H0 H1 H2 H3 H4 Hs0 Hs1 Hs2 Hs3]
    rotate_left
    · isplitl [Hb]; · iexact Hb
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      iexact Hs3
    ipureintro
    sl_unfold_run_names
    rintro ⟨p, hp⟩ R k
    have hR : R.val < 1024 ∨ (1024 ≤ R.val ∧ R.val < 2048) ∨ (2048 ≤ R.val ∧ R.val < 3072) ∨ (3072 ≤ R.val ∧ R.val < 4096) := by omega
    have hp' : p = 0 ∨ p = 1 := by omega
    rcases hp' with rfl | rfl <;> rcases hR with hR | hR | hR | hR
    all_goals
      simp (disch := ((try dsimp only); omega)) only [hit3, miss3]
      first
        | (rw [if_pos (by unfold inC; omega)]
           first
              | exact pay26_row _ _ _ _ _ ⟨(R.val - 0) / 2, by omega⟩ (oc ⟨0, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay36_row _ _ _ _ _ ⟨(R.val - 0) / 2, by omega⟩ (oc ⟨0, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay48_row _ _ _ _ _ ⟨(R.val - 2048) / 2, by omega⟩ (oc ⟨0, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay6_row _ _ _ _ _ ⟨(R.val - 2048) / 2, by omega⟩ (oc ⟨0, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay27_row _ _ _ _ _ ⟨(R.val - 0) / 2, by omega⟩ (oc ⟨1, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay37_row _ _ _ _ _ ⟨(R.val - 0) / 2, by omega⟩ (oc ⟨1, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay49_row _ _ _ _ _ ⟨(R.val - 2048) / 2, by omega⟩ (oc ⟨1, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _)
              | exact pay7_row _ _ _ _ _ ⟨(R.val - 2048) / 2, by omega⟩ (oc ⟨1, hp⟩ R k) (by rfl) (by simp only [oc]; split <;> split <;> omega) _ _ _ (ra2' _ _ _ _ _ ⟨R.val / 2, by omega⟩ (by dsimp only; omega)) (fun x => ra2' _ _ _ _ _ ⟨R.val / 2, by omega⟩ (by dsimp only; omega)) (fun x => ra4 _ _ _ _ _))
        | (rw [if_neg (by unfold inC; omega)]
           first
              | exact pay8_row _ _ _
              | exact pay9_row _ _ _
              | exact pay38_row _ _ _
              | exact pay39_row _ _ _)

end Cert.Moe

end
-- ==== Proof.MoeTables.lean ====
module

public import proofs.«01_k».proof.Proof.Gen.Kernel2Ideal.Launch
public import Idealize.ShloMosaic.Lib.Tactic

@[expose] public section

noncomputable section

namespace Cert.Moe

open Cert.Kernel2Ideal Cert.Kernel2Ideal.Gen
open Idealize.ShloMosaic Idealize.ShloMosaic.TcCoe

variable {F : FTy → Type} [FloatOps F]

/-- The tables' bounds: eight experts, and at most a block of rows in use. -/
structure InRange (pf : pre0.Contents (Elt F)) : Prop where
  expert : ∀ x, BitVec.toNat (w := 32) (pf 0 x) < 8
  count : ∀ x, BitVec.toNat (w := 32) (pf 1 x) ≤ 2048

theorem select_lt (c : BitVec 1) (a b : BitVec 32) (n : ℕ) (ha : a.toNat < n) (hb : b.toNat < n) : (Scalar.select c a b).toNat < n := by
  unfold Scalar.select; split <;> assumption

theorem step_lt (f : ℕ) (h : f < 8) : (Scalar.minsi (BitVec.ofNat 32 f) 6#32).toNat < 7 := by
  revert f; decide

theorem back_lt (f : ℕ) (h : f < 8) : (Scalar.maxsi (Scalar.subi (BitVec.ofNat 32 f) 1#32) 0#32).toNat < 7 := by
  revert f; decide

theorem ok_of_inRange (pf : pre0.Contents (Elt F)) (h : InRange pf) : ok0 pf := by
  refine ⟨fun i => ⟨fun a => ?_, Or.inl rfl⟩, fun i => ⟨fun a => ?_, Or.inl rfl⟩, fun i => ⟨fun a => ?_, Or.inl rfl⟩⟩
  · have hf : (i 1).val < 8 := (i 1).isLt
    have e1 : cc0_transform_1 k0_off1_inb numel1_S1 k0_off2_inb pf i 1 < 8 := select_lt _ _ _ 8 (h.expert _) (h.expert _)
    have e3 : cc0_transform_1 k0_off1_inb numel1_S1 k0_off2_inb pf i 3 < 7 :=
      select_lt _ _ _ 7 (by decide) (select_lt _ _ _ 7 (step_lt _ hf) (by decide))
    fin_cases a
    · show (0 + 1) * 1 ≤ 1; omega
    · show (cc0_transform_1 k0_off1_inb numel1_S1 k0_off2_inb pf i 1 + 1) * 1 ≤ 8; omega
    · show (0 + 1) * 1024 ≤ 1024; omega
    · show (cc0_transform_1 k0_off1_inb numel1_S1 k0_off2_inb pf i 3 + 1) * 512 ≤ 3584; omega
  · have hf : (i 1).val < 8 := (i 1).isLt
    have e1 : cc0_transform_2 k0_off1_inb numel1_S1 k0_off2_inb pf i 1 < 8 := select_lt _ _ _ 8 (h.expert _) (h.expert _)
    have e3 : cc0_transform_2 k0_off1_inb numel1_S1 k0_off2_inb pf i 3 < 7 :=
      select_lt _ _ _ 7 (by decide) (select_lt _ _ _ 7 (step_lt _ hf) (by decide))
    fin_cases a
    · show (0 + 1) * 1 ≤ 1; omega
    · show (cc0_transform_2 k0_off1_inb numel1_S1 k0_off2_inb pf i 1 + 1) * 1 ≤ 8; omega
    · show (0 + 1) * 1024 ≤ 1024; omega
    · show (cc0_transform_2 k0_off1_inb numel1_S1 k0_off2_inb pf i 3 + 1) * 512 ≤ 3584; omega
  · have hf : (i 1).val < 8 := (i 1).isLt
    have e1 : cc0_transform_3 k0_off3_inb numel1_S1 k0_off1_inb pf i 1 < 8 := select_lt _ _ _ 8 (h.expert _) (h.expert _)
    have e3 : cc0_transform_3 k0_off3_inb numel1_S1 k0_off1_inb pf i 2 < 7 :=
      select_lt _ _ _ 7 (by decide) (back_lt _ hf)
    fin_cases a
    · show (0 + 1) * 1 ≤ 1; omega
    · show (cc0_transform_3 k0_off3_inb numel1_S1 k0_off1_inb pf i 1 + 1) * 1 ≤ 8; omega
    · show (cc0_transform_3 k0_off3_inb numel1_S1 k0_off1_inb pf i 2 + 1) * 512 ≤ 3584; omega
    · show (0 + 1) * 1024 ≤ 1024; omega

/-! ## Where the blocks lie -/

/-- The tables' index of a block of rows. -/
def bix (n : Fin 40) : S40.Idx := fun | 0 => n

theorem off1_eq (i : grid0.Coords) : k0_off1 i 0 = (i 0).val := by
  have h : (i 0).val < 40 := (i 0).isLt
  show (BitVec.toNat _) = _
  simp only [Scalar.indexCast]
  generalize (i 0).val = n at h
  revert n; decide

theorem first_eq (i : grid0.Coords) (h : 0 < S1.numel) :
    (Rect.unit (s := S40) (k0_off1 i) S1.size (k0_off1_inb i)).emb (Shape.Idx.first h) = bix (i 0) := by
  funext k
  match k with
  | 0 =>
    refine Fin.ext ?_
    show k0_off1 i 0 + 1 * _ = (i 0).val
    rw [off1_eq i]
    rfl

theorem at0_eq (pf : pre0.Contents (Elt F)) (i : grid0.Coords) :
    pf.at 0 (Rect.unit (s := S40) (k0_off1 i) S1.size (k0_off1_inb i)) numel1_S1 = pf 0 (bix (i 0)) :=
  congrArg (pf 0) (first_eq i _)

theorem at1_eq (pf : pre0.Contents (Elt F)) (i : grid0.Coords) :
    pf.at 1 (Rect.unit (s := S40) (k0_off1 i) S1.size (k0_off1_inb i)) numel1_S1 = pf 1 (bix (i 0)) :=
  congrArg (pf 1) (first_eq i _)

theorem count_pos (b : BitVec 32) (hb : 0 < b.toNat) (hb' : b.toNat ≤ 2048) :
    Scalar.cmpi .sgt b 0#32 = 1#1 ∧ Scalar.cmpi .eq b 0#32 = 0#1 := by
  have e : b = BitVec.ofNat 32 b.toNat := by simp
  have hn : b.toNat < 2049 := by omega
  generalize b.toNat = n at e hn hb
  subst e
  revert n
  decide +kernel

theorem step_eq (f : ℕ) (hf : f < 7) : Scalar.cmpi .eq (BitVec.ofNat 32 f) 7#32 = 0#1 ∧ (Scalar.minsi (BitVec.ofNat 32 f) 6#32).toNat = f := by
  revert f; decide

theorem back_eq (f : ℕ) (hf : f < 8) (h0 : f ≠ 0) :
    Scalar.cmpi .eq (BitVec.ofNat 32 f) 0#32 = 0#1 ∧ (Scalar.maxsi (Scalar.subi (BitVec.ofNat 32 f) 1#32) 0#32).toNat = f - 1 := by
  revert f; decide

theorem and_of {a : BitVec 1} (b : BitVec 1) (h : a = 0#1) : Scalar.andi a b = 0#1 := by subst h; revert b; decide

theorem or_of {a b : BitVec 1} (h : a = 0#1) (h' : b = 0#1) : Scalar.ori a b = 0#1 := by subst h; subst h'; decide

theorem sel_zero {c : BitVec 1} (a : BitVec 32) {b : BitVec 32} {n : ℕ} (h : c = 0#1) (h' : b.toNat = n) : (Scalar.select c a b).toNat = n := by
  subst h; exact h'

theorem sel_one {c : BitVec 1} {a : BitVec 32} (b : BitVec 32) {n : ℕ} (h : c = 1#1) (h' : a.toNat = n) : (Scalar.select c a b).toNat = n := by
  subst h; exact h'

section
variable (pf : pre0.Contents (Elt F)) (h : InRange pf) (i : grid0.Coords)
include h

theorem block_gate (hn : 0 < BitVec.toNat (w := 32) (pf 1 (bix (i 0)))) (hf : (i 1).val < 7) :
    cc0_transform_1 k0_off1_inb numel1_S1 k0_off2_inb pf i = ![0, BitVec.toNat (w := 32) (pf 0 (bix (i 0))), 0, (i 1).val] := by
  funext k
  match k with
  | 0 => rfl
  | 1 => exact sel_zero _ (and_of _ (and_of _ (step_eq _ hf).1)) (congrArg _ (at0_eq pf i))
  | 2 => rfl
  | 3 => exact sel_zero _ (and_of _ (and_of _ (step_eq _ hf).1)) <|
      sel_one _ ((congrArg (fun b => Scalar.cmpi .sgt b 0#32) (at1_eq pf i)).trans (count_pos _ hn (h.count _)).1) (step_eq _ hf).2

theorem block_up (hn : 0 < BitVec.toNat (w := 32) (pf 1 (bix (i 0)))) (hf : (i 1).val < 7) :
    cc0_transform_2 k0_off1_inb numel1_S1 k0_off2_inb pf i = ![0, BitVec.toNat (w := 32) (pf 0 (bix (i 0))), 0, (i 1).val] := by
  funext k
  match k with
  | 0 => rfl
  | 1 => exact sel_zero _ (and_of _ (and_of _ (step_eq _ hf).1)) (congrArg _ (at0_eq pf i))
  | 2 => rfl
  | 3 => exact sel_zero _ (and_of _ (and_of _ (step_eq _ hf).1)) <|
      sel_one _ ((congrArg (fun b => Scalar.cmpi .sgt b 0#32) (at1_eq pf i)).trans (count_pos _ hn (h.count _)).1) (step_eq _ hf).2

theorem block_down (hn : 0 < BitVec.toNat (w := 32) (pf 1 (bix (i 0)))) (hf : (i 1).val ≠ 0) :
    cc0_transform_3 k0_off3_inb numel1_S1 k0_off1_inb pf i = ![0, BitVec.toNat (w := 32) (pf 0 (bix (i 0))), (i 1).val - 1, 0] := by
  have hlt : (i 1).val < 8 := (i 1).isLt
  funext k
  match k with
  | 0 => rfl
  | 1 => exact sel_zero _ (and_of _ (back_eq _ hlt hf).1) (congrArg _ (at0_eq pf i))
  | 2 => exact sel_zero _ (or_of (and_of _ (back_eq _ hlt hf).1)
      ((congrArg (fun b => Scalar.cmpi .eq b 0#32) (at1_eq pf i)).trans (count_pos _ hn (h.count _)).2)) (back_eq _ hlt hf).2
  | 3 => rfl

end

theorem block_rows (i : grid0.Coords) (hf : (i 1).val < 7) : cc0_transform_0 i = ![0, (i 0).val, 0] := by
  have h : (i 0).val < 40 := (i 0).isLt
  funext k
  match k with
  | 0 => rfl
  | 1 => exact sel_zero _ (step_eq _ hf).1 ((BitVec.toNat_ofNat _ _).trans (Nat.mod_eq_of_lt (by omega)))
  | 2 => rfl

theorem block_out (i : grid0.Coords) : cc0_transform_4 i = ![0, (i 0).val, 0] := by
  have h : (i 0).val < 40 := (i 0).isLt
  funext k
  match k with
  | 0 => rfl
  | 1 => exact (BitVec.toNat_ofNat _ _).trans (Nat.mod_eq_of_lt (by omega))
  | 2 => rfl

end Cert.Moe

end
-- ==== Proof.MoeSpec.lean ====
/- The experts' feed-forward blocks: what a block of rows computes, sum by sum, and one grid point's part of it. -/
module

public import proofs.«01_k».proof.Proof.MoeFirst
public import proofs.«01_k».proof.Proof.MoeOdd
public import proofs.«01_k».proof.Proof.MoeEven
public import proofs.«01_k».proof.Proof.MoeLast
public import proofs.«01_k».proof.Proof.MoeTables

@[expose] public section

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! # The blocks' values -/

/-- The call's arguments: each block's expert and count of rows, the rows' words, the three projections. -/
structure Args where
  be : S40.Idx → BitVec 32
  bn : S40.Idx → BitVec 32
  X : S2x81920x256.Idx → BitVec 32
  G : S1x8x1024x3584.Idx → EReal
  U : S1x8x1024x3584.Idx → EReal
  D : S1x8x3584x1024.Idx → EReal

variable (A : Args) (b : Fin 40)

/-- The block's expert. -/
def ex : Fin 8 := ⟨(A.be (bix b)).toNat % 8, Nat.mod_lt _ (by decide)⟩

/-- The block's count of rows in use. -/
def cn : BitVec 32 := A.bn (bix b)

/-- The block's words. -/
def xb : S2x2048x256.Idx → BitVec 32 := fun y =>
  A.X (ix3 (y 0) ⟨2048 * b.val + (y 1).val, by have h : (y 1).val < 2048 := (y 1).isLt; omega⟩ (y 2))

/-- A column of the hidden layer: column `j` of its part `q`. -/
def qc (q : ℕ) (j : Fin 512) : Fin 3584 := ⟨(512 * q + j.val) % 3584, Nat.mod_lt _ (by decide)⟩

/-- A row's hidden values. -/
def act (r : Fin 2048) (q : ℕ) (j : Fin 512) : EReal :=
  gu (hx (cn A b) (xb A b) r) (fun x => A.G (ix4 0 (ex A b) x (qc q j))) (fun x => A.U (ix4 0 (ex A b) x (qc q j)))

/-- A row's result after `q` parts of the hidden layer. -/
def acc (r : Fin 2048) (d : Fin 1024) : ℕ → EReal
  | 0 => 0
  | q + 1 => dn (acc r d q) (act A b r q) (fun x => A.D (ix4 0 (ex A b) (qc q x) d))

/-- What the block's point `f` finds in the scratch buffers. -/
def Inv (f : ℕ) (X0 : S2048x1024.Idx → EReal) (X1 X2 : S2048x512.Idx → EReal) (X3 : S2048x1024.Idx → EReal) : Prop :=
  0 < f → f < 8 → ∀ r : Fin 2048, inC (cn A b).toNat r.val →
    (∀ k, X0 (ix2 r k) = hx (cn A b) (xb A b) r k) ∧ (f % 2 = 1 → ∀ j, X1 (ix2 r j) = act A b r (f - 1) j)
      ∧ (f % 2 = 0 → ∀ j, X2 (ix2 r j) = act A b r (f - 1) j) ∧ (∀ d, X3 (ix2 r d) = acc A b r d (f - 1))

/-- The output block. -/
def outB (p : Fin 2) (R : Fin 4096) (k : Fin 256) : EReal :=
  if inC (cn A b).toNat (R.val / 2) then acc A b ⟨R.val / 2, by omega⟩ (oc p R k) 7 else 0

theorem inC_pos {n r : ℕ} (h : inC n r) : 0 < n := by unfold inC at h; omega

/-! # One point -/

theorem Runs.mono {c : Dev nD} {i : grid0.Coords} {M0 h0 M1 h1 M2 h2 M3 h3 M4 h4 T0 t0 T1 t1 T2 t2 T3 t3 fb f0 f1 f2 f3 f4 g0 g1 g2 g3}
    {P P' : Bf c M4 → Bf c T0 → Bf c T1 → Bf c T2 → Bf c T3 → Prop}
    (h : Runs c i M0 h0 M1 h1 M2 h2 M3 h3 M4 h4 T0 t0 T1 t1 T2 t2 T3 t3 fb f0 f1 f2 f3 f4 g0 g1 g2 g3 P)
    (hP : ∀ f k0 k1 k2 k3, P f k0 k1 k2 k3 → P' f k0 k1 k2 k3) :
    Runs c i M0 h0 M1 h1 M2 h2 M3 h3 M4 h4 T0 t0 T1 t1 T2 t2 T3 t3 fb f0 f1 f2 f3 f4 g0 g1 g2 g3 P' := by
  intro Q
  refine .trans ?_ (h Q)
  iintro ⟨Hb, H0, H1, H2, H3, H4, Hs0, Hs1, Hs2, Hs3, Hk⟩
  isplitl [Hb]; · iexact Hb
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  iintro ⟨%f, %k0, %k1, %k2, %k3, %hp, H⟩
  iapply Hk
  iexists f; iexists k0; iexists k1; iexists k2; iexists k3
  isplitr; · ipureintro; exact hP _ _ _ _ _ hp
  iexact H

set_option maxHeartbeats 1000000 in
/-- One point of a block's run, its blocks and its scratch buffers at what they hold there. -/
theorem run_point (c : Dev nD) (i : grid0.Coords)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (T0 : Memref sig .tc .vmem S2048x1024 .bf16) (t0 : T0.IsWhole) (T1 : Memref sig .tc .vmem S2048x512 .bf16) (t1 : T1.IsWhole)
    (T2 : Memref sig .tc .vmem S2048x512 .bf16) (t2 : T2.IsWhole) (T3 : Memref sig .tc .vmem S2048x1024 .f32) (t3 : T3.IsWhole)
    (fb : Bf c (Memref.whole main_arg1)) (f0 : Bf c M0) (f1 : Bf c M1) (f2 : Bf c M2) (f3 : Bf c M3) (f4 : Bf c M4)
    (g0 : Bf c T0) (g1 : Bf c T1) (g2 : Bf c T2) (g3 : Bf c T3)
    (hv : cnt c i fb = cn A (i 0)) (hn : (cn A (i 0)).toNat ≤ 2048)
    (hX : 0 < (cn A (i 0)).toNat → (i 1).val < 7 → M0.view.read (Elt Ideal) f0 = xb A (i 0))
    (hG : 0 < (cn A (i 0)).toNat → (i 1).val < 7 → ∀ x j, M1.view.read (Elt Ideal) f1 (ix4 0 0 x j) = A.G (ix4 0 (ex A (i 0)) x (qc (i 1).val j)))
    (hU : 0 < (cn A (i 0)).toNat → (i 1).val < 7 → ∀ x j, M2.view.read (Elt Ideal) f2 (ix4 0 0 x j) = A.U (ix4 0 (ex A (i 0)) x (qc (i 1).val j)))
    (hD : 0 < (cn A (i 0)).toNat → (i 1).val ≠ 0 → ∀ x d, M3.view.read (Elt Ideal) f3 (ix4 0 0 x d) = A.D (ix4 0 (ex A (i 0)) (qc ((i 1).val - 1) x) d))
    (hI : Inv A (i 0) (i 1).val (T0.view.read (Elt Ideal) g0) (T1.view.read (Elt Ideal) g1) (T2.view.read (Elt Ideal) g2) (T3.view.read (Elt Ideal) g3)) :
    Runs c i M0 h0 M1 h1 M2 h2 M3 h3 M4 h4 T0 t0 T1 t1 T2 t2 T3 t3 fb f0 f1 f2 f3 f4 g0 g1 g2 g3 fun f k0 k1 k2 k3 =>
      Inv A (i 0) ((i 1).val + 1) (T0.view.read (Elt Ideal) k0) (T1.view.read (Elt Ideal) k1) (T2.view.read (Elt Ideal) k2) (T3.view.read (Elt Ideal) k3)
      ∧ ((i 1).val = 7 → ∀ p R k, M4.view.read (Elt Ideal) f (ix3 p R k) = outB A (i 0) p R k) := by
  have hodd : ∀ q : ℕ, q < 7 → q % 2 = 1 → (i 1).val = q → BitVec.ofNat 32 (i 1).val = BitVec.ofNat 32 q →
      Scalar.cmpi .eq (BitVec.ofNat 32 q) 0#32 = 0#1 → Scalar.cmpi .sgt (BitVec.ofNat 32 q) 0#32 = 1#1 → Scalar.cmpi .slt (BitVec.ofNat 32 q) 7#32 = 1#1 →
      Scalar.cmpi .eq (BitVec.ofNat 32 q) 7#32 = 0#1 → Scalar.remsi (BitVec.ofNat 32 q) 2#32 = 1#32 →
      Runs c i M0 h0 M1 h1 M2 h2 M3 h3 M4 h4 T0 t0 T1 t1 T2 t2 T3 t3 fb f0 f1 f2 f3 f4 g0 g1 g2 g3 fun f k0 k1 k2 k3 =>
      Inv A (i 0) ((i 1).val + 1) (T0.view.read (Elt Ideal) k0) (T1.view.read (Elt Ideal) k1) (T2.view.read (Elt Ideal) k2) (T3.view.read (Elt Ideal) k3)
      ∧ ((i 1).val = 7 → ∀ p R k, M4.view.read (Elt Ideal) f (ix3 p R k) = outB A (i 0) p R k) := by
    intro q hq hq2 hf ha hA hB hC hD' hE
    refine (run_odd c i M0 h0 M1 h1 M2 h2 M3 h3 M4 h4 T0 t0 T1 t1 T2 t2 T3 t3 fb f0 f1 f2 f3 f4 g0 g1 g2 g3 _ hv hn _ ha hA hB hC hD' hE).mono ?_
    rintro f k0 k1 k2 k3 ⟨rfl, e2, e3⟩
    refine ⟨fun _ _ r hr => ?_, fun h7 => absurd h7 (by omega)⟩
    obtain ⟨i0, i1, _, i3⟩ := hI (by omega) (by omega) r hr
    have hp := inC_pos hr
    refine ⟨i0, fun h => absurd h (by omega), fun _ j => ?_, fun d => ?_⟩
    · rw [e2 r j hr]
      show _ = act A (i 0) r ((i 1).val + 1 - 1) j
      unfold act
      congr 1
      · exact funext i0
      · exact funext fun x => hG hp (by omega) x j
      · exact funext fun x => hU hp (by omega) x j
    · rw [e3 r d hr]
      obtain ⟨s, hs⟩ : ∃ s, (i 1).val = s + 1 := ⟨(i 1).val - 1, by omega⟩
      rw [hs] at i1 i3 hD ⊢
      show _ = dn _ _ _
      rw [i3 d]
      congr 1
      · exact funext (i1 (by omega))
      · exact funext fun x => hD hp (by omega) x d
  have heven : ∀ q : ℕ, 0 < q → q < 7 → q % 2 = 0 → (i 1).val = q → BitVec.ofNat 32 (i 1).val = BitVec.ofNat 32 q →
      Scalar.cmpi .eq (BitVec.ofNat 32 q) 0#32 = 0#1 → Scalar.cmpi .sgt (BitVec.ofNat 32 q) 0#32 = 1#1 → Scalar.cmpi .slt (BitVec.ofNat 32 q) 7#32 = 1#1 →
      Scalar.cmpi .eq (BitVec.ofNat 32 q) 7#32 = 0#1 → Scalar.remsi (BitVec.ofNat 32 q) 2#32 = 0#32 →
      Runs c i M0 h0 M1 h1 M2 h2 M3 h3 M4 h4 T0 t0 T1 t1 T2 t2 T3 t3 fb f0 f1 f2 f3 f4 g0 g1 g2 g3 fun f k0 k1 k2 k3 =>
      Inv A (i 0) ((i 1).val + 1) (T0.view.read (Elt Ideal) k0) (T1.view.read (Elt Ideal) k1) (T2.view.read (Elt Ideal) k2) (T3.view.read (Elt Ideal) k3)
      ∧ ((i 1).val = 7 → ∀ p R k, M4.view.read (Elt Ideal) f (ix3 p R k) = outB A (i 0) p R k) := by
    intro q h0' hq hq2 hf ha hA hB hC hD' hE
    refine (run_even c i M0 h0 M1 h1 M2 h2 M3 h3 M4 h4 T0 t0 T1 t1 T2 t2 T3 t3 fb f0 f1 f2 f3 f4 g0 g1 g2 g3 _ hv hn _ ha hA hB hC hD' hE).mono ?_
    rintro f k0 k1 k2 k3 ⟨rfl, e2, e3⟩
    refine ⟨fun _ _ r hr => ?_, fun h7 => absurd h7 (by omega)⟩
    obtain ⟨i0, _, i2, i3⟩ := hI (by omega) (by omega) r hr
    have hp := inC_pos hr
    refine ⟨i0, fun _ j => ?_, fun h => absurd h (by omega), fun d => ?_⟩
    · rw [e2 r j hr]
      show _ = act A (i 0) r ((i 1).val + 1 - 1) j
      unfold act
      congr 1
      · exact funext i0
      · exact funext fun x => hG hp (by omega) x j
      · exact funext fun x => hU hp (by omega) x j
    · rw [e3 r d hr]
      obtain ⟨s, hs⟩ : ∃ s, (i 1).val = s + 1 := ⟨(i 1).val - 1, by omega⟩
      rw [hs] at i2 i3 hD ⊢
      show _ = dn _ _ _
      rw [i3 d]
      congr 1
      · exact funext (i2 (by omega))
      · exact funext fun x => hD hp (by omega) x d
  have hlt : (i 1).val < 8 := (i 1).isLt
  have hcase : (i 1).val = 0 ∨ (i 1).val = 1 ∨ (i 1).val = 2 ∨ (i 1).val = 3 ∨ (i 1).val = 4 ∨ (i 1).val = 5 ∨ (i 1).val = 6 ∨ (i 1).val = 7 := by omega
  rcases hcase with h | h | h | h | h | h | h | h
  · refine (run_first c i M0 h0 M1 h1 M2 h2 M3 h3 M4 h4 T0 t0 T1 t1 T2 t2 T3 t3 fb f0 f1 f2 f3 f4 g0 g1 g2 g3 _ hv hn 0#32 (by rw [h]) (by decide) (by decide) (by decide) (by decide) (by decide)).mono ?_
    rintro f k0 k1 k2 k3 ⟨e1, e2, e3⟩
    refine ⟨fun _ _ r hr => ?_, fun h7 => absurd h7 (by omega)⟩
    have hp := inC_pos hr
    have eX := hX hp (by omega)
    rw [eX] at e1 e2
    rw [h] at hG hU ⊢
    refine ⟨fun k => e1 r k hr, fun _ j => ?_, fun h => absurd h (by omega), fun d => e3 r d hr⟩
    rw [e2 r j hr]
    show _ = act A (i 0) r 0 j
    unfold act
    congr 1
    · exact funext fun x => hG hp (by omega) x j
    · exact funext fun x => hU hp (by omega) x j
  · exact hodd 1 (by decide) (by decide) h (by rw [h]) (by decide) (by decide) (by decide) (by decide) (by decide)
  · exact heven 2 (by decide) (by decide) (by decide) h (by rw [h]) (by decide) (by decide) (by decide) (by decide) (by decide)
  · exact hodd 3 (by decide) (by decide) h (by rw [h]) (by decide) (by decide) (by decide) (by decide) (by decide)
  · exact heven 4 (by decide) (by decide) (by decide) h (by rw [h]) (by decide) (by decide) (by decide) (by decide) (by decide)
  · exact hodd 5 (by decide) (by decide) h (by rw [h]) (by decide) (by decide) (by decide) (by decide) (by decide)
  · exact heven 6 (by decide) (by decide) (by decide) h (by rw [h]) (by decide) (by decide) (by decide) (by decide) (by decide)
  · refine (run_last c i M0 h0 M1 h1 M2 h2 M3 h3 M4 h4 T0 t0 T1 t1 T2 t2 T3 t3 fb f0 f1 f2 f3 f4 g0 g1 g2 g3 _ hv hn 7#32 (by rw [h]) (by decide) (by decide) (by decide) (by decide) (by decide)).mono ?_
    intro f k0 k1 k2 k3 e
    refine ⟨fun _ h8 => absurd h8 (by omega), fun _ p R k => ?_⟩
    rw [e p R k]
    unfold outB
    split
    · next hr =>
      obtain ⟨i0, i1, _, i3⟩ := hI (by omega) (by omega) ⟨R.val / 2, by omega⟩ hr
      have hp := inC_pos hr
      rw [h] at i1 i3 hD
      show _ = dn _ _ _
      rw [i3]
      congr 1
      · exact funext (i1 (by omega))
      · exact funext fun x => hD hp (by omega) x _
    · rfl

end Cert.Moe

end
-- ==== Proof.MoeLaunch.lean ====
/- The experts' feed-forward blocks: the call's run over its grid, with what its result holds. -/
module

public import proofs.«01_k».proof.Proof.MoeSpec
public import Idealize.ShloMosaic.Lib.Pipeline.FrameBody
public import Idealize.ShloMosaic.Lib.Pipeline.ArrRel
public import Idealize.ShloMosaic.Lib.Pipeline.ValueKit.Geometry

@[expose] public section

noncomputable section

namespace Cert.Moe

open Cert.Kernel2Ideal Cert.Kernel2Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The tables as the call finds them. -/
def tbl : pre0.Contents (Elt Ideal) := fun k => m (((0 : Dev nD).tc : Thread nD τ).loc (pre0.ref k))

/-- The arguments on a core. -/
def args (c : Dev nD) : Args where
  be := tbl m 0
  bn := tbl m 1
  X := m ((c : Thread nD τ).loc main_arg2)
  G := m ((c : Thread nD τ).loc main_arg3)
  U := m ((c : Thread nD τ).loc main_arg4)
  D := m ((c : Thread nD τ).loc main_arg5)

variable (hT : InRange (tbl m))

/-- The tables, admissible. -/
def adm : (pcfg0 (F := Ideal)).Adm := ⟨tbl m, ok_of_inRange _ hT⟩

/-- The call at these tables. -/
abbrev cfgM : Cfg sig Λ₀ := pin (pcfgs (F := Ideal)) (fun _ => adm m hT) 0

/-- The block of rows and the step of a point. -/
def blockAt (n : ℕ) : Fin 40 := ⟨n / 8 % 40, Nat.mod_lt _ (by decide)⟩

theorem coords_val : ∀ t : Fin grid0.N, (grid0.coords t 0).val = t.val / 8 % 40 ∧ (grid0.coords t 1).val = t.val % 8 := by
  decide +kernel

theorem coords_eq (t : Fin grid0.N) : (grid0.coords t 0 : Fin 40) = blockAt t.val := Fin.ext (coords_val t).1

/-- The scratch buffers before a point. -/
def scr (c : Dev nD) (n : ℕ) : sProp 𝕄 :=
  iprop(∃ g0 : Bf c (Memref.whole cc0_scratch0), ∃ g1 : Bf c (Memref.whole cc0_scratch1), ∃ g2 : Bf c (Memref.whole cc0_scratch2), ∃ g3 : Bf c (Memref.whole cc0_scratch3),
    ⌜Inv (args m c) (blockAt n) (n % 8) ((Memref.whole cc0_scratch0).view.read (Elt Ideal) g0) ((Memref.whole cc0_scratch1).view.read (Elt Ideal) g1)
      ((Memref.whole cc0_scratch2).view.read (Elt Ideal) g2) ((Memref.whole cc0_scratch3).view.read (Elt Ideal) g3)⌝
    ∗ pt c (Memref.whole cc0_scratch0) g0 ∗ pt c (Memref.whole cc0_scratch1) g1 ∗ pt c (Memref.whole cc0_scratch2) g2 ∗ pt c (Memref.whole cc0_scratch3) g3)

/-- What the run says of the blocks: the inputs' are kept, and the last step of a block of rows leaves its result. -/
def rdat (c : Dev nD) : RDat τ (Elt Ideal) Unit ℕ (UR sig nD τ) ℕ (cfgM m hT) c where
  A w := m ((c : Thread nD τ).loc (arrRef spec0 w))
  after := fun
    | 0 => fun _ Y X => X = Y
    | 1 => fun _ Y X => X = Y
    | 2 => fun _ Y X => X = Y
    | 3 => fun _ Y X => X = Y
    | 4 => fun t _ X => t.val % 8 = 7 → ∀ (p : Fin 2) (R : Fin 4096) (k : Fin 256), X (ix3 p R k) = outB (args m c) (blockAt t.val) p R k
    | ⟨_ + 5, h⟩ => absurd h (Nat.not_lt.2 (Nat.le_add_left _ _))
  Φ t := iprop(scr m c t.val ∗ (∃ r, prngReg c r) ∗ ΦT pre0 (tbl m) c)
  q _ := fullShare
  owed _ := 0

theorem defs₀_row (t : Fin (cfgM m hT).N) : defs₀ (F := Ideal) .tc (cfgM m hT).body ((cfgM m hT).bodyArgs t ((cfgM m hT).slots t))
    = cc0_moe_ffn (grid0.coords t) (Memref.whole main_arg0) (Memref.isWhole_whole _) (Memref.whole main_arg1) (Memref.isWhole_whole _)
        (spec0_0.stage ((cfgM m hT).slots t 0)) (hstage0_0 (((cfgM m hT).slots t 0).cast nbuf0_0))
        (spec0_1.stage ((cfgM m hT).slots t 1)) (hstage0_1 (((cfgM m hT).slots t 1).cast nbuf0_1))
        (spec0_2.stage ((cfgM m hT).slots t 2)) (hstage0_2 (((cfgM m hT).slots t 2).cast nbuf0_2))
        (spec0_3.stage ((cfgM m hT).slots t 3)) (hstage0_3 (((cfgM m hT).slots t 3).cast nbuf0_3))
        (spec0_4.stage ((cfgM m hT).slots t 4)) (hstage0_4 (((cfgM m hT).slots t 4).cast nbuf0_4))
        (Memref.whole cc0_scratch0) (Memref.isWhole_whole _) (Memref.whole cc0_scratch1) (Memref.isWhole_whole _) (Memref.whole cc0_scratch2) (Memref.isWhole_whole _) (Memref.whole cc0_scratch3) (Memref.isWhole_whole _) := by
  unfold defs₀; rw [Defs.onTc_tc]

abbrev ha (c : Dev nD) (f : Bf c (Memref.whole main_arg0)) : sProp 𝕄 :=
  (Memref.whole main_arg0).view.loc (c : Thread nD τ) ↦{fullShare.right} f

theorem tables_eq (c : Dev nD) : (ΦT pre0 (tbl m) c : sProp 𝕄)
    = iprop(ha c (tbl m 0) ∗ hb c (tbl m 1)) := by
  unfold ΦT prefHeld
  exact bigSep_univ_eq_bigSepL [(0 : Fin 2), (1 : Fin 2)] (by decide) (by decide) _

theorem owns_open (c : Dev nD) {sp : Space} {S : Shape} {e : EltTy} (M : Memref sig .tc sp S e) (h : M.IsWhole) (X : S.Idx → Elt Ideal e) :
    (owns (c : Thread nD τ) M fullShare X : sProp 𝕄) ⊢ iprop(∃ f : Bf c M, ⌜M.view.read (Elt Ideal) f = X⌝ ∗ pt c M f) := by
  unfold owns
  rw [h.set_eq_univ]

theorem owns_close (c : Dev nD) {sp : Space} {S : Shape} {e : EltTy} (M : Memref sig .tc sp S e) (h : M.IsWhole) (f : Bf c M) :
    (pt c M f : sProp 𝕄) ⊢ owns (c : Thread nD τ) M fullShare (M.view.read (Elt Ideal) f) := by
  have := owns_intro (Ix := Unit) (Name := ℕ) (U := UR sig nD τ) (Lvl := ℕ) (c : Thread nD τ) M fullShare f
  rw [h.set_eq_univ] at this
  exact this

theorem cnt_eq (c : Dev nD) (i : grid0.Coords) : cnt c i (tbl m 1) = cn (args m c) (i 0) :=
  congrArg (tbl m 1) (first_eq i _)

/-! ## What the blocks hold -/

section
variable (c : Dev nD) (t : Fin (cfgM m hT).N)

theorem fetched_rows (h7 : (grid0.coords t 1).val < 7) (d) : (rdat m hT c).fetched 0 t d = xb (args m c) (grid0.coords t 0) := by
  refine funext fun (y : S2x2048x256.Idx) => ?_
  show m ((c : Thread nD τ).loc main_arg2) _ = m ((c : Thread nD τ).loc main_arg2) _
  refine congrArg (m ((c : Thread nD τ).loc main_arg2)) ?_
  have e := block_rows (grid0.coords t) h7
  refine @funext (Fin 3) _ _ _ fun a => ?_
  refine Fin.ext ?_
  match a with
  | 0 => show cc0_transform_0 (grid0.coords t) 0 * 2 + 1 * (y 0).val = (y 0).val; rw [e]; simp
  | 1 => show cc0_transform_0 (grid0.coords t) 1 * 2048 + 1 * (y 1).val = 2048 * (grid0.coords t 0).val + (y 1).val; rw [e]; simp; omega
  | 2 => show cc0_transform_0 (grid0.coords t) 2 * 256 + 1 * (y 2).val = (y 2).val; rw [e]; simp

theorem ex_val (hT : InRange (tbl m)) (b : Fin 40) : (ex (args m c) b).val = BitVec.toNat (w := 32) (tbl m 0 (bix b)) :=
  Nat.mod_eq_of_lt (hT.expert _)

theorem fetched_gate (hp : 0 < (cn (args m c) (grid0.coords t 0)).toNat) (h7 : (grid0.coords t 1).val < 7) (d) (x : Fin 1024) (j : Fin 512) :
    (rdat m hT c).fetched 1 t d (ix4 0 0 x j) = (args m c).G (ix4 0 (ex (args m c) (grid0.coords t 0)) x (qc (grid0.coords t 1).val j)) := by
  show m ((c : Thread nD τ).loc main_arg3) _ = m ((c : Thread nD τ).loc main_arg3) _
  refine congrArg (m ((c : Thread nD τ).loc main_arg3)) ?_
  have e := block_gate (tbl m) hT (grid0.coords t) hp h7
  have ee := ex_val m c hT (grid0.coords t 0)
  refine @funext (Fin 4) _ _ _ fun a => ?_
  refine Fin.ext ?_
  match a with
  | 0 => show cc0_transform_1 k0_off1_inb numel1_S1 k0_off2_inb (tbl m) (grid0.coords t) 0 * 1 + 1 * 0 = 0; rw [e]; simp
  | 1 => show cc0_transform_1 k0_off1_inb numel1_S1 k0_off2_inb (tbl m) (grid0.coords t) 1 * 1 + 1 * 0 = (ex (args m c) (grid0.coords t 0)).val; rw [e, ee]; simp
  | 2 => show cc0_transform_1 k0_off1_inb numel1_S1 k0_off2_inb (tbl m) (grid0.coords t) 2 * 1024 + 1 * x.val = x.val; rw [e]; simp
  | 3 => show cc0_transform_1 k0_off1_inb numel1_S1 k0_off2_inb (tbl m) (grid0.coords t) 3 * 512 + 1 * j.val = (512 * (grid0.coords t 1).val + j.val) % 3584; rw [e]; simp; omega

theorem fetched_up (hp : 0 < (cn (args m c) (grid0.coords t 0)).toNat) (h7 : (grid0.coords t 1).val < 7) (d) (x : Fin 1024) (j : Fin 512) :
    (rdat m hT c).fetched 2 t d (ix4 0 0 x j) = (args m c).U (ix4 0 (ex (args m c) (grid0.coords t 0)) x (qc (grid0.coords t 1).val j)) := by
  show m ((c : Thread nD τ).loc main_arg4) _ = m ((c : Thread nD τ).loc main_arg4) _
  refine congrArg (m ((c : Thread nD τ).loc main_arg4)) ?_
  have e := block_up (tbl m) hT (grid0.coords t) hp h7
  have ee := ex_val m c hT (grid0.coords t 0)
  refine @funext (Fin 4) _ _ _ fun a => ?_
  refine Fin.ext ?_
  match a with
  | 0 => show cc0_transform_2 k0_off1_inb numel1_S1 k0_off2_inb (tbl m) (grid0.coords t) 0 * 1 + 1 * 0 = 0; rw [e]; simp
  | 1 => show cc0_transform_2 k0_off1_inb numel1_S1 k0_off2_inb (tbl m) (grid0.coords t) 1 * 1 + 1 * 0 = (ex (args m c) (grid0.coords t 0)).val; rw [e, ee]; simp
  | 2 => show cc0_transform_2 k0_off1_inb numel1_S1 k0_off2_inb (tbl m) (grid0.coords t) 2 * 1024 + 1 * x.val = x.val; rw [e]; simp
  | 3 => show cc0_transform_2 k0_off1_inb numel1_S1 k0_off2_inb (tbl m) (grid0.coords t) 3 * 512 + 1 * j.val = (512 * (grid0.coords t 1).val + j.val) % 3584; rw [e]; simp; omega

theorem fetched_down (hp : 0 < (cn (args m c) (grid0.coords t 0)).toNat) (h0 : (grid0.coords t 1).val ≠ 0) (d) (x : Fin 512) (k : Fin 1024) :
    (rdat m hT c).fetched 3 t d (ix4 0 0 x k) = (args m c).D (ix4 0 (ex (args m c) (grid0.coords t 0)) (qc ((grid0.coords t 1).val - 1) x) k) := by
  show m ((c : Thread nD τ).loc main_arg5) _ = m ((c : Thread nD τ).loc main_arg5) _
  refine congrArg (m ((c : Thread nD τ).loc main_arg5)) ?_
  have e := block_down (tbl m) hT (grid0.coords t) hp h0
  have ee := ex_val m c hT (grid0.coords t 0)
  have hlt : (grid0.coords t 1).val < 8 := (grid0.coords t 1).isLt
  refine @funext (Fin 4) _ _ _ fun a => ?_
  refine Fin.ext ?_
  match a with
  | 0 => show cc0_transform_3 k0_off3_inb numel1_S1 k0_off1_inb (tbl m) (grid0.coords t) 0 * 1 + 1 * 0 = 0; rw [e]; simp
  | 1 => show cc0_transform_3 k0_off3_inb numel1_S1 k0_off1_inb (tbl m) (grid0.coords t) 1 * 1 + 1 * 0 = (ex (args m c) (grid0.coords t 0)).val; rw [e, ee]; simp
  | 2 => show cc0_transform_3 k0_off3_inb numel1_S1 k0_off1_inb (tbl m) (grid0.coords t) 2 * 512 + 1 * x.val = (512 * ((grid0.coords t 1).val - 1) + x.val) % 3584; rw [e]; simp; omega
  | 3 => show cc0_transform_3 k0_off3_inb numel1_S1 k0_off1_inb (tbl m) (grid0.coords t) 3 * 1024 + 1 * k.val = k.val; rw [e]; simp

end

/-! ## The body's obligation -/

/-- The invariant after a point. -/
theorem inv_next (c : Dev nD) (t : Fin grid0.N) {X0 X1 X2 X3}
    (h : Inv (args m c) (grid0.coords t 0) ((grid0.coords t 1).val + 1) X0 X1 X2 X3) :
    Inv (args m c) (blockAt (t.val + 1)) ((t.val + 1) % 8) X0 X1 X2 X3 := by
  have e1 : (grid0.coords t 1).val = t.val % 8 := (coords_val t).2
  have e0 : (grid0.coords t 0 : Fin 40) = blockAt t.val := coords_eq t
  rw [e1, e0] at h
  intro hp h8
  have hb : blockAt (t.val + 1) = blockAt t.val := Fin.ext (by show (t.val + 1) / 8 % 40 = t.val / 8 % 40; omega)
  have hf : (t.val + 1) % 8 = t.val % 8 + 1 := by omega
  rw [hb, hf]
  exact h (by omega) (by omega)

include hT in
/-- One grid point, over its blocks. -/
theorem point (c : Dev nD) (t : Fin grid0.N)
    (M0 : Memref sig .tc .vmem S2x2048x256 .i32) (h0 : M0.IsWhole)
    (M1 : Memref sig .tc .vmem S1x1x1024x512 .f32) (h1 : M1.IsWhole)
    (M2 : Memref sig .tc .vmem S1x1x1024x512 .f32) (h2 : M2.IsWhole)
    (M3 : Memref sig .tc .vmem S1x1x512x1024 .f32) (h3 : M3.IsWhole)
    (M4 : Memref sig .tc .vmem S2x4096x256 .bf16) (h4 : M4.IsWhole)
    (Y0 : S2x2048x256.Idx → Elt Ideal .i32) (Y1 : S1x1x1024x512.Idx → Elt Ideal .f32) (Y2 : S1x1x1024x512.Idx → Elt Ideal .f32) (Y3 : S1x1x512x1024.Idx → Elt Ideal .f32) (Y4 : S2x4096x256.Idx → Elt Ideal .bf16) (O : sProp 𝕄)
    (y0 : 0 < (cn (args m c) (grid0.coords t 0)).toNat → (grid0.coords t 1).val < 7 → Y0 = xb (args m c) (grid0.coords t 0))
    (y1 : 0 < (cn (args m c) (grid0.coords t 0)).toNat → (grid0.coords t 1).val < 7 → ∀ x j, Y1 (ix4 0 0 x j) = (args m c).G (ix4 0 (ex (args m c) (grid0.coords t 0)) x (qc (grid0.coords t 1).val j)))
    (y2 : 0 < (cn (args m c) (grid0.coords t 0)).toNat → (grid0.coords t 1).val < 7 → ∀ x j, Y2 (ix4 0 0 x j) = (args m c).U (ix4 0 (ex (args m c) (grid0.coords t 0)) x (qc (grid0.coords t 1).val j)))
    (y3 : 0 < (cn (args m c) (grid0.coords t 0)).toNat → (grid0.coords t 1).val ≠ 0 → ∀ x k, Y3 (ix4 0 0 x k) = (args m c).D (ix4 0 (ex (args m c) (grid0.coords t 0)) (qc ((grid0.coords t 1).val - 1) x) k)) :
    iprop((scr m c t.val ∗ (∃ r, prngReg c r) ∗ ΦT pre0 (tbl m) c) ∗ O
      ∗ owns (c : Thread nD τ) M0 fullShare Y0 ∗ owns (c : Thread nD τ) M1 fullShare Y1 ∗ owns (c : Thread nD τ) M2 fullShare Y2
      ∗ owns (c : Thread nD τ) M3 fullShare Y3 ∗ owns (c : Thread nD τ) M4 fullShare Y4)
    ⊢ wp frame (wpE (defs₀ (F := Ideal)) Variants.none c none) Set.univ
        (cc0_moe_ffn (grid0.coords t) (Memref.whole main_arg0) (Memref.isWhole_whole _) (Memref.whole main_arg1) (Memref.isWhole_whole _) M0 h0 M1 h1 M2 h2 M3 h3 M4 h4
          (Memref.whole cc0_scratch0) (Memref.isWhole_whole _) (Memref.whole cc0_scratch1) (Memref.isWhole_whole _) (Memref.whole cc0_scratch2) (Memref.isWhole_whole _) (Memref.whole cc0_scratch3) (Memref.isWhole_whole _))
        fun _ => iprop((scr m c (t.val + 1) ∗ (∃ r, prngReg c r) ∗ ΦT pre0 (tbl m) c) ∗ O
          ∗ (∃ X, ⌜X = Y0⌝ ∗ owns (c : Thread nD τ) M0 fullShare X) ∗ (∃ X, ⌜X = Y1⌝ ∗ owns (c : Thread nD τ) M1 fullShare X)
          ∗ (∃ X, ⌜X = Y2⌝ ∗ owns (c : Thread nD τ) M2 fullShare X) ∗ (∃ X, ⌜X = Y3⌝ ∗ owns (c : Thread nD τ) M3 fullShare X)
          ∗ (∃ X, ⌜t.val % 8 = 7 → ∀ (p : Fin 2) (R : Fin 4096) (k : Fin 256), X (ix3 p R k) = outB (args m c) (blockAt t.val) p R k⌝ ∗ owns (c : Thread nD τ) M4 fullShare X)) := by
  have e1 : (grid0.coords t 1).val = t.val % 8 := (coords_val t).2
  have e0 : (grid0.coords t 0 : Fin 40) = blockAt t.val := coords_eq t
  rw [tables_eq]
  unfold scr
  iintro ⟨⟨⟨%g0, %g1, %g2, %g3, %hI, Hs0, Hs1, Hs2, Hs3⟩, Hp, Ha, Hb⟩, Ho, H0, H1, H2, H3, H4⟩
  ihave H0' := (owns_open c M0 h0 Y0) $$ H0
  icases H0' with ⟨%f0, %r0, H0⟩
  ihave H1' := (owns_open c M1 h1 Y1) $$ H1
  icases H1' with ⟨%f1, %r1, H1⟩
  ihave H2' := (owns_open c M2 h2 Y2) $$ H2
  icases H2' with ⟨%f2, %r2, H2⟩
  ihave H3' := (owns_open c M3 h3 Y3) $$ H3
  icases H3' with ⟨%f3, %r3, H3⟩
  ihave H4' := (owns_open c M4 h4 Y4) $$ H4
  icases H4' with ⟨%f4, %r4, H4⟩
  have hR := (run_point (args m c) c (grid0.coords t) M0 h0 M1 h1 M2 h2 M3 h3 M4 h4
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (tbl m 1) f0 f1 f2 f3 f4 g0 g1 g2 g3 (cnt_eq m c _) (hT.count _)
    (fun hp h7 => r0.trans (y0 hp h7))
    (fun hp h7 x j => (congrFun r1 _).trans (y1 hp h7 x j))
    (fun hp h7 x j => (congrFun r2 _).trans (y2 hp h7 x j))
    (fun hp h0 x k => (congrFun r3 _).trans (y3 hp h0 x k))
    (by rw [e1, e0]; exact hI))
  unfold Runs at hR
  iapply (hR _)
  isplitl [Hb]; · iexact Hb
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  iintro ⟨%f, %k0, %k1, %k2, %k3, %hP, Hb, H0, H1, H2, H3, H4, Hs0, Hs1, Hs2, Hs3⟩
  isplitl [Hs0 Hs1 Hs2 Hs3 Hp Ha Hb]
  · isplitl [Hs0 Hs1 Hs2 Hs3]
    · iexists k0; iexists k1; iexists k2; iexists k3
      isplitr [Hs0 Hs1 Hs2 Hs3]; · ipureintro; exact inv_next m c t hP.1
      isplitl [Hs0]; · iexact Hs0
      isplitl [Hs1]; · iexact Hs1
      isplitl [Hs2]; · iexact Hs2
      iexact Hs3
    isplitl [Hp]; · iexact Hp
    isplitl [Ha]; · iexact Ha
    iexact Hb
  isplitl [Ho]; · iexact Ho
  isplitl [H0]
  · iexists Y0
    isplitr [H0]; · ipureintro; exact rfl
    rw [← r0]; iapply (owns_close c M0 h0 f0); iexact H0
  isplitl [H1]
  · iexists Y1
    isplitr [H1]; · ipureintro; exact rfl
    rw [← r1]; iapply (owns_close c M1 h1 f1); iexact H1
  isplitl [H2]
  · iexists Y2
    isplitr [H2]; · ipureintro; exact rfl
    rw [← r2]; iapply (owns_close c M2 h2 f2); iexact H2
  isplitl [H3]
  · iexists Y3
    isplitr [H3]; · ipureintro; exact rfl
    rw [← r3]; iapply (owns_close c M3 h3 f3); iexact H3
  iexists (M4.view.read (Elt Ideal) f)
  isplitr [H4]
  · ipureintro
    intro h7 p R k
    have := hP.2 (e1.trans h7) p R k
    rw [e0] at this
    exact this
  iapply (owns_close c M4 h4 f); iexact H4

theorem body_obligation (c : Dev nD) : (rdat m hT c).BodyObligation (defs₀ (F := Ideal)) Variants.none () Set.univ := by
  intro t Y hY
  rw [bigSep_W0, bigSep_W0, defs₀_row]
  obtain ⟨d0, y0⟩ := (rdat m hT c).finds_in_eq_fetched 0 rfl (fun _ _ _ => rfl) (fun _ _ _ h => h) t _ (hY 0)
  obtain ⟨d1, y1⟩ := (rdat m hT c).finds_in_eq_fetched 1 rfl (fun _ _ _ => rfl) (fun _ _ _ h => h) t _ (hY 1)
  obtain ⟨d2, y2⟩ := (rdat m hT c).finds_in_eq_fetched 2 rfl (fun _ _ _ => rfl) (fun _ _ _ h => h) t _ (hY 2)
  obtain ⟨d3, y3⟩ := (rdat m hT c).finds_in_eq_fetched 3 rfl (fun _ _ _ => rfl) (fun _ _ _ h => h) t _ (hY 3)
  exact point m hT c t _ (hstage0_0 (((cfgM m hT).slots t 0).cast nbuf0_0)) _ (hstage0_1 (((cfgM m hT).slots t 1).cast nbuf0_1))
    _ (hstage0_2 (((cfgM m hT).slots t 2).cast nbuf0_2)) _ (hstage0_3 (((cfgM m hT).slots t 3).cast nbuf0_3)) _ (hstage0_4 (((cfgM m hT).slots t 4).cast nbuf0_4))
    (Y 0) (Y 1) (Y 2) (Y 3) (Y 4) _
    (fun _ h7 => y0.trans (fetched_rows m hT c t h7 d0))
    (fun hp h7 x j => (congrFun y1 _).trans (fetched_gate m hT c t hp h7 d1 x j))
    (fun hp h7 x j => (congrFun y2 _).trans (fetched_up m hT c t hp h7 d2 x j))
    (fun hp h0 x k => (congrFun y3 _).trans (fetched_down m hT c t hp h0 d3 x k))

/-! ## The launch -/

theorem inv_zero (c : Dev nD) (X0 X1 X2 X3) : Inv (args m c) (blockAt 0) (0 % 8) X0 X1 X2 X3 := fun h => absurd h (by decide)

theorem enter (c : Dev nD) : iprop(ΦA spec0 c ∗ ΦT pre0 (tbl m) c) ⊢ (iprop(scr m c 0 ∗ (∃ r, prngReg c r) ∗ ΦT pre0 (tbl m) c) : sProp 𝕄) := by
  unfold ΦA scr
  rw [scopedRest0_eq]
  iintro ⟨⟨⟨⟨%g0, Hs0⟩, ⟨%g1, Hs1⟩, ⟨%g2, Hs2⟩, ⟨%g3, Hs3⟩⟩, Hp⟩, HT⟩
  isplitl [Hs0 Hs1 Hs2 Hs3]
  · iexists g0; iexists g1; iexists g2; iexists g3
    isplitr [Hs0 Hs1 Hs2 Hs3]; · ipureintro; exact inv_zero m c _ _ _ _
    isplitl [Hs0]; · iexact Hs0
    isplitl [Hs1]; · iexact Hs1
    isplitl [Hs2]; · iexact Hs2
    iexact Hs3
  isplitl [Hp]; · iexact Hp
  iexact HT

theorem leave (c : Dev nD) (n : ℕ) : (iprop(scr m c n ∗ (∃ r, prngReg c r) ∗ ΦT pre0 (tbl m) c) : sProp 𝕄) ⊢ ΦA spec0 c := by
  unfold ΦA scr
  rw [scopedRest0_eq]
  iintro ⟨⟨%g0, %g1, %g2, %g3, -, Hs0, Hs1, Hs2, Hs3⟩, Hp, -⟩
  isplitl [Hs0 Hs1 Hs2 Hs3]
  · isplitl [Hs0]; · iexists g0; iexact Hs0
    isplitl [Hs1]; · iexists g1; iexact Hs1
    isplitl [Hs2]; · iexists g2; iexact Hs2
    iexists g3; iexact Hs3
  iexact Hp

set_option backward.isDefEq.respectTransparency.types false in
theorem launched (hT : InRange (tbl m)) :
    θ_run (defs (F := Ideal)) (onTc (τ := τ) (main (F := Ideal))) (s₀ m ρ)
      (fun r => RDat.FramePost (cfgM m hT) (rdat m hT) (fun c b => m ((c.tc : Thread nD τ).loc b)) r ∧ r.2.sem = fun _ => 0) :=
  RDat.θ_run_frameP_track (Q' := _) pcfgs (fun _ => adm m hT) 0 launch0 defs₀ Variants.none (rdat m hT) m ρ main
    (body_obligation m hT) (fun c w => by unfold RDat.share; split <;> rfl) (fun _ _ => rfl) (fun c b => m ((c.tc : Thread nD τ).loc b))
    (hmainP_region pcfgs 0 defs₀ Variants.none m main fun c => (main_chain c).trans rfl)
    (fun _ _ => rfl) (fun c k => by rw [Subsingleton.elim c 0]; rfl)
    (fun c => enter m c) (fun c => leave m c _)

end Cert.Moe

end
-- ==== Proof.MoeValue.lean ====
/- The result of the experts' feed-forward blocks: row `4096 b + R` of either half is row `R` of block `b`'s. -/
module

public import proofs.«01_k».proof.Defs
public import proofs.«01_k».proof.Proof.MoeLaunch
public import Idealize.ShloMosaic.Lib.Pipeline.ArrRel
public import Idealize.ShloMosaic.Lib.Pipeline.ValueKit

@[expose] public section

noncomputable section

namespace Cert.Moe

open Cert.Kernel2Ideal Cert.Kernel2Ideal.Gen
open Idealize.ShloMosaic Idealize.ShloMosaic.TcCoe Idealize.ShloMosaic.Tactic Idealize.ShloMosaic.Pipeline
open Idealize.ShloMosaic.Rounds Idealize.SL Idealize.SL.Sem

variable (m : (ℓ : Loc nD τ sig) → Buf (Elt Ideal) ℓ) (ρ : Dev nD → PrngReg)
variable (hT : InRange (tbl m))

/-- The result as one array. -/
def res (c : Dev nD) : S2x163840x256.Idx → EReal := fun x =>
  outB (args m c) ⟨(x 1).val / 4096, by have : (x 1).val < 163840 := (x 1).isLt; omega⟩ (x 0) ⟨(x 1).val % 4096, Nat.mod_lt _ (by decide)⟩ (x 2)

theorem index_out (t : Fin (cfgM m hT).N) : ((cfgM m hT).win 4).index t = ![0, t.val / 8 % 40, 0] :=
  (block_out (grid0.coords t)).trans (by rw [(coords_val t).1])

theorem flush_iff (t : Fin (cfgM m hT).N) : ((cfgM m hT).win 4).flush t = true ↔ t.val % 8 = 7 := by
  have hN : (cfgM m hT).N = 320 := N_0
  have ht : t.val < 320 := Nat.lt_of_lt_of_eq t.isLt hN
  rw [Window.flush_out _ rfl]
  have e := index_out m hT
  constructor
  · rintro (h | ⟨h, hne⟩)
    · have : t.val + 1 = 320 := h.trans hN
      omega
    · by_contra h7
      apply hne
      rw [e, e]
      have : (t.val + 1) / 8 = t.val / 8 := by omega
      show ![0, (t.val + 1) / 8 % 40, 0] = _
      rw [this]
  · intro h7
    by_cases hl : t.val + 1 = 320
    · exact Or.inl (hl.trans hN.symm)
    · refine Or.inr ⟨by show t.val + 1 < (cfgM m hT).N; omega, fun he => ?_⟩
      rw [e, e] at he
      have h1 : (t.val + 1) / 8 % 40 = t.val / 8 % 40 := congrFun he 1
      omega

theorem nblk_out (a : Fin 3) : ((cfgM m hT).win 4).nblk a = (![1, 40, 1] : Fin 3 → ℕ) a := by
  match a with
  | 0 => show (2 + 2 - 1) / 2 = 1; rfl
  | 1 => show (163840 + 4096 - 1) / 4096 = 40; rfl
  | 2 => show (256 + 256 - 1) / 256 = 1; rfl

theorem covers : ((cfgM m hT).win 4).Covers := by
  have hN : (cfgM m hT).N = 320 := N_0
  refine ⟨fun a => ?_, fun β => ?_⟩
  · exact (show ∀ a : Fin 3, 0 < (![2, 4096, 256] : Fin 3 → ℕ) a by decide) a
  · have h1 : (β (1 : Fin 3)).val < 40 := Nat.lt_of_lt_of_eq (β (1 : Fin 3)).isLt (nblk_out m hT 1)
    have h0 : (β (0 : Fin 3)).val < 1 := Nat.lt_of_lt_of_eq (β (0 : Fin 3)).isLt (nblk_out m hT 0)
    have h2 : (β (2 : Fin 3)).val < 1 := Nat.lt_of_lt_of_eq (β (2 : Fin 3)).isLt (nblk_out m hT 2)
    let t : Fin (cfgM m hT).N := ⟨8 * (β (1 : Fin 3)).val + 7, by omega⟩
    refine ⟨t, (flush_iff m hT t).2 (by show (8 * (β (1 : Fin 3)).val + 7) % 8 = 7; omega), fun a => ⟨?_, Or.inl rfl⟩⟩
    rw [index_out m hT t]
    have hv : t.val = 8 * (β (1 : Fin 3)).val + 7 := rfl
    match a with
    | (0 : Fin 3) => show 0 = (β (0 : Fin 3)).val; omega
    | (1 : Fin 3) => show t.val / 8 % 40 = (β (1 : Fin 3)).val; omega
    | (2 : Fin 3) => show 0 = (β (2 : Fin 3)).val; omega

theorem res_emb (c : Dev nD) (t : Fin (cfgM m hT).N) (y : S2x4096x256.Idx) :
    res m c ((((cfgM m hT).win 4).blk t).view.emb y) = outB (args m c) (blockAt t.val) (y 0) (y 1) (y 2) := by
  have e := index_out m hT t
  have y1 : (y 1).val < 4096 := (y 1).isLt
  have e0 : ((((cfgM m hT).win 4).blk t).view.emb y (0 : Fin 3)).val = (y 0).val := by
    show ((cfgM m hT).win 4).index t (0 : Fin 3) * 2 + 1 * (y 0).val = _
    rw [e]; show 0 * 2 + 1 * (y 0).val = _; omega
  have e1 : ((((cfgM m hT).win 4).blk t).view.emb y (1 : Fin 3)).val = 4096 * (t.val / 8 % 40) + (y 1).val := by
    show ((cfgM m hT).win 4).index t (1 : Fin 3) * 4096 + 1 * (y 1).val = _
    rw [e]; show (t.val / 8 % 40) * 4096 + 1 * (y 1).val = _; omega
  have e2 : ((((cfgM m hT).win 4).blk t).view.emb y (2 : Fin 3)).val = (y 2).val := by
    show ((cfgM m hT).win 4).index t (2 : Fin 3) * 256 + 1 * (y 2).val = _
    rw [e]; show 0 * 256 + 1 * (y 2).val = _; omega
  generalize (((cfgM m hT).win 4).blk t).view.emb y = z at e0 e1 e2
  change S2x163840x256.Idx at z
  have a1 : (⟨(z 1).val / 4096, by have : (z 1).val < 163840 := (z 1).isLt; omega⟩ : Fin 40) = blockAt t.val :=
    Fin.ext (by show (z 1).val / 4096 = t.val / 8 % 40; rw [e1]; omega)
  have a2 : (⟨(z 1).val % 4096, Nat.mod_lt _ (by decide)⟩ : Fin 4096) = y 1 :=
    Fin.ext (by show (z 1).val % 4096 = (y 1).val; rw [e1]; omega)
  have a0 : z 0 = y 0 := Fin.ext e0
  have a3 : z 2 = y 2 := Fin.ext e2
  show outB (args m c) ⟨(z 1).val / 4096, _⟩ (z 0) ⟨(z 1).val % 4096, _⟩ (z 2) = _
  rw [a1, a2, a0, a3]

theorem result {r : PUnit × MemSt nD τ sig (Elt Ideal)}
    (h : RDat.FramePost (cfgM m hT) (rdat m hT) (fun c b => m ((c.tc : Thread nD τ).loc b)) r) (c : Dev nD) :
    r.2.mem ((c : Thread nD τ).loc main_v0) = res m c := by
  obtain ⟨after, hL, hA⟩ := RDat.FramePost.exists_exact h c
  refine (hA 4).trans (Dat.arrAt_eq_of_covers ((rdat m hT c).withAfter after) 4 (res m c) (covers m hT) (fun t hf => ?_))
  obtain ⟨Y, -, hX⟩ := hL 4 t hf
  have h7 := (flush_iff m hT t).1 hf
  replace hX := hX h7
  refine fun (y : S2x4096x256.Idx) => (Eq.trans ?_ (res_emb m hT c t y).symm)
  have := hX (y 0) (y 1) (y 2)
  exact (congrArg (fun z : S2x4096x256.Idx => after 4 t z) (ix3_eta (n0 := 2) (n1 := 4096) (n2 := 256) y).symm).trans this

/-- The run: the result, and the arguments unchanged. -/
theorem run_result (hT : InRange (tbl m)) :
    θ_run (defs (F := Ideal)) (onTc (τ := τ) (main (F := Ideal))) (s₀ m ρ) (fun r =>
      (∀ c : Dev nD, r.2.mem ((c : Thread nD τ).loc main_v0) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run _ _ _).mono (fun r (h : _ ∧ _) => ⟨fun c => ⟨result m hT h.1 c,
      (h.1 c).2 main_arg0 (mem_restRefs_of (win := spec0) main_arg0 (by decide) (by decide)),
      (h.1 c).2 main_arg1 (mem_restRefs_of (win := spec0) main_arg1 (by decide) (by decide)),
      RDat.FramePost.arr_in h.1 c 0 rfl, RDat.FramePost.arr_in h.1 c 1 rfl, RDat.FramePost.arr_in h.1 c 2 rfl, RDat.FramePost.arr_in h.1 c 3 rfl⟩, h.2⟩)
    (launched m ρ hT)

end Cert.Moe

end
-- ==== Proof.MoeRef.lean ====
/- The reference of the experts' feed-forward blocks, an element at a time: row `R` of the sum over the experts is
   the row of its own expert where the row is live, and zero elsewhere. -/
module

public import proofs.«01_k».proof.Proof.Gen.Reference2Ideal.Run
public import Idealize.ShloMosaic.Lib.Pointwise
public import Idealize.ShloMosaic.Lib.WordCmp
public import Idealize.ShloMosaic.Lib.Tactic.CleanTypes

@[expose] public section

noncomputable section

namespace Cert.MoeRef

open Cert.Reference2Ideal Cert.Reference2Ideal.Gen Cert.Reference2Ideal.Value
open Idealize.ShloMosaic

/-! ## The layer's mathematics, a row at a time -/

section
variable (X : S2x81920x256.Idx → BitVec 32) (G U : S1x8x1024x3584.Idx → EReal) (D : S1x8x3584x1024.Idx → EReal)

/-- A row of the activations. -/
def hr (R : Fin 81920) (k : Fin 1024) : EReal :=
  if h : k.val < 256 then Ideal.ofBits FTy.f32 (IntOp.andi (X (ix3 0 R ⟨k.val, h⟩)) 4294901760#32)
  else if h : k.val - 256 < 256 then Ideal.ofBits FTy.f32 (IntOp.andi (X (ix3 1 R ⟨k.val - 256, h⟩)) 4294901760#32)
  else if h : k.val - 256 - 256 < 256 then
    Ideal.ofBits FTy.f32 (IntOp.shli ArithUnit.host (X (ix3 0 R ⟨k.val - 256 - 256, h⟩)) 16#32)
  else
    Ideal.ofBits FTy.f32 (IntOp.shli ArithUnit.host (X (ix3 1 R ⟨k.val - 256 - 256 - 256, by omega⟩)) 16#32)

/-- Its product with a column of an up projection. -/
def gr (e : Fin 8) (R : Fin 81920) (j : Fin 3584) : EReal := ∑ x, hr X R x * G (ix4 0 e x j)

/-- Its feed-forward block by an expert. -/
def yr (e : Fin 8) (R : Fin 81920) (d : Fin 1024) : EReal :=
  ∑ x, (gr X G e R x * Ideal.logistic (gr X G e R x) * gr X U e R x) * D (ix4 0 e x d)

end

variable (V : Valuation τ sig (Elt Ideal))

abbrev aE : S40.Idx → BitVec 32 := V (Proc.devRef .tc main_arg0)
abbrev aN : S40.Idx → BitVec 32 := V (Proc.devRef .tc main_arg1)
abbrev aX : S2x81920x256.Idx → BitVec 32 := V (Proc.devRef .tc main_arg2)
abbrev aG : S1x8x1024x3584.Idx → EReal := V (Proc.devRef .tc main_arg3)
abbrev aU : S1x8x1024x3584.Idx → EReal := V (Proc.devRef .tc main_arg4)
abbrev aD : S1x8x3584x1024.Idx → EReal := V (Proc.devRef .tc main_arg5)

/-- The block of a row. -/
def rb (R : Fin 81920) : Fin 40 := ⟨R.val / 2048, by omega⟩

theorem expert_at (R : Fin 81920) : res_main_v17 V (ix2 R 0) = aE V (ix1 (rb R)) := by
  unfold res_main_v17
  clean_types
  pointwise
  rfl

theorem rem_at (R : Fin 81920) : IntOp.remsi ArithUnit.host (BitVec.ofNat 32 R.val) 2048#32 = BitVec.ofNat 32 (R.val % 2048) := by
  have hm : (BitVec.ofNat 32 R.val).msb = false := by
    rw [BitVec.msb_eq_false_iff_two_mul_lt, BitVec.toNat_ofNat]; omega
  unfold IntOp.remsi
  rw [if_neg (by
    unfold IntOp.SDivCorner
    rintro (h | ⟨-, h⟩)
    · exact absurd h (by decide)
    · exact absurd h (by decide))]
  rw [BitVec.srem_eq, hm]
  show BitVec.umod _ _ = _
  apply BitVec.eq_of_toNat_eq
  show (BitVec.ofNat 32 R.val % 2048#32).toNat = _
  rw [BitVec.toNat_umod]
  simp only [BitVec.toNat_ofNat, Nat.reducePow, Nat.reduceMod]
  omega

theorem rest_at (R : ℕ) (hR : R < 2048) :
    Scalar.select
        (IntOp.andi (IntOp.cmpi .ne (IntOp.cmpi .slt (BitVec.ofNat 32 R) 0#32) 0#1) (IntOp.cmpi .ne (BitVec.ofNat 32 R) 0#32))
        (IntOp.addi (BitVec.ofNat 32 R) 2048#32) (BitVec.ofNat 32 R)
      = BitVec.ofNat 32 R := by
  have : IntOp.cmpi .slt (BitVec.ofNat 32 R) 0#32 = 0#1 := by
    simp only [IntOp.cmpi, BitVec.slt_eq_decide, BitVec.toInt_eq_toNat_cond, BitVec.toNat_ofNat, Nat.reducePow, Nat.reduceMod]
    rw [decide_eq_false (by omega)]; rfl
  rw [this, show IntOp.cmpi .ne (0#1) (0#1) = 0#1 from rfl]
  have : ∀ b : BitVec 1, IntOp.andi 0#1 b = 0#1 := by decide
  rw [this]; rfl

theorem live_at (R : Fin 81920) : res_main_v23 V (ix2 R 0) = IntOp.cmpi .slt (BitVec.ofNat 32 (R.val % 2048)) (aN V (ix1 (rb R))) := by
  unfold res_main_v23 res_main_call0_v4 res_main_call0_v2 res_main_call0_v0
  clean_types
  pointwise
  have e : Scalar.select (IntOp.cmpi CmpIPredicate.eq (id (constantI S_ 32 2048#32) ix0) 0#32) (1#32) (id (constantI S_ 32 2048#32) ix0) = 2048#32 := rfl
  rw [e, rem_at, show IntOp.cmpi CmpIPredicate.slt 2048#32 0#32 = 0#1 from rfl, rest_at _ (Nat.mod_lt _ (by decide))]
  rfl

theorem h_at (R : Fin 81920) (k : Fin 1024) : res_main_v14 V (ix2 R k) = hr (aX V) R k := by
  unfold res_main_v14 res_main_v2 res_main_v5 hr
  clean_types
  pointwise

theorem gate0_at (R : Fin 81920) (j : Fin 3584) : res_main_v27 V (ix2 R j) = gr (aX V) (aG V) 0 R j := by
  unfold res_main_v27 gr
  clean_types
  pointwise [h_at]

theorem gate1_at (R : Fin 81920) (j : Fin 3584) : res_main_v43 V (ix2 R j) = gr (aX V) (aG V) 1 R j := by
  unfold res_main_v43 gr
  clean_types
  pointwise [h_at]

theorem gate2_at (R : Fin 81920) (j : Fin 3584) : res_main_v59 V (ix2 R j) = gr (aX V) (aG V) 2 R j := by
  unfold res_main_v59 gr
  clean_types
  pointwise [h_at]

theorem gate3_at (R : Fin 81920) (j : Fin 3584) : res_main_v75 V (ix2 R j) = gr (aX V) (aG V) 3 R j := by
  unfold res_main_v75 gr
  clean_types
  pointwise [h_at]

theorem gate4_at (R : Fin 81920) (j : Fin 3584) : res_main_v91 V (ix2 R j) = gr (aX V) (aG V) 4 R j := by
  unfold res_main_v91 gr
  clean_types
  pointwise [h_at]

theorem gate5_at (R : Fin 81920) (j : Fin 3584) : res_main_v107 V (ix2 R j) = gr (aX V) (aG V) 5 R j := by
  unfold res_main_v107 gr
  clean_types
  pointwise [h_at]

theorem gate6_at (R : Fin 81920) (j : Fin 3584) : res_main_v123 V (ix2 R j) = gr (aX V) (aG V) 6 R j := by
  unfold res_main_v123 gr
  clean_types
  pointwise [h_at]

theorem gate7_at (R : Fin 81920) (j : Fin 3584) : res_main_v139 V (ix2 R j) = gr (aX V) (aG V) 7 R j := by
  unfold res_main_v139 gr
  clean_types
  pointwise [h_at]

/-- One of the eight terms is the row's own. -/
theorem pick (e : Fin 8) (t : Fin 8 → EReal) :
    Scalar.select (IntOp.andi 1#1 (IntOp.cmpi .eq (BitVec.ofNat 32 e.val) 0#32)) (t 0) 0
      + Scalar.select (IntOp.andi 1#1 (IntOp.cmpi .eq (BitVec.ofNat 32 e.val) 1#32)) (t 1) 0
      + Scalar.select (IntOp.andi 1#1 (IntOp.cmpi .eq (BitVec.ofNat 32 e.val) 2#32)) (t 2) 0
      + Scalar.select (IntOp.andi 1#1 (IntOp.cmpi .eq (BitVec.ofNat 32 e.val) 3#32)) (t 3) 0
      + Scalar.select (IntOp.andi 1#1 (IntOp.cmpi .eq (BitVec.ofNat 32 e.val) 4#32)) (t 4) 0
      + Scalar.select (IntOp.andi 1#1 (IntOp.cmpi .eq (BitVec.ofNat 32 e.val) 5#32)) (t 5) 0
      + Scalar.select (IntOp.andi 1#1 (IntOp.cmpi .eq (BitVec.ofNat 32 e.val) 6#32)) (t 6) 0
      + Scalar.select (IntOp.andi 1#1 (IntOp.cmpi .eq (BitVec.ofNat 32 e.val) 7#32)) (t 7) 0 = t e := by
  have h : ∀ e i : Fin 8, IntOp.andi 1#1 (IntOp.cmpi .eq (BitVec.ofNat 32 e.val) (BitVec.ofNat 32 i.val)) = if e = i then 1#1 else 0#1 := by decide
  have hs : ∀ i : Fin 8, Scalar.select (IntOp.andi 1#1 (IntOp.cmpi .eq (BitVec.ofNat 32 e.val) (BitVec.ofNat 32 i.val))) (t i) (0 : EReal) = if e = i then t i else 0 := by
    intro i; rw [h]; split <;> rfl
  have h0 := hs 0; have h1 := hs 1; have h2 := hs 2; have h3 := hs 3; have h4 := hs 4; have h5 := hs 5; have h6 := hs 6; have h7 := hs 7
  simp only [Fin.isValue, show ((0 : Fin 8) : ℕ) = 0 from rfl, show ((1 : Fin 8) : ℕ) = 1 from rfl, show ((2 : Fin 8) : ℕ) = 2 from rfl, show ((3 : Fin 8) : ℕ) = 3 from rfl,
    show ((4 : Fin 8) : ℕ) = 4 from rfl, show ((5 : Fin 8) : ℕ) = 5 from rfl, show ((6 : Fin 8) : ℕ) = 6 from rfl, show ((7 : Fin 8) : ℕ) = 7 from rfl] at h0 h1 h2 h3 h4 h5 h6 h7
  rw [h0, h1, h2, h3, h4, h5, h6, h7]
  fin_cases e <;> simp

/-- A term of a row that is not live. -/
theorem none_at (b : BitVec 1) (t : EReal) : Scalar.select (IntOp.andi 0#1 b) t 0 = (0 : EReal) := by
  have : ∀ b : BitVec 1, IntOp.andi 0#1 b = 0#1 := by decide
  rw [this]; rfl

theorem zero_at : id (constant (F := Ideal) S_ FTy.f32 0#32) ix0 = (0 : EReal) := by
  show constant (F := Ideal) S_ FTy.f32 0#32 ix0 = (0 : EReal)
  pointwise

set_option maxHeartbeats 1000000 in
theorem sum_at (R : Fin 81920) (d : Fin 1024) (e : Fin 8) (he : aE V (ix1 (rb R)) = BitVec.ofNat 32 e.val)
    (hl : IntOp.cmpi .slt (BitVec.ofNat 32 (R.val % 2048)) (aN V (ix1 (rb R))) = 1#1) :
    res_main_v152 V (ix2 R d) = yr (aX V) (aG V) (aU V) (aD V) e R d := by
  unfold res_main_v152 res_main_v88
  clean_types
  pointwise [zero_at, live_at, expert_at, gate0_at, gate1_at, gate2_at, gate3_at, gate4_at, gate5_at, gate6_at, gate7_at, h_at]
  rw [hl, he]
  exact pick e fun e => yr (aX V) (aG V) (aU V) (aD V) e R d

set_option maxHeartbeats 1000000 in
theorem sum_at_none (R : Fin 81920) (d : Fin 1024)
    (hl : IntOp.cmpi .slt (BitVec.ofNat 32 (R.val % 2048)) (aN V (ix1 (rb R))) = 0#1) :
    res_main_v152 V (ix2 R d) = (0 : EReal) := by
  unfold res_main_v152 res_main_v88
  clean_types
  pointwise [zero_at, live_at, expert_at]
  rw [hl]
  simp only [none_at, add_zero]

theorem out_at (p : Fin 2) (q : Fin 163840) (k : Fin 256) (y : FVec Ideal S81920x1024 .f32) : truncf .bf16 (transpose S2x163840x256 [1, 0, 2] (shapeCast _ (concatenate S81920x2x512 1 [⟨S81920x1x512, (broadcastInDim S81920x1x512 ![0, 2] bcast_S81920x512_S81920x1x512_0_2 (extractStridedSlice S81920x512 ![0, 512] y slices_S81920x1024_S81920x512_0_512))⟩, ⟨S81920x1x512, (broadcastInDim S81920x1x512 ![0, 2] bcast_S81920x512_S81920x1x512_0_2 (extractStridedSlice S81920x512 ![0, 0] y slices_S81920x1024_S81920x512_0_0))⟩] concatenates_S81920x1x512_S81920x1x512_S81920x2x512_d1) shapeCasts_S81920x2x512_S163840x2x256) transposes_S163840x2x256_S2x163840x256_1_0_2) bitsLt_bf16_f32 (ix3 p q k)
    = (y (ix2 ⟨q.val / 2, by omega⟩ ⟨(if q.val % 2 = 0 then 512 else 0) + 256 * p.val + k.val, by split <;> omega⟩) : EReal) := by
  clean_types
  pointwise
  by_cases h : q.val % 2 = 0
  · rw [dif_pos (by omega)]
    refine congrArg y (congrArg (ix2 _) (Fin.ext ?_))
    show 512 + (p.val * 256 + k.val) = (if q.val % 2 = 0 then 512 else 0) + 256 * p.val + k.val
    rw [if_pos h]; omega
  · rw [dif_neg (by omega)]
    refine congrArg y (congrArg (ix2 _) (Fin.ext ?_))
    show p.val * 256 + k.val = (if q.val % 2 = 0 then 512 else 0) + 256 * p.val + k.val
    rw [if_neg h]; omega

end Cert.MoeRef

end
-- ==== Proof.MoeEq.lean ====
/- The two sides of the experts' feed-forward blocks agree: the sum over the hidden layer in seven parts is the sum. -/
module

public import proofs.«01_k».proof.Proof.MoeValue
public import proofs.«01_k».proof.Proof.MoeRef

@[expose] public section

noncomputable section

namespace Cert.Moe

open Cert.Kernel2Ideal Cert.Kernel2Ideal.Gen
open Idealize.ShloMosaic

variable (A : Args) (b : Fin 40)

/-- A row of a block, among all rows. -/
def rowOf (r : Fin 2048) : Fin 81920 := ⟨2048 * b.val + r.val, by omega⟩

theorem live_iff (n : BitVec 32) (hn : n.toNat ≤ 2048) (r : ℕ) (hr : r < 2048) :
    IntOp.cmpi .slt (BitVec.ofNat 32 r) n = if r < n.toNat then 1#1 else 0#1 := by
  simp only [IntOp.cmpi, BitVec.slt_eq_decide, BitVec.toInt_eq_toNat_cond, BitVec.toNat_ofNat, Nat.reducePow]
  have e : r % 4294967296 = r := Nat.mod_eq_of_lt (by omega)
  rw [e, if_pos (by omega), if_pos (by omega)]
  by_cases h : r < n.toNat
  · rw [if_pos h, decide_eq_true (by omega)]; rfl
  · rw [if_neg h, decide_eq_false (by omega)]; rfl

theorem shl_eq (w : BitVec 32) : IntOp.shli ArithUnit.vector w 16#32 = IntOp.shli ArithUnit.host w 16#32 := rfl

theorem hx_live (r : Fin 2048) (hn : (cn A b).toNat ≤ 2048) (h : r.val < (cn A b).toNat) (k : Fin 1024) :
    hx (cn A b) (xb A b) r k = MoeRef.hr A.X (rowOf b r) k := by
  have hl : ∀ w, lv (cn A b) w r.val = w := fun w => by
    unfold lv; rw [live_iff _ hn _ r.isLt, if_pos h]; rfl
  unfold hx MoeRef.hr
  simp only [hl, shl_eq]
  rfl

theorem hx_dead (r : Fin 2048) (hn : (cn A b).toNat ≤ 2048) (h : ¬ r.val < (cn A b).toNat) (k : Fin 1024) :
    hx (cn A b) (xb A b) r k = 0 := by
  have hl : ∀ w, lv (cn A b) w r.val = 0#32 := fun w => by
    unfold lv; rw [live_iff _ hn _ r.isLt, if_neg h]; rfl
  have h0 : Ideal.ofBits FTy.f32 (IntOp.andi 0#32 4294901760#32) = 0 := by
    rw [show IntOp.andi 0#32 4294901760#32 = 0#32 from rfl]; exact Ideal.ofBits_zero _
  have h1 : Ideal.ofBits FTy.f32 (IntOp.shli ArithUnit.vector 0#32 16#32) = 0 := by
    rw [show IntOp.shli ArithUnit.vector 0#32 16#32 = 0#32 from rfl]; exact Ideal.ofBits_zero _
  unfold hx
  simp only [hl]
  rw [h0, h1]
  split_ifs <;> rfl

theorem gu_zero (W U : Fin 1024 → EReal) : gu (fun _ => 0) W U = 0 := by
  unfold gu; simp only [zero_mul, Finset.sum_const_zero, mul_zero]

theorem acc_dead (r : Fin 2048) (hn : (cn A b).toNat ≤ 2048) (h : ¬ r.val < (cn A b).toNat) (d : Fin 1024) (q : ℕ) :
    acc A b r d q = 0 := by
  induction q with
  | zero => rfl
  | succ q ih =>
    have ha : act A b r q = fun _ => 0 := funext fun j => by
      unfold act
      rw [show hx (cn A b) (xb A b) r = fun _ => 0 from funext (hx_dead A b r hn h)]
      exact gu_zero _ _
    show dn (acc A b r d q) (act A b r q) _ = 0
    rw [ih, ha]
    unfold dn
    simp only [zero_mul, Finset.sum_const_zero, add_zero]

/-- One term of the sum over the hidden layer. -/
def term (r : Fin 2048) (d : Fin 1024) (j : ℕ) : EReal :=
  (fun x : Fin 3584 => (MoeRef.gr A.X A.G (ex A b) (rowOf b r) x * Ideal.logistic (MoeRef.gr A.X A.G (ex A b) (rowOf b r) x)
    * MoeRef.gr A.X A.U (ex A b) (rowOf b r) x) * A.D (ix4 0 (ex A b) x d)) ⟨j % 3584, Nat.mod_lt _ (by decide)⟩

theorem acc_live (r : Fin 2048) (hn : (cn A b).toNat ≤ 2048) (h : r.val < (cn A b).toNat) (d : Fin 1024) (q : ℕ) :
    acc A b r d q = ∑ j ∈ Finset.range (512 * q), term A b r d j := by
  induction q with
  | zero => rfl
  | succ q ih =>
    show dn (acc A b r d q) (act A b r q) _ = _
    rw [ih, Nat.mul_succ, Finset.sum_range_add, Finset.sum_range (fun x => term A b r d (512 * q + x))]
    unfold dn
    refine congrArg _ (Finset.sum_congr rfl fun j _ => ?_)
    unfold act
    rw [show hx (cn A b) (xb A b) r = MoeRef.hr A.X (rowOf b r) from funext (hx_live A b r hn h)]
    rfl

theorem acc_row (r : Fin 2048) (hn : (cn A b).toNat ≤ 2048) (h : r.val < (cn A b).toNat) (d : Fin 1024) :
    acc A b r d 7 = MoeRef.yr A.X A.G A.U A.D (ex A b) (rowOf b r) d := by
  rw [acc_live A b r hn h, show 512 * 7 = 3584 from rfl, Finset.sum_range]
  unfold MoeRef.yr
  refine Finset.sum_congr rfl fun x _ => ?_
  unfold term
  have e : (⟨x.val % 3584, Nat.mod_lt _ (by decide)⟩ : Fin 3584) = x := Fin.ext (Nat.mod_eq_of_lt x.isLt)
  rw [e]

theorem inC_of_lt {n r : ℕ} (h : r < n) (hr : r < 2048) : inC n r := by unfold inC; omega

/-- A row of the output block. -/
theorem outB_eq (hn : (cn A b).toNat ≤ 2048) (p : Fin 2) (R : Fin 4096) (k : Fin 256) :
    outB A b p R k = if R.val / 2 < (cn A b).toNat then
      MoeRef.yr A.X A.G A.U A.D (ex A b) (rowOf b ⟨R.val / 2, by omega⟩) (oc p R k) else 0 := by
  unfold outB
  by_cases h : R.val / 2 < (cn A b).toNat
  · rw [if_pos h, if_pos (inC_of_lt h (by omega)), acc_row A b _ hn h]
  · rw [if_neg h]
    split
    · exact acc_dead A b _ hn h _ _
    · rfl

end Cert.Moe

end
-- ==== Proof.MoeEnd.lean ====
/- The experts' feed-forward blocks: the reference's result is the call's. -/
module

public import proofs.«01_k».proof.Proof.MoeEq

@[expose] public section

noncomputable section

namespace Cert.Moe

open Cert.Kernel2Ideal Cert.Kernel2Ideal.Gen
open Idealize.ShloMosaic

/-- What the reference leaves at a row of the result, from the sum over the experts. -/
theorem ref_row (V : Valuation Cert.Reference2Ideal.τ Cert.Reference2Ideal.sig (Elt Ideal)) (A : Args)
    (hE : A.be = MoeRef.aE V) (hN : A.bn = MoeRef.aN V) (hX : A.X = MoeRef.aX V) (hG : A.G = MoeRef.aG V) (hU : A.U = MoeRef.aU V)
    (hD : A.D = MoeRef.aD V) (he : ∀ x, (A.be x).toNat < 8) (hn : ∀ x, (A.bn x).toNat ≤ 2048)
    (b : Fin 40) (R : Fin 4096) (p : Fin 2) (k : Fin 256) (d : Fin 1024) (hd : d = oc p R k) :
    Cert.Reference2Ideal.Value.res_main_v152 V (ix2 (rowOf b ⟨R.val / 2, by omega⟩) d) = (outB A b p R k : EReal) := by
  subst hd
  have hb : ix1 (MoeRef.rb (rowOf b ⟨R.val / 2, by omega⟩)) = bix b := by
    refine @funext (Fin 1) _ _ _ fun a => ?_
    match a with
    | 0 => exact Fin.ext (by show (2048 * b.val + R.val / 2) / 2048 = b.val; omega)
  have hm : (rowOf b ⟨R.val / 2, by omega⟩).val % 2048 = R.val / 2 := by show (2048 * b.val + R.val / 2) % 2048 = _; omega
  have hl := live_iff (cn A b) (hn _) (R.val / 2) (by omega)
  have hc : MoeRef.aN V (ix1 (MoeRef.rb (rowOf b ⟨R.val / 2, by omega⟩))) = cn A b := by
    rw [hb, ← hN]; rfl
  rw [outB_eq A b (hn _)]
  by_cases h : R.val / 2 < (cn A b).toNat
  · rw [if_pos h] at hl ⊢
    rw [hX, hG, hU, hD]
    refine MoeRef.sum_at V _ _ (ex A b) ?_ ?_
    · rw [hb, ← hE]
      refine BitVec.eq_of_toNat_eq ?_
      have := he (bix b)
      show (A.be (bix b)).toNat = (BitVec.ofNat 32 ((A.be (bix b)).toNat % 8)).toNat
      simp only [BitVec.toNat_ofNat, Nat.reducePow]
      omega
    · rw [hc, hm]; exact hl
  · rw [if_neg h] at hl ⊢
    exact MoeRef.sum_at_none V _ _ (by rw [hc, hm]; exact hl)

/-- The reference's result, read off the sum over the experts, is the call's. -/
theorem ref_result (m : (ℓ : Loc nD τ sig) → Buf (Elt Ideal) ℓ) (hT : InRange (tbl m)) (c : Dev nD)
    (V : Valuation Cert.Reference2Ideal.τ Cert.Reference2Ideal.sig (Elt Ideal))
    (hE : (args m c).be = MoeRef.aE V) (hN : (args m c).bn = MoeRef.aN V) (hX : (args m c).X = MoeRef.aX V) (hG : (args m c).G = MoeRef.aG V)
    (hU : (args m c).U = MoeRef.aU V) (hD : (args m c).D = MoeRef.aD V) (T : S2x163840x256.Idx → EReal)
    (h : ∀ (p : Fin 2) (q : Fin 163840) (k : Fin 256), T (ix3 p q k) = (Cert.Reference2Ideal.Value.res_main_v152 V
      (ix2 ⟨q.val / 2, by omega⟩ ⟨(if q.val % 2 = 0 then 512 else 0) + 256 * p.val + k.val, by split <;> omega⟩) : EReal)) :
    T = res m c := by
  refine funext fun (x : S2x163840x256.Idx) => ?_
  have hq : (x 1).val < 163840 := (x 1).isLt
  have e := ref_row V (args m c) hE hN hX hG hU hD hT.expert hT.count ⟨(x 1).val / 4096, by omega⟩ ⟨(x 1).val % 4096, Nat.mod_lt _ (by decide)⟩ (x 0) (x 2) _ rfl
  have ea : (rowOf ⟨(x 1).val / 4096, by omega⟩ ⟨(x 1).val % 4096 / 2, by omega⟩ : Fin 81920) = ⟨(x 1).val / 2, by omega⟩ :=
    Fin.ext (by show 2048 * ((x 1).val / 4096) + (x 1).val % 4096 / 2 = (x 1).val / 2; omega)
  have ed : oc (x 0) ⟨(x 1).val % 4096, Nat.mod_lt _ (by decide)⟩ (x 2)
      = ⟨(if (x 1).val % 2 = 0 then 512 else 0) + 256 * (x 0).val + (x 2).val, by
          have h0 : (x 0).val < 2 := (x 0).isLt
          have h2 : (x 2).val < 256 := (x 2).isLt
          split <;> omega⟩ := Fin.ext (by
    show (if (x 1).val % 4096 % 2 = 0 then 512 else 0) + 256 * (x 0).val + (x 2).val = (if (x 1).val % 2 = 0 then 512 else 0) + 256 * (x 0).val + (x 2).val
    rw [show (x 1).val % 4096 % 2 = (x 1).val % 2 by omega])
  refine (congrArg T (ix3_eta (n0 := 2) (n1 := 163840) (n2 := 256) x).symm).trans ((h (x 0) (x 1) (x 2)).trans (Eq.trans ?_ e))
  rw [← ea, ← ed]

end Cert.Moe

end
-- ==== Proof.CombineRow.lean ====
/- One point of the combination: what it leaves at a row and a column of its block, from the blocks it reads. -/
module

public import proofs.«01_k».proof.Proof.Gen.Kernel3Ideal.Frame
public import Idealize.ShloMosaic.Lib.Pointwise
public import Idealize.ShloMosaic.Lib.Tactic.CleanTypes
public import Idealize.ShloMosaic.Lib.Pipeline.ValueKit

@[expose] public section

noncomputable section

namespace Cert.Combine

open Cert.Kernel3Ideal Cert.Kernel3Ideal.Gen
open Idealize.ShloMosaic Idealize.ShloMosaic.TcCoe Idealize.ShloMosaic.Pipeline

/-- A row of an expert's output: the high halves of the two planes' words, then the low halves. -/
def cat (A B : S1x1x1024x256.Idx → BitVec 32) (r d : Fin 1024) : EReal :=
  if h : d.val < 256 then Ideal.ofBits FTy.f32 (IntOp.andi (A (ix4 0 0 r ⟨d.val, h⟩)) 4294901760#32)
  else if h : d.val - 256 < 256 then Ideal.ofBits FTy.f32 (IntOp.andi (B (ix4 0 0 r ⟨d.val - 256, h⟩)) 4294901760#32)
  else if h : d.val - 256 - 256 < 256 then
    Ideal.ofBits FTy.f32 (IntOp.shli ArithUnit.vector (A (ix4 0 0 r ⟨d.val - 256 - 256, h⟩)) 16#32)
  else
    Ideal.ofBits FTy.f32 (IntOp.shli ArithUnit.vector (B (ix4 0 0 r ⟨d.val - 256 - 256 - 256, by omega⟩)) 16#32)

variable (P0 : S1024x1024.Idx → EReal) (P1 P4 : S1024x1.Idx → EReal) (P2 P3 P5 P6 : S1x1x1024x256.Idx → BitVec 32) (P7 : S1x1024.Idx → EReal)

/-- The residual and the two weighted rows. -/
def ob (r d : Fin 1024) : EReal :=
  P0 (ix2 r d) + (P1 (ix2 r 0) * cat P2 P3 r d + P4 (ix2 r 0) * cat P5 P6 r d)

/-- The row after its norm. -/
def nb (r d : Fin 1024) : EReal :=
  ob P0 P1 P4 P2 P3 P5 P6 r d
      * Ideal.rsqrt (Ideal.div (∑ x, ob P0 P1 P4 P2 P3 P5 P6 r x * ob P0 P1 P4 P2 P3 P5 P6 r x) (Ideal.ofBits FTy.f32 1149239296#32)
        + Ideal.ofBits FTy.f32 897988541#32)
    * P7 (ix2 0 d)

theorem nb_of (r d : Fin 1024) (f : Fin 1024 → EReal) (g : EReal) (hf : ∀ x, ob P0 P1 P4 P2 P3 P5 P6 r x = f x) (hg : P7 (ix2 0 d) = g) :
    nb P0 P1 P4 P2 P3 P5 P6 P7 r d
      = f d * Ideal.rsqrt (Ideal.div (∑ x, f x * f x) (Ideal.ofBits FTy.f32 1149239296#32) + Ideal.ofBits FTy.f32 897988541#32) * g := by
  unfold nb
  simp only [hf, hg]

theorem pay_at (r d : Fin 1024) :
    k0_pay1 (F := Ideal) P4 (k0_pay2 P0) (k0_pay3 P1 P2 P3) (k0_pay4 (F := Ideal) P5) (k0_pay5 P5) k0_pay6 P6 P7 (ix2 r d)
      = nb P0 P1 P4 P2 P3 P5 P6 P7 r d := by
  unfold k0_pay1 k0_pay2 k0_pay3 k0_pay5 k0_pay4 k0_pay6 nb ob cat
  clean_types
  pointwise

end Cert.Combine
-- ==== Proof.CombineRef.lean ====
/- The reference of the combination, an element at a time: the residual plus the two experts' rows, weighted, each row
   then divided by the root of its mean square and scaled. -/
module

public import proofs.«01_k».proof.Proof.Gen.Reference3Ideal.Run
public import Idealize.ShloMosaic.Lib.Pointwise
public import Idealize.ShloMosaic.Lib.Tactic.CleanTypes

@[expose] public section

noncomputable section

namespace Cert.CombineRef

open Cert.Reference3Ideal Cert.Reference3Ideal.Gen Cert.Reference3Ideal.Value
open Idealize.ShloMosaic Idealize.ShloMosaic.TcCoe

section
variable (X : S8x4096x1024.Idx → EReal) (Y : S2x2x32768x256.Idx → BitVec 32) (W : S32768x128.Idx → EReal) (g : S1024.Idx → EReal)

/-- A row of an expert's output. -/
def yrow (k : Fin 2) (R : Fin 32768) (d : Fin 1024) : EReal :=
  if h : d.val < 256 then Ideal.ofBits FTy.f32 (IntOp.andi (Y (ix4 0 k R ⟨d.val, h⟩)) 4294901760#32)
  else if h : d.val - 256 < 256 then Ideal.ofBits FTy.f32 (IntOp.andi (Y (ix4 1 k R ⟨d.val - 256, h⟩)) 4294901760#32)
  else if h : d.val - 256 - 256 < 256 then
    Ideal.ofBits FTy.f32 (IntOp.shli ArithUnit.host (Y (ix4 0 k R ⟨d.val - 256 - 256, h⟩)) 16#32)
  else
    Ideal.ofBits FTy.f32 (IntOp.shli ArithUnit.host (Y (ix4 1 k R ⟨d.val - 256 - 256 - 256, by omega⟩)) 16#32)

/-- A row of the layer's output before its norm. -/
def orow (R : Fin 32768) (d : Fin 1024) : EReal :=
  X (ix3 ⟨R.val / 4096, by omega⟩ ⟨R.val % 4096, Nat.mod_lt _ (by decide)⟩ d)
    + (W (ix2 R 0) * yrow Y 0 R d + W (ix2 R 1) * yrow Y 1 R d)

/-- The row after it. -/
def outRow (R : Fin 32768) (d : Fin 1024) : EReal :=
  orow X Y W R d * Ideal.rsqrt (Ideal.div (∑ x, orow X Y W R x * orow X Y W R x) (Ideal.ofBits FTy.f32 1149239296#32)
      + Ideal.ofBits FTy.f32 897988541#32) * g (ix1 d)

end

variable (m : (ℓ : Loc nD τ sig) → Buf (Elt Ideal) ℓ)

/-- A row of the result, among all rows. -/
def rowAt (b : Fin 8) (s : Fin 4096) : Fin 32768 := ⟨b.val * 4096 + s.val, by omega⟩

theorem out_at (c : Dev nD) (b : Fin 8) (s : Fin 4096) (d : Fin 1024) :
    res_main_v44 (F := Ideal) m c (ix3 b s d)
      = outRow (m ((c.tc : Thread nD τ).loc main_arg0)) (m ((c.tc : Thread nD τ).loc main_arg1))
          (m ((c.tc : Thread nD τ).loc main_arg2)) (m ((c.tc : Thread nD τ).loc main_arg3)) (rowAt b s) d := by
  have e0 : (⟨(rowAt b s).val / 4096, by have := (rowAt b s).isLt; omega⟩ : Fin 8) = b :=
    Fin.ext (by show (b.val * 4096 + s.val) / 4096 = b.val; omega)
  have e1 : (⟨(rowAt b s).val % 4096, Nat.mod_lt _ (by decide)⟩ : Fin 4096) = s :=
    Fin.ext (by show (b.val * 4096 + s.val) % 4096 = s.val; omega)
  unfold res_main_v44 outRow orow yrow
  rw [e0, e1]
  unfold rowAt
  clean_types
  pointwise

end Cert.CombineRef
-- ==== Proof.CombineValue.lean ====
/- The result of the combination: row `1024 t + r` is what point `t` leaves at row `r` of its block. -/
module

public import proofs.«01_k».proof.Proof.CombineRow
public import proofs.«01_k».proof.Proof.CombineRef
public import Idealize.ShloMosaic.Lib.Pipeline.ArrRel

@[expose] public section

noncomputable section

namespace Cert.Combine

open Cert.Kernel3Ideal Cert.Kernel3Ideal.Gen
open Idealize.ShloMosaic Idealize.ShloMosaic.TcCoe Idealize.ShloMosaic.Pipeline
open Idealize.SL Idealize.SL.Sem

variable (m : (ℓ : Loc nD τ sig) → Buf (Elt Ideal) ℓ) (ρ : Dev nD → PrngReg) (c : Dev nD)

abbrev aX : S8x4096x1024.Idx → EReal := m ((c.tc : Thread nD τ).loc main_arg0)
abbrev aY : S2x2x32768x256.Idx → BitVec 32 := m ((c.tc : Thread nD τ).loc main_arg1)
abbrev aW : S32768x128.Idx → EReal := m ((c.tc : Thread nD τ).loc main_arg2)
abbrev aG : S1024.Idx → EReal := m ((c.tc : Thread nD τ).loc main_arg3)

/-- A row of a block, among all rows. -/
def rowOf (t r : ℕ) : Fin 32768 := ⟨(1024 * t + r) % 32768, Nat.mod_lt _ (by decide)⟩

theorem coords_val : ∀ t : Fin grid0.N, (grid0.coords t 0).val = t.val := by decide +kernel

theorem index_rows : ∀ t : Fin grid0.N, win0_0.index t = ![t.val, 0] := by decide +kernel
theorem index_words : ∀ t : Fin grid0.N, win0_1.index t = ![0, 0, t.val, 0] := by decide +kernel
theorem index_weights : ∀ t : Fin grid0.N, win0_2.index t = ![t.val, 0] := by decide +kernel
theorem index_scale : ∀ t : Fin grid0.N, win0_3.index t = ![0, 0] := by decide +kernel
theorem index_out : ∀ t : Fin grid0.N, win0_4.index t = ![t.val, 0] := by decide +kernel

theorem V_rows : V m c main_v0 = shapeCast S32768x1024 (aX m c) shapeCasts_S8x4096x1024_S32768x1024 := rfl
theorem V_scale : V m c main_v1 = shapeCast S1x1024 (aG m c) shapeCasts_S1024_S1x1024 := rfl

theorem rows_at (t : Fin cfg0.N) (r d : Fin 1024) :
    iblk m c 0 t (ix2 r d) = aX m c (ix3 ⟨(rowOf t.val r.val).val / 4096, by have := (rowOf t.val r.val).isLt; omega⟩
      ⟨(rowOf t.val r.val).val % 4096, Nat.mod_lt _ (by decide)⟩ d) := by
  have hN : cfg0.N = 32 := N_0
  have ht : t.val < 32 := Nat.lt_of_lt_of_eq t.isLt hN
  have e : ((cfg0.win 0).blk t).view.emb (ix2 r d) = (ix2 (rowOf t.val r.val) d : S32768x1024.Idx) := by
    funext a
    apply Fin.ext
    match a with
    | (0 : Fin 2) =>
      show win0_0.index t (0 : Fin 2) * 1024 + 1 * r.val = (1024 * t.val + r.val) % 32768
      rw [index_rows]; show t.val * 1024 + 1 * r.val = _; omega
    | (1 : Fin 2) =>
      show win0_0.index t (1 : Fin 2) * 1024 + 1 * d.val = d.val
      rw [index_rows]; show 0 * 1024 + 1 * d.val = _; omega
  show V m c main_v0 (((cfg0.win 0).blk t).view.emb (ix2 r d)) = _
  rw [e, V_rows]
  clean_types
  pointwise

theorem words_at (t : Fin cfg0.N) (p k : Fin 2) (r : Fin 1024) (d : Fin 256) :
    iblk m c 1 t (ix4 p k r d) = aY m c (ix4 p k (rowOf t.val r.val) d) := by
  have hN : cfg0.N = 32 := N_0
  have ht : t.val < 32 := Nat.lt_of_lt_of_eq t.isLt hN
  have e : ((cfg0.win 1).blk t).view.emb (ix4 p k r d) = (ix4 p k (rowOf t.val r.val) d : S2x2x32768x256.Idx) := by
    funext a
    apply Fin.ext
    match a with
    | (0 : Fin 4) =>
      show win0_1.index t (0 : Fin 4) * 2 + 1 * p.val = p.val
      rw [index_words]; show 0 * 2 + 1 * p.val = _; omega
    | (1 : Fin 4) =>
      show win0_1.index t (1 : Fin 4) * 2 + 1 * k.val = k.val
      rw [index_words]; show 0 * 2 + 1 * k.val = _; omega
    | (2 : Fin 4) =>
      show win0_1.index t (2 : Fin 4) * 1024 + 1 * r.val = (1024 * t.val + r.val) % 32768
      rw [index_words]; show t.val * 1024 + 1 * r.val = _; omega
    | (3 : Fin 4) =>
      show win0_1.index t (3 : Fin 4) * 256 + 1 * d.val = d.val
      rw [index_words]; show 0 * 256 + 1 * d.val = _; omega
  show V m c main_arg1 (((cfg0.win 1).blk t).view.emb (ix4 p k r d)) = _
  rw [e, V_main_arg1]

theorem weights_at (t : Fin cfg0.N) (r : Fin 1024) (j : Fin 128) :
    iblk m c 2 t (ix2 r j) = aW m c (ix2 (rowOf t.val r.val) j) := by
  have hN : cfg0.N = 32 := N_0
  have ht : t.val < 32 := Nat.lt_of_lt_of_eq t.isLt hN
  have e : ((cfg0.win 2).blk t).view.emb (ix2 r j) = (ix2 (rowOf t.val r.val) j : S32768x128.Idx) := by
    funext a
    apply Fin.ext
    match a with
    | (0 : Fin 2) =>
      show win0_2.index t (0 : Fin 2) * 1024 + 1 * r.val = (1024 * t.val + r.val) % 32768
      rw [index_weights]; show t.val * 1024 + 1 * r.val = _; omega
    | (1 : Fin 2) =>
      show win0_2.index t (1 : Fin 2) * 128 + 1 * j.val = j.val
      rw [index_weights]; show 0 * 128 + 1 * j.val = _; omega
  show V m c main_arg2 (((cfg0.win 2).blk t).view.emb (ix2 r j)) = _
  rw [e, V_main_arg2]

theorem scale_at (t : Fin cfg0.N) (d : Fin 1024) : iblk m c 3 t (ix2 0 d) = aG m c (ix1 d) := by
  have e : ((cfg0.win 3).blk t).view.emb (ix2 0 d) = (ix2 0 d : S1x1024.Idx) := by
    funext a
    apply Fin.ext
    match a with
    | (0 : Fin 2) =>
      show win0_3.index t (0 : Fin 2) * 1 + 1 * 0 = 0
      rw [index_scale]; rfl
    | (1 : Fin 2) =>
      show win0_3.index t (1 : Fin 2) * 1024 + 1 * d.val = d.val
      rw [index_scale]; show 0 * 1024 + 1 * d.val = _; omega
  show V m c main_v1 (((cfg0.win 3).blk t).view.emb (ix2 0 d)) = _
  rw [e, V_scale]
  clean_types
  pointwise

theorem shl_eq (w : BitVec 32) : IntOp.shli ArithUnit.vector w 16#32 = IntOp.shli ArithUnit.host w 16#32 := rfl

/-- A row of an expert's output, from the words of a block. -/
theorem cat_at (t : Fin cfg0.N) (k : Fin 2) (A B : S1x1x1024x256.Idx → BitVec 32)
    (hA : ∀ (r : Fin 1024) (d : Fin 256), A (ix4 0 0 r d) = iblk m c 1 t (ix4 0 k r d))
    (hB : ∀ (r : Fin 1024) (d : Fin 256), B (ix4 0 0 r d) = iblk m c 1 t (ix4 1 k r d)) (r d : Fin 1024) :
    cat A B r d = CombineRef.yrow (aY m c) k (rowOf t.val r.val) d := by
  unfold cat CombineRef.yrow
  simp only [hA, hB, words_at, shl_eq]

theorem ld_words (X : Vec Ideal S2x2x1024x256 .i32) (p k : Fin 2)
    (inb : ∀ a, (![p.val, k.val, 0, 0] : Fin 4 → ℕ) a + S1x1x1024x256.size a ≤ S2x2x1024x256.size a) (r : Fin 1024) (d : Fin 256) :
    View.ld (Val := Elt Ideal) (e' := .i32) X (Rect.unit (s := S2x2x1024x256) ![p.val, k.val, 0, 0] S1x1x1024x256.size inb) (ix4 0 0 r d) = X (ix4 p k r d) := by
  refine View.ld_unit_apply_of (Val := Elt Ideal) (e := .i32) X _ _ _ _ (ix4 p k r d) fun a => ?_
  match a with
  | (0 : Fin 4) => rfl
  | (1 : Fin 4) => rfl
  | (2 : Fin 4) => show r.val = 0 + r.val; omega
  | (3 : Fin 4) => show d.val = 0 + d.val; omega

theorem ld_weights (X : Vec Ideal S1024x128 .f32) (j : Fin 128)
    (inb : ∀ a, (![0, j.val] : Fin 2 → ℕ) a + S1024x1.size a ≤ S1024x128.size a) (r : Fin 1024) :
    View.ld (Val := Elt Ideal) (e' := .f32) X (Rect.unit (s := S1024x128) ![0, j.val] S1024x1.size inb) (ix2 r 0) = X (ix2 r j) := by
  refine View.ld_unit_apply_of (Val := Elt Ideal) (e := .f32) X _ _ _ _ (ix2 r j) fun a => ?_
  match a with
  | (0 : Fin 2) => show r.val = 0 + r.val; omega
  | (1 : Fin 2) => rfl

theorem ld_all (X : Vec Ideal S1024x1024 .f32) : View.ld (Val := Elt Ideal) (e' := .f32) X r0_2 = X :=
  View.ld_unit_lit (S := S1024x1024) _ _ (by decide)

theorem ld_scale (X : Vec Ideal S1x1024 .f32) : View.ld (Val := Elt Ideal) (e' := .f32) X r0_7 = X :=
  View.ld_unit_lit (S := S1x1024) _ _ (by decide)

/-- What a point leaves at a row and a column of its block. -/
theorem out_at (t : Fin cfg0.N) (r d : Fin 1024) :
    out0_4 (iblk m c 0 t) (iblk m c 1 t) (iblk m c 2 t) (iblk m c 3 t) (ix2 r d)
      = CombineRef.outRow (aX m c) (aY m c) (aW m c) (aG m c) (rowOf t.val r.val) d := by
  unfold out0_4
  rw [View.canon_cons_unit_lit (S := S1024x1024) _ _ _ (by decide)]
  refine (pay_at _ _ _ _ _ _ _ _ r d).trans (nb_of _ _ _ _ _ _ _ _ r d (CombineRef.orow (aX m c) (aY m c) (aW m c) (rowOf t.val r.val)) _ (fun x => ?_)
    ((congrFun (ld_scale (iblk m c 3 t)) (ix2 0 d)).trans (scale_at m c t d)))
  exact congrArg₂ (· + ·) ((congrFun (ld_all (iblk m c 0 t)) (ix2 r x)).trans (rows_at m c t r x))
    (congrArg₂ (· + ·)
      (congrArg₂ (· * ·) ((ld_weights (iblk m c 2 t) 0 _ r).trans (weights_at m c t r 0))
        (cat_at m c t 0 _ _ (ld_words (iblk m c 1 t) 0 0 _) (ld_words (iblk m c 1 t) 1 0 _) r x))
      (congrArg₂ (· * ·) ((ld_weights (iblk m c 2 t) 1 _ r).trans (weights_at m c t r 1))
        (cat_at m c t 1 _ _ (ld_words (iblk m c 1 t) 0 1 _) (ld_words (iblk m c 1 t) 1 1 _) r x)))

/-- The result as one array. -/
def res : S32768x1024.Idx → EReal := fun x => CombineRef.outRow (aX m c) (aY m c) (aW m c) (aG m c) (x 0) (x 1)

theorem nblk_out (a : Fin 2) : (cfg0.win 4).nblk a = (![32, 1] : Fin 2 → ℕ) a := by
  match a with
  | 0 => show (32768 + 1024 - 1) / 1024 = 32; rfl
  | 1 => show (1024 + 1024 - 1) / 1024 = 1; rfl

theorem flush_all : ∀ t : Fin grid0.N, win0_4.flush t = true := by decide +kernel

theorem covers : (cfg0.win 4).Covers := by
  have hN : cfg0.N = 32 := N_0
  refine ⟨fun a => ?_, fun β => ?_⟩
  · exact (show ∀ a : Fin 2, 0 < (![1024, 1024] : Fin 2 → ℕ) a by decide) a
  · have h0 : (β (0 : Fin 2)).val < 32 := Nat.lt_of_lt_of_eq (β (0 : Fin 2)).isLt (nblk_out 0)
    have h1 : (β (1 : Fin 2)).val < 1 := Nat.lt_of_lt_of_eq (β (1 : Fin 2)).isLt (nblk_out 1)
    let t : Fin cfg0.N := ⟨(β (0 : Fin 2)).val, by omega⟩
    refine ⟨t, flush_all t, fun a => ⟨?_, Or.inl rfl⟩⟩
    refine (congrFun (index_out t) a).trans ?_
    match a with
    | (0 : Fin 2) => rfl
    | (1 : Fin 2) => show 0 = (β (1 : Fin 2)).val; omega

theorem res_emb (t : Fin cfg0.N) (y : S1024x1024.Idx) :
    res m c (((cfg0.win 4).blk t).view.emb y) = CombineRef.outRow (aX m c) (aY m c) (aW m c) (aG m c) (rowOf t.val (y 0).val) (y 1) := by
  have hN : cfg0.N = 32 := N_0
  have ht : t.val < 32 := Nat.lt_of_lt_of_eq t.isLt hN
  have y0 : (y 0).val < 1024 := (y 0).isLt
  have e0 : ((((cfg0.win 4).blk t).view.emb y) (0 : Fin 2)).val = (1024 * t.val + (y 0).val) % 32768 := by
    show win0_4.index t (0 : Fin 2) * 1024 + 1 * (y 0).val = _
    rw [index_out]; show t.val * 1024 + 1 * (y 0).val = _; omega
  have e1 : ((((cfg0.win 4).blk t).view.emb y) (1 : Fin 2)).val = (y 1).val := by
    show win0_4.index t (1 : Fin 2) * 1024 + 1 * (y 1).val = _
    rw [index_out]; show 0 * 1024 + 1 * (y 1).val = _; omega
  generalize ((cfg0.win 4).blk t).view.emb y = z at e0 e1
  change S32768x1024.Idx at z
  have a0 : z 0 = rowOf t.val (y 0).val := Fin.ext e0
  have a1 : z 1 = y 1 := Fin.ext e1
  show CombineRef.outRow _ _ _ _ (z 0) (z 1) = _
  rw [a0, a1]

theorem result : (dats m 0 c).arrAt 4 cfg0.N = res m c := by
  refine Dat.arrAt_eq_of_covers (dats m 0 c) 4 (res m c) covers (fun t _ => ?_)
  refine fun (y : S1024x1024.Idx) => (Eq.trans ?_ (res_emb m c t y).symm)
  refine (congrFun (after0_4 m c t) y).trans ?_
  exact (congrArg (fun z : S1024x1024.Idx => out0_4 (iblk m c 0 t) (iblk m c 1 t) (iblk m c 2 t) (iblk m c 3 t) z)
    (ix2_eta (n0 := 1024) (n1 := 1024) y).symm).trans (out_at m c t (y 0) (y 1))

/-- The result, reshaped. -/
def res3 : S8x4096x1024.Idx → EReal := shapeCast S8x4096x1024 (res m c) shapeCasts_S32768x1024_S8x4096x1024

theorem arrRef_injective : Function.Injective (Pipeline.arrRef spec0) := by decide

theorem after_reshape (U : Valuation τ sig (Elt Ideal)) (a : S32768x1024.Idx → EReal)
    (h : U (Proc.devRef .tc main_v2) = a) :
    StableHlo.after (List.flatten [hostOps1 (F := Ideal)]) U (Proc.devRef .tc main_v3)
      = shapeCast S8x4096x1024 a shapeCasts_S32768x1024_S8x4096x1024 := by
  subst h
  rfl

theorem tail : Pipeline.afterTail₀ cfgs (dats m) 0 (V0 m) [hostOps1] c main_v3 = res3 m c := by
  unfold Pipeline.afterTail₀
  exact after_reshape _ (res m c) ((Pipeline.withArrays_arr (cfgs 0).spec arrRef_injective c (V0 m c)
    (fun w => (dats m 0 c).arrAt w (cfgs 0).N) 4).trans (result m c))

theorem res3_at (b : Fin 8) (s : Fin 4096) (d : Fin 1024) :
    res3 m c (ix3 b s d) = CombineRef.outRow (aX m c) (aY m c) (aW m c) (aG m c) (CombineRef.rowAt b s) d := by
  have e : res3 m c (ix3 b s d) = res m c (ix2 (CombineRef.rowAt b s) d) := by
    unfold res3 CombineRef.rowAt
    pointwise
  exact e

/-- The run: the result, and the arguments unchanged. -/
theorem run_result :
    θ_run (defs (F := Ideal)) (onTc (τ := τ) (main (F := Ideal))) ⟨m, fun _ => 0, ρ⟩ (fun r => ∀ c : Dev nD,
        r.2.mem ((c : Thread nD τ).loc main_v3) = res3 m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) :=
  (θ_run _ _ _).mono (fun _ h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Combine
-- ==== Proof.MixRow.lean ====
/- The mathematics of the output projection and the dense feed-forward block, a row at a time. -/
module

public import Idealize.ShloMosaic.Lib.Pointwise

@[expose] public section

noncomputable section

namespace Cert.Mix

open Idealize.ShloMosaic

/-- The gated row: `y * sigmoid(y @ W + b)`. -/
def gated (y : Fin 512 → EReal) (W : Fin 512 → Fin 512 → EReal) (b : Fin 512 → EReal) (d : Fin 512) : EReal :=
  y d * Ideal.logistic ((∑ k, y k * W k d) + b d)

/-- A row over the root of its mean square, scaled; `n` is the word of its length. -/
def normed {N : ℕ} (n : BitVec 32) (f g : Fin N → EReal) (d : Fin N) : EReal :=
  f d * Ideal.rsqrt (Ideal.div (∑ x, f x * f x) (Ideal.ofBits FTy.f32 n) + Ideal.ofBits FTy.f32 897988541#32) * g d

/-- The residual and the projection of the two branches. -/
def mixed (x : Fin 1024 → EReal) (y z : Fin 512 → EReal) (W : Fin 1024 → Fin 1024 → EReal) (d : Fin 1024) : EReal :=
  x d + ((∑ k : Fin 512, y k * W ⟨k.val, by omega⟩ d) + ∑ k : Fin 512, z k * W ⟨512 + k.val, by omega⟩ d)

/-- The hidden layer. -/
def hidden (h : Fin 1024 → EReal) (G U : Fin 1024 → Fin 2816 → EReal) (j : Fin 2816) : EReal :=
  (∑ k, h k * G k j) * Ideal.logistic (∑ k, h k * G k j) * ∑ k, h k * U k j

/-- The residual and the down projection, whose hidden layer is taken in two parts. -/
def fed (x : Fin 1024 → EReal) (a : Fin 2816 → EReal) (D : Fin 2816 → Fin 1024 → EReal) (d : Fin 1024) : EReal :=
  x d + (∑ j : Fin 1536, a ⟨j.val, by omega⟩ * D ⟨j.val, by omega⟩ d) + ∑ j : Fin 1280, a ⟨1536 + j.val, by omega⟩ * D ⟨1536 + j.val, by omega⟩ d

/-- The projected row, from the row of the residual, the rows of the two branches, and the weights. -/
def mixRow (x : Fin 1024 → EReal) (y z : Fin 512 → EReal) (W : Fin 512 → Fin 512 → EReal) (b g : Fin 512 → EReal)
    (O : Fin 1024 → Fin 1024 → EReal) : Fin 1024 → EReal :=
  mixed x (normed 1140850688#32 (gated y W b) g) z O

/-- The row of the result, from the projected row. -/
def ffnRow (x : Fin 1024 → EReal) (g : Fin 1024 → EReal) (G U : Fin 1024 → Fin 2816 → EReal) (D : Fin 2816 → Fin 1024 → EReal) :
    Fin 1024 → EReal :=
  fed x (hidden (normed 1149239296#32 x g) G U) D

theorem sum_parts {A B : ℕ} (f : Fin (A + B) → EReal) :
    ∑ k, f k = (∑ k : Fin A, f ⟨k.val, by omega⟩) + ∑ k : Fin B, f ⟨A + k.val, by omega⟩ :=
  Fin.sum_univ_add f

end Cert.Mix
-- ==== Proof.MixPoint.lean ====
/- One point of the output projection and the dense feed-forward block: what it leaves at a row of its block, from the
   blocks it reads. -/
module

public import proofs.«01_k».proof.Proof.Gen.Kernel4Ideal.Frame
public import proofs.«01_k».proof.Proof.MixRow
public import Idealize.ShloMosaic.Lib.Tactic.CleanTypes
public import Idealize.ShloMosaic.Lib.Pipeline.ValueKit

@[expose] public section

noncomputable section

namespace Cert.Mix

open Cert.Kernel4Ideal Cert.Kernel4Ideal.Gen
open Idealize.ShloMosaic Idealize.ShloMosaic.TcCoe Idealize.ShloMosaic.Pipeline

/-! ## The payloads -/

theorem first_at (v0 : Vec Ideal S1024x512 .bf16) (v2 : Vec Ideal S1x512x512 .bf16) (v5 v12 : Vec Ideal S1x1x512 .f32)
    (v27 : Vec Ideal S1x512x1024 .bf16) (r d : Fin 1024) :
    k0_pay2 (F := Ideal) v0 v2 v5 v12 v27 (ix2 r d)
      = ∑ k : Fin 512, normed 1140850688#32 (gated (fun k => v0 (ix2 r k)) (fun k j => v2 (ix3 0 k j)) (fun j => v5 (ix3 0 0 j)))
          (fun j => v12 (ix3 0 0 j)) k * v27 (ix3 0 k d) := by
  unfold k0_pay2 normed gated
  clean_types
  pointwise

theorem mixed_at (P : FVec Ideal S1024x1024 .f32) (v30 : Vec Ideal S1024x512 .bf16) (v32 : Vec Ideal S1x512x1024 .bf16) (v36 : Vec Ideal S1024x1024 .f32)
    (r d : Fin 1024) :
    k0_pay5 (F := Ideal) P (k0_pay3 v30) (k0_pay4 v32) (constant S1024x1024 .f32 0x00000000#32) v36 (ix2 r d)
      = v36 (ix2 r d) + (P (ix2 r d) + ∑ k : Fin 512, v30 (ix2 r k) * v32 (ix3 0 k d)) := by
  unfold k0_pay5 k0_pay3 k0_pay4
  clean_types
  pointwise

theorem norm_at (P : FVec Ideal S1024x1024 .f32) (A : FVec Ideal S1024x512 .bf16) (B : FVec Ideal S512x1024 .bf16) (C : FVec Ideal S1024x1024 .f32)
    (v36 : Vec Ideal S1024x1024 .f32) (v39 : Vec Ideal S1x1x1024 .f32) (r d : Fin 1024) :
    k0_pay6 (F := Ideal) P A B C v36 v39 (ix2 r d)
      = normed 1149239296#32 (fun k => k0_pay5 (F := Ideal) P A B C v36 (ix2 r k)) (fun j => v39 (ix3 0 0 j)) d := by
  unfold k0_pay6 normed
  generalize k0_pay5 (F := Ideal) P A B C v36 = Q
  clean_types
  pointwise

theorem part_at (P : FVec Ideal S1024x1024 .f32) (A : FVec Ideal S1024x512 .bf16) (B : FVec Ideal S512x1024 .bf16) (C : FVec Ideal S1024x1024 .f32)
    (v36 : Vec Ideal S1024x1024 .f32) (v39 : Vec Ideal S1x1x1024 .f32) (v54 v57 : Vec Ideal S1x1024x1536 .bf16) (v64 : Vec Ideal S1x1536x1024 .bf16)
    (r d : Fin 1024) :
    k0_pay7 (F := Ideal) P A B C v36 v39 v54 v57 v64 (ix2 r d)
      = k0_pay5 (F := Ideal) P A B C v36 (ix2 r d)
        + ∑ j : Fin 1536, ((∑ k, k0_pay6 (F := Ideal) P A B C v36 v39 (ix2 r k) * v54 (ix3 0 k j))
            * Ideal.logistic (∑ k, k0_pay6 (F := Ideal) P A B C v36 v39 (ix2 r k) * v54 (ix3 0 k j))
            * ∑ k, k0_pay6 (F := Ideal) P A B C v36 v39 (ix2 r k) * v57 (ix3 0 k j)) * v64 (ix3 0 j d) := by
  unfold k0_pay7
  generalize k0_pay6 (F := Ideal) P A B C v36 v39 = H
  generalize k0_pay5 (F := Ideal) P A B C v36 = Q
  clean_types
  pointwise

theorem last_at (H : FVec Ideal S1024x1024 .bf16) (Q : FVec Ideal S1024x1024 .f32) (v68 v71 : Vec Ideal S1x1024x1280 .bf16)
    (v78 : Vec Ideal S1x1280x1024 .bf16) (r d : Fin 1024) :
    k0_pay1 (F := Ideal) H Q (k0_pay8 v68) (constant S1024x1280 .f32 0x00000000#32) v71 v78 (ix2 r d)
      = Q (ix2 r d)
        + ∑ j : Fin 1280, ((∑ k, H (ix2 r k) * v68 (ix3 0 k j)) * Ideal.logistic (∑ k, H (ix2 r k) * v68 (ix3 0 k j))
            * ∑ k, H (ix2 r k) * v71 (ix3 0 k j)) * v78 (ix3 0 j d) := by
  unfold k0_pay1 k0_pay8
  clean_types
  pointwise

/-! ## The loads -/

theorem ld_rows (X : Vec Ideal S1024x1024 .f32) : View.ld (Val := Elt Ideal) (e' := .f32) X r0_5 = X :=
  View.ld_unit_lit (S := S1024x1024) _ _ (by decide)
theorem ld_branch (X : Vec Ideal S1024x512 .bf16) : View.ld (Val := Elt Ideal) (e' := .bf16) X r0_0 = X :=
  View.ld_unit_lit (S := S1024x512) _ _ (by decide)
theorem ld_glu (X : Vec Ideal S1x512x512 .bf16) : View.ld (Val := Elt Ideal) (e' := .bf16) X r0_1 = X :=
  View.ld_unit_lit (S := S1x512x512) _ _ (by decide)
theorem ld_short (X : Vec Ideal S1x1x512 .f32) : View.ld (Val := Elt Ideal) (e' := .f32) X r0_2 = X :=
  View.ld_unit_lit (S := S1x1x512) _ _ (by decide)
theorem ld_long (X : Vec Ideal S1x1x1024 .f32) : View.ld (Val := Elt Ideal) (e' := .f32) X r0_6 = X :=
  View.ld_unit_lit (S := S1x1x1024) _ _ (by decide)

theorem ld_out0 (X : Vec Ideal S1x1024x1024 .bf16) (k : Fin 512) (d : Fin 1024) :
    View.ld (Val := Elt Ideal) (e' := .bf16) X r0_3 (ix3 0 k d) = X (ix3 0 ⟨k.val, by omega⟩ d) := by
  refine View.ld_unit_apply_of (Val := Elt Ideal) (e := .bf16) X _ _ _ _ (ix3 0 ⟨k.val, by omega⟩ d) fun a => ?_
  match a with
  | (0 : Fin 3) => rfl
  | (1 : Fin 3) => show k.val = 0 + k.val; omega
  | (2 : Fin 3) => show d.val = 0 + d.val; omega

theorem ld_out1 (X : Vec Ideal S1x1024x1024 .bf16) (k : Fin 512) (d : Fin 1024) :
    View.ld (Val := Elt Ideal) (e' := .bf16) X r0_4 (ix3 0 k d) = X (ix3 0 ⟨512 + k.val, by omega⟩ d) := by
  refine View.ld_unit_apply_of (Val := Elt Ideal) (e := .bf16) X _ _ _ _ (ix3 0 ⟨512 + k.val, by omega⟩ d) fun a => ?_
  match a with
  | (0 : Fin 3) => rfl
  | (1 : Fin 3) => rfl
  | (2 : Fin 3) => show d.val = 0 + d.val; omega

theorem ld_up0 (X : Vec Ideal S1x1024x2816 .bf16) (k : Fin 1024) (j : Fin 1536) :
    View.ld (Val := Elt Ideal) (e' := .bf16) X r0_7 (ix3 0 k j) = X (ix3 0 k ⟨j.val, by omega⟩) := by
  refine View.ld_unit_apply_of (Val := Elt Ideal) (e := .bf16) X _ _ _ _ (ix3 0 k ⟨j.val, by omega⟩) fun a => ?_
  match a with
  | (0 : Fin 3) => rfl
  | (1 : Fin 3) => show k.val = 0 + k.val; omega
  | (2 : Fin 3) => show j.val = 0 + j.val; omega

theorem ld_up1 (X : Vec Ideal S1x1024x2816 .bf16) (k : Fin 1024) (j : Fin 1280) :
    View.ld (Val := Elt Ideal) (e' := .bf16) X r0_9 (ix3 0 k j) = X (ix3 0 k ⟨1536 + j.val, by omega⟩) := by
  refine View.ld_unit_apply_of (Val := Elt Ideal) (e := .bf16) X _ _ _ _ (ix3 0 k ⟨1536 + j.val, by omega⟩) fun a => ?_
  match a with
  | (0 : Fin 3) => rfl
  | (1 : Fin 3) => show k.val = 0 + k.val; omega
  | (2 : Fin 3) => rfl

theorem ld_down0 (X : Vec Ideal S1x2816x1024 .bf16) (j : Fin 1536) (d : Fin 1024) :
    View.ld (Val := Elt Ideal) (e' := .bf16) X r0_8 (ix3 0 j d) = X (ix3 0 ⟨j.val, by omega⟩ d) := by
  refine View.ld_unit_apply_of (Val := Elt Ideal) (e := .bf16) X _ _ _ _ (ix3 0 ⟨j.val, by omega⟩ d) fun a => ?_
  match a with
  | (0 : Fin 3) => rfl
  | (1 : Fin 3) => show j.val = 0 + j.val; omega
  | (2 : Fin 3) => show d.val = 0 + d.val; omega

theorem ld_down1 (X : Vec Ideal S1x2816x1024 .bf16) (j : Fin 1280) (d : Fin 1024) :
    View.ld (Val := Elt Ideal) (e' := .bf16) X r0_10 (ix3 0 j d) = X (ix3 0 ⟨1536 + j.val, by omega⟩ d) := by
  refine View.ld_unit_apply_of (Val := Elt Ideal) (e := .bf16) X _ _ _ _ (ix3 0 ⟨1536 + j.val, by omega⟩ d) fun a => ?_
  match a with
  | (0 : Fin 3) => rfl
  | (1 : Fin 3) => rfl
  | (2 : Fin 3) => show d.val = 0 + d.val; omega

/-! ## The point -/

section
variable (x0 : Vec Ideal S1024x1024 .f32) (x1 x2 : Vec Ideal S1024x512 .bf16) (x3 : Vec Ideal S1x512x512 .bf16) (x4 x5 : Vec Ideal S1x1x512 .f32)
  (x6 : Vec Ideal S1x1024x1024 .bf16) (x7 : Vec Ideal S1x1x1024 .f32) (x8 x9 : Vec Ideal S1x1024x2816 .bf16) (x10 : Vec Ideal S1x2816x1024 .bf16)

/-- The projected row, from the blocks. -/
def pMix (r : Fin 1024) : Fin 1024 → EReal :=
  mixRow (fun k => x0 (ix2 r k)) (fun k => x1 (ix2 r k)) (fun k => x2 (ix2 r k)) (fun k j => x3 (ix3 0 k j)) (fun j => x4 (ix3 0 0 j))
    (fun j => x5 (ix3 0 0 j)) (fun k j => x6 (ix3 0 k j))

/-- The row of the result, from the blocks. -/
def pRow (r : Fin 1024) : Fin 1024 → EReal :=
  ffnRow (pMix x0 x1 x2 x3 x4 x5 x6 r) (fun j => x7 (ix3 0 0 j)) (fun k j => x8 (ix3 0 k j)) (fun k j => x9 (ix3 0 k j)) (fun j d => x10 (ix3 0 j d))

theorem pMix_at (r d : Fin 1024) :
    k0_pay5 (F := Ideal) (k0_pay2 x1 x3 x4 x5 (View.ld (Val := Elt Ideal) (e' := .bf16) x6 r0_3)) (k0_pay3 x2)
      (k0_pay4 (View.ld (Val := Elt Ideal) (e' := .bf16) x6 r0_4)) (constant S1024x1024 .f32 0x00000000#32) x0 (ix2 r d)
      = pMix x0 x1 x2 x3 x4 x5 x6 r d := by
  refine (mixed_at _ _ _ _ r d).trans ?_
  unfold pMix mixRow mixed
  refine congrArg (x0 (ix2 r d) + ·) (congrArg₂ (· + ·) ((first_at _ _ _ _ _ r d).trans ?_) ?_)
  · exact Finset.sum_congr rfl fun k _ => congrArg (_ * ·) (ld_out0 x6 k d)
  · exact Finset.sum_congr rfl fun k _ => congrArg (_ * ·) (ld_out1 x6 k d)

/-- A hidden unit, from its two columns. -/
def unit (z u v : Fin 1024 → EReal) : EReal := (∑ k, z k * u k) * Ideal.logistic (∑ k, z k * u k) * ∑ k, z k * v k

theorem point_at (r d : Fin 1024) : out0_11 (F := Ideal) x0 x1 x2 x3 x4 x5 x6 x7 x8 x9 x10 (ix2 r d) = pRow x0 x1 x2 x3 x4 x5 x6 x7 x8 x9 x10 r d := by
  unfold out0_11 k0_pay12 k0_pay11 k0_pay10 k0_pay9
  rw [View.canon_cons_unit_lit (S := S1024x1024) _ _ _ (by decide)]
  rw [ld_rows, ld_branch, ld_branch, ld_glu, ld_short, ld_short, ld_long]
  refine (last_at _ _ _ _ _ r d).trans ?_
  rw [part_at]
  simp only [norm_at, pMix_at]
  unfold pRow ffnRow fed hidden
  refine congrArg₂ (· + ·) (congrArg (pMix x0 x1 x2 x3 x4 x5 x6 r d + ·) ?_) ?_
  · refine Finset.sum_congr rfl fun j _ => ?_
    exact congrArg₂ (· * ·) (congrArg₂ (unit (normed 0x44800000#32 (pMix x0 x1 x2 x3 x4 x5 x6 r) fun j => x7 (ix3 0 0 j)))
      (funext fun k => ld_up0 x8 k j) (funext fun k => ld_up0 x9 k j)) (ld_down0 x10 j d)
  · refine Finset.sum_congr rfl fun j _ => ?_
    exact congrArg₂ (· * ·) (congrArg₂ (unit (normed 0x44800000#32 (pMix x0 x1 x2 x3 x4 x5 x6 r) fun j => x7 (ix3 0 0 j)))
      (funext fun k => ld_up1 x8 k j) (funext fun k => ld_up1 x9 k j)) (ld_down1 x10 j d)

end

end Cert.Mix
-- ==== Proof.MixRef.lean ====
/- The reference of the output projection and the dense feed-forward block, an element at a time. -/
module

public import proofs.«01_k».proof.Proof.Gen.Reference4Ideal.Run
public import proofs.«01_k».proof.Proof.MixRow
public import Idealize.ShloMosaic.Lib.Tactic.CleanTypes

@[expose] public section

noncomputable section

namespace Cert.MixRef

open Cert.Reference4Ideal Cert.Reference4Ideal.Gen Cert.Reference4Ideal.Value
open Idealize.ShloMosaic Idealize.ShloMosaic.TcCoe

section
variable (X : S8x4096x1024.Idx → EReal) (Y Z : S8x4096x512.Idx → EReal) (W : S2x512x512.Idx → EReal) (B G5 : S2x512.Idx → EReal)
  (O : S2x1024x1024.Idx → EReal) (GF : S2x1024.Idx → EReal) (WG WU : S1x1024x2816.Idx → EReal) (WD : S1x2816x1024.Idx → EReal)

/-- The gated output of the first branch, all rows. -/
def vGated : FVec Ideal S8x4096x512 .f32 :=
  mulf (extf .f32 (Y : FVec Ideal S8x4096x512 .bf16) bitsLt_bf16_f32)
    (Host.divf (broadcastInDim S8x4096x512 ![] bcast_S_S8x4096x512 (constant S_ .f32 0x3F800000#32))
      (addf (broadcastInDim S8x4096x512 ![] bcast_S_S8x4096x512 (constant S_ .f32 0x3F800000#32))
        (Host.exp (Host.negf (addf
          (Host.dotGeneral (φ₂ := .f32) dot_S8x4096x512_S512x512_S8x4096x512_2_0_01_1_n_n none (extf .f32 (Y : FVec Ideal S8x4096x512 .bf16) bitsLt_bf16_f32)
            (shapeCast S512x512 (extractStridedSlice S1x512x512 ![0, 0, 0] (W : FVec Ideal S2x512x512 .f32) slices_S2x512x512_S1x512x512_0_0_0) shapeCasts_S1x512x512_S512x512))
          (broadcastInDim S8x4096x512 ![0, 1, 2] bcast_S1x1x512_S8x4096x512_0_1_2
            (broadcastInDim S1x1x512 ![2] bcast_S512_S1x1x512_2
              (shapeCast S512 (extractStridedSlice S1x512 ![0, 0] (B : FVec Ideal S2x512 .f32) slices_S2x512_S1x512_0_0) shapeCasts_S1x512_S512))))))))

theorem vGated_at (b : Fin 8) (s : Fin 4096) (d : Fin 512) :
    vGated Y W B (ix3 b s d) = Mix.gated (fun k => Y (ix3 b s k)) (fun k j => W (ix3 0 k j)) (fun j => B (ix2 0 j)) d := by
  unfold vGated Mix.gated
  clean_types
  pointwise
  rfl

/-- Its norm. -/
def vNormed (V : FVec Ideal S8x4096x512 .f32) : FVec Ideal S8x4096x512 .f32 :=
  mulf (mulf V (broadcastInDim S8x4096x512 ![0, 1, 2] bcast_S8x4096x1_S8x4096x512_0_1_2 (Host.rsqrt (addf
      (Host.divf (broadcastInDim S8x4096x1 ![0, 1] bcast_S8x4096_S8x4096x1_0_1
          (Host.reduceAdd (mulf V V) (constant S_ .f32 0x00000000#32) reducesTo_S8x4096x512_S8x4096_d2 h_S_))
        (broadcastInDim S8x4096x1 ![] bcast_S_S8x4096x1 (constant S_ .f32 0x44000000#32)))
      (broadcastInDim S8x4096x1 ![] bcast_S_S8x4096x1 (constant S_ .f32 0x358637BD#32))))))
    (broadcastInDim S8x4096x512 ![0, 1, 2] bcast_S1x1x512_S8x4096x512_0_1_2 (broadcastInDim S1x1x512 ![2] bcast_S512_S1x1x512_2
      (shapeCast S512 (extractStridedSlice S1x512 ![0, 0] (G5 : FVec Ideal S2x512 .f32) slices_S2x512_S1x512_0_0) shapeCasts_S1x512_S512)))

theorem vNormed_at (V : FVec Ideal S8x4096x512 .f32) (b : Fin 8) (s : Fin 4096) (d : Fin 512) :
    vNormed G5 V (ix3 b s d) = Mix.normed 1140850688#32 (fun k => V (ix3 b s k)) (fun j => G5 (ix2 0 j)) d := by
  unfold vNormed Mix.normed
  clean_types
  pointwise

/-- The residual and the output projection. -/
def vMixed (V : FVec Ideal S8x4096x512 .f32) : FVec Ideal S8x4096x1024 .f32 :=
  addf (X : FVec Ideal S8x4096x1024 .f32) (Host.dotGeneral (φ₂ := .f32) dot_S8x4096x1024_S1024x1024_S8x4096x1024_2_0_01_1_n_n none
    (concatenate S8x4096x1024 2 [⟨S8x4096x512, V⟩, ⟨S8x4096x512, extf .f32 (Z : FVec Ideal S8x4096x512 .bf16) bitsLt_bf16_f32⟩] concatenates_S8x4096x512_S8x4096x512_S8x4096x1024_d2)
    (shapeCast S1024x1024 (extractStridedSlice S1x1024x1024 ![0, 0, 0] (O : FVec Ideal S2x1024x1024 .f32) slices_S2x1024x1024_S1x1024x1024_0_0_0) shapeCasts_S1x1024x1024_S1024x1024))

/-- The two branches' rows, side by side. -/
def side (y z : Fin 512 → EReal) (k : Fin 1024) : EReal := if h : k.val < 512 then y ⟨k.val, h⟩ else z ⟨k.val - 512, by omega⟩

theorem vMixed_sum (V : FVec Ideal S8x4096x512 .f32) (b : Fin 8) (s : Fin 4096) (d : Fin 1024) :
    vMixed X Z O V (ix3 b s d)
      = X (ix3 b s d) + ∑ k : Fin 1024, side (fun k => V (ix3 b s k)) (fun k => Z (ix3 b s k)) k * O (ix3 0 k d) := by
  unfold vMixed side
  clean_types
  pointwise

theorem vMixed_at (V : FVec Ideal S8x4096x512 .f32) (b : Fin 8) (s : Fin 4096) (d : Fin 1024) :
    vMixed X Z O V (ix3 b s d) = Mix.mixed (fun k => X (ix3 b s k)) (fun k => V (ix3 b s k)) (fun k => Z (ix3 b s k)) (fun k j => O (ix3 0 k j)) d := by
  rw [vMixed_sum]
  unfold Mix.mixed
  refine congrArg (X (ix3 b s d) + ·) ((Mix.sum_parts (A := 512) (B := 512) _).trans ?_)
  refine congrArg₂ (· + ·) (Finset.sum_congr rfl fun k _ => ?_) (Finset.sum_congr rfl fun k _ => ?_)
  · refine congrArg (· * O (ix3 0 ⟨k.val, by omega⟩ d)) ?_
    exact dif_pos k.isLt
  · refine congrArg (· * O (ix3 0 ⟨512 + k.val, by omega⟩ d)) ?_
    refine (dif_neg (by show ¬ (512 + k.val < 512); omega)).trans ?_
    exact congrArg (fun k => Z (ix3 b s k)) (Fin.ext (by show 512 + k.val - 512 = k.val; omega))

/-- The norm before the feed-forward block. -/
def vNorm (V : FVec Ideal S8x4096x1024 .f32) : FVec Ideal S8x4096x1024 .f32 :=
  mulf (mulf V (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf V V) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast S1024 (extractStridedSlice S1x1024 ![0, 0] (GF : FVec Ideal S2x1024 .f32) slices_S2x1024_S1x1024_0_0) shapeCasts_S1x1024_S1024)))

theorem vNorm_at (V : FVec Ideal S8x4096x1024 .f32) (b : Fin 8) (s : Fin 4096) (d : Fin 1024) :
    vNorm GF V (ix3 b s d) = Mix.normed 1149239296#32 (fun k => V (ix3 b s k)) (fun j => GF (ix2 0 j)) d := by
  unfold vNorm Mix.normed
  clean_types
  pointwise

/-- The hidden layer. -/
def vHidden (H : FVec Ideal S8x4096x1024 .f32) : FVec Ideal S8x4096x2816 .f32 :=
  mulf (mulf (Host.dotGeneral (φ₂ := .f32) dot_S8x4096x1024_S1024x2816_S8x4096x2816_2_0_01_1_n_n none H (shapeCast S1024x2816 (WG : FVec Ideal S1x1024x2816 .f32) shapeCasts_S1x1024x2816_S1024x2816))
      (Host.divf (broadcastInDim S8x4096x2816 ![] bcast_S_S8x4096x2816 (constant S_ .f32 0x3F800000#32))
        (addf (broadcastInDim S8x4096x2816 ![] bcast_S_S8x4096x2816 (constant S_ .f32 0x3F800000#32))
          (Host.exp (Host.negf (Host.dotGeneral (φ₂ := .f32) dot_S8x4096x1024_S1024x2816_S8x4096x2816_2_0_01_1_n_n none H (shapeCast S1024x2816 (WG : FVec Ideal S1x1024x2816 .f32) shapeCasts_S1x1024x2816_S1024x2816)))))))
    (Host.dotGeneral (φ₂ := .f32) dot_S8x4096x1024_S1024x2816_S8x4096x2816_2_0_01_1_n_n none H (shapeCast S1024x2816 (WU : FVec Ideal S1x1024x2816 .f32) shapeCasts_S1x1024x2816_S1024x2816))

theorem vHidden_at (H : FVec Ideal S8x4096x1024 .f32) (b : Fin 8) (s : Fin 4096) (j : Fin 2816) :
    vHidden WG WU H (ix3 b s j) = Mix.hidden (fun k => H (ix3 b s k)) (fun k j => WG (ix3 0 k j)) (fun k j => WU (ix3 0 k j)) j := by
  unfold vHidden Mix.hidden
  clean_types
  pointwise
  rfl

/-- The residual and the down projection, as a list of rows. -/
def vFed (V : FVec Ideal S8x4096x1024 .f32) (A : FVec Ideal S8x4096x2816 .f32) : FVec Ideal S32768x1024 .f32 :=
  shapeCast S32768x1024 (addf V (Host.dotGeneral (φ₂ := .f32) dot_S8x4096x2816_S2816x1024_S8x4096x1024_2_0_01_1_n_n none A
    (shapeCast S2816x1024 (WD : FVec Ideal S1x2816x1024 .f32) shapeCasts_S1x2816x1024_S2816x1024))) shapeCasts_S8x4096x1024_S32768x1024

def bOf (R : Fin 32768) : Fin 8 := ⟨R.val / 4096, by omega⟩
def sOf (R : Fin 32768) : Fin 4096 := ⟨R.val % 4096, Nat.mod_lt _ (by decide)⟩

theorem vFed_sum (V : FVec Ideal S8x4096x1024 .f32) (A : FVec Ideal S8x4096x2816 .f32) (R : Fin 32768) (d : Fin 1024) :
    vFed WD V A (ix2 R d) = V (ix3 (bOf R) (sOf R) d) + ∑ j : Fin 2816, A (ix3 (bOf R) (sOf R) j) * WD (ix3 0 j d) := by
  unfold vFed bOf sOf
  clean_types
  pointwise

theorem vFed_at (V : FVec Ideal S8x4096x1024 .f32) (A : FVec Ideal S8x4096x2816 .f32) (R : Fin 32768) (d : Fin 1024) :
    vFed WD V A (ix2 R d) = Mix.fed (fun k => V (ix3 (bOf R) (sOf R) k)) (fun j => A (ix3 (bOf R) (sOf R) j)) (fun j d => WD (ix3 0 j d)) d := by
  rw [vFed_sum]
  unfold Mix.fed
  rw [add_assoc]
  exact congrArg (V (ix3 (bOf R) (sOf R) d) + ·) (Mix.sum_parts (A := 1536) (B := 1280) _)

/-- A row of the result. -/
def outRow (R : Fin 32768) : Fin 1024 → EReal :=
  Mix.ffnRow (Mix.mixRow (fun k => X (ix3 (bOf R) (sOf R) k)) (fun k => Y (ix3 (bOf R) (sOf R) k)) (fun k => Z (ix3 (bOf R) (sOf R) k))
      (fun k j => W (ix3 0 k j)) (fun j => B (ix2 0 j)) (fun j => G5 (ix2 0 j)) (fun k j => O (ix3 0 k j)))
    (fun j => GF (ix2 0 j)) (fun k j => WG (ix3 0 k j)) (fun k j => WU (ix3 0 k j)) (fun j d => WD (ix3 0 j d))

theorem whole_at (R : Fin 32768) (d : Fin 1024) :
    vFed WD (vMixed X Z O (vNormed G5 (vGated Y W B))) (vHidden WG WU (vNorm GF (vMixed X Z O (vNormed G5 (vGated Y W B))))) (ix2 R d)
      = outRow X Y Z W B G5 O GF WG WU WD R d := by
  rw [vFed_at]
  unfold outRow Mix.ffnRow Mix.mixRow
  simp only [vHidden_at, vNorm_at, vMixed_at, vNormed_at, vGated_at]

end

variable (m : (ℓ : Loc nD τ sig) → Buf (Elt Ideal) ℓ)

theorem out_at (c : Dev nD) (R : Fin 32768) (d : Fin 1024) :
    res_main_v61 (F := Ideal) m c (ix2 R d)
      = outRow (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) R d :=
  (show res_main_v61 (F := Ideal) m c (ix2 R d) = vFed _ (vMixed _ _ _ (vNormed _ (vGated _ _ _)))
      (vHidden _ _ (vNorm _ (vMixed _ _ _ (vNormed _ (vGated _ _ _))))) (ix2 R d) from rfl).trans
    (whole_at _ _ _ _ _ _ _ _ _ _ _ R d)

end Cert.MixRef
-- ==== Proof.MixValue.lean ====
/- The result of the output projection and the dense feed-forward block: row `1024 t + r` is what point `t` leaves at row
   `r` of its block. -/
module

public import proofs.«01_k».proof.Proof.MixPoint
public import proofs.«01_k».proof.Proof.MixRef
public import proofs.«01_k».proof.Proof.Gen.Kernel4Ideal.Value
public import Idealize.ShloMosaic.Lib.Pipeline.ArrRel

@[expose] public section

noncomputable section

namespace Cert.Mix

open Cert.Kernel4Ideal Cert.Kernel4Ideal.Gen
open Idealize.ShloMosaic Idealize.ShloMosaic.TcCoe Idealize.ShloMosaic.Pipeline
open Idealize.SL Idealize.SL.Sem

variable (m : (ℓ : Loc nD τ sig) → Buf (Elt Ideal) ℓ) (ρ : Dev nD → PrngReg) (c : Dev nD)

abbrev aX : S8x4096x1024.Idx → EReal := m ((c.tc : Thread nD τ).loc main_arg0)
abbrev aY : S8x4096x512.Idx → EReal := m ((c.tc : Thread nD τ).loc main_arg1)
abbrev aZ : S8x4096x512.Idx → EReal := m ((c.tc : Thread nD τ).loc main_arg2)
abbrev aW : S2x512x512.Idx → EReal := m ((c.tc : Thread nD τ).loc main_arg3)
abbrev aB : S2x512.Idx → EReal := m ((c.tc : Thread nD τ).loc main_arg4)
abbrev aG5 : S2x512.Idx → EReal := m ((c.tc : Thread nD τ).loc main_arg5)
abbrev aO : S2x1024x1024.Idx → EReal := m ((c.tc : Thread nD τ).loc main_arg6)
abbrev aGF : S2x1024.Idx → EReal := m ((c.tc : Thread nD τ).loc main_arg7)
abbrev aWG : S1x1024x2816.Idx → EReal := m ((c.tc : Thread nD τ).loc main_arg8)
abbrev aWU : S1x1024x2816.Idx → EReal := m ((c.tc : Thread nD τ).loc main_arg9)
abbrev aWD : S1x2816x1024.Idx → EReal := m ((c.tc : Thread nD τ).loc main_arg10)

/-- A row of a block, among all rows. -/
def rowOf (t r : ℕ) : Fin 32768 := ⟨(1024 * t + r) % 32768, Nat.mod_lt _ (by decide)⟩

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_11 : ∀ t : Fin grid0.N, win0_11.index t = ![t.val, 0] := by decide +kernel
theorem index_3 : ∀ t : Fin grid0.N, win0_3.index t = ![0, 0, 0] := by decide +kernel
theorem index_4 : ∀ t : Fin grid0.N, win0_4.index t = ![0, 0, 0] := by decide +kernel
theorem index_5 : ∀ t : Fin grid0.N, win0_5.index t = ![0, 0, 0] := by decide +kernel
theorem index_6 : ∀ t : Fin grid0.N, win0_6.index t = ![0, 0, 0] := by decide +kernel
theorem index_7 : ∀ t : Fin grid0.N, win0_7.index t = ![0, 0, 0] := by decide +kernel
theorem index_8 : ∀ t : Fin grid0.N, win0_8.index t = ![0, 0, 0] := by decide +kernel
theorem index_9 : ∀ t : Fin grid0.N, win0_9.index t = ![0, 0, 0] := by decide +kernel
theorem index_10 : ∀ t : Fin grid0.N, win0_10.index t = ![0, 0, 0] := by decide +kernel

theorem V_rows : V m c main_v7 = shapeCast S32768x1024 (aX m c) shapeCasts_S8x4096x1024_S32768x1024 := rfl
theorem V_first : V m c main_v8 = shapeCast S32768x512 (aY m c) shapeCasts_S8x4096x512_S32768x512 := rfl
theorem V_second : V m c main_v9 = shapeCast S32768x512 (aZ m c) shapeCasts_S8x4096x512_S32768x512 := rfl
theorem V_glu : V m c main_v0 = aW m c := rfl
theorem V_bias : V m c main_v1 = broadcastInDim S2x1x512 ![0, 2] bcast_S2x512_S2x1x512_0_2 (aB m c) := rfl
theorem V_scale : V m c main_v2 = broadcastInDim S2x1x512 ![0, 2] bcast_S2x512_S2x1x512_0_2 (aG5 m c) := rfl
theorem V_out : V m c main_v3 = aO m c := rfl
theorem V_norm : V m c main_v10 = broadcastInDim S2x1x1024 ![0, 2] bcast_S2x1024_S2x1x1024_0_2 (aGF m c) := rfl
theorem V_gate : V m c main_v4 = aWG m c := rfl
theorem V_up : V m c main_v5 = aWU m c := rfl
theorem V_down : V m c main_v6 = aWD m c := rfl

theorem blk_rows (t : Fin cfg0.N) (r : Fin 1024) (d : Fin 1024) :
    iblk m c 0 t (ix2 r d) = aX m c (ix3 (MixRef.bOf (rowOf t.val r.val)) (MixRef.sOf (rowOf t.val r.val)) d) := by
  have hN : cfg0.N = 32 := N_0
  have ht : t.val < 32 := Nat.lt_of_lt_of_eq t.isLt hN
  have e : ((cfg0.win 0).blk t).view.emb (ix2 r d) = (ix2 (rowOf t.val r.val) d : S32768x1024.Idx) := by
    funext a
    apply Fin.ext
    match a with
    | (0 : Fin 2) =>
      show win0_0.index t (0 : Fin 2) * 1024 + 1 * r.val = (1024 * t.val + r.val) % 32768
      rw [index_0]; show t.val * 1024 + 1 * r.val = _; omega
    | (1 : Fin 2) =>
      show win0_0.index t (1 : Fin 2) * 1024 + 1 * d.val = d.val
      rw [index_0]; show 0 * 1024 + 1 * d.val = _; omega
  show V m c main_v7 (((cfg0.win 0).blk t).view.emb (ix2 r d)) = _
  rw [e, V_rows]
  unfold MixRef.bOf MixRef.sOf
  clean_types
  pointwise

theorem blk_first (t : Fin cfg0.N) (r : Fin 1024) (d : Fin 512) :
    iblk m c 1 t (ix2 r d) = aY m c (ix3 (MixRef.bOf (rowOf t.val r.val)) (MixRef.sOf (rowOf t.val r.val)) d) := by
  have hN : cfg0.N = 32 := N_0
  have ht : t.val < 32 := Nat.lt_of_lt_of_eq t.isLt hN
  have e : ((cfg0.win 1).blk t).view.emb (ix2 r d) = (ix2 (rowOf t.val r.val) d : S32768x512.Idx) := by
    funext a
    apply Fin.ext
    match a with
    | (0 : Fin 2) =>
      show win0_1.index t (0 : Fin 2) * 1024 + 1 * r.val = (1024 * t.val + r.val) % 32768
      rw [index_1]; show t.val * 1024 + 1 * r.val = _; omega
    | (1 : Fin 2) =>
      show win0_1.index t (1 : Fin 2) * 512 + 1 * d.val = d.val
      rw [index_1]; show 0 * 512 + 1 * d.val = _; omega
  show V m c main_v8 (((cfg0.win 1).blk t).view.emb (ix2 r d)) = _
  rw [e, V_first]
  unfold MixRef.bOf MixRef.sOf
  clean_types
  pointwise

theorem blk_second (t : Fin cfg0.N) (r : Fin 1024) (d : Fin 512) :
    iblk m c 2 t (ix2 r d) = aZ m c (ix3 (MixRef.bOf (rowOf t.val r.val)) (MixRef.sOf (rowOf t.val r.val)) d) := by
  have hN : cfg0.N = 32 := N_0
  have ht : t.val < 32 := Nat.lt_of_lt_of_eq t.isLt hN
  have e : ((cfg0.win 2).blk t).view.emb (ix2 r d) = (ix2 (rowOf t.val r.val) d : S32768x512.Idx) := by
    funext a
    apply Fin.ext
    match a with
    | (0 : Fin 2) =>
      show win0_2.index t (0 : Fin 2) * 1024 + 1 * r.val = (1024 * t.val + r.val) % 32768
      rw [index_2]; show t.val * 1024 + 1 * r.val = _; omega
    | (1 : Fin 2) =>
      show win0_2.index t (1 : Fin 2) * 512 + 1 * d.val = d.val
      rw [index_2]; show 0 * 512 + 1 * d.val = _; omega
  show V m c main_v9 (((cfg0.win 2).blk t).view.emb (ix2 r d)) = _
  rw [e, V_second]
  unfold MixRef.bOf MixRef.sOf
  clean_types
  pointwise

theorem blk_glu (t : Fin cfg0.N) (k : Fin 512) (j : Fin 512) : iblk m c 3 t (ix3 0 k j) = aW m c (ix3 0 k j) := by
  have e : ((cfg0.win 3).blk t).view.emb (ix3 0 k j) = (ix3 0 k j : S2x512x512.Idx) := by
    funext a
    apply Fin.ext
    match a with
    | (0 : Fin 3) =>
      show win0_3.index t (0 : Fin 3) * 1 + 1 * 0 = 0
      rw [index_3]; rfl
    | (1 : Fin 3) =>
      show win0_3.index t (1 : Fin 3) * 512 + 1 * k.val = k.val
      rw [index_3]; show 0 * 512 + 1 * k.val = _; omega
    | (2 : Fin 3) =>
      show win0_3.index t (2 : Fin 3) * 512 + 1 * j.val = j.val
      rw [index_3]; show 0 * 512 + 1 * j.val = _; omega
  show V m c main_v0 (((cfg0.win 3).blk t).view.emb (ix3 0 k j)) = _
  rw [e, V_glu]

theorem blk_out (t : Fin cfg0.N) (k : Fin 1024) (j : Fin 1024) : iblk m c 6 t (ix3 0 k j) = aO m c (ix3 0 k j) := by
  have e : ((cfg0.win 6).blk t).view.emb (ix3 0 k j) = (ix3 0 k j : S2x1024x1024.Idx) := by
    funext a
    apply Fin.ext
    match a with
    | (0 : Fin 3) =>
      show win0_6.index t (0 : Fin 3) * 1 + 1 * 0 = 0
      rw [index_6]; rfl
    | (1 : Fin 3) =>
      show win0_6.index t (1 : Fin 3) * 1024 + 1 * k.val = k.val
      rw [index_6]; show 0 * 1024 + 1 * k.val = _; omega
    | (2 : Fin 3) =>
      show win0_6.index t (2 : Fin 3) * 1024 + 1 * j.val = j.val
      rw [index_6]; show 0 * 1024 + 1 * j.val = _; omega
  show V m c main_v3 (((cfg0.win 6).blk t).view.emb (ix3 0 k j)) = _
  rw [e, V_out]

theorem blk_gate (t : Fin cfg0.N) (k : Fin 1024) (j : Fin 2816) : iblk m c 8 t (ix3 0 k j) = aWG m c (ix3 0 k j) := by
  have e : ((cfg0.win 8).blk t).view.emb (ix3 0 k j) = (ix3 0 k j : S1x1024x2816.Idx) := by
    funext a
    apply Fin.ext
    match a with
    | (0 : Fin 3) =>
      show win0_8.index t (0 : Fin 3) * 1 + 1 * 0 = 0
      rw [index_8]; rfl
    | (1 : Fin 3) =>
      show win0_8.index t (1 : Fin 3) * 1024 + 1 * k.val = k.val
      rw [index_8]; show 0 * 1024 + 1 * k.val = _; omega
    | (2 : Fin 3) =>
      show win0_8.index t (2 : Fin 3) * 2816 + 1 * j.val = j.val
      rw [index_8]; show 0 * 2816 + 1 * j.val = _; omega
  show V m c main_v4 (((cfg0.win 8).blk t).view.emb (ix3 0 k j)) = _
  rw [e, V_gate]

theorem blk_up (t : Fin cfg0.N) (k : Fin 1024) (j : Fin 2816) : iblk m c 9 t (ix3 0 k j) = aWU m c (ix3 0 k j) := by
  have e : ((cfg0.win 9).blk t).view.emb (ix3 0 k j) = (ix3 0 k j : S1x1024x2816.Idx) := by
    funext a
    apply Fin.ext
    match a with
    | (0 : Fin 3) =>
      show win0_9.index t (0 : Fin 3) * 1 + 1 * 0 = 0
      rw [index_9]; rfl
    | (1 : Fin 3) =>
      show win0_9.index t (1 : Fin 3) * 1024 + 1 * k.val = k.val
      rw [index_9]; show 0 * 1024 + 1 * k.val = _; omega
    | (2 : Fin 3) =>
      show win0_9.index t (2 : Fin 3) * 2816 + 1 * j.val = j.val
      rw [index_9]; show 0 * 2816 + 1 * j.val = _; omega
  show V m c main_v5 (((cfg0.win 9).blk t).view.emb (ix3 0 k j)) = _
  rw [e, V_up]

theorem blk_down (t : Fin cfg0.N) (k : Fin 2816) (j : Fin 1024) : iblk m c 10 t (ix3 0 k j) = aWD m c (ix3 0 k j) := by
  have e : ((cfg0.win 10).blk t).view.emb (ix3 0 k j) = (ix3 0 k j : S1x2816x1024.Idx) := by
    funext a
    apply Fin.ext
    match a with
    | (0 : Fin 3) =>
      show win0_10.index t (0 : Fin 3) * 1 + 1 * 0 = 0
      rw [index_10]; rfl
    | (1 : Fin 3) =>
      show win0_10.index t (1 : Fin 3) * 2816 + 1 * k.val = k.val
      rw [index_10]; show 0 * 2816 + 1 * k.val = _; omega
    | (2 : Fin 3) =>
      show win0_10.index t (2 : Fin 3) * 1024 + 1 * j.val = j.val
      rw [index_10]; show 0 * 1024 + 1 * j.val = _; omega
  show V m c main_v6 (((cfg0.win 10).blk t).view.emb (ix3 0 k j)) = _
  rw [e, V_down]

theorem blk_bias (t : Fin cfg0.N) (j : Fin 512) : iblk m c 4 t (ix3 0 0 j) = aB m c (ix2 0 j) := by
  have e : ((cfg0.win 4).blk t).view.emb (ix3 0 0 j) = (ix3 0 0 j : S2x1x512.Idx) := by
    funext a
    apply Fin.ext
    match a with
    | (0 : Fin 3) =>
      show win0_4.index t (0 : Fin 3) * 1 + 1 * 0 = 0
      rw [index_4]; rfl
    | (1 : Fin 3) =>
      show win0_4.index t (1 : Fin 3) * 1 + 1 * 0 = 0
      rw [index_4]; show 0 * 1 + 1 * 0 = _; omega
    | (2 : Fin 3) =>
      show win0_4.index t (2 : Fin 3) * 512 + 1 * j.val = j.val
      rw [index_4]; show 0 * 512 + 1 * j.val = _; omega
  show V m c main_v1 (((cfg0.win 4).blk t).view.emb (ix3 0 0 j)) = _
  rw [e, V_bias]
  clean_types
  pointwise

theorem blk_scale (t : Fin cfg0.N) (j : Fin 512) : iblk m c 5 t (ix3 0 0 j) = aG5 m c (ix2 0 j) := by
  have e : ((cfg0.win 5).blk t).view.emb (ix3 0 0 j) = (ix3 0 0 j : S2x1x512.Idx) := by
    funext a
    apply Fin.ext
    match a with
    | (0 : Fin 3) =>
      show win0_5.index t (0 : Fin 3) * 1 + 1 * 0 = 0
      rw [index_5]; rfl
    | (1 : Fin 3) =>
      show win0_5.index t (1 : Fin 3) * 1 + 1 * 0 = 0
      rw [index_5]; show 0 * 1 + 1 * 0 = _; omega
    | (2 : Fin 3) =>
      show win0_5.index t (2 : Fin 3) * 512 + 1 * j.val = j.val
      rw [index_5]; show 0 * 512 + 1 * j.val = _; omega
  show V m c main_v2 (((cfg0.win 5).blk t).view.emb (ix3 0 0 j)) = _
  rw [e, V_scale]
  clean_types
  pointwise

theorem blk_norm (t : Fin cfg0.N) (j : Fin 1024) : iblk m c 7 t (ix3 0 0 j) = aGF m c (ix2 0 j) := by
  have e : ((cfg0.win 7).blk t).view.emb (ix3 0 0 j) = (ix3 0 0 j : S2x1x1024.Idx) := by
    funext a
    apply Fin.ext
    match a with
    | (0 : Fin 3) =>
      show win0_7.index t (0 : Fin 3) * 1 + 1 * 0 = 0
      rw [index_7]; rfl
    | (1 : Fin 3) =>
      show win0_7.index t (1 : Fin 3) * 1 + 1 * 0 = 0
      rw [index_7]; show 0 * 1 + 1 * 0 = _; omega
    | (2 : Fin 3) =>
      show win0_7.index t (2 : Fin 3) * 1024 + 1 * j.val = j.val
      rw [index_7]; show 0 * 1024 + 1 * j.val = _; omega
  show V m c main_v10 (((cfg0.win 7).blk t).view.emb (ix3 0 0 j)) = _
  rw [e, V_norm]
  clean_types
  pointwise

/-- What a point leaves at a row and a column of its block. -/
theorem out_at (t : Fin cfg0.N) (r d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = MixRef.outRow (aX m c) (aY m c) (aZ m c) (aW m c) (aB m c) (aG5 m c) (aO m c) (aGF m c) (aWG m c) (aWU m c) (aWD m c) (rowOf t.val r.val) d := by
  refine (point_at (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans ?_
  unfold pRow pMix MixRef.outRow
  simp only [blk_rows, blk_first, blk_second, blk_glu, blk_bias, blk_scale, blk_out, blk_norm, blk_gate, blk_up, blk_down]

/-- The result as one array. -/
def res : S32768x1024.Idx → EReal := fun x => MixRef.outRow (aX m c) (aY m c) (aZ m c) (aW m c) (aB m c) (aG5 m c) (aO m c) (aGF m c) (aWG m c) (aWU m c) (aWD m c) (x 0) (x 1)

theorem nblk_out (a : Fin 2) : (cfg0.win 11).nblk a = (![32, 1] : Fin 2 → ℕ) a := by
  match a with
  | 0 => show (32768 + 1024 - 1) / 1024 = 32; rfl
  | 1 => show (1024 + 1024 - 1) / 1024 = 1; rfl

theorem flush_all : ∀ t : Fin grid0.N, win0_11.flush t = true := by decide +kernel

theorem covers : (cfg0.win 11).Covers := by
  have hN : cfg0.N = 32 := N_0
  refine ⟨fun a => ?_, fun β => ?_⟩
  · exact (show ∀ a : Fin 2, 0 < (![1024, 1024] : Fin 2 → ℕ) a by decide) a
  · have h0 : (β (0 : Fin 2)).val < 32 := Nat.lt_of_lt_of_eq (β (0 : Fin 2)).isLt (nblk_out 0)
    have h1 : (β (1 : Fin 2)).val < 1 := Nat.lt_of_lt_of_eq (β (1 : Fin 2)).isLt (nblk_out 1)
    let t : Fin cfg0.N := ⟨(β (0 : Fin 2)).val, by omega⟩
    refine ⟨t, flush_all t, fun a => ⟨?_, Or.inl rfl⟩⟩
    refine (congrFun (index_11 t) a).trans ?_
    match a with
    | (0 : Fin 2) => rfl
    | (1 : Fin 2) => show 0 = (β (1 : Fin 2)).val; omega

theorem res_emb (t : Fin cfg0.N) (y : S1024x1024.Idx) :
    res m c (((cfg0.win 11).blk t).view.emb y) = MixRef.outRow (aX m c) (aY m c) (aZ m c) (aW m c) (aB m c) (aG5 m c) (aO m c) (aGF m c) (aWG m c) (aWU m c) (aWD m c) (rowOf t.val (y 0).val) (y 1) := by
  have hN : cfg0.N = 32 := N_0
  have ht : t.val < 32 := Nat.lt_of_lt_of_eq t.isLt hN
  have y0 : (y 0).val < 1024 := (y 0).isLt
  have e0 : ((((cfg0.win 11).blk t).view.emb y) (0 : Fin 2)).val = (1024 * t.val + (y 0).val) % 32768 := by
    show win0_11.index t (0 : Fin 2) * 1024 + 1 * (y 0).val = _
    rw [index_11]; show t.val * 1024 + 1 * (y 0).val = _; omega
  have e1 : ((((cfg0.win 11).blk t).view.emb y) (1 : Fin 2)).val = (y 1).val := by
    show win0_11.index t (1 : Fin 2) * 1024 + 1 * (y 1).val = _
    rw [index_11]; show 0 * 1024 + 1 * (y 1).val = _; omega
  generalize ((cfg0.win 11).blk t).view.emb y = z at e0 e1
  change S32768x1024.Idx at z
  have a0 : z 0 = rowOf t.val (y 0).val := Fin.ext e0
  have a1 : z 1 = y 1 := Fin.ext e1
  show MixRef.outRow (aX m c) (aY m c) (aZ m c) (aW m c) (aB m c) (aG5 m c) (aO m c) (aGF m c) (aWG m c) (aWU m c) (aWD m c) (z 0) (z 1) = _
  rw [a0, a1]

theorem result : (dats m 0 c).arrAt 11 cfg0.N = res m c := by
  refine Dat.arrAt_eq_of_covers (dats m 0 c) 11 (res m c) covers (fun t _ => ?_)
  refine fun (y : S1024x1024.Idx) => (Eq.trans ?_ (res_emb m c t y).symm)
  refine (congrFun (after0_11 m c t) y).trans ?_
  exact (congrArg (fun z : S1024x1024.Idx => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) z)
    (ix2_eta (n0 := 1024) (n1 := 1024) y).symm).trans (out_at m c t (y 0) (y 1))

/-- The run: the result, and the arguments unchanged. -/
theorem run_result :
    θ_run (defs (F := Ideal)) (onTc (τ := τ) (main (F := Ideal))) ⟨m, fun _ => 0, ρ⟩ (fun r => ∀ c : Dev nD,
        r.2.mem ((c : Thread nD τ).loc main_v11) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)) :=
  (θ_run _ _ _).mono (fun _ h c => ⟨(h c).1.trans (result m c), (h c).2⟩) (Value.run_blocks m ρ)

end Cert.Mix
-- ==== Proof.ProjRow.lean ====
/- The input projection of a row, and the laws of the extended reals by which a scaled or a padded weight is a scaled or a padded product. -/
module

public import proofs.«01_k».proof.Proof.MixRow

@[expose] public section

noncomputable section

namespace Cert.Proj

open Idealize.ShloMosaic

/-- An element of the projection of a normed row, from a column of the weights. -/
def proj (x g : Fin 1024 → EReal) (w : Fin 1024 → EReal) : EReal := ∑ k, Mix.normed 1149239296#32 x g k * w k

theorem sum_scaled {c : EReal} (h0 : 0 ≤ c) (h1 : c ≠ ⊤) {N : ℕ} (f w : Fin N → EReal) : ∑ k, f k * (w k * c) = (∑ k, f k * w k) * c := by
  have e : ∀ s : Finset (Fin N), ∑ k ∈ s, f k * (w k * c) = (∑ k ∈ s, f k * w k) * c := by
    intro s
    induction s using Finset.cons_induction with
    | empty => rw [Finset.sum_empty, Finset.sum_empty, zero_mul]
    | cons a s ha ih => rw [Finset.sum_cons, Finset.sum_cons, ih, EReal.right_distrib_of_nonneg_of_ne_top h0 h1, mul_assoc]
  exact e Finset.univ

theorem eighth : Ideal.ofBits FTy.f32 0x3E000000#32 = ((1 / 8 : ℝ) : EReal) := by
  have s : BitVec.extractLsb' 31 1 0x3E000000#32 ≠ 1#1 := by decide
  have e : 1040187392 >>> 23 % 256 = 124 := by decide
  simp only [Ideal.ofBits, Ideal.ieee]
  norm_num [s, e, Nat.shiftRight_eq_div_pow]

theorem proj_scaled (x g w : Fin 1024 → EReal) :
    proj x g (fun k => w k * Ideal.ofBits FTy.f32 0x3E000000#32) = proj x g w * Ideal.ofBits FTy.f32 0x3E000000#32 := by
  refine sum_scaled ?_ ?_ _ _
  · rw [eighth]; exact EReal.coe_nonneg.2 (by norm_num)
  · rw [eighth]; exact EReal.coe_ne_top _

theorem proj_zero (x g : Fin 1024 → EReal) : proj x g (fun _ => 0) = 0 :=
  Finset.sum_eq_zero fun _ _ => mul_zero _

end Cert.Proj
-- ==== Proof.ProjPoint.lean ====
/- One point of layer 0's input projection: what it leaves at an element of each of its six blocks, from the blocks it reads. -/
module

public import proofs.«01_k».proof.Proof.Gen.Kernel5Ideal.Frame
public import proofs.«01_k».proof.Proof.ProjRow
public import Idealize.ShloMosaic.Lib.Tactic.CleanTypes
public import Idealize.ShloMosaic.Lib.Pipeline.ValueKit

@[expose] public section

noncomputable section

namespace Cert.Proj

open Cert.Kernel5Ideal Cert.Kernel5Ideal.Gen
open Idealize.ShloMosaic Idealize.ShloMosaic.TcCoe Idealize.ShloMosaic.Pipeline

theorem norm_at (v0 : Vec Ideal S2048x1024 .f32) (v2 : Vec Ideal S1x1x1024 .f32) (r : Fin 2048) (d : Fin 1024) :
    k0_pay4 (F := Ideal) v0 v2 (ix2 r d) = Mix.normed 1149239296#32 (fun k => v0 (ix2 r k)) (fun j => v2 (ix3 0 0 j)) d := by
  unfold k0_pay4 Mix.normed
  clean_types
  pointwise

/-! ## The loads -/

theorem ld_rows (X : Vec Ideal S2048x1024 .f32) : View.ld (Val := Elt Ideal) (e' := .f32) X r0_0 = X :=
  View.ld_unit_lit (S := S2048x1024) _ _ (by decide)
theorem ld_norm (X : Vec Ideal S1x1x1024 .f32) : View.ld (Val := Elt Ideal) (e' := .f32) X r0_1 = X :=
  View.ld_unit_lit (S := S1x1x1024) _ _ (by decide)
theorem ld_keys (X : Vec Ideal S1x256x1024 .bf16) : View.ld (Val := Elt Ideal) (e' := .bf16) X r0_10 = X :=
  View.ld_unit_lit (S := S1x256x1024) _ _ (by decide)

theorem ld_u (X : Vec Ideal S1x1024x1920 .bf16) (k : Fin 1024) (j : Fin 512) :
    View.ld (Val := Elt Ideal) (e' := .bf16) X r0_2 (ix3 0 k j) = X (ix3 0 k ⟨0 + j.val, by omega⟩) := by
  refine View.ld_unit_apply_of (Val := Elt Ideal) (e := .bf16) X _ _ _ _ (ix3 0 k ⟨0 + j.val, by omega⟩) fun a => ?_
  match a with
  | (0 : Fin 3) => rfl
  | (1 : Fin 3) => show k.val = 0 + k.val; omega
  | (2 : Fin 3) => rfl

theorem ld_q (X : Vec Ideal S1x1024x1920 .bf16) (k : Fin 1024) (j : Fin 256) :
    View.ld (Val := Elt Ideal) (e' := .bf16) X r0_4 (ix3 0 k j) = X (ix3 0 k ⟨512 + j.val, by omega⟩) := by
  refine View.ld_unit_apply_of (Val := Elt Ideal) (e := .bf16) X _ _ _ _ (ix3 0 k ⟨512 + j.val, by omega⟩) fun a => ?_
  match a with
  | (0 : Fin 3) => rfl
  | (1 : Fin 3) => show k.val = 0 + k.val; omega
  | (2 : Fin 3) => rfl

theorem ld_v (X : Vec Ideal S1x1024x1920 .bf16) (k : Fin 1024) (j : Fin 512) :
    View.ld (Val := Elt Ideal) (e' := .bf16) X r0_6 (ix3 0 k j) = X (ix3 0 k ⟨768 + j.val, by omega⟩) := by
  refine View.ld_unit_apply_of (Val := Elt Ideal) (e := .bf16) X _ _ _ _ (ix3 0 k ⟨768 + j.val, by omega⟩) fun a => ?_
  match a with
  | (0 : Fin 3) => rfl
  | (1 : Fin 3) => show k.val = 0 + k.val; omega
  | (2 : Fin 3) => rfl

theorem ld_r (X : Vec Ideal S1x1024x1920 .bf16) (k : Fin 1024) (j : Fin 512) :
    View.ld (Val := Elt Ideal) (e' := .bf16) X r0_7 (ix3 0 k j) = X (ix3 0 k ⟨1280 + j.val, by omega⟩) := by
  refine View.ld_unit_apply_of (Val := Elt Ideal) (e := .bf16) X _ _ _ _ (ix3 0 k ⟨1280 + j.val, by omega⟩) fun a => ?_
  match a with
  | (0 : Fin 3) => rfl
  | (1 : Fin 3) => show k.val = 0 + k.val; omega
  | (2 : Fin 3) => rfl

theorem ld_gl (X : Vec Ideal S1x1024x1920 .bf16) (k : Fin 1024) (j : Fin 128) :
    View.ld (Val := Elt Ideal) (e' := .bf16) X r0_8 (ix3 0 k j) = X (ix3 0 k ⟨1792 + j.val, by omega⟩) := by
  refine View.ld_unit_apply_of (Val := Elt Ideal) (e := .bf16) X _ _ _ _ (ix3 0 k ⟨1792 + j.val, by omega⟩) fun a => ?_
  match a with
  | (0 : Fin 3) => rfl
  | (1 : Fin 3) => show k.val = 0 + k.val; omega
  | (2 : Fin 3) => rfl

/-! ## The six blocks -/

section
variable (x0 : Vec Ideal S2048x1024 .f32) (x1 : Vec Ideal S1x1x1024 .f32) (x2 : Vec Ideal S1x1024x1920 .bf16) (x3 : Vec Ideal S1x256x1024 .bf16)

theorem pay_u (v0 : Vec Ideal S2048x1024 .f32) (v2 : Vec Ideal S1x1x1024 .f32) (w : Vec Ideal S1x1024x512 .bf16) (r : Fin 2048) (d : Fin 512) :
    k0_pay5 (F := Ideal) v0 v2 w (ix2 r d) = ∑ k : Fin 1024, k0_pay4 (F := Ideal) v0 v2 (ix2 r k) * w (ix3 0 k d) := by
  unfold k0_pay5
  generalize k0_pay4 (F := Ideal) v0 v2 = H
  clean_types
  pointwise

theorem point_u (r : Fin 2048) (d : Fin 512) :
    out0_4 (F := Ideal) x0 x1 x2 x3 (ix2 r d)
      = proj (fun k => x0 (ix2 r k)) (fun j => x1 (ix3 0 0 j)) (fun k => x2 (ix3 0 k ⟨0 + d.val, by omega⟩)) := by
  unfold out0_4
  rw [View.canon_cons_unit_lit (S := S2048x512) _ _ _ (by decide), ld_rows, ld_norm]
  refine (pay_u _ _ _ r d).trans ?_
  unfold proj
  exact Finset.sum_congr rfl fun k _ => congrArg₂ (· * ·) (norm_at x0 x1 r k) (ld_u x2 k d)

theorem pay_q (v0 : Vec Ideal S2048x1024 .f32) (v2 : Vec Ideal S1x1x1024 .f32) (w : Vec Ideal S1x1024x256 .bf16) (r : Fin 2048) (d : Fin 256) :
    k0_pay6 (F := Ideal) v0 v2 w (ix2 r d) = ∑ k : Fin 1024, k0_pay4 (F := Ideal) v0 v2 (ix2 r k) * w (ix3 0 k d) := by
  unfold k0_pay6
  generalize k0_pay4 (F := Ideal) v0 v2 = H
  clean_types
  pointwise

theorem point_q (r : Fin 2048) (d : Fin 256) :
    out0_5 (F := Ideal) x0 x1 x2 x3 (ix2 r d)
      = proj (fun k => x0 (ix2 r k)) (fun j => x1 (ix3 0 0 j)) (fun k => x2 (ix3 0 k ⟨512 + d.val, by omega⟩)) := by
  unfold out0_5
  rw [View.canon_cons_unit_lit (S := S2048x256) _ _ _ (by decide), ld_rows, ld_norm]
  refine (pay_q _ _ _ r d).trans ?_
  unfold proj
  exact Finset.sum_congr rfl fun k _ => congrArg₂ (· * ·) (norm_at x0 x1 r k) (ld_q x2 k d)

theorem pay_v (v0 : Vec Ideal S2048x1024 .f32) (v2 : Vec Ideal S1x1x1024 .f32) (w : Vec Ideal S1x1024x512 .bf16) (r : Fin 2048) (d : Fin 512) :
    k0_pay7 (F := Ideal) v0 v2 w (ix2 r d) = ∑ k : Fin 1024, k0_pay4 (F := Ideal) v0 v2 (ix2 r k) * w (ix3 0 k d) := by
  unfold k0_pay7
  generalize k0_pay4 (F := Ideal) v0 v2 = H
  clean_types
  pointwise

theorem point_v (r : Fin 2048) (d : Fin 512) :
    out0_7 (F := Ideal) x0 x1 x2 x3 (ix2 r d)
      = proj (fun k => x0 (ix2 r k)) (fun j => x1 (ix3 0 0 j)) (fun k => x2 (ix3 0 k ⟨768 + d.val, by omega⟩)) := by
  unfold out0_7
  rw [View.canon_cons_unit_lit (S := S2048x512) _ _ _ (by decide), ld_rows, ld_norm]
  refine (pay_v _ _ _ r d).trans ?_
  unfold proj
  exact Finset.sum_congr rfl fun k _ => congrArg₂ (· * ·) (norm_at x0 x1 r k) (ld_v x2 k d)

theorem pay_r (H : FVec Ideal S2048x1024 .bf16) (w : Vec Ideal S1x1024x512 .bf16) (r : Fin 2048) (d : Fin 512) :
    k0_pay1 (F := Ideal) H w (ix2 r d) = ∑ k : Fin 1024, H (ix2 r k) * w (ix3 0 k d) := by
  unfold k0_pay1
  clean_types
  pointwise

theorem point_r (r : Fin 2048) (d : Fin 512) :
    out0_8 (F := Ideal) x0 x1 x2 x3 (ix2 r d)
      = proj (fun k => x0 (ix2 r k)) (fun j => x1 (ix3 0 0 j)) (fun k => x2 (ix3 0 k ⟨1280 + d.val, by omega⟩)) := by
  unfold out0_8 k0_pay8
  rw [View.canon_cons_unit_lit (S := S2048x512) _ _ _ (by decide), ld_rows, ld_norm]
  refine (pay_r _ _ r d).trans ?_
  unfold proj
  exact Finset.sum_congr rfl fun k _ => congrArg₂ (· * ·) (norm_at x0 x1 r k) (ld_r x2 k d)

theorem pay_gl (H : FVec Ideal S2048x1024 .bf16) (w : Vec Ideal S1x1024x128 .bf16) (r : Fin 2048) (d : Fin 128) :
    k0_pay2 (F := Ideal) H w (ix2 r d) = ∑ k : Fin 1024, H (ix2 r k) * w (ix3 0 k d) := by
  unfold k0_pay2
  clean_types
  pointwise

theorem point_gl (r : Fin 2048) (d : Fin 128) :
    out0_9 (F := Ideal) x0 x1 x2 x3 (ix2 r d)
      = proj (fun k => x0 (ix2 r k)) (fun j => x1 (ix3 0 0 j)) (fun k => x2 (ix3 0 k ⟨1792 + d.val, by omega⟩)) := by
  unfold out0_9 k0_pay8
  rw [View.canon_cons_unit_lit (S := S2048x128) _ _ _ (by decide), ld_rows, ld_norm]
  refine (pay_gl _ _ r d).trans ?_
  unfold proj
  exact Finset.sum_congr rfl fun k _ => congrArg₂ (· * ·) (norm_at x0 x1 r k) (ld_gl x2 k d)

theorem pay_keys (H : FVec Ideal S2048x1024 .bf16) (w : Vec Ideal S1x256x1024 .bf16) (d : Fin 256) (r : Fin 2048) :
    k0_pay3 (F := Ideal) H w (ix3 0 d r) = ∑ k : Fin 1024, w (ix3 0 d k) * H (ix2 r k) := by
  unfold k0_pay3
  clean_types
  pointwise

theorem point_keys (d : Fin 256) (r : Fin 2048) :
    out0_6 (F := Ideal) x0 x1 x2 x3 (ix3 0 d r)
      = proj (fun k => x0 (ix2 r k)) (fun j => x1 (ix3 0 0 j)) (fun k => x3 (ix3 0 d k)) := by
  unfold out0_6 k0_pay8
  rw [View.canon_cons_unit_lit (S := S1x256x2048) _ _ _ (by decide), ld_rows, ld_norm, ld_keys]
  refine (pay_keys _ _ d r).trans ?_
  unfold proj
  exact Finset.sum_congr rfl fun k _ => (mul_comm _ _).trans (congrArg (· * x3 (ix3 0 d k)) (norm_at x0 x1 r k))

end

end Cert.Proj
-- ==== Proof.ProjCat.lean ====
/- The weights of layer 0's input projection as the kernel's host code lays them side by side: the queries' scaled, the forget gate's
   compression padded with zeros. -/
module

public import proofs.«01_k».proof.Proof.Gen.Kernel5Ideal.Frame
public import proofs.«01_k».proof.Proof.ProjRow
public import Idealize.ShloMosaic.Lib.Routing.OpsSet
public import Idealize.ShloMosaic.Lib.Tactic.CleanTypes
public import Idealize.ShloMosaic.Lib.Pipeline.ValueKit

@[expose] public section

noncomputable section

namespace Cert.Proj

open Cert.Kernel5Ideal Cert.Kernel5Ideal.Gen
open Idealize.ShloMosaic Idealize.ShloMosaic.TcCoe Idealize.ShloMosaic.Pipeline

abbrev sd : ScatterDims S2x1024x128 S1 S2x1024x16 := scatter_S2x1024x128_S1_S2x1024x16_012_n_2_0

/-- The one index word: column zero. -/
def word : IVec S1 32 := broadcastInDim S1 ![] bcast_S_S1 (constantI S_ 32 0#32)

theorem start_zero (j : S2x1024x16.Idx) (a : Fin 3) : sd.start j word a = 0 := by
  unfold ScatterDims.start
  split
  · rfl
  · rfl

theorem window_eq (j : S2x1024x16.Idx) (a : Fin 3) : sd.window j a = (j a).val := by
  match a with
  | (0 : Fin 3) => rfl
  | (1 : Fin 3) => rfl
  | (2 : Fin 3) => rfl

theorem lands (j : S2x1024x16.Idx) (i : S2x1024x128.Idx) : sd.resultIdx? j word = some i ↔ ∀ a : Fin 3, (j a).val = (i a).val := by
  have b0 : (j 0).val < 2 := (j 0).isLt
  have b1 : (j 1).val < 1024 := (j 1).isLt
  have b2 : (j 2).val < 16 := (j 2).isLt
  have hin : ∀ a : Fin 3, 0 ≤ sd.start j word a + sd.window j a ∧ sd.start j word a + sd.window j a < (S2x1024x128.size a : ℤ) := by
    intro a
    rw [start_zero, window_eq]
    match a with
    | (0 : Fin 3) => exact ⟨by omega, by show (0 : ℤ) + ((j 0).val : ℤ) < ((2 : ℕ) : ℤ); omega⟩
    | (1 : Fin 3) => exact ⟨by omega, by show (0 : ℤ) + ((j 1).val : ℤ) < ((1024 : ℕ) : ℤ); omega⟩
    | (2 : Fin 3) => exact ⟨by omega, by show (0 : ℤ) + ((j 2).val : ℤ) < ((128 : ℕ) : ℤ); omega⟩
  have ev : ∀ a : Fin 3, (sd.start j word a + sd.window j a).toNat = (j a).val := fun a => by
    rw [start_zero, window_eq]; omega
  unfold ScatterDims.resultIdx?
  rw [dif_pos hin, Option.some.injEq]
  constructor
  · intro h a
    rw [← h]
    exact (ev a).symm
  · intro h
    funext a
    exact Fin.ext ((ev a).trans (h a))

section
variable (W : S2x1024x2064.Idx → EReal)

/-- The padded columns. -/
def padded : FVec Ideal S2x1024x128 .f32 :=
  Host.scatter sd (fun _ b => b) (broadcastInDim S2x1024x128 ![] bcast_S_S2x1024x128 (constant S_ .f32 0x00000000#32)) word
    (extractStridedSlice S2x1024x16 ![0, 0, 2048] (W : FVec Ideal S2x1024x2064 .f32) slices_S2x1024x2064_S2x1024x16_0_0_2048)

theorem padded_zero (l : Fin 2) (k : Fin 1024) (j : Fin 128) (h : ¬ j.val < 16) : padded W (ix3 l k j) = 0 := by
  refine (Routing.scatter_set_miss sd _ _ _ (ix3 l k j) fun n hn => ?_).trans ?_
  · have e := (lands n (ix3 l k j)).1 hn (2 : Fin 3)
    have b2 : (n 2).val < 16 := (n 2).isLt
    exact h (by have e' : (n 2).val = j.val := e; omega)
  · clean_types
    pointwise

theorem padded_in (l : Fin 2) (k : Fin 1024) (j : Fin 128) (h : j.val < 16) : padded W (ix3 l k j) = W (ix3 l k ⟨2048 + j.val, by omega⟩) := by
  refine Routing.scatter_set_hit sd _ _ _ (ix3 l k j) _ (fun n hn => ?_) (ix3 l k ⟨j.val, h⟩) ((lands _ _).2 fun a => ?_)
  · have e := (lands n (ix3 l k j)).1 hn
    have e0 : n = ix3 l k ⟨j.val, h⟩ := by
      funext a
      match a with
      | (0 : Fin 3) => exact Fin.ext (e 0)
      | (1 : Fin 3) => exact Fin.ext (e 1)
      | (2 : Fin 3) => exact Fin.ext (e 2)
    rw [e0]
    clean_types
    pointwise
  · match a with
    | (0 : Fin 3) => rfl
    | (1 : Fin 3) => rfl
    | (2 : Fin 3) => rfl

/-- The weights side by side. -/
def side (P : FVec Ideal S2x1024x128 .f32) : FVec Ideal S2x1024x1920 .bf16 :=
  truncf .bf16 (concatenate S2x1024x1920 2
    [⟨S2x1024x512, extractStridedSlice S2x1024x512 ![0, 0, 0] (W : FVec Ideal S2x1024x2064 .f32) slices_S2x1024x2064_S2x1024x512_0_0_0⟩,
     ⟨S2x1024x256, mulf (extractStridedSlice S2x1024x256 ![0, 0, 512] (W : FVec Ideal S2x1024x2064 .f32) slices_S2x1024x2064_S2x1024x256_0_0_512)
        (broadcastInDim S2x1024x256 ![] bcast_S_S2x1024x256 (constant S_ .f32 0x3E000000#32))⟩,
     ⟨S2x1024x512, extractStridedSlice S2x1024x512 ![0, 0, 1024] (W : FVec Ideal S2x1024x2064 .f32) slices_S2x1024x2064_S2x1024x512_0_0_1024⟩,
     ⟨S2x1024x512, extractStridedSlice S2x1024x512 ![0, 0, 1536] (W : FVec Ideal S2x1024x2064 .f32) slices_S2x1024x2064_S2x1024x512_0_0_1536⟩,
     ⟨S2x1024x128, P⟩] concatenates_S2x1024x512_S2x1024x256_S2x1024x512_S2x1024x512_S2x1024x128_S2x1024x1920_d2) bitsLt_bf16_f32

theorem side_at (P : FVec Ideal S2x1024x128 .f32) (l : Fin 2) (k : Fin 1024) (j : Fin 1920) :
    side W P (ix3 l k j)
      = if h : j.val < 512 then W (ix3 l k ⟨j.val, by omega⟩)
        else if h : j.val - 512 < 256 then W (ix3 l k ⟨512 + (j.val - 512), by omega⟩) * Ideal.ofBits FTy.f32 0x3E000000#32
        else if h : j.val - 512 - 256 < 512 then W (ix3 l k ⟨1024 + (j.val - 512 - 256), by omega⟩)
        else if h : j.val - 512 - 256 - 512 < 512 then W (ix3 l k ⟨1536 + (j.val - 512 - 256 - 512), by omega⟩)
        else P (ix3 l k ⟨j.val - 512 - 256 - 512 - 512, by omega⟩) := by
  unfold side
  clean_types
  pointwise

end

end Cert.Proj
-- ==== Proof.ProjRef.lean ====
/- The reference of layer 0's input projection, an element at a time of each of its six results. -/
module

public import proofs.«01_k».proof.Proof.Gen.Reference5Ideal.Run
public import proofs.«01_k».proof.Proof.ProjRow
public import Idealize.ShloMosaic.Lib.Tactic.CleanTypes

@[expose] public section

noncomputable section

namespace Cert.ProjRef

open Cert.Reference5Ideal Cert.Reference5Ideal.Gen
open Idealize.ShloMosaic Idealize.ShloMosaic.TcCoe
open Idealize.SL Idealize.SL.Sem

def bOf (R : Fin 32768) : Fin 8 := ⟨R.val / 4096, by omega⟩
def sOf (R : Fin 32768) : Fin 4096 := ⟨R.val % 4096, Nat.mod_lt _ (by decide)⟩

section
variable (X : S8x4096x1024.Idx → EReal) (G : S2x1024.Idx → EReal) (W : S2x1024x2064.Idx → EReal)

/-- An element of the projection of a token. -/
def el (b : Fin 8) (s : Fin 4096) (j : Fin 2064) : EReal :=
  Proj.proj (fun k => X (ix3 b s k)) (fun j => G (ix2 0 j)) (fun k => W (ix3 0 k j))

/-- The norm. -/
def vNorm : FVec Ideal S8x4096x1024 .f32 :=
  mulf (mulf (X : FVec Ideal S8x4096x1024 .f32) (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf (X : FVec Ideal S8x4096x1024 .f32) (X : FVec Ideal S8x4096x1024 .f32)) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast S1024 (extractStridedSlice S1x1024 ![0, 0] (G : FVec Ideal S2x1024 .f32) slices_S2x1024_S1x1024_0_0) shapeCasts_S1x1024_S1024)))

theorem vNorm_at (b : Fin 8) (s : Fin 4096) (d : Fin 1024) :
    vNorm X G (ix3 b s d) = Mix.normed 1149239296#32 (fun k => X (ix3 b s k)) (fun j => G (ix2 0 j)) d := by
  unfold vNorm Mix.normed
  clean_types
  pointwise

/-- The projection. -/
def vProj : FVec Ideal S8x4096x2064 .f32 :=
  Host.dotGeneral (φ₂ := .f32) dot_S8x4096x1024_S1024x2064_S8x4096x2064_2_0_01_1_n_n none (vNorm X G)
    (shapeCast S1024x2064 (extractStridedSlice S1x1024x2064 ![0, 0, 0] (W : FVec Ideal S2x1024x2064 .f32) slices_S2x1024x2064_S1x1024x2064_0_0_0) shapeCasts_S1x1024x2064_S1024x2064)

theorem vProj_at (b : Fin 8) (s : Fin 4096) (j : Fin 2064) : vProj X G W (ix3 b s j) = el X G W b s j := by
  unfold vProj el Proj.proj
  have e : ∀ k, vNorm X G (ix3 b s k) = Mix.normed 1149239296#32 (fun k => X (ix3 b s k)) (fun j => G (ix2 0 j)) k := fun k => vNorm_at X G b s k
  simp only [← e]
  generalize vNorm X G = H
  clean_types
  pointwise

theorem out_u (P : FVec Ideal S8x4096x2064 .f32) (R : Fin 32768) (d : Fin 512) :
    (truncf .bf16 (shapeCast S32768x512 (extractStridedSlice S8x4096x512 ![0, 0, 0] P slices_S8x4096x2064_S8x4096x512_0_0_0) shapeCasts_S8x4096x512_S32768x512)
        bitsLt_bf16_f32 : FVec Ideal S32768x512 .bf16) (ix2 R d)
      = P (ix3 (bOf R) (sOf R) ⟨0 + d.val, by omega⟩) := by
  unfold bOf sOf
  clean_types
  pointwise

theorem out_v (P : FVec Ideal S8x4096x2064 .f32) (R : Fin 32768) (d : Fin 512) :
    (truncf .bf16 (shapeCast S32768x512 (extractStridedSlice S8x4096x512 ![0, 0, 1024] P slices_S8x4096x2064_S8x4096x512_0_0_1024) shapeCasts_S8x4096x512_S32768x512)
        bitsLt_bf16_f32 : FVec Ideal S32768x512 .bf16) (ix2 R d)
      = P (ix3 (bOf R) (sOf R) ⟨1024 + d.val, by omega⟩) := by
  unfold bOf sOf
  clean_types
  pointwise

theorem out_r (P : FVec Ideal S8x4096x2064 .f32) (R : Fin 32768) (d : Fin 512) :
    (truncf .bf16 (shapeCast S32768x512 (extractStridedSlice S8x4096x512 ![0, 0, 1536] P slices_S8x4096x2064_S8x4096x512_0_0_1536) shapeCasts_S8x4096x512_S32768x512)
        bitsLt_bf16_f32 : FVec Ideal S32768x512 .bf16) (ix2 R d)
      = P (ix3 (bOf R) (sOf R) ⟨1536 + d.val, by omega⟩) := by
  unfold bOf sOf
  clean_types
  pointwise

theorem out_q (P : FVec Ideal S8x4096x2064 .f32) (R : Fin 32768) (d : Fin 256) :
    (truncf .bf16 (shapeCast S32768x256 (mulf (extractStridedSlice S8x4096x256 ![0, 0, 512] P slices_S8x4096x2064_S8x4096x256_0_0_512)
        (broadcastInDim S8x4096x256 ![] bcast_S_S8x4096x256 (constant S_ .f32 0x3E000000#32))) shapeCasts_S8x4096x256_S32768x256)
        bitsLt_bf16_f32 : FVec Ideal S32768x256 .bf16) (ix2 R d)
      = P (ix3 (bOf R) (sOf R) ⟨512 + d.val, by omega⟩) * Ideal.ofBits FTy.f32 0x3E000000#32 := by
  unfold bOf sOf
  clean_types
  pointwise

theorem out_keys (P : FVec Ideal S8x4096x2064 .f32) (b : Fin 8) (d : Fin 256) (s : Fin 4096) :
    (truncf .bf16 (transpose S8x256x4096 [0, 2, 1] (extractStridedSlice S8x4096x256 ![0, 0, 768] P slices_S8x4096x2064_S8x4096x256_0_0_768) transposes_S8x4096x256_S8x256x4096_0_2_1)
        bitsLt_bf16_f32 : FVec Ideal S8x256x4096 .bf16) (ix3 b d s)
      = P (ix3 b s ⟨768 + d.val, by omega⟩) := by
  clean_types
  pointwise

theorem dite_last {A B C : Prop} {i : Decidable (A ∧ B ∧ C)} {j : Decidable C} {α : Type} (hA : A) (hB : B) (f : A ∧ B ∧ C → α) (g : C → α)
    (e : ∀ h, f h = g h.2.2) (z z' : α) (hz : z = z') : (if h : A ∧ B ∧ C then f h else z) = if h : C then g h else z' := by
  by_cases h : C
  · rw [dif_pos ⟨hA, hB, h⟩, dif_pos h]; exact e _
  · rw [dif_neg (fun k => h k.2.2), dif_neg h]; exact hz

theorem sitofp_zero : FloatOps.sitofp (F := Ideal) FTy.f32 0#32 = (0 : EReal) := by
  show ((((0#32 : BitVec 32).toInt : ℤ) : ℝ) : EReal) = 0
  norm_num

theorem out_gl (P : FVec Ideal S8x4096x2064 .f32) (R : Fin 32768) (d : Fin 128) :
    (truncf .bf16 (shapeCast S32768x128 (pad S8x4096x128 ![0, 0, 0] ![0, 0, 112] ![0, 0, 0]
        (extractStridedSlice S8x4096x16 ![0, 0, 2048] P slices_S8x4096x2064_S8x4096x16_0_0_2048) (sitofp .f32 (constantI S_ 32 0#32))
        pads_S8x4096x16_S8x4096x128_000_000_01120 h_S_) shapeCasts_S8x4096x128_S32768x128)
        bitsLt_bf16_f32 : FVec Ideal S32768x128 .bf16) (ix2 R d)
      = if h : d.val < 16 then P (ix3 (bOf R) (sOf R) ⟨2048 + d.val, by omega⟩) else 0 := by
  unfold bOf sOf
  clean_types
  pointwise
  have hR : R.val / 4096 < 8 := by have := R.isLt; omega
  refine dite_last (C := d.val < 16) hR (Nat.mod_lt R.val (by decide : 0 < 4096)) _ _ (fun _ => ?_) _ _ sitofp_zero
  rfl

/-! ## The six results -/

/-- The rows of the S5 branch's input. -/
def rU : S32768x512.Idx → EReal := fun x =>
  el X G W (bOf (x 0)) (sOf (x 0)) ⟨0 + (x 1).val, by have h : (x 1).val < 512 := (x 1).isLt; omega⟩

/-- The rows of the values. -/
def rV : S32768x512.Idx → EReal := fun x =>
  el X G W (bOf (x 0)) (sOf (x 0)) ⟨1024 + (x 1).val, by have h : (x 1).val < 512 := (x 1).isLt; omega⟩

/-- The rows of the output gate. -/
def rR : S32768x512.Idx → EReal := fun x =>
  el X G W (bOf (x 0)) (sOf (x 0)) ⟨1536 + (x 1).val, by have h : (x 1).val < 512 := (x 1).isLt; omega⟩

/-- The rows of the queries, scaled. -/
def rQ : S32768x256.Idx → EReal := fun x =>
  el X G W (bOf (x 0)) (sOf (x 0)) ⟨512 + (x 1).val, by have h : (x 1).val < 256 := (x 1).isLt; omega⟩ * Ideal.ofBits FTy.f32 0x3E000000#32

/-- The columns of the keys. -/
def rK : S8x256x4096.Idx → EReal := fun x =>
  el X G W (x 0) (x 2) ⟨768 + (x 1).val, by have h : (x 1).val < 256 := (x 1).isLt; omega⟩

/-- The rows of the forget gate's compression, padded. -/
def rGl : S32768x128.Idx → EReal := fun x =>
  if h : (x 1).val < 16 then el X G W (bOf (x 0)) (sOf (x 0)) ⟨2048 + (x 1).val, by omega⟩ else 0

theorem u_eq :
    (truncf .bf16 (shapeCast S32768x512 (extractStridedSlice S8x4096x512 ![0, 0, 0] (vProj X G W) slices_S8x4096x2064_S8x4096x512_0_0_0) shapeCasts_S8x4096x512_S32768x512)
        bitsLt_bf16_f32 : FVec Ideal S32768x512 .bf16) = rU X G W :=
  funext fun x => (congrArg _ (ix2_eta (n0 := 32768) (n1 := 512) x).symm).trans ((out_u (vProj X G W) (x 0) (x 1)).trans (vProj_at X G W _ _ _))

theorem v_eq :
    (truncf .bf16 (shapeCast S32768x512 (extractStridedSlice S8x4096x512 ![0, 0, 1024] (vProj X G W) slices_S8x4096x2064_S8x4096x512_0_0_1024) shapeCasts_S8x4096x512_S32768x512)
        bitsLt_bf16_f32 : FVec Ideal S32768x512 .bf16) = rV X G W :=
  funext fun x => (congrArg _ (ix2_eta (n0 := 32768) (n1 := 512) x).symm).trans ((out_v (vProj X G W) (x 0) (x 1)).trans (vProj_at X G W _ _ _))

theorem r_eq :
    (truncf .bf16 (shapeCast S32768x512 (extractStridedSlice S8x4096x512 ![0, 0, 1536] (vProj X G W) slices_S8x4096x2064_S8x4096x512_0_0_1536) shapeCasts_S8x4096x512_S32768x512)
        bitsLt_bf16_f32 : FVec Ideal S32768x512 .bf16) = rR X G W :=
  funext fun x => (congrArg _ (ix2_eta (n0 := 32768) (n1 := 512) x).symm).trans ((out_r (vProj X G W) (x 0) (x 1)).trans (vProj_at X G W _ _ _))

theorem q_eq :
    (truncf .bf16 (shapeCast S32768x256 (mulf (extractStridedSlice S8x4096x256 ![0, 0, 512] (vProj X G W) slices_S8x4096x2064_S8x4096x256_0_0_512)
        (broadcastInDim S8x4096x256 ![] bcast_S_S8x4096x256 (constant S_ .f32 0x3E000000#32))) shapeCasts_S8x4096x256_S32768x256)
        bitsLt_bf16_f32 : FVec Ideal S32768x256 .bf16) = rQ X G W :=
  funext fun x => (congrArg _ (ix2_eta (n0 := 32768) (n1 := 256) x).symm).trans
    ((out_q (vProj X G W) (x 0) (x 1)).trans (congrArg (· * _) (vProj_at X G W _ _ _)))

theorem keys_eq :
    (truncf .bf16 (transpose S8x256x4096 [0, 2, 1] (extractStridedSlice S8x4096x256 ![0, 0, 768] (vProj X G W) slices_S8x4096x2064_S8x4096x256_0_0_768) transposes_S8x4096x256_S8x256x4096_0_2_1)
        bitsLt_bf16_f32 : FVec Ideal S8x256x4096 .bf16) = rK X G W :=
  funext fun x => (congrArg _ (ix3_eta (n0 := 8) (n1 := 256) (n2 := 4096) x).symm).trans
    ((out_keys (vProj X G W) (x 0) (x 1) (x 2)).trans (vProj_at X G W _ _ _))

theorem gl_eq :
    (truncf .bf16 (shapeCast S32768x128 (pad S8x4096x128 ![0, 0, 0] ![0, 0, 112] ![0, 0, 0]
        (extractStridedSlice S8x4096x16 ![0, 0, 2048] (vProj X G W) slices_S8x4096x2064_S8x4096x16_0_0_2048) (sitofp .f32 (constantI S_ 32 0#32))
        pads_S8x4096x16_S8x4096x128_000_000_01120 h_S_) shapeCasts_S8x4096x128_S32768x128)
        bitsLt_bf16_f32 : FVec Ideal S32768x128 .bf16) = rGl X G W :=
  funext fun x => (congrArg _ (ix2_eta (n0 := 32768) (n1 := 128) x).symm).trans
    ((out_gl (vProj X G W) (x 0) (x 1)).trans (by
      unfold rGl
      by_cases h : (x 1).val < 16
      · rw [dif_pos h, dif_pos h]; exact vProj_at X G W _ _ _
      · rw [dif_neg h, dif_neg h]))

end

/-- The reference's run: its six results, and the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v25) = rU (m ((c.tc : Thread nD τ).loc main_arg0)) (m ((c.tc : Thread nD τ).loc main_arg1)) (m ((c.tc : Thread nD τ).loc main_arg2))
        ∧ r.2.mem ((c.tc : Thread nD τ).loc main_v29) = rQ (m ((c.tc : Thread nD τ).loc main_arg0)) (m ((c.tc : Thread nD τ).loc main_arg1)) (m ((c.tc : Thread nD τ).loc main_arg2))
        ∧ r.2.mem ((c.tc : Thread nD τ).loc main_v31) = rK (m ((c.tc : Thread nD τ).loc main_arg0)) (m ((c.tc : Thread nD τ).loc main_arg1)) (m ((c.tc : Thread nD τ).loc main_arg2))
        ∧ r.2.mem ((c.tc : Thread nD τ).loc main_v33) = rV (m ((c.tc : Thread nD τ).loc main_arg0)) (m ((c.tc : Thread nD τ).loc main_arg1)) (m ((c.tc : Thread nD τ).loc main_arg2))
        ∧ r.2.mem ((c.tc : Thread nD τ).loc main_v35) = rR (m ((c.tc : Thread nD τ).loc main_arg0)) (m ((c.tc : Thread nD τ).loc main_arg1)) (m ((c.tc : Thread nD τ).loc main_arg2))
        ∧ r.2.mem ((c.tc : Thread nD τ).loc main_v38) = rGl (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun _ h c => ⟨(h c).1.trans (u_eq _ _ _), (h c).2.1.trans (q_eq _ _ _), (h c).2.2.1.trans (keys_eq _ _ _), (h c).2.2.2.1.trans (v_eq _ _ _), (h c).2.2.2.2.1.trans (r_eq _ _ _), (h c).2.2.2.2.2.1.trans (gl_eq _ _ _), (h c).2.2.2.2.2.2⟩) (Value.run m ρ)

end Cert.ProjRef
-- ==== Proof.ProjValue.lean ====
/- The six results of layer 0's input projection: row `2048 t + r` is what point `t` leaves at row `r` of its block, and the keys'
   columns the same in the transposed layout. -/
module

public import proofs.«01_k».proof.Proof.ProjPoint
public import proofs.«01_k».proof.Proof.ProjCat
public import proofs.«01_k».proof.Proof.ProjRef
public import proofs.«01_k».proof.Proof.Gen.Kernel5Ideal.Value
public import Idealize.ShloMosaic.Lib.Pipeline.ArrRel

@[expose] public section

noncomputable section

namespace Cert.Proj

open Cert.Kernel5Ideal Cert.Kernel5Ideal.Gen
open Idealize.ShloMosaic Idealize.ShloMosaic.TcCoe Idealize.ShloMosaic.Pipeline
open Idealize.SL Idealize.SL.Sem

/-! ## Columns of the weights side by side -/

section
variable (W : S2x1024x2064.Idx → EReal) (l : Fin 2) (k : Fin 1024)

theorem side_u (P : FVec Ideal S2x1024x128 .f32) (d : Fin 512) : side W P (ix3 l k ⟨0 + d.val, by omega⟩) = W (ix3 l k ⟨0 + d.val, by omega⟩) := by
  rw [side_at, dif_pos (show 0 + d.val < 512 by omega)]

theorem side_q (P : FVec Ideal S2x1024x128 .f32) (d : Fin 256) : side W P (ix3 l k ⟨512 + d.val, by omega⟩)
    = W (ix3 l k ⟨512 + d.val, by omega⟩) * Ideal.ofBits FTy.f32 0x3E000000#32 := by
  rw [side_at, dif_neg (show ¬ 512 + d.val < 512 by omega), dif_pos (show 512 + d.val - 512 < 256 by omega)]
  exact congrArg (fun j => W (ix3 l k j) * _) (Fin.ext (by show 512 + (512 + d.val - 512) = 512 + d.val; omega))

theorem side_v (P : FVec Ideal S2x1024x128 .f32) (d : Fin 512) : side W P (ix3 l k ⟨768 + d.val, by omega⟩) = W (ix3 l k ⟨1024 + d.val, by omega⟩) := by
  rw [side_at, dif_neg (show ¬ 768 + d.val < 512 by omega), dif_neg (show ¬ 768 + d.val - 512 < 256 by omega),
    dif_pos (show 768 + d.val - 512 - 256 < 512 by omega)]
  exact congrArg (fun j => W (ix3 l k j)) (Fin.ext (by show 1024 + (768 + d.val - 512 - 256) = 1024 + d.val; omega))

theorem side_r (P : FVec Ideal S2x1024x128 .f32) (d : Fin 512) : side W P (ix3 l k ⟨1280 + d.val, by omega⟩) = W (ix3 l k ⟨1536 + d.val, by omega⟩) := by
  rw [side_at, dif_neg (show ¬ 1280 + d.val < 512 by omega), dif_neg (show ¬ 1280 + d.val - 512 < 256 by omega),
    dif_neg (show ¬ 1280 + d.val - 512 - 256 < 512 by omega), dif_pos (show 1280 + d.val - 512 - 256 - 512 < 512 by omega)]
  exact congrArg (fun j => W (ix3 l k j)) (Fin.ext (by show 1536 + (1280 + d.val - 512 - 256 - 512) = 1536 + d.val; omega))

theorem side_gl (P : FVec Ideal S2x1024x128 .f32) (d : Fin 128) : side W P (ix3 l k ⟨1792 + d.val, by omega⟩) = P (ix3 l k d) := by
  rw [side_at, dif_neg (show ¬ 1792 + d.val < 512 by omega), dif_neg (show ¬ 1792 + d.val - 512 < 256 by omega),
    dif_neg (show ¬ 1792 + d.val - 512 - 256 < 512 by omega), dif_neg (show ¬ 1792 + d.val - 512 - 256 - 512 < 512 by omega)]
  exact congrArg (fun j => P (ix3 l k j)) (Fin.ext (by show 1792 + d.val - 512 - 256 - 512 - 512 = d.val; omega))

end

/-! ## The blocks -/

section
variable (m : (ℓ : Loc nD τ sig) → Buf (Elt Ideal) ℓ) (ρ : Dev nD → PrngReg) (c : Dev nD)

abbrev aX : S8x4096x1024.Idx → EReal := m ((c.tc : Thread nD τ).loc main_arg0)
abbrev aG : S2x1024.Idx → EReal := m ((c.tc : Thread nD τ).loc main_arg1)
abbrev aW : S2x1024x2064.Idx → EReal := m ((c.tc : Thread nD τ).loc main_arg2)

/-- A row of a block, among all rows. -/
def rowOf (t r : ℕ) : Fin 32768 := ⟨(2048 * t + r) % 32768, Nat.mod_lt _ (by decide)⟩

theorem index_0 : ∀ t : Fin grid0.N, win0_0.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_7 : ∀ t : Fin grid0.N, win0_7.index t = ![t.val, 0] := by decide +kernel
theorem index_8 : ∀ t : Fin grid0.N, win0_8.index t = ![t.val, 0] := by decide +kernel
theorem index_9 : ∀ t : Fin grid0.N, win0_9.index t = ![t.val, 0] := by decide +kernel
theorem index_1 : ∀ t : Fin grid0.N, win0_1.index t = ![0, 0, 0] := by decide +kernel
theorem index_2 : ∀ t : Fin grid0.N, win0_2.index t = ![0, 0, 0] := by decide +kernel
theorem index_3 : ∀ t : Fin grid0.N, win0_3.index t = ![0, 0, 0] := by decide +kernel
theorem index_6 : ∀ t : Fin grid0.N, win0_6.index t = ![t.val / 2, 0, t.val % 2] := by decide +kernel

theorem V_rows : V m c main_v15 = shapeCast S32768x1024 (aX m c) shapeCasts_S8x4096x1024_S32768x1024 := rfl
theorem V_norm : V m c main_v16 = broadcastInDim S2x1x1024 ![0, 2] bcast_S2x1024_S2x1x1024_0_2 (aG m c) := rfl
theorem V_side : V m c main_v11 = side (aW m c) (padded (aW m c)) := by
  unfold side padded word
  show StableHlo.after hostOps0 (fun b => m (c, b)) (Proc.devRef .tc main_v11) = _
  after_results
  dsimp only [Matrix.cons_val]
  repeat simp only [↓ StableHlo.readResult, ↓ StableHlo.readPieces, -eq_self]
  rfl
theorem V_keys : V m c main_v14 = (truncf .bf16 (transpose S2x256x1024 [0, 2, 1]
    (extractStridedSlice S2x1024x256 ![0, 0, 768] (aW m c : FVec Ideal S2x1024x2064 .f32) slices_S2x1024x2064_S2x1024x256_0_0_768)
    transposes_S2x1024x256_S2x256x1024_0_2_1) bitsLt_bf16_f32 : FVec Ideal S2x256x1024 .bf16) := rfl

theorem blk_rows (t : Fin cfg0.N) (r : Fin 2048) (d : Fin 1024) :
    iblk m c 0 t (ix2 r d) = aX m c (ix3 (ProjRef.bOf (rowOf t.val r.val)) (ProjRef.sOf (rowOf t.val r.val)) d) := by
  have hN : cfg0.N = 16 := N_0
  have ht : t.val < 16 := Nat.lt_of_lt_of_eq t.isLt hN
  have e : ((cfg0.win 0).blk t).view.emb (ix2 r d) = (ix2 (rowOf t.val r.val) d : S32768x1024.Idx) := by
    funext a
    apply Fin.ext
    match a with
    | (0 : Fin 2) =>
      show win0_0.index t (0 : Fin 2) * 2048 + 1 * r.val = (2048 * t.val + r.val) % 32768
      rw [index_0]; show t.val * 2048 + 1 * r.val = _; omega
    | (1 : Fin 2) =>
      show win0_0.index t (1 : Fin 2) * 1024 + 1 * d.val = d.val
      rw [index_0]; show 0 * 1024 + 1 * d.val = _; omega
  show V m c main_v15 (((cfg0.win 0).blk t).view.emb (ix2 r d)) = _
  rw [e, V_rows]
  unfold ProjRef.bOf ProjRef.sOf
  clean_types
  pointwise

theorem blk_norm (t : Fin cfg0.N) (j : Fin 1024) : iblk m c 1 t (ix3 0 0 j) = aG m c (ix2 0 j) := by
  have e : ((cfg0.win 1).blk t).view.emb (ix3 0 0 j) = (ix3 0 0 j : S2x1x1024.Idx) := by
    funext a
    apply Fin.ext
    match a with
    | (0 : Fin 3) =>
      show win0_1.index t (0 : Fin 3) * 1 + 1 * 0 = 0
      rw [index_1]; rfl
    | (1 : Fin 3) =>
      show win0_1.index t (1 : Fin 3) * 1 + 1 * 0 = 0
      rw [index_1]; show 0 * 1 + 1 * 0 = _; omega
    | (2 : Fin 3) =>
      show win0_1.index t (2 : Fin 3) * 1024 + 1 * j.val = j.val
      rw [index_1]; show 0 * 1024 + 1 * j.val = _; omega
  show V m c main_v16 (((cfg0.win 1).blk t).view.emb (ix3 0 0 j)) = _
  rw [e, V_norm]
  clean_types
  pointwise

theorem blk_side (t : Fin cfg0.N) (k : Fin 1024) (j : Fin 1920) :
    iblk m c 2 t (ix3 0 k j) = side (aW m c) (padded (aW m c)) (ix3 0 k j) := by
  have e : ((cfg0.win 2).blk t).view.emb (ix3 0 k j) = (ix3 0 k j : S2x1024x1920.Idx) := by
    funext a
    apply Fin.ext
    match a with
    | (0 : Fin 3) =>
      show win0_2.index t (0 : Fin 3) * 1 + 1 * 0 = 0
      rw [index_2]; rfl
    | (1 : Fin 3) =>
      show win0_2.index t (1 : Fin 3) * 1024 + 1 * k.val = k.val
      rw [index_2]; show 0 * 1024 + 1 * k.val = _; omega
    | (2 : Fin 3) =>
      show win0_2.index t (2 : Fin 3) * 1920 + 1 * j.val = j.val
      rw [index_2]; show 0 * 1920 + 1 * j.val = _; omega
  show V m c main_v11 (((cfg0.win 2).blk t).view.emb (ix3 0 k j)) = _
  rw [e, V_side]

theorem blk_keys (t : Fin cfg0.N) (d : Fin 256) (k : Fin 1024) :
    iblk m c 3 t (ix3 0 d k) = aW m c (ix3 0 k ⟨768 + d.val, by omega⟩) := by
  have e : ((cfg0.win 3).blk t).view.emb (ix3 0 d k) = (ix3 0 d k : S2x256x1024.Idx) := by
    funext a
    apply Fin.ext
    match a with
    | (0 : Fin 3) =>
      show win0_3.index t (0 : Fin 3) * 1 + 1 * 0 = 0
      rw [index_3]; rfl
    | (1 : Fin 3) =>
      show win0_3.index t (1 : Fin 3) * 256 + 1 * d.val = d.val
      rw [index_3]; show 0 * 256 + 1 * d.val = _; omega
    | (2 : Fin 3) =>
      show win0_3.index t (2 : Fin 3) * 1024 + 1 * k.val = k.val
      rw [index_3]; show 0 * 1024 + 1 * k.val = _; omega
  show V m c main_v14 (((cfg0.win 3).blk t).view.emb (ix3 0 d k)) = _
  rw [e, V_keys]
  clean_types
  pointwise

/-! ## What a point leaves -/

theorem at_u (t : Fin cfg0.N) (r : Fin 2048) (d : Fin 512) :
    out0_4 (iblk m c 0 t) (iblk m c 1 t) (iblk m c 2 t) (iblk m c 3 t) (ix2 r d)
      = ProjRef.el (aX m c) (aG m c) (aW m c) (ProjRef.bOf (rowOf t.val r.val)) (ProjRef.sOf (rowOf t.val r.val)) ⟨0 + d.val, by omega⟩ := by
  refine (point_u (iblk m c 0 t) (iblk m c 1 t) (iblk m c 2 t) (iblk m c 3 t) r d).trans ?_
  unfold ProjRef.el
  simp only [blk_rows, blk_norm, blk_side, side_u]

theorem at_q (t : Fin cfg0.N) (r : Fin 2048) (d : Fin 256) :
    out0_5 (iblk m c 0 t) (iblk m c 1 t) (iblk m c 2 t) (iblk m c 3 t) (ix2 r d)
      = ProjRef.el (aX m c) (aG m c) (aW m c) (ProjRef.bOf (rowOf t.val r.val)) (ProjRef.sOf (rowOf t.val r.val)) ⟨512 + d.val, by omega⟩ * Ideal.ofBits FTy.f32 0x3E000000#32 := by
  refine (point_q (iblk m c 0 t) (iblk m c 1 t) (iblk m c 2 t) (iblk m c 3 t) r d).trans ?_
  unfold ProjRef.el
  simp only [blk_rows, blk_norm, blk_side, side_q]
  exact proj_scaled _ _ _

theorem at_v (t : Fin cfg0.N) (r : Fin 2048) (d : Fin 512) :
    out0_7 (iblk m c 0 t) (iblk m c 1 t) (iblk m c 2 t) (iblk m c 3 t) (ix2 r d)
      = ProjRef.el (aX m c) (aG m c) (aW m c) (ProjRef.bOf (rowOf t.val r.val)) (ProjRef.sOf (rowOf t.val r.val)) ⟨1024 + d.val, by omega⟩ := by
  refine (point_v (iblk m c 0 t) (iblk m c 1 t) (iblk m c 2 t) (iblk m c 3 t) r d).trans ?_
  unfold ProjRef.el
  simp only [blk_rows, blk_norm, blk_side, side_v]

theorem at_r (t : Fin cfg0.N) (r : Fin 2048) (d : Fin 512) :
    out0_8 (iblk m c 0 t) (iblk m c 1 t) (iblk m c 2 t) (iblk m c 3 t) (ix2 r d)
      = ProjRef.el (aX m c) (aG m c) (aW m c) (ProjRef.bOf (rowOf t.val r.val)) (ProjRef.sOf (rowOf t.val r.val)) ⟨1536 + d.val, by omega⟩ := by
  refine (point_r (iblk m c 0 t) (iblk m c 1 t) (iblk m c 2 t) (iblk m c 3 t) r d).trans ?_
  unfold ProjRef.el
  simp only [blk_rows, blk_norm, blk_side, side_r]

theorem at_gl (t : Fin cfg0.N) (r : Fin 2048) (d : Fin 128) :
    out0_9 (iblk m c 0 t) (iblk m c 1 t) (iblk m c 2 t) (iblk m c 3 t) (ix2 r d)
      = if h : d.val < 16 then ProjRef.el (aX m c) (aG m c) (aW m c) (ProjRef.bOf (rowOf t.val r.val)) (ProjRef.sOf (rowOf t.val r.val)) ⟨2048 + d.val, by omega⟩ else 0 := by
  refine (point_gl (iblk m c 0 t) (iblk m c 1 t) (iblk m c 2 t) (iblk m c 3 t) r d).trans ?_
  unfold ProjRef.el
  simp only [blk_rows, blk_norm, blk_side, side_gl]
  by_cases h : d.val < 16
  · rw [dif_pos h]
    simp only [padded_in _ _ _ d h]
  · rw [dif_neg h]
    simp only [padded_zero _ _ _ d h]
    exact proj_zero _ _

theorem at_keys (t : Fin cfg0.N) (d : Fin 256) (r : Fin 2048) :
    out0_6 (iblk m c 0 t) (iblk m c 1 t) (iblk m c 2 t) (iblk m c 3 t) (ix3 0 d r)
      = ProjRef.el (aX m c) (aG m c) (aW m c) (ProjRef.bOf (rowOf t.val r.val)) (ProjRef.sOf (rowOf t.val r.val)) ⟨768 + d.val, by omega⟩ := by
  refine (point_keys (iblk m c 0 t) (iblk m c 1 t) (iblk m c 2 t) (iblk m c 3 t) d r).trans ?_
  unfold ProjRef.el
  simp only [blk_rows, blk_norm, blk_keys]

/-! ## The six results -/

theorem nblk_u (a : Fin 2) : (cfg0.win 4).nblk a = (![16, 1] : Fin 2 → ℕ) a := by
  match a with
  | 0 => show (32768 + 2048 - 1) / 2048 = 16; rfl
  | 1 => show (512 + 512 - 1) / 512 = 1; rfl

theorem flush_u : ∀ t : Fin grid0.N, win0_4.flush t = true := by decide +kernel

theorem covers_u : (cfg0.win 4).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_u 0)
    have h1 : (β (1 : Fin 2)).val < 1 := Nat.lt_of_lt_of_eq (β (1 : Fin 2)).isLt (nblk_u 1)
    let t : Fin cfg0.N := ⟨(β (0 : Fin 2)).val, by omega⟩
    refine ⟨t, flush_u t, fun a => ⟨?_, Or.inl rfl⟩⟩
    refine (congrFun (index_4 t) a).trans ?_
    match a with
    | (0 : Fin 2) => rfl
    | (1 : Fin 2) => show 0 = (β (1 : Fin 2)).val; omega

theorem emb_u (t : Fin cfg0.N) (r : Fin 2048) (d : Fin 512) :
    ((cfg0.win 4).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_4.index t (0 : Fin 2) * 2048 + 1 * r.val = (2048 * t.val + r.val) % 32768
    rw [index_4]; show t.val * 2048 + 1 * r.val = _; omega
  | (1 : Fin 2) =>
    show win0_4.index t (1 : Fin 2) * 512 + 1 * d.val = d.val
    rw [index_4]; show 0 * 512 + 1 * d.val = _; omega

theorem same_u (t : Fin cfg0.N) (r : Fin 2048) (d : Fin 512) :
    out0_4 (iblk m c 0 t) (iblk m c 1 t) (iblk m c 2 t) (iblk m c 3 t) (ix2 r d) = ProjRef.rU (aX m c) (aG m c) (aW m c) (((cfg0.win 4).blk t).view.emb (ix2 r d)) := by
  rw [emb_u]
  exact at_u m c t r d

theorem result_u : (dats m 0 c).arrAt 4 cfg0.N = ProjRef.rU (aX m c) (aG m c) (aW m c) := by
  refine Dat.arrAt_eq_of_covers (dats m 0 c) 4 (ProjRef.rU (aX m c) (aG m c) (aW m c)) covers_u (fun t _ => ?_)
  refine fun (y : S2048x512.Idx) => (congrFun (after0_4 m c t) y).trans ?_
  exact ix2_eta (n0 := 2048) (n1 := 512) y ▸ same_u m c t (y 0) (y 1)

theorem nblk_q (a : Fin 2) : (cfg0.win 5).nblk a = (![16, 1] : Fin 2 → ℕ) a := by
  match a with
  | 0 => show (32768 + 2048 - 1) / 2048 = 16; rfl
  | 1 => show (256 + 256 - 1) / 256 = 1; rfl

theorem flush_q : ∀ t : Fin grid0.N, win0_5.flush t = true := by decide +kernel

theorem covers_q : (cfg0.win 5).Covers := by
  have hN : cfg0.N = 16 := N_0
  refine ⟨fun a => ?_, fun β => ?_⟩
  · exact (show ∀ a : Fin 2, 0 < (![2048, 256] : Fin 2 → ℕ) a by decide) a
  · have h0 : (β (0 : Fin 2)).val < 16 := Nat.lt_of_lt_of_eq (β (0 : Fin 2)).isLt (nblk_q 0)
    have h1 : (β (1 : Fin 2)).val < 1 := Nat.lt_of_lt_of_eq (β (1 : Fin 2)).isLt (nblk_q 1)
    let t : Fin cfg0.N := ⟨(β (0 : Fin 2)).val, by omega⟩
    refine ⟨t, flush_q t, fun a => ⟨?_, Or.inl rfl⟩⟩
    refine (congrFun (index_5 t) a).trans ?_
    match a with
    | (0 : Fin 2) => rfl
    | (1 : Fin 2) => show 0 = (β (1 : Fin 2)).val; omega

theorem emb_q (t : Fin cfg0.N) (r : Fin 2048) (d : Fin 256) :
    ((cfg0.win 5).blk t).view.emb (ix2 r d) = (ix2 (rowOf t.val r.val) d : S32768x256.Idx) := by
  have hN : cfg0.N = 16 := N_0
  have ht : t.val < 16 := Nat.lt_of_lt_of_eq t.isLt hN
  funext a
  apply Fin.ext
  match a with
  | (0 : Fin 2) =>
    show win0_5.index t (0 : Fin 2) * 2048 + 1 * r.val = (2048 * t.val + r.val) % 32768
    rw [index_5]; show t.val * 2048 + 1 * r.val = _; omega
  | (1 : Fin 2) =>
    show win0_5.index t (1 : Fin 2) * 256 + 1 * d.val = d.val
    rw [index_5]; show 0 * 256 + 1 * d.val = _; omega

theorem same_q (t : Fin cfg0.N) (r : Fin 2048) (d : Fin 256) :
    out0_5 (iblk m c 0 t) (iblk m c 1 t) (iblk m c 2 t) (iblk m c 3 t) (ix2 r d) = ProjRef.rQ (aX m c) (aG m c) (aW m c) (((cfg0.win 5).blk t).view.emb (ix2 r d)) := by
  rw [emb_q]
  exact at_q m c t r d

theorem result_q : (dats m 0 c).arrAt 5 cfg0.N = ProjRef.rQ (aX m c) (aG m c) (aW m c) := by
  refine Dat.arrAt_eq_of_covers (dats m 0 c) 5 (ProjRef.rQ (aX m c) (aG m c) (aW m c)) covers_q (fun t _ => ?_)
  refine fun (y : S2048x256.Idx) => (congrFun (after0_5 m c t) y).trans ?_
  exact ix2_eta (n0 := 2048) (n1 := 256) y ▸ same_q m c t (y 0) (y 1)

theorem nblk_v (a : Fin 2) : (cfg0.win 7).nblk a = (![16, 1] : Fin 2 → ℕ) a := by
  match a with
  | 0 => show (32768 + 2048 - 1) / 2048 = 16; rfl
  | 1 => show (512 + 512 - 1) / 512 = 1; rfl

theorem flush_v : ∀ t : Fin grid0.N, win0_7.flush t = true := by decide +kernel

theorem covers_v : (cfg0.win 7).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_v 0)
    have h1 : (β (1 : Fin 2)).val < 1 := Nat.lt_of_lt_of_eq (β (1 : Fin 2)).isLt (nblk_v 1)
    let t : Fin cfg0.N := ⟨(β (0 : Fin 2)).val, by omega⟩
    refine ⟨t, flush_v t, fun a => ⟨?_, Or.inl rfl⟩⟩
    refine (congrFun (index_7 t) a).trans ?_
    match a with
    | (0 : Fin 2) => rfl
    | (1 : Fin 2) => show 0 = (β (1 : Fin 2)).val; omega

theorem emb_v (t : Fin cfg0.N) (r : Fin 2048) (d : Fin 512) :
    ((cfg0.win 7).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_7.index t (0 : Fin 2) * 2048 + 1 * r.val = (2048 * t.val + r.val) % 32768
    rw [index_7]; show t.val * 2048 + 1 * r.val = _; omega
  | (1 : Fin 2) =>
    show win0_7.index t (1 : Fin 2) * 512 + 1 * d.val = d.val
    rw [index_7]; show 0 * 512 + 1 * d.val = _; omega

theorem same_v (t : Fin cfg0.N) (r : Fin 2048) (d : Fin 512) :
    out0_7 (iblk m c 0 t) (iblk m c 1 t) (iblk m c 2 t) (iblk m c 3 t) (ix2 r d) = ProjRef.rV (aX m c) (aG m c) (aW m c) (((cfg0.win 7).blk t).view.emb (ix2 r d)) := by
  rw [emb_v]
  exact at_v m c t r d

theorem result_v : (dats m 0 c).arrAt 7 cfg0.N = ProjRef.rV (aX m c) (aG m c) (aW m c) := by
  refine Dat.arrAt_eq_of_covers (dats m 0 c) 7 (ProjRef.rV (aX m c) (aG m c) (aW m c)) covers_v (fun t _ => ?_)
  refine fun (y : S2048x512.Idx) => (congrFun (after0_7 m c t) y).trans ?_
  exact ix2_eta (n0 := 2048) (n1 := 512) y ▸ same_v m c t (y 0) (y 1)

theorem nblk_r (a : Fin 2) : (cfg0.win 8).nblk a = (![16, 1] : Fin 2 → ℕ) a := by
  match a with
  | 0 => show (32768 + 2048 - 1) / 2048 = 16; rfl
  | 1 => show (512 + 512 - 1) / 512 = 1; rfl

theorem flush_r : ∀ t : Fin grid0.N, win0_8.flush t = true := by decide +kernel

theorem covers_r : (cfg0.win 8).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_r 0)
    have h1 : (β (1 : Fin 2)).val < 1 := Nat.lt_of_lt_of_eq (β (1 : Fin 2)).isLt (nblk_r 1)
    let t : Fin cfg0.N := ⟨(β (0 : Fin 2)).val, by omega⟩
    refine ⟨t, flush_r t, fun a => ⟨?_, Or.inl rfl⟩⟩
    refine (congrFun (index_8 t) a).trans ?_
    match a with
    | (0 : Fin 2) => rfl
    | (1 : Fin 2) => show 0 = (β (1 : Fin 2)).val; omega

theorem emb_r (t : Fin cfg0.N) (r : Fin 2048) (d : Fin 512) :
    ((cfg0.win 8).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_8.index t (0 : Fin 2) * 2048 + 1 * r.val = (2048 * t.val + r.val) % 32768
    rw [index_8]; show t.val * 2048 + 1 * r.val = _; omega
  | (1 : Fin 2) =>
    show win0_8.index t (1 : Fin 2) * 512 + 1 * d.val = d.val
    rw [index_8]; show 0 * 512 + 1 * d.val = _; omega

theorem same_r (t : Fin cfg0.N) (r : Fin 2048) (d : Fin 512) :
    out0_8 (iblk m c 0 t) (iblk m c 1 t) (iblk m c 2 t) (iblk m c 3 t) (ix2 r d) = ProjRef.rR (aX m c) (aG m c) (aW m c) (((cfg0.win 8).blk t).view.emb (ix2 r d)) := by
  rw [emb_r]
  exact at_r m c t r d

theorem result_r : (dats m 0 c).arrAt 8 cfg0.N = ProjRef.rR (aX m c) (aG m c) (aW m c) := by
  refine Dat.arrAt_eq_of_covers (dats m 0 c) 8 (ProjRef.rR (aX m c) (aG m c) (aW m c)) covers_r (fun t _ => ?_)
  refine fun (y : S2048x512.Idx) => (congrFun (after0_8 m c t) y).trans ?_
  exact ix2_eta (n0 := 2048) (n1 := 512) y ▸ same_r m c t (y 0) (y 1)

theorem nblk_gl (a : Fin 2) : (cfg0.win 9).nblk a = (![16, 1] : Fin 2 → ℕ) a := by
  match a with
  | 0 => show (32768 + 2048 - 1) / 2048 = 16; rfl
  | 1 => show (128 + 128 - 1) / 128 = 1; rfl

theorem flush_gl : ∀ t : Fin grid0.N, win0_9.flush t = true := by decide +kernel

theorem covers_gl : (cfg0.win 9).Covers := by
  have hN : cfg0.N = 16 := N_0
  refine ⟨fun a => ?_, fun β => ?_⟩
  · exact (show ∀ a : Fin 2, 0 < (![2048, 128] : Fin 2 → ℕ) a by decide) a
  · have h0 : (β (0 : Fin 2)).val < 16 := Nat.lt_of_lt_of_eq (β (0 : Fin 2)).isLt (nblk_gl 0)
    have h1 : (β (1 : Fin 2)).val < 1 := Nat.lt_of_lt_of_eq (β (1 : Fin 2)).isLt (nblk_gl 1)
    let t : Fin cfg0.N := ⟨(β (0 : Fin 2)).val, by omega⟩
    refine ⟨t, flush_gl t, fun a => ⟨?_, Or.inl rfl⟩⟩
    refine (congrFun (index_9 t) a).trans ?_
    match a with
    | (0 : Fin 2) => rfl
    | (1 : Fin 2) => show 0 = (β (1 : Fin 2)).val; omega

theorem emb_gl (t : Fin cfg0.N) (r : Fin 2048) (d : Fin 128) :
    ((cfg0.win 9).blk t).view.emb (ix2 r d) = (ix2 (rowOf t.val r.val) d : S32768x128.Idx) := by
  have hN : cfg0.N = 16 := N_0
  have ht : t.val < 16 := Nat.lt_of_lt_of_eq t.isLt hN
  funext a
  apply Fin.ext
  match a with
  | (0 : Fin 2) =>
    show win0_9.index t (0 : Fin 2) * 2048 + 1 * r.val = (2048 * t.val + r.val) % 32768
    rw [index_9]; show t.val * 2048 + 1 * r.val = _; omega
  | (1 : Fin 2) =>
    show win0_9.index t (1 : Fin 2) * 128 + 1 * d.val = d.val
    rw [index_9]; show 0 * 128 + 1 * d.val = _; omega

theorem same_gl (t : Fin cfg0.N) (r : Fin 2048) (d : Fin 128) :
    out0_9 (iblk m c 0 t) (iblk m c 1 t) (iblk m c 2 t) (iblk m c 3 t) (ix2 r d) = ProjRef.rGl (aX m c) (aG m c) (aW m c) (((cfg0.win 9).blk t).view.emb (ix2 r d)) := by
  rw [emb_gl]
  exact at_gl m c t r d

theorem result_gl : (dats m 0 c).arrAt 9 cfg0.N = ProjRef.rGl (aX m c) (aG m c) (aW m c) := by
  refine Dat.arrAt_eq_of_covers (dats m 0 c) 9 (ProjRef.rGl (aX m c) (aG m c) (aW m c)) covers_gl (fun t _ => ?_)
  refine fun (y : S2048x128.Idx) => (congrFun (after0_9 m c t) y).trans ?_
  exact ix2_eta (n0 := 2048) (n1 := 128) y ▸ same_gl m c t (y 0) (y 1)

theorem nblk_keys (a : Fin 3) : (cfg0.win 6).nblk a = (![8, 1, 2] : Fin 3 → ℕ) a := by
  match a with
  | 0 => show (8 + 1 - 1) / 1 = 8; rfl
  | 1 => show (256 + 256 - 1) / 256 = 1; rfl
  | 2 => show (4096 + 2048 - 1) / 2048 = 2; rfl

theorem flush_keys : ∀ t : Fin grid0.N, win0_6.flush t = true := by decide +kernel

theorem covers_keys : (cfg0.win 6).Covers := by
  have hN : cfg0.N = 16 := N_0
  refine ⟨fun a => ?_, fun β => ?_⟩
  · exact (show ∀ a : Fin 3, 0 < (![1, 256, 2048] : Fin 3 → ℕ) a by decide) a
  · have h0 : (β (0 : Fin 3)).val < 8 := Nat.lt_of_lt_of_eq (β (0 : Fin 3)).isLt (nblk_keys 0)
    have h1 : (β (1 : Fin 3)).val < 1 := Nat.lt_of_lt_of_eq (β (1 : Fin 3)).isLt (nblk_keys 1)
    have h2 : (β (2 : Fin 3)).val < 2 := Nat.lt_of_lt_of_eq (β (2 : Fin 3)).isLt (nblk_keys 2)
    let t : Fin cfg0.N := ⟨2 * (β (0 : Fin 3)).val + (β (2 : Fin 3)).val, by omega⟩
    refine ⟨t, flush_keys t, fun a => ⟨?_, Or.inl rfl⟩⟩
    refine (congrFun (index_6 t) a).trans ?_
    match a with
    | (0 : Fin 3) => show (2 * (β (0 : Fin 3)).val + (β (2 : Fin 3)).val) / 2 = (β (0 : Fin 3)).val; omega
    | (1 : Fin 3) => show 0 = (β (1 : Fin 3)).val; omega
    | (2 : Fin 3) => show (2 * (β (0 : Fin 3)).val + (β (2 : Fin 3)).val) % 2 = (β (2 : Fin 3)).val; omega

theorem emb_keys (t : Fin cfg0.N) (d : Fin 256) (r : Fin 2048) :
    ((cfg0.win 6).blk t).view.emb (ix3 0 d r)
      = (ix3 (ProjRef.bOf (rowOf t.val r.val)) d (ProjRef.sOf (rowOf t.val r.val)) : S8x256x4096.Idx) := by
  have hN : cfg0.N = 16 := N_0
  have ht : t.val < 16 := Nat.lt_of_lt_of_eq t.isLt hN
  funext a
  apply Fin.ext
  match a with
  | (0 : Fin 3) =>
    show win0_6.index t (0 : Fin 3) * 1 + 1 * 0 = (2048 * t.val + r.val) % 32768 / 4096
    rw [index_6]; show t.val / 2 * 1 + 1 * 0 = _; omega
  | (1 : Fin 3) =>
    show win0_6.index t (1 : Fin 3) * 256 + 1 * d.val = d.val
    rw [index_6]; show 0 * 256 + 1 * d.val = _; omega
  | (2 : Fin 3) =>
    show win0_6.index t (2 : Fin 3) * 2048 + 1 * r.val = (2048 * t.val + r.val) % 32768 % 4096
    rw [index_6]; show t.val % 2 * 2048 + 1 * r.val = _; omega

theorem same_keys (t : Fin cfg0.N) (d : Fin 256) (r : Fin 2048) :
    out0_6 (iblk m c 0 t) (iblk m c 1 t) (iblk m c 2 t) (iblk m c 3 t) (ix3 0 d r) = ProjRef.rK (aX m c) (aG m c) (aW m c) (((cfg0.win 6).blk t).view.emb (ix3 0 d r)) := by
  rw [emb_keys]
  exact at_keys m c t d r

theorem result_keys : (dats m 0 c).arrAt 6 cfg0.N = ProjRef.rK (aX m c) (aG m c) (aW m c) := by
  refine Dat.arrAt_eq_of_covers (dats m 0 c) 6 (ProjRef.rK (aX m c) (aG m c) (aW m c)) covers_keys (fun t _ => ?_)
  refine fun (y : S1x256x2048.Idx) => (congrFun (after0_6 m c t) y).trans ?_
  have e : ix3 (0 : Fin 1) (y 1 : Fin 256) (y 2 : Fin 2048) = y := by
    refine Eq.trans ?_ (ix3_eta (n0 := 1) (n1 := 256) (n2 := 2048) y)
    exact congrArg (fun a : Fin 1 => ix3 a (y 1 : Fin 256) (y 2 : Fin 2048)) (Subsingleton.elim _ _)
  exact e ▸ same_keys m c t (y 1) (y 2)

/-- The run: the six results, and the arguments unchanged. -/
theorem run_result :
    θ_run (defs (F := Ideal)) (onTc (τ := τ) (main (F := Ideal))) ⟨m, fun _ => 0, ρ⟩ (fun r => ∀ c : Dev nD,
        r.2.mem ((c : Thread nD τ).loc main_v17_0) = ProjRef.rU (aX m c) (aG m c) (aW m c)
        ∧ r.2.mem ((c : Thread nD τ).loc main_v17_1) = ProjRef.rQ (aX m c) (aG m c) (aW m c)
        ∧ r.2.mem ((c : Thread nD τ).loc main_v17_2) = ProjRef.rK (aX m c) (aG m c) (aW m c)
        ∧ r.2.mem ((c : Thread nD τ).loc main_v17_3) = ProjRef.rV (aX m c) (aG m c) (aW m c)
        ∧ r.2.mem ((c : Thread nD τ).loc main_v17_4) = ProjRef.rR (aX m c) (aG m c) (aW m c)
        ∧ r.2.mem ((c : Thread nD τ).loc main_v17_5) = ProjRef.rGl (aX m c) (aG m c) (aW m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) :=
  (θ_run _ _ _).mono (fun _ h c => ⟨(h c).1.trans (result_u m c), (h c).2.1.trans (result_q m c), (h c).2.2.1.trans (result_keys m c),
    (h c).2.2.2.1.trans (result_v m c), (h c).2.2.2.2.1.trans (result_r m c), (h c).2.2.2.2.2.1.trans (result_gl m c),
    (h c).2.2.2.2.2.2⟩) (Value.run_blocks m ρ)

end

end Cert.Proj
-- ==== Proof.SecondPoint.lean ====
/- One point of layer 1's input projection: what it leaves at an element of each of its six blocks, from the blocks it reads. -/
module

public import proofs.«01_k».proof.Proof.Gen.Kernel6Ideal.Frame
public import proofs.«01_k».proof.Proof.ProjRow
public import Idealize.ShloMosaic.Lib.Tactic.CleanTypes
public import Idealize.ShloMosaic.Lib.Pipeline.ValueKit

@[expose] public section

noncomputable section

namespace Cert.Second

open Cert.Proj

open Cert.Kernel6Ideal Cert.Kernel6Ideal.Gen
open Idealize.ShloMosaic Idealize.ShloMosaic.TcCoe Idealize.ShloMosaic.Pipeline

theorem norm_at (v0 : Vec Ideal S2048x1024 .f32) (v2 : Vec Ideal S1x1x1024 .f32) (r : Fin 2048) (d : Fin 1024) :
    k0_pay4 (F := Ideal) v0 v2 (ix2 r d) = Mix.normed 1149239296#32 (fun k => v0 (ix2 r k)) (fun j => v2 (ix3 0 0 j)) d := by
  unfold k0_pay4 Mix.normed
  clean_types
  pointwise

/-! ## The loads -/

theorem ld_rows (X : Vec Ideal S2048x1024 .f32) : View.ld (Val := Elt Ideal) (e' := .f32) X r0_0 = X :=
  View.ld_unit_lit (S := S2048x1024) _ _ (by decide)
theorem ld_norm (X : Vec Ideal S1x1x1024 .f32) : View.ld (Val := Elt Ideal) (e' := .f32) X r0_1 = X :=
  View.ld_unit_lit (S := S1x1x1024) _ _ (by decide)
theorem ld_keys (X : Vec Ideal S1x256x1024 .bf16) : View.ld (Val := Elt Ideal) (e' := .bf16) X r0_10 = X :=
  View.ld_unit_lit (S := S1x256x1024) _ _ (by decide)

theorem ld_u (X : Vec Ideal S1x1024x1920 .bf16) (k : Fin 1024) (j : Fin 512) :
    View.ld (Val := Elt Ideal) (e' := .bf16) X r0_2 (ix3 0 k j) = X (ix3 0 k ⟨0 + j.val, by omega⟩) := by
  refine View.ld_unit_apply_of (Val := Elt Ideal) (e := .bf16) X _ _ _ _ (ix3 0 k ⟨0 + j.val, by omega⟩) fun a => ?_
  match a with
  | (0 : Fin 3) => rfl
  | (1 : Fin 3) => show k.val = 0 + k.val; omega
  | (2 : Fin 3) => rfl

theorem ld_q (X : Vec Ideal S1x1024x1920 .bf16) (k : Fin 1024) (j : Fin 256) :
    View.ld (Val := Elt Ideal) (e' := .bf16) X r0_4 (ix3 0 k j) = X (ix3 0 k ⟨512 + j.val, by omega⟩) := by
  refine View.ld_unit_apply_of (Val := Elt Ideal) (e := .bf16) X _ _ _ _ (ix3 0 k ⟨512 + j.val, by omega⟩) fun a => ?_
  match a with
  | (0 : Fin 3) => rfl
  | (1 : Fin 3) => show k.val = 0 + k.val; omega
  | (2 : Fin 3) => rfl

theorem ld_v (X : Vec Ideal S1x1024x1920 .bf16) (k : Fin 1024) (j : Fin 512) :
    View.ld (Val := Elt Ideal) (e' := .bf16) X r0_6 (ix3 0 k j) = X (ix3 0 k ⟨768 + j.val, by omega⟩) := by
  refine View.ld_unit_apply_of (Val := Elt Ideal) (e := .bf16) X _ _ _ _ (ix3 0 k ⟨768 + j.val, by omega⟩) fun a => ?_
  match a with
  | (0 : Fin 3) => rfl
  | (1 : Fin 3) => show k.val = 0 + k.val; omega
  | (2 : Fin 3) => rfl

theorem ld_r (X : Vec Ideal S1x1024x1920 .bf16) (k : Fin 1024) (j : Fin 512) :
    View.ld (Val := Elt Ideal) (e' := .bf16) X r0_7 (ix3 0 k j) = X (ix3 0 k ⟨1280 + j.val, by omega⟩) := by
  refine View.ld_unit_apply_of (Val := Elt Ideal) (e := .bf16) X _ _ _ _ (ix3 0 k ⟨1280 + j.val, by omega⟩) fun a => ?_
  match a with
  | (0 : Fin 3) => rfl
  | (1 : Fin 3) => show k.val = 0 + k.val; omega
  | (2 : Fin 3) => rfl

theorem ld_gl (X : Vec Ideal S1x1024x1920 .bf16) (k : Fin 1024) (j : Fin 128) :
    View.ld (Val := Elt Ideal) (e' := .bf16) X r0_8 (ix3 0 k j) = X (ix3 0 k ⟨1792 + j.val, by omega⟩) := by
  refine View.ld_unit_apply_of (Val := Elt Ideal) (e := .bf16) X _ _ _ _ (ix3 0 k ⟨1792 + j.val, by omega⟩) fun a => ?_
  match a with
  | (0 : Fin 3) => rfl
  | (1 : Fin 3) => show k.val = 0 + k.val; omega
  | (2 : Fin 3) => rfl

/-! ## The six blocks -/

section
variable (x0 : Vec Ideal S2048x1024 .f32) (x1 : Vec Ideal S1x1x1024 .f32) (x2 : Vec Ideal S1x1024x1920 .bf16) (x3 : Vec Ideal S1x256x1024 .bf16)

theorem pay_u (v0 : Vec Ideal S2048x1024 .f32) (v2 : Vec Ideal S1x1x1024 .f32) (w : Vec Ideal S1x1024x512 .bf16) (r : Fin 2048) (d : Fin 512) :
    k0_pay5 (F := Ideal) v0 v2 w (ix2 r d) = ∑ k : Fin 1024, k0_pay4 (F := Ideal) v0 v2 (ix2 r k) * w (ix3 0 k d) := by
  unfold k0_pay5
  generalize k0_pay4 (F := Ideal) v0 v2 = H
  clean_types
  pointwise

theorem point_u (r : Fin 2048) (d : Fin 512) :
    out0_4 (F := Ideal) x0 x1 x2 x3 (ix2 r d)
      = proj (fun k => x0 (ix2 r k)) (fun j => x1 (ix3 0 0 j)) (fun k => x2 (ix3 0 k ⟨0 + d.val, by omega⟩)) := by
  unfold out0_4
  rw [View.canon_cons_unit_lit (S := S2048x512) _ _ _ (by decide), ld_rows, ld_norm]
  refine (pay_u _ _ _ r d).trans ?_
  unfold proj
  exact Finset.sum_congr rfl fun k _ => congrArg₂ (· * ·) (norm_at x0 x1 r k) (ld_u x2 k d)

theorem pay_q (v0 : Vec Ideal S2048x1024 .f32) (v2 : Vec Ideal S1x1x1024 .f32) (w : Vec Ideal S1x1024x256 .bf16) (r : Fin 2048) (d : Fin 256) :
    k0_pay6 (F := Ideal) v0 v2 w (ix2 r d) = ∑ k : Fin 1024, k0_pay4 (F := Ideal) v0 v2 (ix2 r k) * w (ix3 0 k d) := by
  unfold k0_pay6
  generalize k0_pay4 (F := Ideal) v0 v2 = H
  clean_types
  pointwise

theorem point_q (r : Fin 2048) (d : Fin 256) :
    out0_5 (F := Ideal) x0 x1 x2 x3 (ix2 r d)
      = proj (fun k => x0 (ix2 r k)) (fun j => x1 (ix3 0 0 j)) (fun k => x2 (ix3 0 k ⟨512 + d.val, by omega⟩)) := by
  unfold out0_5
  rw [View.canon_cons_unit_lit (S := S2048x256) _ _ _ (by decide), ld_rows, ld_norm]
  refine (pay_q _ _ _ r d).trans ?_
  unfold proj
  exact Finset.sum_congr rfl fun k _ => congrArg₂ (· * ·) (norm_at x0 x1 r k) (ld_q x2 k d)

theorem pay_v (v0 : Vec Ideal S2048x1024 .f32) (v2 : Vec Ideal S1x1x1024 .f32) (w : Vec Ideal S1x1024x512 .bf16) (r : Fin 2048) (d : Fin 512) :
    k0_pay7 (F := Ideal) v0 v2 w (ix2 r d) = ∑ k : Fin 1024, k0_pay4 (F := Ideal) v0 v2 (ix2 r k) * w (ix3 0 k d) := by
  unfold k0_pay7
  generalize k0_pay4 (F := Ideal) v0 v2 = H
  clean_types
  pointwise

theorem point_v (r : Fin 2048) (d : Fin 512) :
    out0_7 (F := Ideal) x0 x1 x2 x3 (ix2 r d)
      = proj (fun k => x0 (ix2 r k)) (fun j => x1 (ix3 0 0 j)) (fun k => x2 (ix3 0 k ⟨768 + d.val, by omega⟩)) := by
  unfold out0_7
  rw [View.canon_cons_unit_lit (S := S2048x512) _ _ _ (by decide), ld_rows, ld_norm]
  refine (pay_v _ _ _ r d).trans ?_
  unfold proj
  exact Finset.sum_congr rfl fun k _ => congrArg₂ (· * ·) (norm_at x0 x1 r k) (ld_v x2 k d)

theorem pay_r (H : FVec Ideal S2048x1024 .bf16) (w : Vec Ideal S1x1024x512 .bf16) (r : Fin 2048) (d : Fin 512) :
    k0_pay1 (F := Ideal) H w (ix2 r d) = ∑ k : Fin 1024, H (ix2 r k) * w (ix3 0 k d) := by
  unfold k0_pay1
  clean_types
  pointwise

theorem point_r (r : Fin 2048) (d : Fin 512) :
    out0_8 (F := Ideal) x0 x1 x2 x3 (ix2 r d)
      = proj (fun k => x0 (ix2 r k)) (fun j => x1 (ix3 0 0 j)) (fun k => x2 (ix3 0 k ⟨1280 + d.val, by omega⟩)) := by
  unfold out0_8 k0_pay8
  rw [View.canon_cons_unit_lit (S := S2048x512) _ _ _ (by decide), ld_rows, ld_norm]
  refine (pay_r _ _ r d).trans ?_
  unfold proj
  exact Finset.sum_congr rfl fun k _ => congrArg₂ (· * ·) (norm_at x0 x1 r k) (ld_r x2 k d)

theorem pay_gl (H : FVec Ideal S2048x1024 .bf16) (w : Vec Ideal S1x1024x128 .bf16) (r : Fin 2048) (d : Fin 128) :
    k0_pay2 (F := Ideal) H w (ix2 r d) = ∑ k : Fin 1024, H (ix2 r k) * w (ix3 0 k d) := by
  unfold k0_pay2
  clean_types
  pointwise

theorem point_gl (r : Fin 2048) (d : Fin 128) :
    out0_9 (F := Ideal) x0 x1 x2 x3 (ix2 r d)
      = proj (fun k => x0 (ix2 r k)) (fun j => x1 (ix3 0 0 j)) (fun k => x2 (ix3 0 k ⟨1792 + d.val, by omega⟩)) := by
  unfold out0_9 k0_pay8
  rw [View.canon_cons_unit_lit (S := S2048x128) _ _ _ (by decide), ld_rows, ld_norm]
  refine (pay_gl _ _ r d).trans ?_
  unfold proj
  exact Finset.sum_congr rfl fun k _ => congrArg₂ (· * ·) (norm_at x0 x1 r k) (ld_gl x2 k d)

theorem pay_keys (H : FVec Ideal S2048x1024 .bf16) (w : Vec Ideal S1x256x1024 .bf16) (d : Fin 256) (r : Fin 2048) :
    k0_pay3 (F := Ideal) H w (ix3 0 d r) = ∑ k : Fin 1024, w (ix3 0 d k) * H (ix2 r k) := by
  unfold k0_pay3
  clean_types
  pointwise

theorem point_keys (d : Fin 256) (r : Fin 2048) :
    out0_6 (F := Ideal) x0 x1 x2 x3 (ix3 0 d r)
      = proj (fun k => x0 (ix2 r k)) (fun j => x1 (ix3 0 0 j)) (fun k => x3 (ix3 0 d k)) := by
  unfold out0_6 k0_pay8
  rw [View.canon_cons_unit_lit (S := S1x256x2048) _ _ _ (by decide), ld_rows, ld_norm, ld_keys]
  refine (pay_keys _ _ d r).trans ?_
  unfold proj
  exact Finset.sum_congr rfl fun k _ => (mul_comm _ _).trans (congrArg (· * x3 (ix3 0 d k)) (norm_at x0 x1 r k))

end

end Cert.Second
-- ==== Proof.SecondCat.lean ====
/- The weights of layer 1's input projection as the kernel's host code lays them side by side: the queries' scaled, the forget gate's
   compression padded with zeros. -/
module

public import proofs.«01_k».proof.Proof.Gen.Kernel6Ideal.Frame
public import proofs.«01_k».proof.Proof.ProjRow
public import Idealize.ShloMosaic.Lib.Routing.OpsSet
public import Idealize.ShloMosaic.Lib.Tactic.CleanTypes
public import Idealize.ShloMosaic.Lib.Pipeline.ValueKit

@[expose] public section

noncomputable section

namespace Cert.Second

open Cert.Proj

open Cert.Kernel6Ideal Cert.Kernel6Ideal.Gen
open Idealize.ShloMosaic Idealize.ShloMosaic.TcCoe Idealize.ShloMosaic.Pipeline

abbrev sd : ScatterDims S2x1024x128 S1 S2x1024x16 := scatter_S2x1024x128_S1_S2x1024x16_012_n_2_0

/-- The one index word: column zero. -/
def word : IVec S1 32 := broadcastInDim S1 ![] bcast_S_S1 (constantI S_ 32 0#32)

theorem start_zero (j : S2x1024x16.Idx) (a : Fin 3) : sd.start j word a = 0 := by
  unfold ScatterDims.start
  split
  · rfl
  · rfl

theorem window_eq (j : S2x1024x16.Idx) (a : Fin 3) : sd.window j a = (j a).val := by
  match a with
  | (0 : Fin 3) => rfl
  | (1 : Fin 3) => rfl
  | (2 : Fin 3) => rfl

theorem lands (j : S2x1024x16.Idx) (i : S2x1024x128.Idx) : sd.resultIdx? j word = some i ↔ ∀ a : Fin 3, (j a).val = (i a).val := by
  have b0 : (j 0).val < 2 := (j 0).isLt
  have b1 : (j 1).val < 1024 := (j 1).isLt
  have b2 : (j 2).val < 16 := (j 2).isLt
  have hin : ∀ a : Fin 3, 0 ≤ sd.start j word a + sd.window j a ∧ sd.start j word a + sd.window j a < (S2x1024x128.size a : ℤ) := by
    intro a
    rw [start_zero, window_eq]
    match a with
    | (0 : Fin 3) => exact ⟨by omega, by show (0 : ℤ) + ((j 0).val : ℤ) < ((2 : ℕ) : ℤ); omega⟩
    | (1 : Fin 3) => exact ⟨by omega, by show (0 : ℤ) + ((j 1).val : ℤ) < ((1024 : ℕ) : ℤ); omega⟩
    | (2 : Fin 3) => exact ⟨by omega, by show (0 : ℤ) + ((j 2).val : ℤ) < ((128 : ℕ) : ℤ); omega⟩
  have ev : ∀ a : Fin 3, (sd.start j word a + sd.window j a).toNat = (j a).val := fun a => by
    rw [start_zero, window_eq]; omega
  unfold ScatterDims.resultIdx?
  rw [dif_pos hin, Option.some.injEq]
  constructor
  · intro h a
    rw [← h]
    exact (ev a).symm
  · intro h
    funext a
    exact Fin.ext ((ev a).trans (h a))

section
variable (W : S2x1024x2064.Idx → EReal)

/-- The padded columns. -/
def padded : FVec Ideal S2x1024x128 .f32 :=
  Host.scatter sd (fun _ b => b) (broadcastInDim S2x1024x128 ![] bcast_S_S2x1024x128 (constant S_ .f32 0x00000000#32)) word
    (extractStridedSlice S2x1024x16 ![0, 0, 2048] (W : FVec Ideal S2x1024x2064 .f32) slices_S2x1024x2064_S2x1024x16_0_0_2048)

theorem padded_zero (l : Fin 2) (k : Fin 1024) (j : Fin 128) (h : ¬ j.val < 16) : padded W (ix3 l k j) = 0 := by
  refine (Routing.scatter_set_miss sd _ _ _ (ix3 l k j) fun n hn => ?_).trans ?_
  · have e := (lands n (ix3 l k j)).1 hn (2 : Fin 3)
    have b2 : (n 2).val < 16 := (n 2).isLt
    exact h (by have e' : (n 2).val = j.val := e; omega)
  · clean_types
    pointwise

theorem padded_in (l : Fin 2) (k : Fin 1024) (j : Fin 128) (h : j.val < 16) : padded W (ix3 l k j) = W (ix3 l k ⟨2048 + j.val, by omega⟩) := by
  refine Routing.scatter_set_hit sd _ _ _ (ix3 l k j) _ (fun n hn => ?_) (ix3 l k ⟨j.val, h⟩) ((lands _ _).2 fun a => ?_)
  · have e := (lands n (ix3 l k j)).1 hn
    have e0 : n = ix3 l k ⟨j.val, h⟩ := by
      funext a
      match a with
      | (0 : Fin 3) => exact Fin.ext (e 0)
      | (1 : Fin 3) => exact Fin.ext (e 1)
      | (2 : Fin 3) => exact Fin.ext (e 2)
    rw [e0]
    clean_types
    pointwise
  · match a with
    | (0 : Fin 3) => rfl
    | (1 : Fin 3) => rfl
    | (2 : Fin 3) => rfl

/-- The weights side by side. -/
def side (P : FVec Ideal S2x1024x128 .f32) : FVec Ideal S2x1024x1920 .bf16 :=
  truncf .bf16 (concatenate S2x1024x1920 2
    [⟨S2x1024x512, extractStridedSlice S2x1024x512 ![0, 0, 0] (W : FVec Ideal S2x1024x2064 .f32) slices_S2x1024x2064_S2x1024x512_0_0_0⟩,
     ⟨S2x1024x256, mulf (extractStridedSlice S2x1024x256 ![0, 0, 512] (W : FVec Ideal S2x1024x2064 .f32) slices_S2x1024x2064_S2x1024x256_0_0_512)
        (broadcastInDim S2x1024x256 ![] bcast_S_S2x1024x256 (constant S_ .f32 0x3E000000#32))⟩,
     ⟨S2x1024x512, extractStridedSlice S2x1024x512 ![0, 0, 1024] (W : FVec Ideal S2x1024x2064 .f32) slices_S2x1024x2064_S2x1024x512_0_0_1024⟩,
     ⟨S2x1024x512, extractStridedSlice S2x1024x512 ![0, 0, 1536] (W : FVec Ideal S2x1024x2064 .f32) slices_S2x1024x2064_S2x1024x512_0_0_1536⟩,
     ⟨S2x1024x128, P⟩] concatenates_S2x1024x512_S2x1024x256_S2x1024x512_S2x1024x512_S2x1024x128_S2x1024x1920_d2) bitsLt_bf16_f32

theorem side_at (P : FVec Ideal S2x1024x128 .f32) (l : Fin 2) (k : Fin 1024) (j : Fin 1920) :
    side W P (ix3 l k j)
      = if h : j.val < 512 then W (ix3 l k ⟨j.val, by omega⟩)
        else if h : j.val - 512 < 256 then W (ix3 l k ⟨512 + (j.val - 512), by omega⟩) * Ideal.ofBits FTy.f32 0x3E000000#32
        else if h : j.val - 512 - 256 < 512 then W (ix3 l k ⟨1024 + (j.val - 512 - 256), by omega⟩)
        else if h : j.val - 512 - 256 - 512 < 512 then W (ix3 l k ⟨1536 + (j.val - 512 - 256 - 512), by omega⟩)
        else P (ix3 l k ⟨j.val - 512 - 256 - 512 - 512, by omega⟩) := by
  unfold side
  clean_types
  pointwise

end

end Cert.Second
-- ==== Proof.SecondRef.lean ====
/- The reference of layer 1's input projection, an element at a time of each of its six results. -/
module

public import proofs.«01_k».proof.Proof.Gen.Reference6Ideal.Run
public import proofs.«01_k».proof.Proof.ProjRow
public import Idealize.ShloMosaic.Lib.Tactic.CleanTypes

@[expose] public section

noncomputable section

namespace Cert.SecondRef

open Cert.Reference6Ideal Cert.Reference6Ideal.Gen
open Idealize.ShloMosaic Idealize.ShloMosaic.TcCoe
open Idealize.SL Idealize.SL.Sem

def bOf (R : Fin 32768) : Fin 8 := ⟨R.val / 4096, by omega⟩
def sOf (R : Fin 32768) : Fin 4096 := ⟨R.val % 4096, Nat.mod_lt _ (by decide)⟩

section
variable (X : S8x4096x1024.Idx → EReal) (G : S2x1024.Idx → EReal) (W : S2x1024x2064.Idx → EReal)

/-- An element of the projection of a token. -/
def el (b : Fin 8) (s : Fin 4096) (j : Fin 2064) : EReal :=
  Cert.Proj.proj (fun k => X (ix3 b s k)) (fun j => G (ix2 1 j)) (fun k => W (ix3 1 k j))

/-- The norm. -/
def vNorm : FVec Ideal S8x4096x1024 .f32 :=
  mulf (mulf (X : FVec Ideal S8x4096x1024 .f32) (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf (X : FVec Ideal S8x4096x1024 .f32) (X : FVec Ideal S8x4096x1024 .f32)) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast S1024 (extractStridedSlice S1x1024 ![1, 0] (G : FVec Ideal S2x1024 .f32) slices_S2x1024_S1x1024_1_0) shapeCasts_S1x1024_S1024)))

theorem vNorm_at (b : Fin 8) (s : Fin 4096) (d : Fin 1024) :
    vNorm X G (ix3 b s d) = Mix.normed 1149239296#32 (fun k => X (ix3 b s k)) (fun j => G (ix2 1 j)) d := by
  unfold vNorm Mix.normed
  clean_types
  pointwise

/-- The projection. -/
def vProj : FVec Ideal S8x4096x2064 .f32 :=
  Host.dotGeneral (φ₂ := .f32) dot_S8x4096x1024_S1024x2064_S8x4096x2064_2_0_01_1_n_n none (vNorm X G)
    (shapeCast S1024x2064 (extractStridedSlice S1x1024x2064 ![1, 0, 0] (W : FVec Ideal S2x1024x2064 .f32) slices_S2x1024x2064_S1x1024x2064_1_0_0) shapeCasts_S1x1024x2064_S1024x2064)

theorem vProj_at (b : Fin 8) (s : Fin 4096) (j : Fin 2064) : vProj X G W (ix3 b s j) = el X G W b s j := by
  unfold vProj el Cert.Proj.proj
  have e : ∀ k, vNorm X G (ix3 b s k) = Mix.normed 1149239296#32 (fun k => X (ix3 b s k)) (fun j => G (ix2 1 j)) k := fun k => vNorm_at X G b s k
  simp only [← e]
  generalize vNorm X G = H
  clean_types
  pointwise

theorem out_u (P : FVec Ideal S8x4096x2064 .f32) (R : Fin 32768) (d : Fin 512) :
    (truncf .bf16 (shapeCast S32768x512 (extractStridedSlice S8x4096x512 ![0, 0, 0] P slices_S8x4096x2064_S8x4096x512_0_0_0) shapeCasts_S8x4096x512_S32768x512)
        bitsLt_bf16_f32 : FVec Ideal S32768x512 .bf16) (ix2 R d)
      = P (ix3 (bOf R) (sOf R) ⟨0 + d.val, by omega⟩) := by
  unfold bOf sOf
  clean_types
  pointwise

theorem out_v (P : FVec Ideal S8x4096x2064 .f32) (R : Fin 32768) (d : Fin 512) :
    (truncf .bf16 (shapeCast S32768x512 (extractStridedSlice S8x4096x512 ![0, 0, 1024] P slices_S8x4096x2064_S8x4096x512_0_0_1024) shapeCasts_S8x4096x512_S32768x512)
        bitsLt_bf16_f32 : FVec Ideal S32768x512 .bf16) (ix2 R d)
      = P (ix3 (bOf R) (sOf R) ⟨1024 + d.val, by omega⟩) := by
  unfold bOf sOf
  clean_types
  pointwise

theorem out_r (P : FVec Ideal S8x4096x2064 .f32) (R : Fin 32768) (d : Fin 512) :
    (truncf .bf16 (shapeCast S32768x512 (extractStridedSlice S8x4096x512 ![0, 0, 1536] P slices_S8x4096x2064_S8x4096x512_0_0_1536) shapeCasts_S8x4096x512_S32768x512)
        bitsLt_bf16_f32 : FVec Ideal S32768x512 .bf16) (ix2 R d)
      = P (ix3 (bOf R) (sOf R) ⟨1536 + d.val, by omega⟩) := by
  unfold bOf sOf
  clean_types
  pointwise

theorem out_q (P : FVec Ideal S8x4096x2064 .f32) (R : Fin 32768) (d : Fin 256) :
    (truncf .bf16 (shapeCast S32768x256 (mulf (extractStridedSlice S8x4096x256 ![0, 0, 512] P slices_S8x4096x2064_S8x4096x256_0_0_512)
        (broadcastInDim S8x4096x256 ![] bcast_S_S8x4096x256 (constant S_ .f32 0x3E000000#32))) shapeCasts_S8x4096x256_S32768x256)
        bitsLt_bf16_f32 : FVec Ideal S32768x256 .bf16) (ix2 R d)
      = P (ix3 (bOf R) (sOf R) ⟨512 + d.val, by omega⟩) * Ideal.ofBits FTy.f32 0x3E000000#32 := by
  unfold bOf sOf
  clean_types
  pointwise

theorem out_keys (P : FVec Ideal S8x4096x2064 .f32) (b : Fin 8) (d : Fin 256) (s : Fin 4096) :
    (truncf .bf16 (transpose S8x256x4096 [0, 2, 1] (extractStridedSlice S8x4096x256 ![0, 0, 768] P slices_S8x4096x2064_S8x4096x256_0_0_768) transposes_S8x4096x256_S8x256x4096_0_2_1)
        bitsLt_bf16_f32 : FVec Ideal S8x256x4096 .bf16) (ix3 b d s)
      = P (ix3 b s ⟨768 + d.val, by omega⟩) := by
  clean_types
  pointwise

theorem dite_last {A B C : Prop} {i : Decidable (A ∧ B ∧ C)} {j : Decidable C} {α : Type} (hA : A) (hB : B) (f : A ∧ B ∧ C → α) (g : C → α)
    (e : ∀ h, f h = g h.2.2) (z z' : α) (hz : z = z') : (if h : A ∧ B ∧ C then f h else z) = if h : C then g h else z' := by
  by_cases h : C
  · rw [dif_pos ⟨hA, hB, h⟩, dif_pos h]; exact e _
  · rw [dif_neg (fun k => h k.2.2), dif_neg h]; exact hz

theorem sitofp_zero : FloatOps.sitofp (F := Ideal) FTy.f32 0#32 = (0 : EReal) := by
  show ((((0#32 : BitVec 32).toInt : ℤ) : ℝ) : EReal) = 0
  norm_num

theorem out_gl (P : FVec Ideal S8x4096x2064 .f32) (R : Fin 32768) (d : Fin 128) :
    (truncf .bf16 (shapeCast S32768x128 (pad S8x4096x128 ![0, 0, 0] ![0, 0, 112] ![0, 0, 0]
        (extractStridedSlice S8x4096x16 ![0, 0, 2048] P slices_S8x4096x2064_S8x4096x16_0_0_2048) (sitofp .f32 (constantI S_ 32 0#32))
        pads_S8x4096x16_S8x4096x128_000_000_01120 h_S_) shapeCasts_S8x4096x128_S32768x128)
        bitsLt_bf16_f32 : FVec Ideal S32768x128 .bf16) (ix2 R d)
      = if h : d.val < 16 then P (ix3 (bOf R) (sOf R) ⟨2048 + d.val, by omega⟩) else 0 := by
  unfold bOf sOf
  clean_types
  pointwise
  have hR : R.val / 4096 < 8 := by have := R.isLt; omega
  refine dite_last (C := d.val < 16) hR (Nat.mod_lt R.val (by decide : 0 < 4096)) _ _ (fun _ => ?_) _ _ sitofp_zero
  rfl

/-! ## The six results -/

/-- The rows of the S5 branch's input. -/
def rU : S32768x512.Idx → EReal := fun x =>
  el X G W (bOf (x 0)) (sOf (x 0)) ⟨0 + (x 1).val, by have h : (x 1).val < 512 := (x 1).isLt; omega⟩

/-- The rows of the values. -/
def rV : S32768x512.Idx → EReal := fun x =>
  el X G W (bOf (x 0)) (sOf (x 0)) ⟨1024 + (x 1).val, by have h : (x 1).val < 512 := (x 1).isLt; omega⟩

/-- The rows of the output gate. -/
def rR : S32768x512.Idx → EReal := fun x =>
  el X G W (bOf (x 0)) (sOf (x 0)) ⟨1536 + (x 1).val, by have h : (x 1).val < 512 := (x 1).isLt; omega⟩

/-- The rows of the queries, scaled. -/
def rQ : S32768x256.Idx → EReal := fun x =>
  el X G W (bOf (x 0)) (sOf (x 0)) ⟨512 + (x 1).val, by have h : (x 1).val < 256 := (x 1).isLt; omega⟩ * Ideal.ofBits FTy.f32 0x3E000000#32

/-- The columns of the keys. -/
def rK : S8x256x4096.Idx → EReal := fun x =>
  el X G W (x 0) (x 2) ⟨768 + (x 1).val, by have h : (x 1).val < 256 := (x 1).isLt; omega⟩

/-- The rows of the forget gate's compression, padded. -/
def rGl : S32768x128.Idx → EReal := fun x =>
  if h : (x 1).val < 16 then el X G W (bOf (x 0)) (sOf (x 0)) ⟨2048 + (x 1).val, by omega⟩ else 0

theorem u_eq :
    (truncf .bf16 (shapeCast S32768x512 (extractStridedSlice S8x4096x512 ![0, 0, 0] (vProj X G W) slices_S8x4096x2064_S8x4096x512_0_0_0) shapeCasts_S8x4096x512_S32768x512)
        bitsLt_bf16_f32 : FVec Ideal S32768x512 .bf16) = rU X G W :=
  funext fun x => (congrArg _ (ix2_eta (n0 := 32768) (n1 := 512) x).symm).trans ((out_u (vProj X G W) (x 0) (x 1)).trans (vProj_at X G W _ _ _))

theorem v_eq :
    (truncf .bf16 (shapeCast S32768x512 (extractStridedSlice S8x4096x512 ![0, 0, 1024] (vProj X G W) slices_S8x4096x2064_S8x4096x512_0_0_1024) shapeCasts_S8x4096x512_S32768x512)
        bitsLt_bf16_f32 : FVec Ideal S32768x512 .bf16) = rV X G W :=
  funext fun x => (congrArg _ (ix2_eta (n0 := 32768) (n1 := 512) x).symm).trans ((out_v (vProj X G W) (x 0) (x 1)).trans (vProj_at X G W _ _ _))

theorem r_eq :
    (truncf .bf16 (shapeCast S32768x512 (extractStridedSlice S8x4096x512 ![0, 0, 1536] (vProj X G W) slices_S8x4096x2064_S8x4096x512_0_0_1536) shapeCasts_S8x4096x512_S32768x512)
        bitsLt_bf16_f32 : FVec Ideal S32768x512 .bf16) = rR X G W :=
  funext fun x => (congrArg _ (ix2_eta (n0 := 32768) (n1 := 512) x).symm).trans ((out_r (vProj X G W) (x 0) (x 1)).trans (vProj_at X G W _ _ _))

theorem q_eq :
    (truncf .bf16 (shapeCast S32768x256 (mulf (extractStridedSlice S8x4096x256 ![0, 0, 512] (vProj X G W) slices_S8x4096x2064_S8x4096x256_0_0_512)
        (broadcastInDim S8x4096x256 ![] bcast_S_S8x4096x256 (constant S_ .f32 0x3E000000#32))) shapeCasts_S8x4096x256_S32768x256)
        bitsLt_bf16_f32 : FVec Ideal S32768x256 .bf16) = rQ X G W :=
  funext fun x => (congrArg _ (ix2_eta (n0 := 32768) (n1 := 256) x).symm).trans
    ((out_q (vProj X G W) (x 0) (x 1)).trans (congrArg (· * _) (vProj_at X G W _ _ _)))

theorem keys_eq :
    (truncf .bf16 (transpose S8x256x4096 [0, 2, 1] (extractStridedSlice S8x4096x256 ![0, 0, 768] (vProj X G W) slices_S8x4096x2064_S8x4096x256_0_0_768) transposes_S8x4096x256_S8x256x4096_0_2_1)
        bitsLt_bf16_f32 : FVec Ideal S8x256x4096 .bf16) = rK X G W :=
  funext fun x => (congrArg _ (ix3_eta (n0 := 8) (n1 := 256) (n2 := 4096) x).symm).trans
    ((out_keys (vProj X G W) (x 0) (x 1) (x 2)).trans (vProj_at X G W _ _ _))

theorem gl_eq :
    (truncf .bf16 (shapeCast S32768x128 (pad S8x4096x128 ![0, 0, 0] ![0, 0, 112] ![0, 0, 0]
        (extractStridedSlice S8x4096x16 ![0, 0, 2048] (vProj X G W) slices_S8x4096x2064_S8x4096x16_0_0_2048) (sitofp .f32 (constantI S_ 32 0#32))
        pads_S8x4096x16_S8x4096x128_000_000_01120 h_S_) shapeCasts_S8x4096x128_S32768x128)
        bitsLt_bf16_f32 : FVec Ideal S32768x128 .bf16) = rGl X G W :=
  funext fun x => (congrArg _ (ix2_eta (n0 := 32768) (n1 := 128) x).symm).trans
    ((out_gl (vProj X G W) (x 0) (x 1)).trans (by
      unfold rGl
      by_cases h : (x 1).val < 16
      · rw [dif_pos h, dif_pos h]; exact vProj_at X G W _ _ _
      · rw [dif_neg h, dif_neg h]))

end

/-- The rows as tokens. -/
def toks (X : S32768x1024.Idx → EReal) : S8x4096x1024.Idx → EReal := shapeCast S8x4096x1024 X shapeCasts_S32768x1024_S8x4096x1024

theorem toks_at (X : S32768x1024.Idx → EReal) (R : Fin 32768) (d : Fin 1024) : toks X (ix3 (bOf R) (sOf R) d) = X (ix2 R d) := by
  have e : ∀ (b : Fin 8) (s : Fin 4096) (h : b.val * 4096 + s.val < 32768), toks X (ix3 b s d) = X (ix2 ⟨b.val * 4096 + s.val, h⟩ d) := fun b s h => by
    unfold toks
    clean_types
    pointwise
  refine (e (bOf R) (sOf R) ?_).trans (congrArg (fun r => X (ix2 r d)) (Fin.ext ?_))
  · show R.val / 4096 * 4096 + R.val % 4096 < 32768
    omega
  · show R.val / 4096 * 4096 + R.val % 4096 = R.val
    omega

/-- The reference's run: its six results, and the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v26) = rU (toks (m ((c.tc : Thread nD τ).loc main_arg0))) (m ((c.tc : Thread nD τ).loc main_arg1)) (m ((c.tc : Thread nD τ).loc main_arg2))
        ∧ r.2.mem ((c.tc : Thread nD τ).loc main_v30) = rQ (toks (m ((c.tc : Thread nD τ).loc main_arg0))) (m ((c.tc : Thread nD τ).loc main_arg1)) (m ((c.tc : Thread nD τ).loc main_arg2))
        ∧ r.2.mem ((c.tc : Thread nD τ).loc main_v32) = rK (toks (m ((c.tc : Thread nD τ).loc main_arg0))) (m ((c.tc : Thread nD τ).loc main_arg1)) (m ((c.tc : Thread nD τ).loc main_arg2))
        ∧ r.2.mem ((c.tc : Thread nD τ).loc main_v34) = rV (toks (m ((c.tc : Thread nD τ).loc main_arg0))) (m ((c.tc : Thread nD τ).loc main_arg1)) (m ((c.tc : Thread nD τ).loc main_arg2))
        ∧ r.2.mem ((c.tc : Thread nD τ).loc main_v36) = rR (toks (m ((c.tc : Thread nD τ).loc main_arg0))) (m ((c.tc : Thread nD τ).loc main_arg1)) (m ((c.tc : Thread nD τ).loc main_arg2))
        ∧ r.2.mem ((c.tc : Thread nD τ).loc main_v39) = rGl (toks (m ((c.tc : Thread nD τ).loc main_arg0))) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun _ h c => ⟨(h c).1.trans (u_eq _ _ _), (h c).2.1.trans (q_eq _ _ _), (h c).2.2.1.trans (keys_eq _ _ _), (h c).2.2.2.1.trans (v_eq _ _ _), (h c).2.2.2.2.1.trans (r_eq _ _ _), (h c).2.2.2.2.2.1.trans (gl_eq _ _ _), (h c).2.2.2.2.2.2⟩) (Value.run m ρ)

end Cert.SecondRef
-- ==== Proof.SecondValue.lean ====
/- The six results of layer 1's input projection: row `2048 t + r` is what point `t` leaves at row `r` of its block, and the keys'
   columns the same in the transposed layout. -/
module

public import proofs.«01_k».proof.Proof.SecondPoint
public import proofs.«01_k».proof.Proof.SecondCat
public import proofs.«01_k».proof.Proof.SecondRef
public import proofs.«01_k».proof.Proof.Gen.Kernel6Ideal.Value
public import Idealize.ShloMosaic.Lib.Pipeline.ArrRel

@[expose] public section

noncomputable section

namespace Cert.Second

open Cert.Proj

open Cert.Kernel6Ideal Cert.Kernel6Ideal.Gen
open Idealize.ShloMosaic Idealize.ShloMosaic.TcCoe Idealize.ShloMosaic.Pipeline
open Idealize.SL Idealize.SL.Sem

/-! ## Columns of the weights side by side -/

section
variable (W : S2x1024x2064.Idx → EReal) (l : Fin 2) (k : Fin 1024)

theorem side_u (P : FVec Ideal S2x1024x128 .f32) (d : Fin 512) : side W P (ix3 l k ⟨0 + d.val, by omega⟩) = W (ix3 l k ⟨0 + d.val, by omega⟩) := by
  rw [side_at, dif_pos (show 0 + d.val < 512 by omega)]

theorem side_q (P : FVec Ideal S2x1024x128 .f32) (d : Fin 256) : side W P (ix3 l k ⟨512 + d.val, by omega⟩)
    = W (ix3 l k ⟨512 + d.val, by omega⟩) * Ideal.ofBits FTy.f32 0x3E000000#32 := by
  rw [side_at, dif_neg (show ¬ 512 + d.val < 512 by omega), dif_pos (show 512 + d.val - 512 < 256 by omega)]
  exact congrArg (fun j => W (ix3 l k j) * _) (Fin.ext (by show 512 + (512 + d.val - 512) = 512 + d.val; omega))

theorem side_v (P : FVec Ideal S2x1024x128 .f32) (d : Fin 512) : side W P (ix3 l k ⟨768 + d.val, by omega⟩) = W (ix3 l k ⟨1024 + d.val, by omega⟩) := by
  rw [side_at, dif_neg (show ¬ 768 + d.val < 512 by omega), dif_neg (show ¬ 768 + d.val - 512 < 256 by omega),
    dif_pos (show 768 + d.val - 512 - 256 < 512 by omega)]
  exact congrArg (fun j => W (ix3 l k j)) (Fin.ext (by show 1024 + (768 + d.val - 512 - 256) = 1024 + d.val; omega))

theorem side_r (P : FVec Ideal S2x1024x128 .f32) (d : Fin 512) : side W P (ix3 l k ⟨1280 + d.val, by omega⟩) = W (ix3 l k ⟨1536 + d.val, by omega⟩) := by
  rw [side_at, dif_neg (show ¬ 1280 + d.val < 512 by omega), dif_neg (show ¬ 1280 + d.val - 512 < 256 by omega),
    dif_neg (show ¬ 1280 + d.val - 512 - 256 < 512 by omega), dif_pos (show 1280 + d.val - 512 - 256 - 512 < 512 by omega)]
  exact congrArg (fun j => W (ix3 l k j)) (Fin.ext (by show 1536 + (1280 + d.val - 512 - 256 - 512) = 1536 + d.val; omega))

theorem side_gl (P : FVec Ideal S2x1024x128 .f32) (d : Fin 128) : side W P (ix3 l k ⟨1792 + d.val, by omega⟩) = P (ix3 l k d) := by
  rw [side_at, dif_neg (show ¬ 1792 + d.val < 512 by omega), dif_neg (show ¬ 1792 + d.val - 512 < 256 by omega),
    dif_neg (show ¬ 1792 + d.val - 512 - 256 < 512 by omega), dif_neg (show ¬ 1792 + d.val - 512 - 256 - 512 < 512 by omega)]
  exact congrArg (fun j => P (ix3 l k j)) (Fin.ext (by show 1792 + d.val - 512 - 256 - 512 - 512 = d.val; omega))

end

/-! ## The blocks -/

section
variable (m : (ℓ : Loc nD τ sig) → Buf (Elt Ideal) ℓ) (ρ : Dev nD → PrngReg) (c : Dev nD)

abbrev aX : Cert.Reference6Ideal.S8x4096x1024.Idx → EReal := SecondRef.toks (m ((c.tc : Thread nD τ).loc main_arg0))
abbrev aG : S2x1024.Idx → EReal := m ((c.tc : Thread nD τ).loc main_arg1)
abbrev aW : S2x1024x2064.Idx → EReal := m ((c.tc : Thread nD τ).loc main_arg2)

/-- A row of a block, among all rows. -/
def rowOf (t r : ℕ) : Fin 32768 := ⟨(2048 * t + r) % 32768, Nat.mod_lt _ (by decide)⟩

theorem index_0 : ∀ t : Fin grid0.N, win0_0.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_7 : ∀ t : Fin grid0.N, win0_7.index t = ![t.val, 0] := by decide +kernel
theorem index_8 : ∀ t : Fin grid0.N, win0_8.index t = ![t.val, 0] := by decide +kernel
theorem index_9 : ∀ t : Fin grid0.N, win0_9.index t = ![t.val, 0] := by decide +kernel
theorem index_1 : ∀ t : Fin grid0.N, win0_1.index t = ![1, 0, 0] := by decide +kernel
theorem index_2 : ∀ t : Fin grid0.N, win0_2.index t = ![1, 0, 0] := by decide +kernel
theorem index_3 : ∀ t : Fin grid0.N, win0_3.index t = ![1, 0, 0] := by decide +kernel
theorem index_6 : ∀ t : Fin grid0.N, win0_6.index t = ![t.val / 2, 0, t.val % 2] := by decide +kernel

theorem V_rows : V m c main_arg0 = m ((c.tc : Thread nD τ).loc main_arg0) := V_main_arg0 m c
theorem V_norm : V m c main_v15 = broadcastInDim S2x1x1024 ![0, 2] bcast_S2x1024_S2x1x1024_0_2 (aG m c) := rfl
theorem V_side : V m c main_v11 = side (aW m c) (padded (aW m c)) := by
  unfold side padded word
  show StableHlo.after hostOps0 (fun b => m (c, b)) (Proc.devRef .tc main_v11) = _
  after_results
  dsimp only [Matrix.cons_val]
  repeat simp only [↓ StableHlo.readResult, ↓ StableHlo.readPieces, -eq_self]
  rfl
theorem V_keys : V m c main_v14 = (truncf .bf16 (transpose S2x256x1024 [0, 2, 1]
    (extractStridedSlice S2x1024x256 ![0, 0, 768] (aW m c : FVec Ideal S2x1024x2064 .f32) slices_S2x1024x2064_S2x1024x256_0_0_768)
    transposes_S2x1024x256_S2x256x1024_0_2_1) bitsLt_bf16_f32 : FVec Ideal S2x256x1024 .bf16) := rfl

theorem blk_rows (t : Fin cfg0.N) (r : Fin 2048) (d : Fin 1024) :
    iblk m c 0 t (ix2 r d) = aX m c (ix3 (SecondRef.bOf (rowOf t.val r.val)) (SecondRef.sOf (rowOf t.val r.val)) d) := by
  have hN : cfg0.N = 16 := N_0
  have ht : t.val < 16 := Nat.lt_of_lt_of_eq t.isLt hN
  have e : ((cfg0.win 0).blk t).view.emb (ix2 r d) = (ix2 (rowOf t.val r.val) d : S32768x1024.Idx) := by
    funext a
    apply Fin.ext
    match a with
    | (0 : Fin 2) =>
      show win0_0.index t (0 : Fin 2) * 2048 + 1 * r.val = (2048 * t.val + r.val) % 32768
      rw [index_0]; show t.val * 2048 + 1 * r.val = _; omega
    | (1 : Fin 2) =>
      show win0_0.index t (1 : Fin 2) * 1024 + 1 * d.val = d.val
      rw [index_0]; show 0 * 1024 + 1 * d.val = _; omega
  show V m c main_arg0 (((cfg0.win 0).blk t).view.emb (ix2 r d)) = _
  rw [e, V_rows]
  exact (SecondRef.toks_at _ _ _).symm

theorem blk_norm (t : Fin cfg0.N) (j : Fin 1024) : iblk m c 1 t (ix3 0 0 j) = aG m c (ix2 1 j) := by
  have e : ((cfg0.win 1).blk t).view.emb (ix3 0 0 j) = (ix3 1 0 j : S2x1x1024.Idx) := by
    funext a
    apply Fin.ext
    match a with
    | (0 : Fin 3) =>
      show win0_1.index t (0 : Fin 3) * 1 + 1 * 0 = 1
      rw [index_1]; rfl
    | (1 : Fin 3) =>
      show win0_1.index t (1 : Fin 3) * 1 + 1 * 0 = 0
      rw [index_1]; show 0 * 1 + 1 * 0 = _; omega
    | (2 : Fin 3) =>
      show win0_1.index t (2 : Fin 3) * 1024 + 1 * j.val = j.val
      rw [index_1]; show 0 * 1024 + 1 * j.val = _; omega
  show V m c main_v15 (((cfg0.win 1).blk t).view.emb (ix3 0 0 j)) = _
  rw [e, V_norm]
  clean_types
  pointwise

theorem blk_side (t : Fin cfg0.N) (k : Fin 1024) (j : Fin 1920) :
    iblk m c 2 t (ix3 0 k j) = side (aW m c) (padded (aW m c)) (ix3 1 k j) := by
  have e : ((cfg0.win 2).blk t).view.emb (ix3 0 k j) = (ix3 1 k j : S2x1024x1920.Idx) := by
    funext a
    apply Fin.ext
    match a with
    | (0 : Fin 3) =>
      show win0_2.index t (0 : Fin 3) * 1 + 1 * 0 = 1
      rw [index_2]; rfl
    | (1 : Fin 3) =>
      show win0_2.index t (1 : Fin 3) * 1024 + 1 * k.val = k.val
      rw [index_2]; show 0 * 1024 + 1 * k.val = _; omega
    | (2 : Fin 3) =>
      show win0_2.index t (2 : Fin 3) * 1920 + 1 * j.val = j.val
      rw [index_2]; show 0 * 1920 + 1 * j.val = _; omega
  show V m c main_v11 (((cfg0.win 2).blk t).view.emb (ix3 0 k j)) = _
  rw [e, V_side]

theorem blk_keys (t : Fin cfg0.N) (d : Fin 256) (k : Fin 1024) :
    iblk m c 3 t (ix3 0 d k) = aW m c (ix3 1 k ⟨768 + d.val, by omega⟩) := by
  have e : ((cfg0.win 3).blk t).view.emb (ix3 0 d k) = (ix3 1 d k : S2x256x1024.Idx) := by
    funext a
    apply Fin.ext
    match a with
    | (0 : Fin 3) =>
      show win0_3.index t (0 : Fin 3) * 1 + 1 * 0 = 1
      rw [index_3]; rfl
    | (1 : Fin 3) =>
      show win0_3.index t (1 : Fin 3) * 256 + 1 * d.val = d.val
      rw [index_3]; show 0 * 256 + 1 * d.val = _; omega
    | (2 : Fin 3) =>
      show win0_3.index t (2 : Fin 3) * 1024 + 1 * k.val = k.val
      rw [index_3]; show 0 * 1024 + 1 * k.val = _; omega
  show V m c main_v14 (((cfg0.win 3).blk t).view.emb (ix3 0 d k)) = _
  rw [e, V_keys]
  clean_types
  pointwise

/-! ## What a point leaves -/

theorem at_u (t : Fin cfg0.N) (r : Fin 2048) (d : Fin 512) :
    out0_4 (iblk m c 0 t) (iblk m c 1 t) (iblk m c 2 t) (iblk m c 3 t) (ix2 r d)
      = SecondRef.el (aX m c) (aG m c) (aW m c) (SecondRef.bOf (rowOf t.val r.val)) (SecondRef.sOf (rowOf t.val r.val)) ⟨0 + d.val, by omega⟩ := by
  refine (point_u (iblk m c 0 t) (iblk m c 1 t) (iblk m c 2 t) (iblk m c 3 t) r d).trans ?_
  unfold SecondRef.el
  simp only [blk_rows, blk_norm, blk_side, side_u]

theorem at_q (t : Fin cfg0.N) (r : Fin 2048) (d : Fin 256) :
    out0_5 (iblk m c 0 t) (iblk m c 1 t) (iblk m c 2 t) (iblk m c 3 t) (ix2 r d)
      = SecondRef.el (aX m c) (aG m c) (aW m c) (SecondRef.bOf (rowOf t.val r.val)) (SecondRef.sOf (rowOf t.val r.val)) ⟨512 + d.val, by omega⟩ * Ideal.ofBits FTy.f32 0x3E000000#32 := by
  refine (point_q (iblk m c 0 t) (iblk m c 1 t) (iblk m c 2 t) (iblk m c 3 t) r d).trans ?_
  unfold SecondRef.el
  simp only [blk_rows, blk_norm, blk_side, side_q]
  exact proj_scaled _ _ _

theorem at_v (t : Fin cfg0.N) (r : Fin 2048) (d : Fin 512) :
    out0_7 (iblk m c 0 t) (iblk m c 1 t) (iblk m c 2 t) (iblk m c 3 t) (ix2 r d)
      = SecondRef.el (aX m c) (aG m c) (aW m c) (SecondRef.bOf (rowOf t.val r.val)) (SecondRef.sOf (rowOf t.val r.val)) ⟨1024 + d.val, by omega⟩ := by
  refine (point_v (iblk m c 0 t) (iblk m c 1 t) (iblk m c 2 t) (iblk m c 3 t) r d).trans ?_
  unfold SecondRef.el
  simp only [blk_rows, blk_norm, blk_side, side_v]

theorem at_r (t : Fin cfg0.N) (r : Fin 2048) (d : Fin 512) :
    out0_8 (iblk m c 0 t) (iblk m c 1 t) (iblk m c 2 t) (iblk m c 3 t) (ix2 r d)
      = SecondRef.el (aX m c) (aG m c) (aW m c) (SecondRef.bOf (rowOf t.val r.val)) (SecondRef.sOf (rowOf t.val r.val)) ⟨1536 + d.val, by omega⟩ := by
  refine (point_r (iblk m c 0 t) (iblk m c 1 t) (iblk m c 2 t) (iblk m c 3 t) r d).trans ?_
  unfold SecondRef.el
  simp only [blk_rows, blk_norm, blk_side, side_r]

theorem at_gl (t : Fin cfg0.N) (r : Fin 2048) (d : Fin 128) :
    out0_9 (iblk m c 0 t) (iblk m c 1 t) (iblk m c 2 t) (iblk m c 3 t) (ix2 r d)
      = if h : d.val < 16 then SecondRef.el (aX m c) (aG m c) (aW m c) (SecondRef.bOf (rowOf t.val r.val)) (SecondRef.sOf (rowOf t.val r.val)) ⟨2048 + d.val, by omega⟩ else 0 := by
  refine (point_gl (iblk m c 0 t) (iblk m c 1 t) (iblk m c 2 t) (iblk m c 3 t) r d).trans ?_
  unfold SecondRef.el
  simp only [blk_rows, blk_norm, blk_side, side_gl]
  by_cases h : d.val < 16
  · rw [dif_pos h]
    simp only [padded_in _ _ _ d h]
  · rw [dif_neg h]
    simp only [padded_zero _ _ _ d h]
    exact proj_zero _ _

theorem at_keys (t : Fin cfg0.N) (d : Fin 256) (r : Fin 2048) :
    out0_6 (iblk m c 0 t) (iblk m c 1 t) (iblk m c 2 t) (iblk m c 3 t) (ix3 0 d r)
      = SecondRef.el (aX m c) (aG m c) (aW m c) (SecondRef.bOf (rowOf t.val r.val)) (SecondRef.sOf (rowOf t.val r.val)) ⟨768 + d.val, by omega⟩ := by
  refine (point_keys (iblk m c 0 t) (iblk m c 1 t) (iblk m c 2 t) (iblk m c 3 t) d r).trans ?_
  unfold SecondRef.el
  simp only [blk_rows, blk_norm, blk_keys]

/-! ## The six results -/

theorem nblk_u (a : Fin 2) : (cfg0.win 4).nblk a = (![16, 1] : Fin 2 → ℕ) a := by
  match a with
  | 0 => show (32768 + 2048 - 1) / 2048 = 16; rfl
  | 1 => show (512 + 512 - 1) / 512 = 1; rfl

theorem flush_u : ∀ t : Fin grid0.N, win0_4.flush t = true := by decide +kernel

theorem covers_u : (cfg0.win 4).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_u 0)
    have h1 : (β (1 : Fin 2)).val < 1 := Nat.lt_of_lt_of_eq (β (1 : Fin 2)).isLt (nblk_u 1)
    let t : Fin cfg0.N := ⟨(β (0 : Fin 2)).val, by omega⟩
    refine ⟨t, flush_u t, fun a => ⟨?_, Or.inl rfl⟩⟩
    refine (congrFun (index_4 t) a).trans ?_
    match a with
    | (0 : Fin 2) => rfl
    | (1 : Fin 2) => show 0 = (β (1 : Fin 2)).val; omega

theorem emb_u (t : Fin cfg0.N) (r : Fin 2048) (d : Fin 512) :
    ((cfg0.win 4).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_4.index t (0 : Fin 2) * 2048 + 1 * r.val = (2048 * t.val + r.val) % 32768
    rw [index_4]; show t.val * 2048 + 1 * r.val = _; omega
  | (1 : Fin 2) =>
    show win0_4.index t (1 : Fin 2) * 512 + 1 * d.val = d.val
    rw [index_4]; show 0 * 512 + 1 * d.val = _; omega

theorem same_u (t : Fin cfg0.N) (r : Fin 2048) (d : Fin 512) :
    out0_4 (iblk m c 0 t) (iblk m c 1 t) (iblk m c 2 t) (iblk m c 3 t) (ix2 r d) = SecondRef.rU (aX m c) (aG m c) (aW m c) (((cfg0.win 4).blk t).view.emb (ix2 r d)) := by
  rw [emb_u]
  exact at_u m c t r d

theorem result_u : (dats m 0 c).arrAt 4 cfg0.N = SecondRef.rU (aX m c) (aG m c) (aW m c) := by
  refine Dat.arrAt_eq_of_covers (dats m 0 c) 4 (SecondRef.rU (aX m c) (aG m c) (aW m c)) covers_u (fun t _ => ?_)
  refine fun (y : S2048x512.Idx) => (congrFun (after0_4 m c t) y).trans ?_
  exact ix2_eta (n0 := 2048) (n1 := 512) y ▸ same_u m c t (y 0) (y 1)

theorem nblk_q (a : Fin 2) : (cfg0.win 5).nblk a = (![16, 1] : Fin 2 → ℕ) a := by
  match a with
  | 0 => show (32768 + 2048 - 1) / 2048 = 16; rfl
  | 1 => show (256 + 256 - 1) / 256 = 1; rfl

theorem flush_q : ∀ t : Fin grid0.N, win0_5.flush t = true := by decide +kernel

theorem covers_q : (cfg0.win 5).Covers := by
  have hN : cfg0.N = 16 := N_0
  refine ⟨fun a => ?_, fun β => ?_⟩
  · exact (show ∀ a : Fin 2, 0 < (![2048, 256] : Fin 2 → ℕ) a by decide) a
  · have h0 : (β (0 : Fin 2)).val < 16 := Nat.lt_of_lt_of_eq (β (0 : Fin 2)).isLt (nblk_q 0)
    have h1 : (β (1 : Fin 2)).val < 1 := Nat.lt_of_lt_of_eq (β (1 : Fin 2)).isLt (nblk_q 1)
    let t : Fin cfg0.N := ⟨(β (0 : Fin 2)).val, by omega⟩
    refine ⟨t, flush_q t, fun a => ⟨?_, Or.inl rfl⟩⟩
    refine (congrFun (index_5 t) a).trans ?_
    match a with
    | (0 : Fin 2) => rfl
    | (1 : Fin 2) => show 0 = (β (1 : Fin 2)).val; omega

theorem emb_q (t : Fin cfg0.N) (r : Fin 2048) (d : Fin 256) :
    ((cfg0.win 5).blk t).view.emb (ix2 r d) = (ix2 (rowOf t.val r.val) d : S32768x256.Idx) := by
  have hN : cfg0.N = 16 := N_0
  have ht : t.val < 16 := Nat.lt_of_lt_of_eq t.isLt hN
  funext a
  apply Fin.ext
  match a with
  | (0 : Fin 2) =>
    show win0_5.index t (0 : Fin 2) * 2048 + 1 * r.val = (2048 * t.val + r.val) % 32768
    rw [index_5]; show t.val * 2048 + 1 * r.val = _; omega
  | (1 : Fin 2) =>
    show win0_5.index t (1 : Fin 2) * 256 + 1 * d.val = d.val
    rw [index_5]; show 0 * 256 + 1 * d.val = _; omega

theorem same_q (t : Fin cfg0.N) (r : Fin 2048) (d : Fin 256) :
    out0_5 (iblk m c 0 t) (iblk m c 1 t) (iblk m c 2 t) (iblk m c 3 t) (ix2 r d) = SecondRef.rQ (aX m c) (aG m c) (aW m c) (((cfg0.win 5).blk t).view.emb (ix2 r d)) := by
  rw [emb_q]
  exact at_q m c t r d

theorem result_q : (dats m 0 c).arrAt 5 cfg0.N = SecondRef.rQ (aX m c) (aG m c) (aW m c) := by
  refine Dat.arrAt_eq_of_covers (dats m 0 c) 5 (SecondRef.rQ (aX m c) (aG m c) (aW m c)) covers_q (fun t _ => ?_)
  refine fun (y : S2048x256.Idx) => (congrFun (after0_5 m c t) y).trans ?_
  exact ix2_eta (n0 := 2048) (n1 := 256) y ▸ same_q m c t (y 0) (y 1)

theorem nblk_v (a : Fin 2) : (cfg0.win 7).nblk a = (![16, 1] : Fin 2 → ℕ) a := by
  match a with
  | 0 => show (32768 + 2048 - 1) / 2048 = 16; rfl
  | 1 => show (512 + 512 - 1) / 512 = 1; rfl

theorem flush_v : ∀ t : Fin grid0.N, win0_7.flush t = true := by decide +kernel

theorem covers_v : (cfg0.win 7).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_v 0)
    have h1 : (β (1 : Fin 2)).val < 1 := Nat.lt_of_lt_of_eq (β (1 : Fin 2)).isLt (nblk_v 1)
    let t : Fin cfg0.N := ⟨(β (0 : Fin 2)).val, by omega⟩
    refine ⟨t, flush_v t, fun a => ⟨?_, Or.inl rfl⟩⟩
    refine (congrFun (index_7 t) a).trans ?_
    match a with
    | (0 : Fin 2) => rfl
    | (1 : Fin 2) => show 0 = (β (1 : Fin 2)).val; omega

theorem emb_v (t : Fin cfg0.N) (r : Fin 2048) (d : Fin 512) :
    ((cfg0.win 7).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_7.index t (0 : Fin 2) * 2048 + 1 * r.val = (2048 * t.val + r.val) % 32768
    rw [index_7]; show t.val * 2048 + 1 * r.val = _; omega
  | (1 : Fin 2) =>
    show win0_7.index t (1 : Fin 2) * 512 + 1 * d.val = d.val
    rw [index_7]; show 0 * 512 + 1 * d.val = _; omega

theorem same_v (t : Fin cfg0.N) (r : Fin 2048) (d : Fin 512) :
    out0_7 (iblk m c 0 t) (iblk m c 1 t) (iblk m c 2 t) (iblk m c 3 t) (ix2 r d) = SecondRef.rV (aX m c) (aG m c) (aW m c) (((cfg0.win 7).blk t).view.emb (ix2 r d)) := by
  rw [emb_v]
  exact at_v m c t r d

theorem result_v : (dats m 0 c).arrAt 7 cfg0.N = SecondRef.rV (aX m c) (aG m c) (aW m c) := by
  refine Dat.arrAt_eq_of_covers (dats m 0 c) 7 (SecondRef.rV (aX m c) (aG m c) (aW m c)) covers_v (fun t _ => ?_)
  refine fun (y : S2048x512.Idx) => (congrFun (after0_7 m c t) y).trans ?_
  exact ix2_eta (n0 := 2048) (n1 := 512) y ▸ same_v m c t (y 0) (y 1)

theorem nblk_r (a : Fin 2) : (cfg0.win 8).nblk a = (![16, 1] : Fin 2 → ℕ) a := by
  match a with
  | 0 => show (32768 + 2048 - 1) / 2048 = 16; rfl
  | 1 => show (512 + 512 - 1) / 512 = 1; rfl

theorem flush_r : ∀ t : Fin grid0.N, win0_8.flush t = true := by decide +kernel

theorem covers_r : (cfg0.win 8).Covers := by
  have hN : cfg0.N = 16 := N_0
  refine ⟨fun a => ?_, fun β => ?_⟩
  · exact (show ∀ a : Fin 2, 0 < (![2048, 512] : Fin 2 → ℕ) a by decide) a
  · have h0 : (β (0 : Fin 2)).val < 16 := Nat.lt_of_lt_of_eq (β (0 : Fin 2)).isLt (nblk_r 0)
    have h1 : (β (1 : Fin 2)).val < 1 := Nat.lt_of_lt_of_eq (β (1 : Fin 2)).isLt (nblk_r 1)
    let t : Fin cfg0.N := ⟨(β (0 : Fin 2)).val, by omega⟩
    refine ⟨t, flush_r t, fun a => ⟨?_, Or.inl rfl⟩⟩
    refine (congrFun (index_8 t) a).trans ?_
    match a with
    | (0 : Fin 2) => rfl
    | (1 : Fin 2) => show 0 = (β (1 : Fin 2)).val; omega

theorem emb_r (t : Fin cfg0.N) (r : Fin 2048) (d : Fin 512) :
    ((cfg0.win 8).blk t).view.emb (ix2 r d) = (ix2 (rowOf t.val r.val) d : S32768x512.Idx) := by
  have hN : cfg0.N = 16 := N_0
  have ht : t.val < 16 := Nat.lt_of_lt_of_eq t.isLt hN
  funext a
  apply Fin.ext
  match a with
  | (0 : Fin 2) =>
    show win0_8.index t (0 : Fin 2) * 2048 + 1 * r.val = (2048 * t.val + r.val) % 32768
    rw [index_8]; show t.val * 2048 + 1 * r.val = _; omega
  | (1 : Fin 2) =>
    show win0_8.index t (1 : Fin 2) * 512 + 1 * d.val = d.val
    rw [index_8]; show 0 * 512 + 1 * d.val = _; omega

theorem same_r (t : Fin cfg0.N) (r : Fin 2048) (d : Fin 512) :
    out0_8 (iblk m c 0 t) (iblk m c 1 t) (iblk m c 2 t) (iblk m c 3 t) (ix2 r d) = SecondRef.rR (aX m c) (aG m c) (aW m c) (((cfg0.win 8).blk t).view.emb (ix2 r d)) := by
  rw [emb_r]
  exact at_r m c t r d

theorem result_r : (dats m 0 c).arrAt 8 cfg0.N = SecondRef.rR (aX m c) (aG m c) (aW m c) := by
  refine Dat.arrAt_eq_of_covers (dats m 0 c) 8 (SecondRef.rR (aX m c) (aG m c) (aW m c)) covers_r (fun t _ => ?_)
  refine fun (y : S2048x512.Idx) => (congrFun (after0_8 m c t) y).trans ?_
  exact ix2_eta (n0 := 2048) (n1 := 512) y ▸ same_r m c t (y 0) (y 1)

theorem nblk_gl (a : Fin 2) : (cfg0.win 9).nblk a = (![16, 1] : Fin 2 → ℕ) a := by
  match a with
  | 0 => show (32768 + 2048 - 1) / 2048 = 16; rfl
  | 1 => show (128 + 128 - 1) / 128 = 1; rfl

theorem flush_gl : ∀ t : Fin grid0.N, win0_9.flush t = true := by decide +kernel

theorem covers_gl : (cfg0.win 9).Covers := by
  have hN : cfg0.N = 16 := N_0
  refine ⟨fun a => ?_, fun β => ?_⟩
  · exact (show ∀ a : Fin 2, 0 < (![2048, 128] : Fin 2 → ℕ) a by decide) a
  · have h0 : (β (0 : Fin 2)).val < 16 := Nat.lt_of_lt_of_eq (β (0 : Fin 2)).isLt (nblk_gl 0)
    have h1 : (β (1 : Fin 2)).val < 1 := Nat.lt_of_lt_of_eq (β (1 : Fin 2)).isLt (nblk_gl 1)
    let t : Fin cfg0.N := ⟨(β (0 : Fin 2)).val, by omega⟩
    refine ⟨t, flush_gl t, fun a => ⟨?_, Or.inl rfl⟩⟩
    refine (congrFun (index_9 t) a).trans ?_
    match a with
    | (0 : Fin 2) => rfl
    | (1 : Fin 2) => show 0 = (β (1 : Fin 2)).val; omega

theorem emb_gl (t : Fin cfg0.N) (r : Fin 2048) (d : Fin 128) :
    ((cfg0.win 9).blk t).view.emb (ix2 r d) = (ix2 (rowOf t.val r.val) d : S32768x128.Idx) := by
  have hN : cfg0.N = 16 := N_0
  have ht : t.val < 16 := Nat.lt_of_lt_of_eq t.isLt hN
  funext a
  apply Fin.ext
  match a with
  | (0 : Fin 2) =>
    show win0_9.index t (0 : Fin 2) * 2048 + 1 * r.val = (2048 * t.val + r.val) % 32768
    rw [index_9]; show t.val * 2048 + 1 * r.val = _; omega
  | (1 : Fin 2) =>
    show win0_9.index t (1 : Fin 2) * 128 + 1 * d.val = d.val
    rw [index_9]; show 0 * 128 + 1 * d.val = _; omega

theorem same_gl (t : Fin cfg0.N) (r : Fin 2048) (d : Fin 128) :
    out0_9 (iblk m c 0 t) (iblk m c 1 t) (iblk m c 2 t) (iblk m c 3 t) (ix2 r d) = SecondRef.rGl (aX m c) (aG m c) (aW m c) (((cfg0.win 9).blk t).view.emb (ix2 r d)) := by
  rw [emb_gl]
  exact at_gl m c t r d

theorem result_gl : (dats m 0 c).arrAt 9 cfg0.N = SecondRef.rGl (aX m c) (aG m c) (aW m c) := by
  refine Dat.arrAt_eq_of_covers (dats m 0 c) 9 (SecondRef.rGl (aX m c) (aG m c) (aW m c)) covers_gl (fun t _ => ?_)
  refine fun (y : S2048x128.Idx) => (congrFun (after0_9 m c t) y).trans ?_
  exact ix2_eta (n0 := 2048) (n1 := 128) y ▸ same_gl m c t (y 0) (y 1)

theorem nblk_keys (a : Fin 3) : (cfg0.win 6).nblk a = (![8, 1, 2] : Fin 3 → ℕ) a := by
  match a with
  | 0 => show (8 + 1 - 1) / 1 = 8; rfl
  | 1 => show (256 + 256 - 1) / 256 = 1; rfl
  | 2 => show (4096 + 2048 - 1) / 2048 = 2; rfl

theorem flush_keys : ∀ t : Fin grid0.N, win0_6.flush t = true := by decide +kernel

theorem covers_keys : (cfg0.win 6).Covers := by
  have hN : cfg0.N = 16 := N_0
  refine ⟨fun a => ?_, fun β => ?_⟩
  · exact (show ∀ a : Fin 3, 0 < (![1, 256, 2048] : Fin 3 → ℕ) a by decide) a
  · have h0 : (β (0 : Fin 3)).val < 8 := Nat.lt_of_lt_of_eq (β (0 : Fin 3)).isLt (nblk_keys 0)
    have h1 : (β (1 : Fin 3)).val < 1 := Nat.lt_of_lt_of_eq (β (1 : Fin 3)).isLt (nblk_keys 1)
    have h2 : (β (2 : Fin 3)).val < 2 := Nat.lt_of_lt_of_eq (β (2 : Fin 3)).isLt (nblk_keys 2)
    let t : Fin cfg0.N := ⟨2 * (β (0 : Fin 3)).val + (β (2 : Fin 3)).val, by omega⟩
    refine ⟨t, flush_keys t, fun a => ⟨?_, Or.inl rfl⟩⟩
    refine (congrFun (index_6 t) a).trans ?_
    match a with
    | (0 : Fin 3) => show (2 * (β (0 : Fin 3)).val + (β (2 : Fin 3)).val) / 2 = (β (0 : Fin 3)).val; omega
    | (1 : Fin 3) => show 0 = (β (1 : Fin 3)).val; omega
    | (2 : Fin 3) => show (2 * (β (0 : Fin 3)).val + (β (2 : Fin 3)).val) % 2 = (β (2 : Fin 3)).val; omega

theorem emb_keys (t : Fin cfg0.N) (d : Fin 256) (r : Fin 2048) :
    ((cfg0.win 6).blk t).view.emb (ix3 0 d r)
      = (ix3 (SecondRef.bOf (rowOf t.val r.val)) d (SecondRef.sOf (rowOf t.val r.val)) : S8x256x4096.Idx) := by
  have hN : cfg0.N = 16 := N_0
  have ht : t.val < 16 := Nat.lt_of_lt_of_eq t.isLt hN
  funext a
  apply Fin.ext
  match a with
  | (0 : Fin 3) =>
    show win0_6.index t (0 : Fin 3) * 1 + 1 * 0 = (2048 * t.val + r.val) % 32768 / 4096
    rw [index_6]; show t.val / 2 * 1 + 1 * 0 = _; omega
  | (1 : Fin 3) =>
    show win0_6.index t (1 : Fin 3) * 256 + 1 * d.val = d.val
    rw [index_6]; show 0 * 256 + 1 * d.val = _; omega
  | (2 : Fin 3) =>
    show win0_6.index t (2 : Fin 3) * 2048 + 1 * r.val = (2048 * t.val + r.val) % 32768 % 4096
    rw [index_6]; show t.val % 2 * 2048 + 1 * r.val = _; omega

theorem same_keys (t : Fin cfg0.N) (d : Fin 256) (r : Fin 2048) :
    out0_6 (iblk m c 0 t) (iblk m c 1 t) (iblk m c 2 t) (iblk m c 3 t) (ix3 0 d r) = SecondRef.rK (aX m c) (aG m c) (aW m c) (((cfg0.win 6).blk t).view.emb (ix3 0 d r)) := by
  rw [emb_keys]
  exact at_keys m c t d r

theorem result_keys : (dats m 0 c).arrAt 6 cfg0.N = SecondRef.rK (aX m c) (aG m c) (aW m c) := by
  refine Dat.arrAt_eq_of_covers (dats m 0 c) 6 (SecondRef.rK (aX m c) (aG m c) (aW m c)) covers_keys (fun t _ => ?_)
  refine fun (y : S1x256x2048.Idx) => (congrFun (after0_6 m c t) y).trans ?_
  have e : ix3 (0 : Fin 1) (y 1 : Fin 256) (y 2 : Fin 2048) = y := by
    refine Eq.trans ?_ (ix3_eta (n0 := 1) (n1 := 256) (n2 := 2048) y)
    exact congrArg (fun a : Fin 1 => ix3 a (y 1 : Fin 256) (y 2 : Fin 2048)) (Subsingleton.elim _ _)
  exact e ▸ same_keys m c t (y 1) (y 2)

/-- The run: the six results, and the arguments unchanged. -/
theorem run_result :
    θ_run (defs (F := Ideal)) (onTc (τ := τ) (main (F := Ideal))) ⟨m, fun _ => 0, ρ⟩ (fun r => ∀ c : Dev nD,
        r.2.mem ((c : Thread nD τ).loc main_v16_0) = SecondRef.rU (aX m c) (aG m c) (aW m c)
        ∧ r.2.mem ((c : Thread nD τ).loc main_v16_1) = SecondRef.rQ (aX m c) (aG m c) (aW m c)
        ∧ r.2.mem ((c : Thread nD τ).loc main_v16_2) = SecondRef.rK (aX m c) (aG m c) (aW m c)
        ∧ r.2.mem ((c : Thread nD τ).loc main_v16_3) = SecondRef.rV (aX m c) (aG m c) (aW m c)
        ∧ r.2.mem ((c : Thread nD τ).loc main_v16_4) = SecondRef.rR (aX m c) (aG m c) (aW m c)
        ∧ r.2.mem ((c : Thread nD τ).loc main_v16_5) = SecondRef.rGl (aX m c) (aG m c) (aW m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) :=
  (θ_run _ _ _).mono (fun _ h c => ⟨(h c).1.trans (result_u m c), (h c).2.1.trans (result_q m c), (h c).2.2.1.trans (result_keys m c),
    (h c).2.2.2.1.trans (result_v m c), (h c).2.2.2.2.1.trans (result_r m c), (h c).2.2.2.2.2.1.trans (result_gl m c),
    (h c).2.2.2.2.2.2⟩) (Value.run_blocks m ρ)

end

end Cert.Second
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_in_rows
public import proofs.«01_k».proof.Proof.Refs
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_tables
public import proofs.«01_k».proof.Proof.MoeFrame
public import proofs.«01_k».proof.Proof.MoePre
public import proofs.«01_k».proof.Proof.MoeEnd
public import Idealize.ShloMosaic.Lib.Bf16Pair
public import proofs.«01_k».proof.Proof.Gen.Kernel3
public import proofs.«01_k».proof.Proof.Gen.Kernel3.Frame
public import proofs.«01_k».proof.Proof.Gen.Kernel3Ideal
public import proofs.«01_k».proof.Proof.CombineValue
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.MixValue
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.ProjValue
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.SecondValue
public import proofs.«01_k».proof.Proof.Gen.Reference6Ideal
public import proofs.«01_k».proof.Proof.Gen.Reference6Ideal.Run

@[expose] public section

noncomputable section

namespace Cert.Proof

open Idealize.ShloMosaic Idealize.SL.Sem

section Run

open Cert.KernelIdeal Cert.KernelIdeal.Gen

variable {F : FTy → Type} [FloatOps F] [∀ e, Nonempty (Elt F e)]
  (m : (ℓ : Loc nD τ sig) → Buf (Elt F) ℓ) (ρ : Dev nD → PrngReg)

/-- The gather's run, over any float values: the rows gathered, the arguments as they were, every counter zero. -/
theorem run_gather (h : ∀ d : Dev nD, Gather.Named (m ((d.tc : Thread nD τ).loc main_arg1))) :
    θ_run (defs (F := F)) (threads (F := F)) ⟨m, fun _ => 0, ρ⟩ fun r =>
      (∀ d : Dev nD, r.2.mem ((d.tc : Thread nD τ).loc main_v8)
            = Gather.want (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 :=
  (θ_run (defs (F := F)) _ _).mono
    (fun _ hr => ⟨fun d => ⟨(hr.1 d).2.2.trans (Gather.V3_want m d (h d)), (hr.1 d).1.trans (Gather.V3_a m d),
      (hr.1 d).2.1.trans (Gather.V3_b m d)⟩, hr.2⟩)
    (Gather.run_V3 m ρ (Gather.inRows m h))

end Run

theorem frame_kernel : Cert.quiescent_Kernel (hKernel := Cert.Kernel.Gen.facts) (hPre_in_rows := Cert.Pre_in_rows.Gen.facts) :=
  fun m g hp => (θ_run (Cert.Kernel.defs (F := Bits)) _ _).mono (fun _ h => ⟨fun c => (h.1 c).2, h.2⟩)
    (run_gather (F := Bits) m g fun d => Gather.named_of_pre _ _ (hp d))

theorem frame_kernel_ideal :
    Cert.quiescent_KernelIdeal (hKernelIdeal := Cert.KernelIdeal.Gen.facts) (hPre_in_rows := Cert.Pre_in_rows.Gen.facts) :=
  fun m g hp => (θ_run (Cert.KernelIdeal.defs (F := Ideal)) _ _).mono (fun _ h => ⟨fun c => (h.1 c).2, h.2⟩)
    (run_gather (F := Ideal) m g fun d => Gather.named_of_pre _ _ (hp d))

theorem frame_reference_ideal : Cert.quiescent_ReferenceIdeal (hReferenceIdeal := Cert.ReferenceIdeal.Gen.facts) :=
  fun m g _ => (θ_run (Cert.ReferenceIdeal.defs (F := Ideal)) _ _).mono
    (fun _ h => ⟨fun c => (h c).2, sem_eq_zero_of_no_sems rfl _⟩) (Cert.ReferenceIdeal.Value.run m g)

theorem frame_reference : Cert.quiescent_Reference (hReference := Cert.Reference.Gen.facts) (hPre_in_rows := Cert.Pre_in_rows.Gen.facts) :=
  fun m g _ => (θ_run (Cert.Reference.defs (F := Bits)) _ _).mono
    (fun _ h => ⟨fun c => (h c).2, sem_eq_zero_of_no_sems rfl _⟩) (Cert.Reference.Value.run m g)

theorem value_ideal : Cert.algebraic_KernelIdeal_ReferenceIdeal (hKernelIdeal := Cert.KernelIdeal.Gen.facts)
    (hReferenceIdeal := Cert.ReferenceIdeal.Gen.facts) (hPre_in_rows := Cert.Pre_in_rows.Gen.facts) := by
  intro m g m' g' hp hm
  refine ⟨_, (θ_run (Cert.KernelIdeal.defs (F := Ideal)) _ _).mono (fun _ h => h.1)
    (run_gather (F := Ideal) m g fun d => Gather.named_of_pre _ _ (hp d)), ?_⟩
  refine (θ_run (Cert.ReferenceIdeal.defs (F := Ideal)) _ _).mono (fun _ h c => ⟨(h c).1.trans ?_, (h c).2⟩)
    (Cert.ReferenceIdeal.Value.run m' g')
  rw [(hm c).1, (hm c).2]
  exact Gather.reference_want _ _ _ _ _ _ rfl (Gather.named_of_pre _ _ (hp c))

theorem value_bits : Cert.bitexact_Kernel_Reference (hKernel := Cert.Kernel.Gen.facts)
    (hReference := Cert.Reference.Gen.facts) (hPre_in_rows := Cert.Pre_in_rows.Gen.facts) := by
  intro m g m' g' hp hm
  refine ⟨_, (θ_run (Cert.Kernel.defs (F := Bits)) _ _).mono (fun _ h => h.1)
    (run_gather (F := Bits) m g fun d => Gather.named_of_pre _ _ (hp d)), ?_⟩
  refine (θ_run (Cert.Reference.defs (F := Bits)) _ _).mono (fun _ h c => ⟨(h c).1.trans ?_, (h c).2⟩)
    (Cert.Reference.Value.run m' g')
  rw [(hm c).1, (hm c).2]
  exact Gather.reference_want _ _ _ _ _ _ rfl (Gather.named_of_pre _ _ (hp c))

section Experts

theorem frame_kernel2 : Cert.quiescent_Kernel2 (hKernel2 := Cert.Kernel2.Gen.facts) (hPre_tables := Cert.Pre_tables.Gen.facts) :=
  fun m g hp => MoeFrame.run_kept m g
    ⟨(MoePre.ranges (F := Bits) _ _ _ _ _ _ (hp 0)).1, (MoePre.ranges (F := Bits) _ _ _ _ _ _ (hp 0)).2⟩

theorem in_range2 (m : (ℓ : Loc Cert.Kernel2Ideal.nD Cert.Kernel2Ideal.τ Cert.Kernel2Ideal.sig) → Buf (Elt Ideal) ℓ)
    (hp : Cert.Pre_Kernel2Ideal (hPre_tables := Cert.Pre_tables.Gen.facts) m) : Moe.InRange (Moe.tbl m) :=
  ⟨(MoePre.ranges (F := Ideal) _ _ _ _ _ _ (hp 0)).1, (MoePre.ranges (F := Ideal) _ _ _ _ _ _ (hp 0)).2⟩

theorem frame_kernel2_ideal :
    Cert.quiescent_Kernel2Ideal (hKernel2Ideal := Cert.Kernel2Ideal.Gen.facts) (hPre_tables := Cert.Pre_tables.Gen.facts) :=
  fun m g hp => (θ_run (Cert.Kernel2Ideal.defs (F := Ideal)) _ _).mono (fun _ h => ⟨fun c => (h.1 c).2, h.2⟩)
    (Moe.run_result m g (in_range2 m hp))

theorem frame_reference2_ideal : Cert.quiescent_Reference2Ideal (hReference2Ideal := Cert.Reference2Ideal.Gen.facts) :=
  fun m g _ => (θ_run (Cert.Reference2Ideal.defs (F := Ideal)) _ _).mono
    (fun _ h => ⟨fun c => (h c).2, sem_eq_zero_of_no_sems rfl _⟩) (Cert.Reference2Ideal.Value.run m g)

theorem preserves2 : Cert.preserves_Kernel2_Kernel2Ideal :=
  ⟨IdealRules.bf16_pair.packStatement _, IdealRules.bf16_pair.statement _ _, IdealRules.bf16_pair.packStatement _, IdealRules.bf16_pair.statement _ _⟩

theorem value_experts : Cert.algebraic_Kernel2Ideal_Reference2Ideal (hKernel2Ideal := Cert.Kernel2Ideal.Gen.facts)
    (hReference2Ideal := Cert.Reference2Ideal.Gen.facts) (hPre_tables := Cert.Pre_tables.Gen.facts) := by
  intro m g m' g' hp hm
  refine ⟨_, (θ_run (Cert.Kernel2Ideal.defs (F := Ideal)) _ _).mono (fun _ h => h.1) (Moe.run_result m g (in_range2 m hp)), ?_⟩
  refine (θ_run (Cert.Reference2Ideal.defs (F := Ideal)) _ _).mono (fun _ h c => ⟨(h c).1.trans ?_, (h c).2⟩)
    (Cert.Reference2Ideal.Value.run m' g')
  obtain ⟨h0, h1, h2, h3, h4, h5⟩ := hm c
  obtain rfl : c = 0 := Subsingleton.elim _ _
  exact Moe.ref_result m (in_range2 m hp) 0 (StableHlo.launchContents m' 0) h0.symm h1.symm h2.symm h3.symm h4.symm h5.symm _
    fun p q k => MoeRef.out_at p q k _

end Experts

/-! ## The combination -/

section Combination

theorem frame_kernel3 : Cert.quiescent_Kernel3 (hKernel3 := Cert.Kernel3.Gen.facts) :=
  fun m g _ => Cert.Kernel3.Gen.frame m g

theorem frame_kernel3_ideal : Cert.quiescent_Kernel3Ideal (hKernel3Ideal := Cert.Kernel3Ideal.Gen.facts) :=
  fun m g _ => Cert.Kernel3Ideal.Gen.frame m g

theorem frame_reference3_ideal : Cert.quiescent_Reference3Ideal (hReference3Ideal := Cert.Reference3Ideal.Gen.facts) :=
  fun m g _ => (θ_run (Cert.Reference3Ideal.defs (F := Ideal)) _ _).mono
    (fun _ h => ⟨fun c => (h c).2, sem_eq_zero_of_no_sems rfl _⟩) (Cert.Reference3Ideal.Value.run m g)

theorem value_combination : Cert.algebraic_Kernel3Ideal_Reference3Ideal (hKernel3Ideal := Cert.Kernel3Ideal.Gen.facts)
    (hReference3Ideal := Cert.Reference3Ideal.Gen.facts) := by
  intro m g m' g' _ hm
  refine ⟨_, Combine.run_result m g, ?_⟩
  refine (θ_run (Cert.Reference3Ideal.defs (F := Ideal)) _ _).mono (fun _ h c => ⟨(h c).1.trans ?_, (h c).2⟩)
    (Cert.Reference3Ideal.Value.run m' g')
  obtain ⟨h0, h1, h2, h3⟩ := hm c
  refine funext fun (i : Cert.Reference3Ideal.S8x4096x1024.Idx) => ?_
  refine (congrArg (Cert.Reference3Ideal.Value.res_main_v44 (F := Ideal) m' c)
    (ix3_eta (n0 := 8) (n1 := 4096) (n2 := 1024) i).symm).trans ?_
  refine (CombineRef.out_at m' c (i 0) (i 1) (i 2)).trans ?_
  rw [h0, h1, h2, h3]
  refine (Combine.res3_at m c (i 0) (i 1) (i 2)).symm.trans ?_
  exact congrArg (Combine.res3 m c) (ix3_eta (n0 := 8) (n1 := 4096) (n2 := 1024) i)

end Combination

/-! ## The output projection and the dense feed-forward block -/

section Mix

theorem frame_kernel4 : Cert.quiescent_Kernel4 (hKernel4 := Cert.Kernel4.Gen.facts) :=
  fun m g _ => Cert.Kernel4.Gen.frame m g

theorem frame_kernel4_ideal : Cert.quiescent_Kernel4Ideal (hKernel4Ideal := Cert.Kernel4Ideal.Gen.facts) :=
  fun m g _ => Cert.Kernel4Ideal.Gen.frame m g

theorem frame_reference4_ideal : Cert.quiescent_Reference4Ideal (hReference4Ideal := Cert.Reference4Ideal.Gen.facts) :=
  fun m g _ => (θ_run (Cert.Reference4Ideal.defs (F := Ideal)) _ _).mono
    (fun _ h => ⟨fun c => (h c).2, sem_eq_zero_of_no_sems rfl _⟩) (Cert.Reference4Ideal.Value.run m g)

theorem value_mix : Cert.algebraic_Kernel4Ideal_Reference4Ideal (hKernel4Ideal := Cert.Kernel4Ideal.Gen.facts)
    (hReference4Ideal := Cert.Reference4Ideal.Gen.facts) := by
  intro m g m' g' _ hm
  refine ⟨_, Mix.run_result m g, ?_⟩
  refine (θ_run (Cert.Reference4Ideal.defs (F := Ideal)) _ _).mono (fun _ h c => ⟨(h c).1.trans ?_, (h c).2⟩)
    (Cert.Reference4Ideal.Value.run m' g')
  obtain ⟨h0, h1, h2, h3, h4, h5, h6, h7, h8, h9, h10⟩ := hm c
  refine funext fun (i : Cert.Reference4Ideal.S32768x1024.Idx) => ?_
  refine (congrArg (Cert.Reference4Ideal.Value.res_main_v61 (F := Ideal) m' c)
    (ix2_eta (n0 := 32768) (n1 := 1024) i).symm).trans ?_
  refine (MixRef.out_at m' c (i 0) (i 1)).trans ?_
  rw [h0, h1, h2, h3, h4, h5, h6, h7, h8, h9, h10]
  rfl

end Mix

/-! ## Layer 0's input projection -/

section Proj

theorem frame_kernel5 : Cert.quiescent_Kernel5 (hKernel5 := Cert.Kernel5.Gen.facts) :=
  fun m g _ => Cert.Kernel5.Gen.frame m g

theorem frame_kernel5_ideal : Cert.quiescent_Kernel5Ideal (hKernel5Ideal := Cert.Kernel5Ideal.Gen.facts) :=
  fun m g _ => Cert.Kernel5Ideal.Gen.frame m g

theorem frame_reference5_ideal : Cert.quiescent_Reference5Ideal (hReference5Ideal := Cert.Reference5Ideal.Gen.facts) :=
  fun m g _ => (θ_run (Cert.Reference5Ideal.defs (F := Ideal)) _ _).mono
    (fun _ h => ⟨fun c => (h c).2.2.2.2.2.2, sem_eq_zero_of_no_sems rfl _⟩) (Cert.Reference5Ideal.Value.run m g)

theorem value_proj : Cert.algebraic_Kernel5Ideal_Reference5Ideal (hKernel5Ideal := Cert.Kernel5Ideal.Gen.facts)
    (hReference5Ideal := Cert.Reference5Ideal.Gen.facts) := by
  intro m g m' g' _ hm
  refine ⟨_, _, _, _, _, _, Proj.run_result m g, ?_⟩
  refine (θ_run (Cert.Reference5Ideal.defs (F := Ideal)) _ _).mono (fun _ h c => ?_) (ProjRef.run_result m' g')
  obtain ⟨h0, h1, h2⟩ := hm c
  obtain ⟨e0, e1, e2, e3, e4, e5, k⟩ := h c
  rw [h0, h1, h2] at e0 e1 e2 e3 e4 e5
  exact ⟨e0, e1, e2, e3, e4, e5, k⟩

end Proj

/-! ## Layer 1's input projection -/

section Second

theorem frame_kernel6 : Cert.quiescent_Kernel6 (hKernel6 := Cert.Kernel6.Gen.facts) :=
  fun m g _ => Cert.Kernel6.Gen.frame m g

theorem frame_kernel6_ideal : Cert.quiescent_Kernel6Ideal (hKernel6Ideal := Cert.Kernel6Ideal.Gen.facts) :=
  fun m g _ => Cert.Kernel6Ideal.Gen.frame m g

theorem frame_reference6_ideal : Cert.quiescent_Reference6Ideal (hReference6Ideal := Cert.Reference6Ideal.Gen.facts) :=
  fun m g _ => (θ_run (Cert.Reference6Ideal.defs (F := Ideal)) _ _).mono
    (fun _ h => ⟨fun c => (h c).2.2.2.2.2.2, sem_eq_zero_of_no_sems rfl _⟩) (Cert.Reference6Ideal.Value.run m g)

theorem value_second : Cert.algebraic_Kernel6Ideal_Reference6Ideal (hKernel6Ideal := Cert.Kernel6Ideal.Gen.facts)
    (hReference6Ideal := Cert.Reference6Ideal.Gen.facts) := by
  intro m g m' g' _ hm
  refine ⟨_, _, _, _, _, _, Second.run_result m g, ?_⟩
  refine (θ_run (Cert.Reference6Ideal.defs (F := Ideal)) _ _).mono (fun _ h c => ?_) (SecondRef.run_result m' g')
  obtain ⟨h0, h1, h2⟩ := hm c
  obtain ⟨e0, e1, e2, e3, e4, e5, k⟩ := h c
  rw [h0, h1, h2] at e0 e1 e2 e3 e4 e5
  exact ⟨e0, e1, e2, e3, e4, e5, k⟩

end Second

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_in_rows.Gen.facts, Cert.Pre_tables.Gen.facts,
    frame_kernel, frame_kernel_ideal, frame_reference_ideal, fun m g _ => frame_reference_ideal m g trivial, frame_reference,
    frame_kernel2, frame_kernel2_ideal, frame_reference2_ideal, fun m g _ => frame_reference2_ideal m g trivial,
    frame_kernel3, frame_kernel3_ideal, frame_reference3_ideal,
    frame_kernel4, frame_kernel4_ideal, frame_reference4_ideal,
    frame_kernel5, frame_kernel5_ideal, frame_reference5_ideal,
    frame_kernel6, frame_kernel6_ideal, frame_reference6_ideal,
    trivial, value_ideal, value_bits, preserves2, value_experts, trivial, value_combination, trivial, value_mix, trivial, value_proj, trivial, value_second⟩

end Cert.Proof

end
